-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_diff [hPre_finite_diff : Cert.Pre_finite_diff.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_diff.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_diff [hPre_finite_diff : Cert.Pre_finite_diff.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_diff.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_diff [hKernel5Ideal : Cert.Kernel5Ideal.Facts] [hPre_finite_diff : Cert.Pre_finite_diff.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_diff m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_diff [hReference5Ideal : Cert.Reference5Ideal.Facts] [hPre_finite_diff : Cert.Pre_finite_diff.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_diff m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "log2e" .bf16 0x3FB9#16 (((Real.log 2)⁻¹ : ℝ) : EReal)

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite_diff [hKernel5Ideal : Cert.Kernel5Ideal.Facts] [hReference5Ideal : Cert.Reference5Ideal.Facts] [hPre_finite_diff : Cert.Pre_finite_diff.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_diff m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "sb_scale" .f32 0x3E0293EE#32 ((((Real.sqrt 128) * (Real.log 2))⁻¹ : ℝ) : EReal)
  ∧ IdealRules.named_const.Statement Cert.Kernel6Ideal.κ "diff_scale" .f32 0x3E38AA3B#32 (((8 * (Real.log 2))⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v28)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v28) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v74) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries_keys : Cert.Pre_finite_queries_keys.Facts) (hPre_finite_diff : Cert.Pre_finite_diff.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_diff (hKernel5Ideal := hKernel5Ideal) (hPre_finite_diff := hPre_finite_diff)
    ∧ quiescent_Reference5Ideal (hReference5Ideal := hReference5Ideal)
    ∧ quiescent_Reference5Ideal_pre_finite_diff (hReference5Ideal := hReference5Ideal) (hPre_finite_diff := hPre_finite_diff)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_diff (hKernel5Ideal := hKernel5Ideal) (hReference5Ideal := hReference5Ideal) (hPre_finite_diff := hPre_finite_diff)
    ∧ preserves_Kernel6_Kernel6Ideal
    ∧ algebraic_Kernel6Ideal_Reference6Ideal (hKernel6Ideal := hKernel6Ideal) (hReference6Ideal := hReference6Ideal)
-- ==== Pre_finite_diff.lean ====
abbrev S2x16384x6144 : Shape := ⟨3, ![2, 16384, 6144]⟩
abbrev S64 : Shape := ⟨1, ![64]⟩
abbrev S128 : Shape := ⟨1, ![128]⟩
abbrev S2x16384x3072 : Shape := ⟨3, ![2, 16384, 3072]⟩
abbrev S_ : Shape := ⟨0, ![]⟩

class Facts : Prop where
  slices_S2x16384x6144_S2x16384x3072_0_0_3072 : S2x16384x6144.Slices ![0, 0, 3072] S2x16384x3072
  bcast_S_S2x16384x3072 : S_.BroadcastsInDim S2x16384x3072 (![] : Fin 0 → Fin S2x16384x3072.rank)
  reducesTo_S2x16384x3072_S_d0_1_2 : S2x16384x3072.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S64 .f32 := Host.absf main_arg4
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  main_v24

def fn {F : FTy → Type} [FloatOps F] (main_arg0 : FVec F S2x16384x6144 .f32) (main_arg1 : FVec F S64 .f32) (main_arg2 : FVec F S64 .f32) (main_arg3 : FVec F S64 .f32) (main_arg4 : FVec F S64 .f32) (main_arg5 : FVec F S128 .f32) : IVec S_ 1 :=
  let main_v0 : FVec F S2x16384x3072 .f32 := (extractStridedSlice S2x16384x3072 ![0, 0, 3072] · slices_S2x16384x6144_S2x16384x3072_0_0_3072) main_arg0
  let main_v1 : FVec F S2x16384x3072 .f32 := Host.absf main_v0
  let main_cst : FVec F S_ .f32 := constant S_ .f32 0x7F800000#32
  let main_v2 : FVec F S2x16384x3072 .f32 := broadcastInDim S2x16384x3072 ![] bcast_S_S2x16384x3072 main_cst
  let main_v3 : IVec S2x16384x3072 1 := cmpf .olt main_v1 main_v2
  let main_c : IVec S_ 1 := constantI S_ 1 1#1
  let main_v4 : IVec S_ 1 := (fun x v => Host.reduce IntOp.andi x v reducesTo_S2x16384x3072_S_d0_1_2 h_S_) main_v3 main_c
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S64 .f32 := Host.absf main_arg3
  let main_cst_4 : FVec F S_ .f32 := constant S_ .f32 0x7F800000#32
  let main_v16 : FVec F S64 .f32 := broadcastInDim S64 ![] bcast_S_S64 main_cst_4
  fn_part1 (F := F) main_arg4 main_v14 main_v15 main_v16
-- ==== Pre_finite_queries_keys.lean ====
abbrev S2x16384x6144 : Shape := ⟨3, ![2, 16384, 6144]⟩
abbrev S2x16384x2048 : Shape := ⟨3, ![2, 16384, 2048]⟩
abbrev S_ : Shape := ⟨0, ![]⟩

class Facts : Prop where
  slices_S2x16384x6144_S2x16384x2048_0_0_0 : S2x16384x6144.Slices ![0, 0, 0] S2x16384x2048
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel

variable [Facts]

def fn {F : FTy → Type} [FloatOps F] (main_arg0 : FVec F S2x16384x6144 .f32) : IVec S_ 1 :=
  let main_v0 : FVec F S2x16384x2048 .f32 := (extractStridedSlice S2x16384x2048 ![0, 0, 0] · slices_S2x16384x6144_S2x16384x2048_0_0_0) main_arg0
  let main_v1 : FVec F S2x16384x2048 .f32 := Host.absf main_v0
  let main_cst : FVec F S_ .f32 := constant S_ .f32 0x7F800000#32
  let main_v2 : FVec F S2x16384x2048 .f32 := broadcastInDim S2x16384x2048 ![] bcast_S_S2x16384x2048 main_cst
  let main_v3 : IVec S2x16384x2048 1 := cmpf .olt main_v1 main_v2
  let main_c : IVec S_ 1 := constantI S_ 1 1#1
  let main_v4 : IVec S_ 1 := (fun x v => Host.reduce IntOp.andi x v reducesTo_S2x16384x2048_S_d0_1_2 h_S_) main_v3 main_c
  main_v4
-- ==== Kernel.lean ====
abbrev S2x16384x6144 : Shape := ⟨3, ![2, 16384, 6144]⟩
abbrev S6144 : Shape := ⟨1, ![6144]⟩
abbrev S_ : Shape := ⟨0, ![]⟩
abbrev S1x1x6144 : Shape := ⟨3, ![1, 1, 6144]⟩
abbrev S2x16384x1024 : Shape := ⟨3, ![2, 16384, 1024]⟩
abbrev S1x2048x128 : Shape := ⟨3, ![1, 2048, 128]⟩
abbrev S1x16384x128 : Shape := ⟨3, ![1, 16384, 128]⟩
abbrev S2048x128 : Shape := ⟨2, ![2048, 128]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩
abbrev S1x512x128 : Shape := ⟨3, ![1, 512, 128]⟩
abbrev S512x128 : Shape := ⟨2, ![512, 128]⟩
abbrev S512x256 : Shape := ⟨2, ![512, 256]⟩
abbrev S512x1 : Shape := ⟨2, ![512, 1]⟩
abbrev S1x768x128 : Shape := ⟨3, ![1, 768, 128]⟩
abbrev S768x128 : Shape := ⟨2, ![768, 128]⟩
abbrev S768x256 : Shape := ⟨2, ![768, 256]⟩
abbrev S768x1 : Shape := ⟨2, ![768, 1]⟩
abbrev S1x1024x128 : Shape := ⟨3, ![1, 1024, 128]⟩
abbrev S1024x128 : Shape := ⟨2, ![1024, 128]⟩
abbrev S1024x256 : Shape := ⟨2, ![1024, 256]⟩
abbrev S1024x1 : Shape := ⟨2, ![1024, 1]⟩
abbrev S1x1280x128 : Shape := ⟨3, ![1, 1280, 128]⟩
abbrev S1280x128 : Shape := ⟨2, ![1280, 128]⟩
abbrev S1280x256 : Shape := ⟨2, ![1280, 256]⟩
abbrev S1280x1 : Shape := ⟨2, ![1280, 1]⟩
abbrev S1x1536x128 : Shape := ⟨3, ![1, 1536, 128]⟩
abbrev S1536x128 : Shape := ⟨2, ![1536, 128]⟩
abbrev S1536x256 : Shape := ⟨2, ![1536, 256]⟩
abbrev S1536x1 : Shape := ⟨2, ![1536, 1]⟩
abbrev S1x1792x128 : Shape := ⟨3, ![1, 1792, 128]⟩
abbrev S1792x128 : Shape := ⟨2, ![1792, 128]⟩
abbrev S1792x256 : Shape := ⟨2, ![1792, 256]⟩
abbrev S1792x1 : Shape := ⟨2, ![1792, 1]⟩
abbrev S2048x256 : Shape := ⟨2, ![2048, 256]⟩
abbrev S2048x1 : Shape := ⟨2, ![2048, 1]⟩

abbrev nBuf : Space → Nat
  | .hbm => 20
  | .vmem => 10
  | .smem => 0
  | _ => 0

abbrev bufTy : (tb : Table) → Fin (tcTables nBuf tb) → BufTy
  | .hbm, ⟨0, _⟩ => ⟨S2x16384x6144, .f32⟩
  | .hbm, ⟨1, _⟩ => ⟨S6144, .i32⟩
  | .hbm, ⟨2, _⟩ => ⟨S_, .i32⟩
  | .hbm, ⟨3, _⟩ => ⟨S6144, .i32⟩
  | .hbm, ⟨4, _⟩ => ⟨S6144, .i1⟩
  | .hbm, ⟨5, _⟩ => ⟨S_, .f32⟩
  | .hbm, ⟨6, _⟩ => ⟨S6144, .f32⟩
  | .hbm, ⟨7, _⟩ => ⟨S6144, .f32⟩
  | .hbm, ⟨8, _⟩ => ⟨S_, .f32⟩
  | .hbm, ⟨9, _⟩ => ⟨S6144, .f32⟩
  | .hbm, ⟨10, _⟩ => ⟨S6144, .f32⟩
  | .hbm, ⟨11, _⟩ => ⟨S_, .f32⟩
  | .hbm, ⟨12, _⟩ => ⟨S_, .f32⟩
  | .hbm, ⟨13, _⟩ => ⟨S6144, .f32⟩
  | .hbm, ⟨14, _⟩ => ⟨S6144, .f32⟩
  | .hbm, ⟨15, _⟩ => ⟨S1x1x6144, .f32⟩
  | .hbm, ⟨16, _⟩ => ⟨S2x16384x6144, .f32⟩
  | .hbm, ⟨17, _⟩ => ⟨S2x16384x6144, .f32⟩
  | .hbm, ⟨18, _⟩ => ⟨S2x16384x6144, .bf16⟩
  | .hbm, ⟨19, _⟩ => ⟨S2x16384x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S2048x128, .f32⟩
  | .local _ .vmem, ⟨9, _⟩ => ⟨S2048x128, .f32⟩
  | _, _ => ⟨S2x16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c8_i32 : BitVec 32 := 8#32
  let v15 : BitVec 32 := Scalar.muli arg2 c8_i32
  let c7_i32 : BitVec 32 := 7#32
  let v16 : BitVec 32 := Scalar.addi v15 c7_i32
  let c256_i32 : BitVec 32 := 256#32
  let v31 : BitVec 32 := Scalar.muli v16 c256_i32
  v31
def k0_off1 (i : grid0.Coords) (c7_i32 : BitVec 32) : Fin 3 → Nat :=
  let c0_13 : Index := 0#32
  let arg2 : BitVec 32 := BitVec.ofNat 32 (i 2).val
  let c8_i32 : BitVec 32 := 8#32
  let v15 : BitVec 32 := Scalar.muli arg2 c8_i32
  let v16 : BitVec 32 := Scalar.addi v15 c7_i32
  let c256_i32 : BitVec 32 := 256#32
  let v31 : BitVec 32 := Scalar.muli v16 c256_i32
  let v32 : BitVec 32 := v31
  let v33 : Index := Scalar.indexCast v32
  let c0_14 : Index := 0#32
  ![0, v33.toNat, 0]
def k0_mult2 (i : grid0.Coords) : BitVec 32 :=
  let arg2 : BitVec 32 := BitVec.ofNat 32 (i 2).val
  let c8_i32_6 : BitVec 32 := 8#32
  let v17 : BitVec 32 := Scalar.muli arg2 c8_i32_6
  let c6_i32 : BitVec 32 := 6#32
  let v18 : BitVec 32 := Scalar.addi v17 c6_i32
  let c256_i32_24 : BitVec 32 := 256#32
  let v63 : BitVec 32 := Scalar.muli v18 c256_i32_24
  v63
def k0_mult3 (i : grid0.Coords) : BitVec 32 :=
  let arg2 : BitVec 32 := BitVec.ofNat 32 (i 2).val
  let c8_i32_7 : BitVec 32 := 8#32
  let v19 : BitVec 32 := Scalar.muli arg2 c8_i32_7
  let c5_i32 : BitVec 32 := 5#32
  let v20 : BitVec 32 := Scalar.addi v19 c5_i32
  let c256_i32_36 : BitVec 32 := 256#32
  let v95 : BitVec 32 := Scalar.muli v20 c256_i32_36
  v95
def k0_mult4 (i : grid0.Coords) : BitVec 32 :=
  let arg2 : BitVec 32 := BitVec.ofNat 32 (i 2).val
  let c8_i32_8 : BitVec 32 := 8#32
  let v21 : BitVec 32 := Scalar.muli arg2 c8_i32_8
  let c4_i32 : BitVec 32 := 4#32
  let v22 : BitVec 32 := Scalar.addi v21 c4_i32
  let c256_i32_48 : BitVec 32 := 256#32
  let v127 : BitVec 32 := Scalar.muli v22 c256_i32_48
  v127
def k0_mult5 (i : grid0.Coords) : BitVec 32 :=
  let arg2 : BitVec 32 := BitVec.ofNat 32 (i 2).val
  let c8_i32_9 : BitVec 32 := 8#32
  let v23 : BitVec 32 := Scalar.muli arg2 c8_i32_9
  let c3_i32 : BitVec 32 := 3#32
  let v24 : BitVec 32 := Scalar.addi v23 c3_i32
  let c256_i32_60 : BitVec 32 := 256#32
  let v159 : BitVec 32 := Scalar.muli v24 c256_i32_60
  v159
def k0_mult6 (i : grid0.Coords) : BitVec 32 :=
  let arg2 : BitVec 32 := BitVec.ofNat 32 (i 2).val
  let c8_i32_10 : BitVec 32 := 8#32
  let v25 : BitVec 32 := Scalar.muli arg2 c8_i32_10
  let c2_i32 : BitVec 32 := 2#32
  let v26 : BitVec 32 := Scalar.addi v25 c2_i32
  let c256_i32_72 : BitVec 32 := 256#32
  let v191 : BitVec 32 := Scalar.muli v26 c256_i32_72
  v191
def k0_mult7 (i : grid0.Coords) : BitVec 32 :=
  let arg2 : BitVec 32 := BitVec.ofNat 32 (i 2).val
  let c8_i32_11 : BitVec 32 := 8#32
  let v27 : BitVec 32 := Scalar.muli arg2 c8_i32_11
  let c1_i32 : BitVec 32 := 1#32
  let v28 : BitVec 32 := Scalar.addi v27 c1_i32
  let c256_i32_84 : BitVec 32 := 256#32
  let v223 : BitVec 32 := Scalar.muli v28 c256_i32_84
  v223
def k0_mult8 (i : grid0.Coords) : BitVec 32 :=
  let arg2 : BitVec 32 := BitVec.ofNat 32 (i 2).val
  let c8_i32_12 : BitVec 32 := 8#32
  let v29 : BitVec 32 := Scalar.muli arg2 c8_i32_12
  let c0_i32 : BitVec 32 := 0#32
  let v30 : BitVec 32 := Scalar.addi v29 c0_i32
  let c256_i32_96 : BitVec 32 := 256#32
  let v255 : BitVec 32 := Scalar.muli v30 c256_i32_96
  v255
def k0_mult9 (i : grid0.Coords) : BitVec 32 :=
  let arg2 : BitVec 32 := BitVec.ofNat 32 (i 2).val
  let c8_i32 : BitVec 32 := 8#32
  let v15 : BitVec 32 := Scalar.muli arg2 c8_i32
  let c7_i32 : BitVec 32 := 7#32
  let v16 : BitVec 32 := Scalar.addi v15 c7_i32
  let c256_i32_109 : BitVec 32 := 256#32
  let v287 : BitVec 32 := Scalar.muli v16 c256_i32_109
  v287
def k0_mult10 (i : grid0.Coords) : BitVec 32 :=
  let arg2 : BitVec 32 := BitVec.ofNat 32 (i 2).val
  let c8_i32_6 : BitVec 32 := 8#32
  let v17 : BitVec 32 := Scalar.muli arg2 c8_i32_6
  let c6_i32 : BitVec 32 := 6#32
  let v18 : BitVec 32 := Scalar.addi v17 c6_i32
  let c256_i32_124 : BitVec 32 := 256#32
  let v313 : BitVec 32 := Scalar.muli v18 c256_i32_124
  v313
def k0_mult11 (i : grid0.Coords) : BitVec 32 :=
  let arg2 : BitVec 32 := BitVec.ofNat 32 (i 2).val
  let c8_i32_7 : BitVec 32 := 8#32
  let v19 : BitVec 32 := Scalar.muli arg2 c8_i32_7
  let c5_i32 : BitVec 32 := 5#32
  let v20 : BitVec 32 := Scalar.addi v19 c5_i32
  let c256_i32_139 : BitVec 32 := 256#32
  let v339 : BitVec 32 := Scalar.muli v20 c256_i32_139
  v339
def k0_mult12 (i : grid0.Coords) : BitVec 32 :=
  let arg2 : BitVec 32 := BitVec.ofNat 32 (i 2).val
  let c8_i32_8 : BitVec 32 := 8#32
  let v21 : BitVec 32 := Scalar.muli arg2 c8_i32_8
  let c4_i32 : BitVec 32 := 4#32
  let v22 : BitVec 32 := Scalar.addi v21 c4_i32
  let c256_i32_154 : BitVec 32 := 256#32
  let v365 : BitVec 32 := Scalar.muli v22 c256_i32_154
  v365
def k0_mult13 (i : grid0.Coords) : BitVec 32 :=
  let arg2 : BitVec 32 := BitVec.ofNat 32 (i 2).val
  let c8_i32_9 : BitVec 32 := 8#32
  let v23 : BitVec 32 := Scalar.muli arg2 c8_i32_9
  let c3_i32 : BitVec 32 := 3#32
  let v24 : BitVec 32 := Scalar.addi v23 c3_i32
  let c256_i32_169 : BitVec 32 := 256#32
  let v391 : BitVec 32 := Scalar.muli v24 c256_i32_169
  v391
def k0_mult14 (i : grid0.Coords) : BitVec 32 :=
  let arg2 : BitVec 32 := BitVec.ofNat 32 (i 2).val
  let c8_i32_10 : BitVec 32 := 8#32
  let v25 : BitVec 32 := Scalar.muli arg2 c8_i32_10
  let c2_i32 : BitVec 32 := 2#32
  let v26 : BitVec 32 := Scalar.addi v25 c2_i32
  let c256_i32_184 : BitVec 32 := 256#32
  let v417 : BitVec 32 := Scalar.muli v26 c256_i32_184
  v417
def k0_mult15 (i : grid0.Coords) : BitVec 32 :=
  let arg2 : BitVec 32 := BitVec.ofNat 32 (i 2).val
  let c8_i32_11 : BitVec 32 := 8#32
  let v27 : BitVec 32 := Scalar.muli arg2 c8_i32_11
  let c1_i32 : BitVec 32 := 1#32
  let v28 : BitVec 32 := Scalar.addi v27 c1_i32
  let c256_i32_199 : BitVec 32 := 256#32
  let v443 : BitVec 32 := Scalar.muli v28 c256_i32_199
  v443
def k0_mult16 (i : grid0.Coords) : BitVec 32 :=
  let arg2 : BitVec 32 := BitVec.ofNat 32 (i 2).val
  let c8_i32_12 : BitVec 32 := 8#32
  let v29 : BitVec 32 := Scalar.muli arg2 c8_i32_12
  let c0_i32 : BitVec 32 := 0#32
  let v30 : BitVec 32 := Scalar.addi v29 c0_i32
  let c256_i32_214 : BitVec 32 := 256#32
  let v469 : BitVec 32 := Scalar.muli v30 c256_i32_214
  v469
@[reducible] def k0_t1_loop (i : grid0.Coords) : Scf.Loop 32 :=
  let c0_i32_235 : BitVec 32 := 0#32
  let arg2 : BitVec 32 := BitVec.ofNat 32 (i 2).val
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_237 : BitVec 32 := 1#32
  ⟨c0_i32_235, v503, c1_i32_237⟩
def k0_mult17 (i : grid0.Coords) (k0_t1 : Fin (k0_t1_loop i).trips) : BitVec 32 :=
  let arg2 : BitVec 32 := BitVec.ofNat 32 (i 2).val
  let c1_i32_244 : BitVec 32 := 1#32
  let v511 : BitVec 32 := Scalar.subi arg2 c1_i32_244
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v512 : BitVec 32 := Scalar.subi v511 v510
  let c8_i32_245 : BitVec 32 := 8#32
  let v513 : BitVec 32 := Scalar.muli v512 c8_i32_245
  let c7_i32_246 : BitVec 32 := 7#32
  let v514 : BitVec 32 := Scalar.addi v513 c7_i32_246
  let c256_i32_268 : BitVec 32 := 256#32
  let v543 : BitVec 32 := Scalar.muli v514 c256_i32_268
  v543
def k0_off2 (i : grid0.Coords) (k0_t1 : Fin (k0_t1_loop i).trips) (c7_i32_246 : BitVec 32) : Fin 3 → Nat :=
  let c0_269 : Index := 0#32
  let arg2 : BitVec 32 := BitVec.ofNat 32 (i 2).val
  let c1_i32_244 : BitVec 32 := 1#32
  let v511 : BitVec 32 := Scalar.subi arg2 c1_i32_244
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v512 : BitVec 32 := Scalar.subi v511 v510
  let c8_i32_245 : BitVec 32 := 8#32
  let v513 : BitVec 32 := Scalar.muli v512 c8_i32_245
  let v514 : BitVec 32 := Scalar.addi v513 c7_i32_246
  let c256_i32_268 : BitVec 32 := 256#32
  let v543 : BitVec 32 := Scalar.muli v514 c256_i32_268
  let v544 : BitVec 32 := v543
  let v545 : Index := Scalar.indexCast v544
  let c0_270 : Index := 0#32
  ![0, v545.toNat, 0]
def k0_mult18 (i : grid0.Coords) (k0_t1 : Fin (k0_t1_loop i).trips) : BitVec 32 :=
  let arg2 : BitVec 32 := BitVec.ofNat 32 (i 2).val
  let c1_i32_247 : BitVec 32 := 1#32
  let v515 : BitVec 32 := Scalar.subi arg2 c1_i32_247
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v516 : BitVec 32 := Scalar.subi v515 v510
  let c8_i32_248 : BitVec 32 := 8#32
  let v517 : BitVec 32 := Scalar.muli v516 c8_i32_248
  let c6_i32_249 : BitVec 32 := 6#32
  let v518 : BitVec 32 := Scalar.addi v517 c6_i32_249
  let c256_i32_280 : BitVec 32 := 256#32
  let v570 : BitVec 32 := Scalar.muli v518 c256_i32_280
  v570
def k0_mult19 (i : grid0.Coords) (k0_t1 : Fin (k0_t1_loop i).trips) : BitVec 32 :=
  let arg2 : BitVec 32 := BitVec.ofNat 32 (i 2).val
  let c1_i32_250 : BitVec 32 := 1#32
  let v519 : BitVec 32 := Scalar.subi arg2 c1_i32_250
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v520 : BitVec 32 := Scalar.subi v519 v510
  let c8_i32_251 : BitVec 32 := 8#32
  let v521 : BitVec 32 := Scalar.muli v520 c8_i32_251
  let c5_i32_252 : BitVec 32 := 5#32
  let v522 : BitVec 32 := Scalar.addi v521 c5_i32_252
  let c256_i32_292 : BitVec 32 := 256#32
  let v597 : BitVec 32 := Scalar.muli v522 c256_i32_292
  v597
def k0_mult20 (i : grid0.Coords) (k0_t1 : Fin (k0_t1_loop i).trips) : BitVec 32 :=
  let arg2 : BitVec 32 := BitVec.ofNat 32 (i 2).val
  let c1_i32_253 : BitVec 32 := 1#32
  let v523 : BitVec 32 := Scalar.subi arg2 c1_i32_253
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v524 : BitVec 32 := Scalar.subi v523 v510
  let c8_i32_254 : BitVec 32 := 8#32
  let v525 : BitVec 32 := Scalar.muli v524 c8_i32_254
  let c4_i32_255 : BitVec 32 := 4#32
  let v526 : BitVec 32 := Scalar.addi v525 c4_i32_255
  let c256_i32_304 : BitVec 32 := 256#32
  let v624 : BitVec 32 := Scalar.muli v526 c256_i32_304
  v624
def k0_mult21 (i : grid0.Coords) (k0_t1 : Fin (k0_t1_loop i).trips) : BitVec 32 :=
  let arg2 : BitVec 32 := BitVec.ofNat 32 (i 2).val
  let c1_i32_256 : BitVec 32 := 1#32
  let v527 : BitVec 32 := Scalar.subi arg2 c1_i32_256
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v528 : BitVec 32 := Scalar.subi v527 v510
  let c8_i32_257 : BitVec 32 := 8#32
  let v529 : BitVec 32 := Scalar.muli v528 c8_i32_257
  let c3_i32_258 : BitVec 32 := 3#32
  let v530 : BitVec 32 := Scalar.addi v529 c3_i32_258
  let c256_i32_316 : BitVec 32 := 256#32
  let v651 : BitVec 32 := Scalar.muli v530 c256_i32_316
  v651
def k0_mult22 (i : grid0.Coords) (k0_t1 : Fin (k0_t1_loop i).trips) : BitVec 32 :=
  let arg2 : BitVec 32 := BitVec.ofNat 32 (i 2).val
  let c1_i32_259 : BitVec 32 := 1#32
  let v531 : BitVec 32 := Scalar.subi arg2 c1_i32_259
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v532 : BitVec 32 := Scalar.subi v531 v510
  let c8_i32_260 : BitVec 32 := 8#32
  let v533 : BitVec 32 := Scalar.muli v532 c8_i32_260
  let c2_i32_261 : BitVec 32 := 2#32
  let v534 : BitVec 32 := Scalar.addi v533 c2_i32_261
  let c256_i32_328 : BitVec 32 := 256#32
  let v678 : BitVec 32 := Scalar.muli v534 c256_i32_328
  v678
def k0_mult23 (i : grid0.Coords) (k0_t1 : Fin (k0_t1_loop i).trips) : BitVec 32 :=
  let arg2 : BitVec 32 := BitVec.ofNat 32 (i 2).val
  let c1_i32_262 : BitVec 32 := 1#32
  let v535 : BitVec 32 := Scalar.subi arg2 c1_i32_262
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v536 : BitVec 32 := Scalar.subi v535 v510
  let c8_i32_263 : BitVec 32 := 8#32
  let v537 : BitVec 32 := Scalar.muli v536 c8_i32_263
  let c1_i32_264 : BitVec 32 := 1#32
  let v538 : BitVec 32 := Scalar.addi v537 c1_i32_264
  let c256_i32_340 : BitVec 32 := 256#32
  let v705 : BitVec 32 := Scalar.muli v538 c256_i32_340
  v705
def k0_mult24 (i : grid0.Coords) (k0_t1 : Fin (k0_t1_loop i).trips) : BitVec 32 :=
  let arg2 : BitVec 32 := BitVec.ofNat 32 (i 2).val
  let c1_i32_265 : BitVec 32 := 1#32
  let v539 : BitVec 32 := Scalar.subi arg2 c1_i32_265
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v540 : BitVec 32 := Scalar.subi v539 v510
  let c8_i32_266 : BitVec 32 := 8#32
  let v541 : BitVec 32 := Scalar.muli v540 c8_i32_266
  let c0_i32_267 : BitVec 32 := 0#32
  let v542 : BitVec 32 := Scalar.addi v541 c0_i32_267
  let c256_i32_352 : BitVec 32 := 256#32
  let v732 : BitVec 32 := Scalar.muli v542 c256_i32_352
  v732
def k0_mult25 (i : grid0.Coords) (k0_t1 : Fin (k0_t1_loop i).trips) : BitVec 32 :=
  let arg2 : BitVec 32 := BitVec.ofNat 32 (i 2).val
  let c1_i32_244 : BitVec 32 := 1#32
  let v511 : BitVec 32 := Scalar.subi arg2 c1_i32_244
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v512 : BitVec 32 := Scalar.subi v511 v510
  let c8_i32_245 : BitVec 32 := 8#32
  let v513 : BitVec 32 := Scalar.muli v512 c8_i32_245
  let c7_i32_246 : BitVec 32 := 7#32
  let v514 : BitVec 32 := Scalar.addi v513 c7_i32_246
  let c256_i32_364 : BitVec 32 := 256#32
  let v759 : BitVec 32 := Scalar.muli v514 c256_i32_364
  v759
def k0_mult26 (i : grid0.Coords) (k0_t1 : Fin (k0_t1_loop i).trips) : BitVec 32 :=
  let arg2 : BitVec 32 := BitVec.ofNat 32 (i 2).val
  let c1_i32_247 : BitVec 32 := 1#32
  let v515 : BitVec 32 := Scalar.subi arg2 c1_i32_247
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v516 : BitVec 32 := Scalar.subi v515 v510
  let c8_i32_248 : BitVec 32 := 8#32
  let v517 : BitVec 32 := Scalar.muli v516 c8_i32_248
  let c6_i32_249 : BitVec 32 := 6#32
  let v518 : BitVec 32 := Scalar.addi v517 c6_i32_249
  let c256_i32_378 : BitVec 32 := 256#32
  let v783 : BitVec 32 := Scalar.muli v518 c256_i32_378
  v783
def k0_mult27 (i : grid0.Coords) (k0_t1 : Fin (k0_t1_loop i).trips) : BitVec 32 :=
  let arg2 : BitVec 32 := BitVec.ofNat 32 (i 2).val
  let c1_i32_250 : BitVec 32 := 1#32
  let v519 : BitVec 32 := Scalar.subi arg2 c1_i32_250
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v520 : BitVec 32 := Scalar.subi v519 v510
  let c8_i32_251 : BitVec 32 := 8#32
  let v521 : BitVec 32 := Scalar.muli v520 c8_i32_251
  let c5_i32_252 : BitVec 32 := 5#32
  let v522 : BitVec 32 := Scalar.addi v521 c5_i32_252
  let c256_i32_392 : BitVec 32 := 256#32
  let v807 : BitVec 32 := Scalar.muli v522 c256_i32_392
  v807
def k0_mult28 (i : grid0.Coords) (k0_t1 : Fin (k0_t1_loop i).trips) : BitVec 32 :=
  let arg2 : BitVec 32 := BitVec.ofNat 32 (i 2).val
  let c1_i32_253 : BitVec 32 := 1#32
  let v523 : BitVec 32 := Scalar.subi arg2 c1_i32_253
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v524 : BitVec 32 := Scalar.subi v523 v510
  let c8_i32_254 : BitVec 32 := 8#32
  let v525 : BitVec 32 := Scalar.muli v524 c8_i32_254
  let c4_i32_255 : BitVec 32 := 4#32
  let v526 : BitVec 32 := Scalar.addi v525 c4_i32_255
  let c256_i32_406 : BitVec 32 := 256#32
  let v831 : BitVec 32 := Scalar.muli v526 c256_i32_406
  v831
def k0_mult29 (i : grid0.Coords) (k0_t1 : Fin (k0_t1_loop i).trips) : BitVec 32 :=
  let arg2 : BitVec 32 := BitVec.ofNat 32 (i 2).val
  let c1_i32_256 : BitVec 32 := 1#32
  let v527 : BitVec 32 := Scalar.subi arg2 c1_i32_256
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v528 : BitVec 32 := Scalar.subi v527 v510
  let c8_i32_257 : BitVec 32 := 8#32
  let v529 : BitVec 32 := Scalar.muli v528 c8_i32_257
  let c3_i32_258 : BitVec 32 := 3#32
  let v530 : BitVec 32 := Scalar.addi v529 c3_i32_258
  let c256_i32_420 : BitVec 32 := 256#32
  let v855 : BitVec 32 := Scalar.muli v530 c256_i32_420
  v855
def k0_mult30 (i : grid0.Coords) (k0_t1 : Fin (k0_t1_loop i).trips) : BitVec 32 :=
  let arg2 : BitVec 32 := BitVec.ofNat 32 (i 2).val
  let c1_i32_259 : BitVec 32 := 1#32
  let v531 : BitVec 32 := Scalar.subi arg2 c1_i32_259
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v532 : BitVec 32 := Scalar.subi v531 v510
  let c8_i32_260 : BitVec 32 := 8#32
  let v533 : BitVec 32 := Scalar.muli v532 c8_i32_260
  let c2_i32_261 : BitVec 32 := 2#32
  let v534 : BitVec 32 := Scalar.addi v533 c2_i32_261
  let c256_i32_434 : BitVec 32 := 256#32
  let v879 : BitVec 32 := Scalar.muli v534 c256_i32_434
  v879
def k0_mult31 (i : grid0.Coords) (k0_t1 : Fin (k0_t1_loop i).trips) : BitVec 32 :=
  let arg2 : BitVec 32 := BitVec.ofNat 32 (i 2).val
  let c1_i32_262 : BitVec 32 := 1#32
  let v535 : BitVec 32 := Scalar.subi arg2 c1_i32_262
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v536 : BitVec 32 := Scalar.subi v535 v510
  let c8_i32_263 : BitVec 32 := 8#32
  let v537 : BitVec 32 := Scalar.muli v536 c8_i32_263
  let c1_i32_264 : BitVec 32 := 1#32
  let v538 : BitVec 32 := Scalar.addi v537 c1_i32_264
  let c256_i32_448 : BitVec 32 := 256#32
  let v903 : BitVec 32 := Scalar.muli v538 c256_i32_448
  v903
def k0_mult32 (i : grid0.Coords) (k0_t1 : Fin (k0_t1_loop i).trips) : BitVec 32 :=
  let arg2 : BitVec 32 := BitVec.ofNat 32 (i 2).val
  let c1_i32_265 : BitVec 32 := 1#32
  let v539 : BitVec 32 := Scalar.subi arg2 c1_i32_265
  let c0_i32_234 : BitVec 32 := 0#32
  let c0_i32_235 : BitVec 32 := 0#32
  let c1_i32_237 : BitVec 32 := 1#32
  let arg9 : BitVec 32 := Scf.iv c0_i32_235 c1_i32_237 k0_t1
  let c1_i32_233 : BitVec 32 := 1#32
  let v509 : BitVec 32 := Scalar.muli arg9 c1_i32_233
  let v510 : BitVec 32 := Scalar.addi c0_i32_234 v509
  let v540 : BitVec 32 := Scalar.subi v539 v510
  let c8_i32_266 : BitVec 32 := 8#32
  let v541 : BitVec 32 := Scalar.muli v540 c8_i32_266
  let c0_i32_267 : BitVec 32 := 0#32
  let v542 : BitVec 32 := Scalar.addi v541 c0_i32_267
  let c256_i32_462 : BitVec 32 := 256#32
  let v927 : BitVec 32 := Scalar.muli v542 c256_i32_462
  v927
@[reducible] def k0_t2_loop (i : grid0.Coords) : Scf.Loop 32 :=
  let c0_i32_235 : BitVec 32 := 0#32
  let arg2 : BitVec 32 := BitVec.ofNat 32 (i 2).val
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let v500 : BitVec 32 := Scalar.addi c0_i32_235 v499
  let c1_i32_238 : BitVec 32 := 1#32
  ⟨v503, v500, c1_i32_238⟩
def k0_mult33 (i : grid0.Coords) (k0_t2 : Fin (k0_t2_loop i).trips) : BitVec 32 :=
  let arg2 : BitVec 32 := BitVec.ofNat 32 (i 2).val
  let c1_i32_244 : BitVec 32 := 1#32
  let v511 : BitVec 32 := Scalar.subi arg2 c1_i32_244
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v512 : BitVec 32 := Scalar.subi v511 v510
  let c8_i32_245 : BitVec 32 := 8#32
  let v513 : BitVec 32 := Scalar.muli v512 c8_i32_245
  let c7_i32_246 : BitVec 32 := 7#32
  let v514 : BitVec 32 := Scalar.addi v513 c7_i32_246
  let c256_i32_268 : BitVec 32 := 256#32
  let v543 : BitVec 32 := Scalar.muli v514 c256_i32_268
  v543
def k0_off3 (i : grid0.Coords) (k0_t2 : Fin (k0_t2_loop i).trips) (c7_i32_246 : BitVec 32) : Fin 3 → Nat :=
  let c0_269 : Index := 0#32
  let arg2 : BitVec 32 := BitVec.ofNat 32 (i 2).val
  let c1_i32_244 : BitVec 32 := 1#32
  let v511 : BitVec 32 := Scalar.subi arg2 c1_i32_244
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v512 : BitVec 32 := Scalar.subi v511 v510
  let c8_i32_245 : BitVec 32 := 8#32
  let v513 : BitVec 32 := Scalar.muli v512 c8_i32_245
  let v514 : BitVec 32 := Scalar.addi v513 c7_i32_246
  let c256_i32_268 : BitVec 32 := 256#32
  let v543 : BitVec 32 := Scalar.muli v514 c256_i32_268
  let v544 : BitVec 32 := v543
  let v545 : Index := Scalar.indexCast v544
  let c0_270 : Index := 0#32
  ![0, v545.toNat, 0]
def k0_mult34 (i : grid0.Coords) (k0_t2 : Fin (k0_t2_loop i).trips) : BitVec 32 :=
  let arg2 : BitVec 32 := BitVec.ofNat 32 (i 2).val
  let c1_i32_247 : BitVec 32 := 1#32
  let v515 : BitVec 32 := Scalar.subi arg2 c1_i32_247
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v516 : BitVec 32 := Scalar.subi v515 v510
  let c8_i32_248 : BitVec 32 := 8#32
  let v517 : BitVec 32 := Scalar.muli v516 c8_i32_248
  let c6_i32_249 : BitVec 32 := 6#32
  let v518 : BitVec 32 := Scalar.addi v517 c6_i32_249
  let c256_i32_280 : BitVec 32 := 256#32
  let v570 : BitVec 32 := Scalar.muli v518 c256_i32_280
  v570
def k0_mult35 (i : grid0.Coords) (k0_t2 : Fin (k0_t2_loop i).trips) : BitVec 32 :=
  let arg2 : BitVec 32 := BitVec.ofNat 32 (i 2).val
  let c1_i32_250 : BitVec 32 := 1#32
  let v519 : BitVec 32 := Scalar.subi arg2 c1_i32_250
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v520 : BitVec 32 := Scalar.subi v519 v510
  let c8_i32_251 : BitVec 32 := 8#32
  let v521 : BitVec 32 := Scalar.muli v520 c8_i32_251
  let c5_i32_252 : BitVec 32 := 5#32
  let v522 : BitVec 32 := Scalar.addi v521 c5_i32_252
  let c256_i32_292 : BitVec 32 := 256#32
  let v597 : BitVec 32 := Scalar.muli v522 c256_i32_292
  v597
def k0_mult36 (i : grid0.Coords) (k0_t2 : Fin (k0_t2_loop i).trips) : BitVec 32 :=
  let arg2 : BitVec 32 := BitVec.ofNat 32 (i 2).val
  let c1_i32_253 : BitVec 32 := 1#32
  let v523 : BitVec 32 := Scalar.subi arg2 c1_i32_253
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v524 : BitVec 32 := Scalar.subi v523 v510
  let c8_i32_254 : BitVec 32 := 8#32
  let v525 : BitVec 32 := Scalar.muli v524 c8_i32_254
  let c4_i32_255 : BitVec 32 := 4#32
  let v526 : BitVec 32 := Scalar.addi v525 c4_i32_255
  let c256_i32_304 : BitVec 32 := 256#32
  let v624 : BitVec 32 := Scalar.muli v526 c256_i32_304
  v624
def k0_mult37 (i : grid0.Coords) (k0_t2 : Fin (k0_t2_loop i).trips) : BitVec 32 :=
  let arg2 : BitVec 32 := BitVec.ofNat 32 (i 2).val
  let c1_i32_256 : BitVec 32 := 1#32
  let v527 : BitVec 32 := Scalar.subi arg2 c1_i32_256
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v528 : BitVec 32 := Scalar.subi v527 v510
  let c8_i32_257 : BitVec 32 := 8#32
  let v529 : BitVec 32 := Scalar.muli v528 c8_i32_257
  let c3_i32_258 : BitVec 32 := 3#32
  let v530 : BitVec 32 := Scalar.addi v529 c3_i32_258
  let c256_i32_316 : BitVec 32 := 256#32
  let v651 : BitVec 32 := Scalar.muli v530 c256_i32_316
  v651
def k0_mult38 (i : grid0.Coords) (k0_t2 : Fin (k0_t2_loop i).trips) : BitVec 32 :=
  let arg2 : BitVec 32 := BitVec.ofNat 32 (i 2).val
  let c1_i32_259 : BitVec 32 := 1#32
  let v531 : BitVec 32 := Scalar.subi arg2 c1_i32_259
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v532 : BitVec 32 := Scalar.subi v531 v510
  let c8_i32_260 : BitVec 32 := 8#32
  let v533 : BitVec 32 := Scalar.muli v532 c8_i32_260
  let c2_i32_261 : BitVec 32 := 2#32
  let v534 : BitVec 32 := Scalar.addi v533 c2_i32_261
  let c256_i32_328 : BitVec 32 := 256#32
  let v678 : BitVec 32 := Scalar.muli v534 c256_i32_328
  v678
def k0_mult39 (i : grid0.Coords) (k0_t2 : Fin (k0_t2_loop i).trips) : BitVec 32 :=
  let arg2 : BitVec 32 := BitVec.ofNat 32 (i 2).val
  let c1_i32_262 : BitVec 32 := 1#32
  let v535 : BitVec 32 := Scalar.subi arg2 c1_i32_262
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v536 : BitVec 32 := Scalar.subi v535 v510
  let c8_i32_263 : BitVec 32 := 8#32
  let v537 : BitVec 32 := Scalar.muli v536 c8_i32_263
  let c1_i32_264 : BitVec 32 := 1#32
  let v538 : BitVec 32 := Scalar.addi v537 c1_i32_264
  let c256_i32_340 : BitVec 32 := 256#32
  let v705 : BitVec 32 := Scalar.muli v538 c256_i32_340
  v705
def k0_mult40 (i : grid0.Coords) (k0_t2 : Fin (k0_t2_loop i).trips) : BitVec 32 :=
  let arg2 : BitVec 32 := BitVec.ofNat 32 (i 2).val
  let c1_i32_265 : BitVec 32 := 1#32
  let v539 : BitVec 32 := Scalar.subi arg2 c1_i32_265
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v540 : BitVec 32 := Scalar.subi v539 v510
  let c8_i32_266 : BitVec 32 := 8#32
  let v541 : BitVec 32 := Scalar.muli v540 c8_i32_266
  let c0_i32_267 : BitVec 32 := 0#32
  let v542 : BitVec 32 := Scalar.addi v541 c0_i32_267
  let c256_i32_352 : BitVec 32 := 256#32
  let v732 : BitVec 32 := Scalar.muli v542 c256_i32_352
  v732
def k0_mult41 (i : grid0.Coords) (k0_t2 : Fin (k0_t2_loop i).trips) : BitVec 32 :=
  let arg2 : BitVec 32 := BitVec.ofNat 32 (i 2).val
  let c1_i32_244 : BitVec 32 := 1#32
  let v511 : BitVec 32 := Scalar.subi arg2 c1_i32_244
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v512 : BitVec 32 := Scalar.subi v511 v510
  let c8_i32_245 : BitVec 32 := 8#32
  let v513 : BitVec 32 := Scalar.muli v512 c8_i32_245
  let c7_i32_246 : BitVec 32 := 7#32
  let v514 : BitVec 32 := Scalar.addi v513 c7_i32_246
  let c256_i32_364 : BitVec 32 := 256#32
  let v759 : BitVec 32 := Scalar.muli v514 c256_i32_364
  v759
def k0_mult42 (i : grid0.Coords) (k0_t2 : Fin (k0_t2_loop i).trips) : BitVec 32 :=
  let arg2 : BitVec 32 := BitVec.ofNat 32 (i 2).val
  let c1_i32_247 : BitVec 32 := 1#32
  let v515 : BitVec 32 := Scalar.subi arg2 c1_i32_247
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v516 : BitVec 32 := Scalar.subi v515 v510
  let c8_i32_248 : BitVec 32 := 8#32
  let v517 : BitVec 32 := Scalar.muli v516 c8_i32_248
  let c6_i32_249 : BitVec 32 := 6#32
  let v518 : BitVec 32 := Scalar.addi v517 c6_i32_249
  let c256_i32_378 : BitVec 32 := 256#32
  let v783 : BitVec 32 := Scalar.muli v518 c256_i32_378
  v783
def k0_mult43 (i : grid0.Coords) (k0_t2 : Fin (k0_t2_loop i).trips) : BitVec 32 :=
  let arg2 : BitVec 32 := BitVec.ofNat 32 (i 2).val
  let c1_i32_250 : BitVec 32 := 1#32
  let v519 : BitVec 32 := Scalar.subi arg2 c1_i32_250
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v520 : BitVec 32 := Scalar.subi v519 v510
  let c8_i32_251 : BitVec 32 := 8#32
  let v521 : BitVec 32 := Scalar.muli v520 c8_i32_251
  let c5_i32_252 : BitVec 32 := 5#32
  let v522 : BitVec 32 := Scalar.addi v521 c5_i32_252
  let c256_i32_392 : BitVec 32 := 256#32
  let v807 : BitVec 32 := Scalar.muli v522 c256_i32_392
  v807
def k0_mult44 (i : grid0.Coords) (k0_t2 : Fin (k0_t2_loop i).trips) : BitVec 32 :=
  let arg2 : BitVec 32 := BitVec.ofNat 32 (i 2).val
  let c1_i32_253 : BitVec 32 := 1#32
  let v523 : BitVec 32 := Scalar.subi arg2 c1_i32_253
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v524 : BitVec 32 := Scalar.subi v523 v510
  let c8_i32_254 : BitVec 32 := 8#32
  let v525 : BitVec 32 := Scalar.muli v524 c8_i32_254
  let c4_i32_255 : BitVec 32 := 4#32
  let v526 : BitVec 32 := Scalar.addi v525 c4_i32_255
  let c256_i32_406 : BitVec 32 := 256#32
  let v831 : BitVec 32 := Scalar.muli v526 c256_i32_406
  v831
def k0_mult45 (i : grid0.Coords) (k0_t2 : Fin (k0_t2_loop i).trips) : BitVec 32 :=
  let arg2 : BitVec 32 := BitVec.ofNat 32 (i 2).val
  let c1_i32_256 : BitVec 32 := 1#32
  let v527 : BitVec 32 := Scalar.subi arg2 c1_i32_256
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v528 : BitVec 32 := Scalar.subi v527 v510
  let c8_i32_257 : BitVec 32 := 8#32
  let v529 : BitVec 32 := Scalar.muli v528 c8_i32_257
  let c3_i32_258 : BitVec 32 := 3#32
  let v530 : BitVec 32 := Scalar.addi v529 c3_i32_258
  let c256_i32_420 : BitVec 32 := 256#32
  let v855 : BitVec 32 := Scalar.muli v530 c256_i32_420
  v855
def k0_mult46 (i : grid0.Coords) (k0_t2 : Fin (k0_t2_loop i).trips) : BitVec 32 :=
  let arg2 : BitVec 32 := BitVec.ofNat 32 (i 2).val
  let c1_i32_259 : BitVec 32 := 1#32
  let v531 : BitVec 32 := Scalar.subi arg2 c1_i32_259
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v532 : BitVec 32 := Scalar.subi v531 v510
  let c8_i32_260 : BitVec 32 := 8#32
  let v533 : BitVec 32 := Scalar.muli v532 c8_i32_260
  let c2_i32_261 : BitVec 32 := 2#32
  let v534 : BitVec 32 := Scalar.addi v533 c2_i32_261
  let c256_i32_434 : BitVec 32 := 256#32
  let v879 : BitVec 32 := Scalar.muli v534 c256_i32_434
  v879
def k0_mult47 (i : grid0.Coords) (k0_t2 : Fin (k0_t2_loop i).trips) : BitVec 32 :=
  let arg2 : BitVec 32 := BitVec.ofNat 32 (i 2).val
  let c1_i32_262 : BitVec 32 := 1#32
  let v535 : BitVec 32 := Scalar.subi arg2 c1_i32_262
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v536 : BitVec 32 := Scalar.subi v535 v510
  let c8_i32_263 : BitVec 32 := 8#32
  let v537 : BitVec 32 := Scalar.muli v536 c8_i32_263
  let c1_i32_264 : BitVec 32 := 1#32
  let v538 : BitVec 32 := Scalar.addi v537 c1_i32_264
  let c256_i32_448 : BitVec 32 := 256#32
  let v903 : BitVec 32 := Scalar.muli v538 c256_i32_448
  v903
def k0_mult48 (i : grid0.Coords) (k0_t2 : Fin (k0_t2_loop i).trips) : BitVec 32 :=
  let arg2 : BitVec 32 := BitVec.ofNat 32 (i 2).val
  let c1_i32_265 : BitVec 32 := 1#32
  let v539 : BitVec 32 := Scalar.subi arg2 c1_i32_265
  let c0_i32_234 : BitVec 32 := 0#32
  let c0_i32_235 : BitVec 32 := 0#32
  let c0_i32_229 : BitVec 32 := 0#32
  let v495 : BitVec 32 := Scalar.subi arg2 c0_i32_229
  let c1_i32_230 : BitVec 32 := 1#32
  let c1_i32_231 : BitVec 32 := 1#32
  let v496 : BitVec 32 := Scalar.subi c1_i32_230 c1_i32_231
  let v497 : BitVec 32 := Scalar.addi v495 v496
  let c1_i32_232 : BitVec 32 := 1#32
  let v498 : BitVec 32 := Scalar.divsi v497 c1_i32_232
  let v499 : BitVec 32 := Scalar.subi v498 c0_i32_235
  let c1_i32_236 : BitVec 32 := 1#32
  let v501 : BitVec 32 := Scalar.divsi v499 c1_i32_236
  let v502 : BitVec 32 := Scalar.muli v501 c1_i32_236
  let v503 : BitVec 32 := Scalar.addi c0_i32_235 v502
  let c1_i32_238 : BitVec 32 := 1#32
  let arg9 : BitVec 32 := Scf.iv v503 c1_i32_238 k0_t2
  let c1_i32_233 : BitVec 32 := 1#32
  let v509 : BitVec 32 := Scalar.muli arg9 c1_i32_233
  let v510 : BitVec 32 := Scalar.addi c0_i32_234 v509
  let v540 : BitVec 32 := Scalar.subi v539 v510
  let c8_i32_266 : BitVec 32 := 8#32
  let v541 : BitVec 32 := Scalar.muli v540 c8_i32_266
  let c0_i32_267 : BitVec 32 := 0#32
  let v542 : BitVec 32 := Scalar.addi v541 c0_i32_267
  let c256_i32_462 : BitVec 32 := 256#32
  let v927 : BitVec 32 := Scalar.muli v542 c256_i32_462
  v927
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x16384x6144 : Shape := ⟨3, ![2, 16384, 6144]⟩
abbrev S2x16384x1024 : Shape := ⟨3, ![2, 16384, 1024]⟩
abbrev S2x16384x8x128 : Shape := ⟨4, ![2, 16384, 8, 128]⟩
abbrev S2x8x16384x128 : Shape := ⟨4, ![2, 8, 16384, 128]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x8x16384x16384 : Shape := ⟨4, ![2, 8, 16384, 16384]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x6144, .f32⟩
  | .hbm, ⟨1, _⟩ => ⟨S2x16384x1024, .f32⟩
  | .hbm, ⟨2, _⟩ => ⟨S2x16384x8x128, .f32⟩
  | .hbm, ⟨3, _⟩ => ⟨S2x8x16384x128, .f32⟩
  | .hbm, ⟨4, _⟩ => ⟨S2x16384x1024, .f32⟩
  | .hbm, ⟨5, _⟩ => ⟨S2x16384x8x128, .f32⟩
  | .hbm, ⟨6, _⟩ => ⟨S2x8x16384x128, .f32⟩
  | .hbm, ⟨7, _⟩ => ⟨S2x16384x1024, .f32⟩
  | .hbm, ⟨8, _⟩ => ⟨S2x16384x8x128, .f32⟩
  | .hbm, ⟨9, _⟩ => ⟨S2x8x16384x128, .f32⟩
  | .hbm, ⟨10, _⟩ => ⟨S16384, .i32⟩
  | .hbm, ⟨11, _⟩ => ⟨S16384x1, .i32⟩
  | .hbm, ⟨12, _⟩ => ⟨S1x16384, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S16384x16384, .f32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S2x8x16384x16384, .f32⟩
  | .hbm, ⟨23, _⟩ => ⟨S_, .f32⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S_, .f32⟩
  | .hbm, ⟨28, _⟩ => ⟨S2x8x16384x16384, .f32⟩
  | .hbm, ⟨29, _⟩ => ⟨S2x8x16384x16384, .f32⟩
  | .hbm, ⟨30, _⟩ => ⟨S2x8x16384x16384, .f32⟩
  | .hbm, ⟨31, _⟩ => ⟨S2x8x16384x16384, .f32⟩
  | .hbm, ⟨32, _⟩ => ⟨S2x8x16384x16384, .i1⟩
  | .hbm, ⟨33, _⟩ => ⟨S2x8x16384x16384, .f32⟩
  | .hbm, ⟨34, _⟩ => ⟨S2x8x16384x16384, .f32⟩
  | .hbm, ⟨35, _⟩ => ⟨S2x8x16384x16384, .f32⟩
  | .hbm, ⟨36, _⟩ => ⟨S2x8x16384x16384, .f32⟩
  | .hbm, ⟨37, _⟩ => ⟨S2x8x16384x16384, .f32⟩
  | .hbm, ⟨38, _⟩ => ⟨S2x8x16384x16384, .f32⟩
  | .hbm, ⟨39, _⟩ => ⟨S2x8x16384x16384, .f32⟩
  | .hbm, ⟨40, _⟩ => ⟨S2x8x16384x16384, .f32⟩
  | .hbm, ⟨41, _⟩ => ⟨S2x8x16384x16384, .f32⟩
  | .hbm, ⟨42, _⟩ => ⟨S2x8x16384x16384, .f32⟩
  | .hbm, ⟨43, _⟩ => ⟨S2x8x16384x16384, .f32⟩
  | .hbm, ⟨44, _⟩ => ⟨S_, .f32⟩
  | .hbm, ⟨45, _⟩ => ⟨S2x8x16384x16384, .f32⟩
  | .hbm, ⟨46, _⟩ => ⟨S2x8x16384x16384, .f32⟩
  | .hbm, ⟨47, _⟩ => ⟨S2x8x16384x16384, .f32⟩
  | .hbm, ⟨48, _⟩ => ⟨S2x8x16384x16384, .f32⟩
  | .hbm, ⟨49, _⟩ => ⟨S2x8x16384x16384, .i1⟩
  | .hbm, ⟨50, _⟩ => ⟨S2x8x16384x16384, .f32⟩
  | .hbm, ⟨51, _⟩ => ⟨S2x8x16384x16384, .f32⟩
  | .hbm, ⟨52, _⟩ => ⟨S2x8x16384x16384, .f32⟩
  | .hbm, ⟨53, _⟩ => ⟨S2x8x16384x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384x16384, .f32⟩
  | .hbm, ⟨58, _⟩ => ⟨S2x8x16384x16384, .f32⟩
  | .hbm, ⟨59, _⟩ => ⟨S_, .f32⟩
  | .hbm, ⟨60, _⟩ => ⟨S_, .f32⟩
  | .hbm, ⟨61, _⟩ => ⟨S2x8x16384x16384, .i1⟩
  | .hbm, ⟨62, _⟩ => ⟨S2x8x16384x16384, .f32⟩
  | .hbm, ⟨63, _⟩ => ⟨S2x8x16384x16384, .f32⟩
  | .hbm, ⟨64, _⟩ => ⟨S2x8x16384x16384, .f32⟩
  | .hbm, ⟨65, _⟩ => ⟨S2x8x16384x16384, .f32⟩
  | .hbm, ⟨66, _⟩ => ⟨S2x8x16384x16384, .f32⟩
  | .hbm, ⟨67, _⟩ => ⟨S_, .f32⟩
  | .hbm, ⟨68, _⟩ => ⟨S_, .f32⟩
  | .hbm, ⟨69, _⟩ => ⟨S2x8x16384x16384, .i1⟩
  | .hbm, ⟨70, _⟩ => ⟨S2x8x16384x16384, .f32⟩
  | .hbm, ⟨71, _⟩ => ⟨S2x8x16384x16384, .f32⟩
  | .hbm, ⟨72, _⟩ => ⟨S2x8x16384x128, .f32⟩
  | .hbm, ⟨73, _⟩ => ⟨S2x16384x8x128, .f32⟩
  | .hbm, ⟨74, _⟩ => ⟨S2x16384x1024, .f32⟩
  | .hbm, ⟨75, _⟩ => ⟨S2x16384x1024, .bf16⟩
  | _, _ => ⟨S2x16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_cst : Ref sig .tc := ⟨.hbm, 23, rfl⟩
abbrev main_v22 : Ref sig .tc := ⟨.hbm, 24, rfl⟩
abbrev main_v23 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v24 : Ref sig .tc := ⟨.hbm, 41, rfl⟩
abbrev main_v25 : Ref sig .tc := ⟨.hbm, 42, rfl⟩
abbrev main_call1_v0 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_v11 : Ref sig .tc := ⟨.hbm, 56, rfl⟩
abbrev main_call1_v1 : Ref sig .tc := ⟨.hbm, 57, rfl⟩
abbrev main_v26 : Ref sig .tc := ⟨.hbm, 58, rfl⟩
abbrev main_cst_0 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_1 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048x2816 : Shape := ⟨2, ![2048, 2816]⟩
abbrev S2816x2048 : Shape := ⟨2, ![2816, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S2048x2816, .f32⟩
  | .hbm, ⟨2, _⟩ => ⟨S2048x2816, .f32⟩
  | .hbm, ⟨3, _⟩ => ⟨S2816x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S2048x2816, .bf16⟩
  | .hbm, ⟨8, _⟩ => ⟨S2048x2816, .bf16⟩
  | .hbm, ⟨9, _⟩ => ⟨S2816x2048, .bf16⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S2048x2816, .bf16⟩
  | .local _ .vmem, ⟨3, _⟩ => ⟨S2048x2816, .bf16⟩
  | .local _ .vmem, ⟨4, _⟩ => ⟨S2816x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x16384x2048 : Shape := ⟨3, ![2, 16384, 2048]⟩
abbrev S2048x2816 : Shape := ⟨2, ![2048, 2816]⟩
abbrev S2816x2048 : Shape := ⟨2, ![2816, 2048]⟩
abbrev S2048 : Shape := ⟨1, ![2048]⟩
abbrev S2x16384x2816 : Shape := ⟨3, ![2, 16384, 2816]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x2816, .f32⟩
  | .hbm, ⟨2, _⟩ => ⟨S2048x2816, .f32⟩
  | .hbm, ⟨3, _⟩ => ⟨S2816x2048, .f32⟩
  | .hbm, ⟨4, _⟩ => ⟨S2048, .f32⟩
  | .hbm, ⟨5, _⟩ => ⟨S2048, .f32⟩
  | .hbm, ⟨6, _⟩ => ⟨S2x16384x2816, .f32⟩
  | .hbm, ⟨7, _⟩ => ⟨S2x16384x2816, .f32⟩
  | .hbm, ⟨8, _⟩ => ⟨S2x16384x2816, .f32⟩
  | .hbm, ⟨9, _⟩ => ⟨S_, .f32⟩
  | .hbm, ⟨10, _⟩ => ⟨S2x16384x2816, .f32⟩
  | .hbm, ⟨11, _⟩ => ⟨S2x16384x2816, .f32⟩
  | .hbm, ⟨12, _⟩ => ⟨S_, .f32⟩
  | .hbm, ⟨13, _⟩ => ⟨S2x16384x2816, .f32⟩
  | .hbm, ⟨14, _⟩ => ⟨S2x16384x2816, .f32⟩
  | .hbm, ⟨15, _⟩ => ⟨S2x16384x2816, .f32⟩
  | .hbm, ⟨16, _⟩ => ⟨S2x16384x2816, .f32⟩
  | .hbm, ⟨17, _⟩ => ⟨S2x16384x2816, .f32⟩
  | .hbm, ⟨18, _⟩ => ⟨S2x16384x2048, .f32⟩
  | .hbm, ⟨19, _⟩ => ⟨S_, .f32⟩
  | .hbm, ⟨20, _⟩ => ⟨S2x16384x2048, .f32⟩
  | .hbm, ⟨21, _⟩ => ⟨S2x16384x2048, .f32⟩
  | .hbm, ⟨22, _⟩ => ⟨S_, .f32⟩
  | .hbm, ⟨23, _⟩ => ⟨S2x16384x2048, .f32⟩
  | .hbm, ⟨24, _⟩ => ⟨S2x16384x2048, .f32⟩
  | .hbm, ⟨25, _⟩ => ⟨S2x16384x2048, .f32⟩
  | .hbm, ⟨26, _⟩ => ⟨S_, .f32⟩
  | .hbm, ⟨27, _⟩ => ⟨S2x16384, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S2x16384x2048, .f32⟩
  | .hbm, ⟨42, _⟩ => ⟨S2x16384x2048, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x2048, .f32⟩
  | .hbm, ⟨48, _⟩ => ⟨S2x16384x2048, .f32⟩
  | .hbm, ⟨49, _⟩ => ⟨S1x1x2048, .f32⟩
  | .hbm, ⟨50, _⟩ => ⟨S2x16384x2048, .f32⟩
  | .hbm, ⟨51, _⟩ => ⟨S2x16384x2048, .f32⟩
  | .hbm, ⟨52, _⟩ => ⟨S1x1x2048, .f32⟩
  | .hbm, ⟨53, _⟩ => ⟨S2x16384x2048, .f32⟩
  | .hbm, ⟨54, _⟩ => ⟨S2x16384x2048, .f32⟩
  | .hbm, ⟨55, _⟩ => ⟨S32768x2048, .f32⟩
  | .hbm, ⟨56, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x16384x256 : Shape := ⟨3, ![2, 16384, 256]⟩
abbrev S2048x2048 : Shape := ⟨2, ![2048, 2048]⟩
abbrev S2048 : Shape := ⟨1, ![2048]⟩
abbrev S256x2048 : Shape := ⟨2, ![256, 2048]⟩
abbrev S32768x2048 : Shape := ⟨2, ![32768, 2048]⟩
abbrev S32768x256 : Shape := ⟨2, ![32768, 256]⟩
abbrev S1x2048 : Shape := ⟨2, ![1, 2048]⟩
abbrev S512x2048 : Shape := ⟨2, ![512, 2048]⟩
abbrev S512x256 : Shape := ⟨2, ![512, 256]⟩
abbrev S256x256 : Shape := ⟨2, ![256, 256]⟩
abbrev S256 : Shape := ⟨1, ![256]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S2x16384x256, .f32⟩
  | .hbm, ⟨2, _⟩ => ⟨S2048x2048, .f32⟩
  | .hbm, ⟨3, _⟩ => ⟨S2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S32768x2048, .f32⟩
  | .hbm, ⟨8, _⟩ => ⟨S32768x2048, .bf16⟩
  | .hbm, ⟨9, _⟩ => ⟨S32768x256, .f32⟩
  | .hbm, ⟨10, _⟩ => ⟨S2048x2048, .bf16⟩
  | .hbm, ⟨11, _⟩ => ⟨S1x2048, .f32⟩
  | .hbm, ⟨12, _⟩ => ⟨S256x2048, .bf16⟩
  | .hbm, ⟨13, _⟩ => ⟨S1x2048, .f32⟩
  | .hbm, ⟨14, _⟩ => ⟨S1x2048, .f32⟩
  | .hbm, ⟨15, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2048x2048, .bf16⟩
  | .local _ .vmem, ⟨7, _⟩ => ⟨S1x2048, .f32⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x16384x2048 : Shape := ⟨3, ![2, 16384, 2048]⟩
abbrev S2x16384x256 : Shape := ⟨3, ![2, 16384, 256]⟩
abbrev S2048x2048 : Shape := ⟨2, ![2048, 2048]⟩
abbrev S2048 : Shape := ⟨1, ![2048]⟩
abbrev S256x2048 : Shape := ⟨2, ![256, 2048]⟩
abbrev S1x1x2048 : Shape := ⟨3, ![1, 1, 2048]⟩
abbrev S_ : Shape := ⟨0, ![]⟩
abbrev S2x16384 : Shape := ⟨2, ![2, 16384]⟩
abbrev S2x16384x1 : Shape := ⟨3, ![2, 16384, 1]⟩
abbrev S32768x2048 : Shape := ⟨2, ![32768, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x256, .f32⟩
  | .hbm, ⟨2, _⟩ => ⟨S2048x2048, .f32⟩
  | .hbm, ⟨3, _⟩ => ⟨S2048, .f32⟩
  | .hbm, ⟨4, _⟩ => ⟨S256x2048, .f32⟩
  | .hbm, ⟨5, _⟩ => ⟨S2048, .f32⟩
  | .hbm, ⟨6, _⟩ => ⟨S2048, .f32⟩
  | .hbm, ⟨7, _⟩ => ⟨S2x16384x2048, .f32⟩
  | .hbm, ⟨8, _⟩ => ⟨S1x1x2048, .f32⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S2x16384x2048, .f32⟩
  | .hbm, ⟨13, _⟩ => ⟨S_, .f32⟩
  | .hbm, ⟨14, _⟩ => ⟨S2x16384x2048, .f32⟩
  | .hbm, ⟨15, _⟩ => ⟨S2x16384x2048, .f32⟩
  | .hbm, ⟨16, _⟩ => ⟨S_, .f32⟩
  | .hbm, ⟨17, _⟩ => ⟨S2x16384x2048, .f32⟩
  | .hbm, ⟨18, _⟩ => ⟨S2x16384x2048, .f32⟩
  | .hbm, ⟨19, _⟩ => ⟨S_, .f32⟩
  | .hbm, ⟨20, _⟩ => ⟨S2x16384x2048, .f32⟩
  | .hbm, ⟨21, _⟩ => ⟨S2x16384x2048, .f32⟩
  | .hbm, ⟨22, _⟩ => ⟨S2x16384x2048, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S2x16384, .f32⟩
  | .hbm, ⟨27, _⟩ => ⟨S2x16384x1, .f32⟩
  | .hbm, ⟨28, _⟩ => ⟨S_, .f32⟩
  | .hbm, ⟨29, _⟩ => ⟨S2x16384x1, .f32⟩
  | .hbm, ⟨30, _⟩ => ⟨S2x16384x1, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S_, .f32⟩
  | .hbm, ⟨35, _⟩ => ⟨S2x16384, .f32⟩
  | .hbm, ⟨36, _⟩ => ⟨S2x16384x1, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S2x16384x2048, .f32⟩
  | .hbm, ⟨41, _⟩ => ⟨S2x16384x2048, .f32⟩
  | .hbm, ⟨42, _⟩ => ⟨S_, .f32⟩
  | .hbm, ⟨43, _⟩ => ⟨S2x16384x1, .f32⟩
  | .hbm, ⟨44, _⟩ => ⟨S2x16384x1, .f32⟩
  | .hbm, ⟨45, _⟩ => ⟨S2x16384x1, .f32⟩
  | .hbm, ⟨46, _⟩ => ⟨S2x16384x2048, .f32⟩
  | .hbm, ⟨47, _⟩ => ⟨S2x16384x2048, .f32⟩
  | .hbm, ⟨48, _⟩ => ⟨S1x1x2048, .f32⟩
  | .hbm, ⟨49, _⟩ => ⟨S2x16384x2048, .f32⟩
  | .hbm, ⟨50, _⟩ => ⟨S2x16384x2048, .f32⟩
  | .hbm, ⟨51, _⟩ => ⟨S1x1x2048, .f32⟩
  | .hbm, ⟨52, _⟩ => ⟨S2x16384x2048, .f32⟩
  | .hbm, ⟨53, _⟩ => ⟨S2x16384x2048, .f32⟩
  | .hbm, ⟨54, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel4.lean ====
abbrev S2x16384x2048 : Shape := ⟨3, ![2, 16384, 2048]⟩
abbrev S2x16384x1024 : Shape := ⟨3, ![2, 16384, 1024]⟩
abbrev S2048x2048 : Shape := ⟨2, ![2048, 2048]⟩
abbrev S2048 : Shape := ⟨1, ![2048]⟩
abbrev S32768x2048 : Shape := ⟨2, ![32768, 2048]⟩
abbrev S32768x1024 : Shape := ⟨2, ![32768, 1024]⟩
abbrev S1024x2048 : Shape := ⟨2, ![1024, 2048]⟩
abbrev S1x2048 : Shape := ⟨2, ![1, 2048]⟩
abbrev S512x2048 : Shape := ⟨2, ![512, 2048]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S32768x2048, .f32⟩
  | .hbm, ⟨8, _⟩ => ⟨S2x16384x1024, .bf16⟩
  | .hbm, ⟨9, _⟩ => ⟨S32768x1024, .bf16⟩
  | .hbm, ⟨10, _⟩ => ⟨S2x16384x1024, .bf16⟩
  | .hbm, ⟨11, _⟩ => ⟨S32768x1024, .bf16⟩
  | .hbm, ⟨12, _⟩ => ⟨S1024x2048, .bf16⟩
  | .hbm, ⟨13, _⟩ => ⟨S1024x2048, .bf16⟩
  | .hbm, ⟨14, _⟩ => ⟨S1x2048, .f32⟩
  | .hbm, ⟨15, _⟩ => ⟨S1x2048, .f32⟩
  | .hbm, ⟨16, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2x16384x2048 : Shape := ⟨3, ![2, 16384, 2048]⟩
abbrev S2x16384x1024 : Shape := ⟨3, ![2, 16384, 1024]⟩
abbrev S2048x2048 : Shape := ⟨2, ![2048, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x1024, .f32⟩
  | .hbm, ⟨2, _⟩ => ⟨S2x16384x1024, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S2x16384x2048, .f32⟩
  | .hbm, ⟨21, _⟩ => ⟨S_, .f32⟩
  | .hbm, ⟨22, _⟩ => ⟨S2x16384, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x2048, .f32⟩
  | .hbm, ⟨28, _⟩ => ⟨S2x16384x2048, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x2048, .f32⟩
  | .hbm, ⟨34, _⟩ => ⟨S2x16384x2048, .f32⟩
  | .hbm, ⟨35, _⟩ => ⟨S1x1x2048, .f32⟩
  | .hbm, ⟨36, _⟩ => ⟨S2x16384x2048, .f32⟩
  | .hbm, ⟨37, _⟩ => ⟨S2x16384x2048, .f32⟩
  | .hbm, ⟨38, _⟩ => ⟨S1x1x2048, .f32⟩
  | .hbm, ⟨39, _⟩ => ⟨S2x16384x2048, .f32⟩
  | .hbm, ⟨40, _⟩ => ⟨S2x16384x2048, .f32⟩
  | .hbm, ⟨41, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel5.lean ====
abbrev S2x16384x6144 : Shape := ⟨3, ![2, 16384, 6144]⟩
abbrev S64 : Shape := ⟨1, ![64]⟩
abbrev S128 : Shape := ⟨1, ![128]⟩
abbrev S6144 : Shape := ⟨1, ![6144]⟩
abbrev S_ : Shape := ⟨0, ![]⟩
abbrev S1x1x6144 : Shape := ⟨3, ![1, 1, 6144]⟩
abbrev S1x64 : Shape := ⟨2, ![1, 64]⟩
abbrev S1x128 : Shape := ⟨2, ![1, 128]⟩
abbrev S2x16384x1024 : Shape := ⟨3, ![2, 16384, 1024]⟩
abbrev S1x2048x128 : Shape := ⟨3, ![1, 2048, 128]⟩
abbrev S1x16384x128 : Shape := ⟨3, ![1, 16384, 128]⟩
abbrev S2x2048x128 : Shape := ⟨3, ![2, 2048, 128]⟩
abbrev S2x2048x256 : Shape := ⟨3, ![2, 2048, 256]⟩
abbrev S2048x128 : Shape := ⟨2, ![2048, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S1x512x128 : Shape := ⟨3, ![1, 512, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S1x512x256 : Shape := ⟨3, ![1, 512, 256]⟩
abbrev S1x768x128 : Shape := ⟨3, ![1, 768, 128]⟩
abbrev S768x128 : Shape := ⟨2, ![768, 128]⟩
abbrev S768x256 : Shape := ⟨2, ![768, 256]⟩
abbrev S768 : Shape := ⟨1, ![768]⟩
abbrev S768x1 : Shape := ⟨2, ![768, 1]⟩
abbrev S1x768x256 : Shape := ⟨3, ![1, 768, 256]⟩
abbrev S1x1024x128 : Shape := ⟨3, ![1, 1024, 128]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1x1024x256 : Shape := ⟨3, ![1, 1024, 256]⟩
abbrev S1x1280x128 : Shape := ⟨3, ![1, 1280, 128]⟩
abbrev S1280x128 : Shape := ⟨2, ![1280, 128]⟩
abbrev S1280x256 : Shape := ⟨2, ![1280, 256]⟩
abbrev S1280 : Shape := ⟨1, ![1280]⟩
abbrev S1280x1 : Shape := ⟨2, ![1280, 1]⟩
abbrev S1x1280x256 : Shape := ⟨3, ![1, 1280, 256]⟩
abbrev S1x1536x128 : Shape := ⟨3, ![1, 1536, 128]⟩
abbrev S1536x128 : Shape := ⟨2, ![1536, 128]⟩
abbrev S1536x256 : Shape := ⟨2, ![1536, 256]⟩
abbrev S1536 : Shape := ⟨1, ![1536]⟩
abbrev S1536x1 : Shape := ⟨2, ![1536, 1]⟩
abbrev S1x1536x256 : Shape := ⟨3, ![1, 1536, 256]⟩
abbrev S1x1792x128 : Shape := ⟨3, ![1, 1792, 128]⟩
abbrev S1792x128 : Shape := ⟨2, ![1792, 128]⟩
abbrev S1792x256 : Shape := ⟨2, ![1792, 256]⟩
abbrev S1792 : Shape := ⟨1, ![1792]⟩
abbrev S1792x1 : Shape := ⟨2, ![1792, 1]⟩
abbrev S1x1792x256 : Shape := ⟨3, ![1, 1792, 256]⟩
abbrev S2048x256 : Shape := ⟨2, ![2048, 256]⟩
abbrev S2048 : Shape := ⟨1, ![2048]⟩
abbrev S2048x1 : Shape := ⟨2, ![2048, 1]⟩
abbrev S1x2048x256 : Shape := ⟨3, ![1, 2048, 256]⟩
abbrev S1 : Shape := ⟨1, ![1]⟩
abbrev S1x1 : Shape := ⟨2, ![1, 1]⟩

abbrev nBuf : Space → Nat
  | .hbm => 34
  | .vmem => 16
  | .smem => 0
  | _ => 0

abbrev bufTy : (tb : Table) → Fin (tcTables nBuf tb) → BufTy
  | .hbm, ⟨0, _⟩ => ⟨S2x16384x6144, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S6144, .i32⟩
  | .hbm, ⟨7, _⟩ => ⟨S_, .i32⟩
  | .hbm, ⟨8, _⟩ => ⟨S6144, .i32⟩
  | .hbm, ⟨9, _⟩ => ⟨S6144, .i1⟩
  | .hbm, ⟨10, _⟩ => ⟨S_, .i32⟩
  | .hbm, ⟨11, _⟩ => ⟨S6144, .i32⟩
  | .hbm, ⟨12, _⟩ => ⟨S6144, .i1⟩
  | .hbm, ⟨13, _⟩ => ⟨S6144, .i1⟩
  | .hbm, ⟨14, _⟩ => ⟨S_, .f32⟩
  | .hbm, ⟨15, _⟩ => ⟨S6144, .f32⟩
  | .hbm, ⟨16, _⟩ => ⟨S6144, .f32⟩
  | .hbm, ⟨17, _⟩ => ⟨S_, .f32⟩
  | .hbm, ⟨18, _⟩ => ⟨S6144, .f32⟩
  | .hbm, ⟨19, _⟩ => ⟨S6144, .f32⟩
  | .hbm, ⟨20, _⟩ => ⟨S_, .f32⟩
  | .hbm, ⟨21, _⟩ => ⟨S_, .f32⟩
  | .hbm, ⟨22, _⟩ => ⟨S6144, .f32⟩
  | .hbm, ⟨23, _⟩ => ⟨S6144, .f32⟩
  | .hbm, ⟨24, _⟩ => ⟨S1x1x6144, .f32⟩
  | .hbm, ⟨25, _⟩ => ⟨S2x16384x6144, .f32⟩
  | .hbm, ⟨26, _⟩ => ⟨S2x16384x6144, .f32⟩
  | .hbm, ⟨27, _⟩ => ⟨S2x16384x6144, .bf16⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x128, .f32⟩
  | .hbm, ⟨33, _⟩ => ⟨S2x16384x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x2048x128, .bf16⟩
  | .local _ .vmem, ⟨12, _⟩ => ⟨S1x2048x128, .bf16⟩
  | .local _ .vmem, ⟨13, _⟩ => ⟨S2x2048x128, .bf16⟩
  | .local _ .vmem, ⟨14, _⟩ => ⟨S2x2048x128, .f32⟩
  | .local _ .vmem, ⟨15, _⟩ => ⟨S2x2048x256, .f32⟩
  | _, _ => ⟨S2x16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c8_i32 : BitVec 32 := 8#32
  let v24 : BitVec 32 := Scalar.muli arg2 c8_i32
  let c7_i32 : BitVec 32 := 7#32
  let v25 : BitVec 32 := Scalar.addi v24 c7_i32
  let c256_i32 : BitVec 32 := 256#32
  let v26 : BitVec 32 := Scalar.muli v25 c256_i32
  v26
def k0_off1 (i : grid0.Coords) (c7_i32 : BitVec 32) : Fin 3 → Nat :=
  let c0_16 : Index := 0#32
  let arg2 : BitVec 32 := BitVec.ofNat 32 (i 2).val
  let c8_i32 : BitVec 32 := 8#32
  let v24 : BitVec 32 := Scalar.muli arg2 c8_i32
  let v25 : BitVec 32 := Scalar.addi v24 c7_i32
  let c256_i32 : BitVec 32 := 256#32
  let v26 : BitVec 32 := Scalar.muli v25 c256_i32
  let v27 : BitVec 32 := v26
  let v28 : Index := Scalar.indexCast v27
  let c0_17 : Index := 0#32
  ![0, v28.toNat, 0]
def k0_mult2 (i : grid0.Coords) : BitVec 32 :=
  let arg2 : BitVec 32 := BitVec.ofNat 32 (i 2).val
  let c8_i32_58 : BitVec 32 := 8#32
  let v100 : BitVec 32 := Scalar.muli arg2 c8_i32_58
  let c6_i32 : BitVec 32 := 6#32
  let v101 : BitVec 32 := Scalar.addi v100 c6_i32
  let c256_i32_59 : BitVec 32 := 256#32
  let v102 : BitVec 32 := Scalar.muli v101 c256_i32_59
  v102
def k0_mult3 (i : grid0.Coords) : BitVec 32 :=
  let arg2 : BitVec 32 := BitVec.ofNat 32 (i 2).val
  let c8_i32_102 : BitVec 32 := 8#32
  let v176 : BitVec 32 := Scalar.muli arg2 c8_i32_102
  let c5_i32 : BitVec 32 := 5#32
  let v177 : BitVec 32 := Scalar.addi v176 c5_i32
  let c256_i32_103 : BitVec 32 := 256#32
  let v178 : BitVec 32 := Scalar.muli v177 c256_i32_103
  v178
def k0_mult4 (i : grid0.Coords) : BitVec 32 :=
  let arg2 : BitVec 32 := BitVec.ofNat 32 (i 2).val
  let c8_i32_146 : BitVec 32 := 8#32
  let v252 : BitVec 32 := Scalar.muli arg2 c8_i32_146
  let c4_i32 : BitVec 32 := 4#32
  let v253 : BitVec 32 := Scalar.addi v252 c4_i32
  let c256_i32_147 : BitVec 32 := 256#32
  let v254 : BitVec 32 := Scalar.muli v253 c256_i32_147
  v254
def k0_mult5 (i : grid0.Coords) : BitVec 32 :=
  let arg2 : BitVec 32 := BitVec.ofNat 32 (i 2).val
  let c8_i32_190 : BitVec 32 := 8#32
  let v328 : BitVec 32 := Scalar.muli arg2 c8_i32_190
  let c3_i32 : BitVec 32 := 3#32
  let v329 : BitVec 32 := Scalar.addi v328 c3_i32
  let c256_i32_191 : BitVec 32 := 256#32
  let v330 : BitVec 32 := Scalar.muli v329 c256_i32_191
  v330
def k0_mult6 (i : grid0.Coords) : BitVec 32 :=
  let arg2 : BitVec 32 := BitVec.ofNat 32 (i 2).val
  let c8_i32_234 : BitVec 32 := 8#32
  let v404 : BitVec 32 := Scalar.muli arg2 c8_i32_234
  let c2_i32 : BitVec 32 := 2#32
  let v405 : BitVec 32 := Scalar.addi v404 c2_i32
  let c256_i32_235 : BitVec 32 := 256#32
  let v406 : BitVec 32 := Scalar.muli v405 c256_i32_235
  v406
def k0_mult7 (i : grid0.Coords) : BitVec 32 :=
  let arg2 : BitVec 32 := BitVec.ofNat 32 (i 2).val
  let c8_i32_278 : BitVec 32 := 8#32
  let v480 : BitVec 32 := Scalar.muli arg2 c8_i32_278
  let c1_i32 : BitVec 32 := 1#32
  let v481 : BitVec 32 := Scalar.addi v480 c1_i32
  let c256_i32_279 : BitVec 32 := 256#32
  let v482 : BitVec 32 := Scalar.muli v481 c256_i32_279
  v482
def k0_mult8 (i : grid0.Coords) : BitVec 32 :=
  let arg2 : BitVec 32 := BitVec.ofNat 32 (i 2).val
  let c8_i32_322 : BitVec 32 := 8#32
  let v556 : BitVec 32 := Scalar.muli arg2 c8_i32_322
  let c0_i32 : BitVec 32 := 0#32
  let v557 : BitVec 32 := Scalar.addi v556 c0_i32
  let c256_i32_323 : BitVec 32 := 256#32
  let v558 : BitVec 32 := Scalar.muli v557 c256_i32_323
  v558
@[reducible] def k0_t1_loop (i : grid0.Coords) : Scf.Loop 32 :=
  let c0_i32_373 : BitVec 32 := 0#32
  let arg2 : BitVec 32 := BitVec.ofNat 32 (i 2).val
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_375 : BitVec 32 := 1#32
  ⟨c0_i32_373, v640, c1_i32_375⟩
def k0_mult9 (i : grid0.Coords) (k0_t1 : Fin (k0_t1_loop i).trips) : BitVec 32 :=
  let arg2 : BitVec 32 := BitVec.ofNat 32 (i 2).val
  let c1_i32_408 : BitVec 32 := 1#32
  let v695 : BitVec 32 := Scalar.subi arg2 c1_i32_408
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v696 : BitVec 32 := Scalar.subi v695 v694
  let c8_i32_409 : BitVec 32 := 8#32
  let v697 : BitVec 32 := Scalar.muli v696 c8_i32_409
  let c7_i32_410 : BitVec 32 := 7#32
  let v698 : BitVec 32 := Scalar.addi v697 c7_i32_410
  let c256_i32_411 : BitVec 32 := 256#32
  let v699 : BitVec 32 := Scalar.muli v698 c256_i32_411
  v699
def k0_off2 (i : grid0.Coords) (k0_t1 : Fin (k0_t1_loop i).trips) (c7_i32_410 : BitVec 32) : Fin 3 → Nat :=
  let c0_412 : Index := 0#32
  let arg2 : BitVec 32 := BitVec.ofNat 32 (i 2).val
  let c1_i32_408 : BitVec 32 := 1#32
  let v695 : BitVec 32 := Scalar.subi arg2 c1_i32_408
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v696 : BitVec 32 := Scalar.subi v695 v694
  let c8_i32_409 : BitVec 32 := 8#32
  let v697 : BitVec 32 := Scalar.muli v696 c8_i32_409
  let v698 : BitVec 32 := Scalar.addi v697 c7_i32_410
  let c256_i32_411 : BitVec 32 := 256#32
  let v699 : BitVec 32 := Scalar.muli v698 c256_i32_411
  let v700 : BitVec 32 := v699
  let v701 : Index := Scalar.indexCast v700
  let c0_413 : Index := 0#32
  ![0, v701.toNat, 0]
def k0_mult10 (i : grid0.Coords) (k0_t1 : Fin (k0_t1_loop i).trips) : BitVec 32 :=
  let arg2 : BitVec 32 := BitVec.ofNat 32 (i 2).val
  let c1_i32_453 : BitVec 32 := 1#32
  let v763 : BitVec 32 := Scalar.subi arg2 c1_i32_453
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v764 : BitVec 32 := Scalar.subi v763 v694
  let c8_i32_454 : BitVec 32 := 8#32
  let v765 : BitVec 32 := Scalar.muli v764 c8_i32_454
  let c6_i32_455 : BitVec 32 := 6#32
  let v766 : BitVec 32 := Scalar.addi v765 c6_i32_455
  let c256_i32_456 : BitVec 32 := 256#32
  let v767 : BitVec 32 := Scalar.muli v766 c256_i32_456
  v767
def k0_mult11 (i : grid0.Coords) (k0_t1 : Fin (k0_t1_loop i).trips) : BitVec 32 :=
  let arg2 : BitVec 32 := BitVec.ofNat 32 (i 2).val
  let c1_i32_498 : BitVec 32 := 1#32
  let v831 : BitVec 32 := Scalar.subi arg2 c1_i32_498
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v832 : BitVec 32 := Scalar.subi v831 v694
  let c8_i32_499 : BitVec 32 := 8#32
  let v833 : BitVec 32 := Scalar.muli v832 c8_i32_499
  let c5_i32_500 : BitVec 32 := 5#32
  let v834 : BitVec 32 := Scalar.addi v833 c5_i32_500
  let c256_i32_501 : BitVec 32 := 256#32
  let v835 : BitVec 32 := Scalar.muli v834 c256_i32_501
  v835
def k0_mult12 (i : grid0.Coords) (k0_t1 : Fin (k0_t1_loop i).trips) : BitVec 32 :=
  let arg2 : BitVec 32 := BitVec.ofNat 32 (i 2).val
  let c1_i32_543 : BitVec 32 := 1#32
  let v899 : BitVec 32 := Scalar.subi arg2 c1_i32_543
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v900 : BitVec 32 := Scalar.subi v899 v694
  let c8_i32_544 : BitVec 32 := 8#32
  let v901 : BitVec 32 := Scalar.muli v900 c8_i32_544
  let c4_i32_545 : BitVec 32 := 4#32
  let v902 : BitVec 32 := Scalar.addi v901 c4_i32_545
  let c256_i32_546 : BitVec 32 := 256#32
  let v903 : BitVec 32 := Scalar.muli v902 c256_i32_546
  v903
def k0_mult13 (i : grid0.Coords) (k0_t1 : Fin (k0_t1_loop i).trips) : BitVec 32 :=
  let arg2 : BitVec 32 := BitVec.ofNat 32 (i 2).val
  let c1_i32_588 : BitVec 32 := 1#32
  let v967 : BitVec 32 := Scalar.subi arg2 c1_i32_588
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v968 : BitVec 32 := Scalar.subi v967 v694
  let c8_i32_589 : BitVec 32 := 8#32
  let v969 : BitVec 32 := Scalar.muli v968 c8_i32_589
  let c3_i32_590 : BitVec 32 := 3#32
  let v970 : BitVec 32 := Scalar.addi v969 c3_i32_590
  let c256_i32_591 : BitVec 32 := 256#32
  let v971 : BitVec 32 := Scalar.muli v970 c256_i32_591
  v971
def k0_mult14 (i : grid0.Coords) (k0_t1 : Fin (k0_t1_loop i).trips) : BitVec 32 :=
  let arg2 : BitVec 32 := BitVec.ofNat 32 (i 2).val
  let c1_i32_633 : BitVec 32 := 1#32
  let v1035 : BitVec 32 := Scalar.subi arg2 c1_i32_633
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v1036 : BitVec 32 := Scalar.subi v1035 v694
  let c8_i32_634 : BitVec 32 := 8#32
  let v1037 : BitVec 32 := Scalar.muli v1036 c8_i32_634
  let c2_i32_635 : BitVec 32 := 2#32
  let v1038 : BitVec 32 := Scalar.addi v1037 c2_i32_635
  let c256_i32_636 : BitVec 32 := 256#32
  let v1039 : BitVec 32 := Scalar.muli v1038 c256_i32_636
  v1039
def k0_mult15 (i : grid0.Coords) (k0_t1 : Fin (k0_t1_loop i).trips) : BitVec 32 :=
  let arg2 : BitVec 32 := BitVec.ofNat 32 (i 2).val
  let c1_i32_678 : BitVec 32 := 1#32
  let v1103 : BitVec 32 := Scalar.subi arg2 c1_i32_678
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v1104 : BitVec 32 := Scalar.subi v1103 v694
  let c8_i32_679 : BitVec 32 := 8#32
  let v1105 : BitVec 32 := Scalar.muli v1104 c8_i32_679
  let c1_i32_680 : BitVec 32 := 1#32
  let v1106 : BitVec 32 := Scalar.addi v1105 c1_i32_680
  let c256_i32_681 : BitVec 32 := 256#32
  let v1107 : BitVec 32 := Scalar.muli v1106 c256_i32_681
  v1107
def k0_mult16 (i : grid0.Coords) (k0_t1 : Fin (k0_t1_loop i).trips) : BitVec 32 :=
  let arg2 : BitVec 32 := BitVec.ofNat 32 (i 2).val
  let c1_i32_723 : BitVec 32 := 1#32
  let v1171 : BitVec 32 := Scalar.subi arg2 c1_i32_723
  let c0_i32_372 : BitVec 32 := 0#32
  let c0_i32_373 : BitVec 32 := 0#32
  let c1_i32_375 : BitVec 32 := 1#32
  let arg15 : BitVec 32 := Scf.iv c0_i32_373 c1_i32_375 k0_t1
  let c1_i32_371 : BitVec 32 := 1#32
  let v693 : BitVec 32 := Scalar.muli arg15 c1_i32_371
  let v694 : BitVec 32 := Scalar.addi c0_i32_372 v693
  let v1172 : BitVec 32 := Scalar.subi v1171 v694
  let c8_i32_724 : BitVec 32 := 8#32
  let v1173 : BitVec 32 := Scalar.muli v1172 c8_i32_724
  let c0_i32_725 : BitVec 32 := 0#32
  let v1174 : BitVec 32 := Scalar.addi v1173 c0_i32_725
  let c256_i32_726 : BitVec 32 := 256#32
  let v1175 : BitVec 32 := Scalar.muli v1174 c256_i32_726
  v1175
@[reducible] def k0_t2_loop (i : grid0.Coords) : Scf.Loop 32 :=
  let c0_i32_373 : BitVec 32 := 0#32
  let arg2 : BitVec 32 := BitVec.ofNat 32 (i 2).val
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let v637 : BitVec 32 := Scalar.addi c0_i32_373 v636
  let c1_i32_376 : BitVec 32 := 1#32
  ⟨v640, v637, c1_i32_376⟩
def k0_mult17 (i : grid0.Coords) (k0_t2 : Fin (k0_t2_loop i).trips) : BitVec 32 :=
  let arg2 : BitVec 32 := BitVec.ofNat 32 (i 2).val
  let c1_i32_408 : BitVec 32 := 1#32
  let v695 : BitVec 32 := Scalar.subi arg2 c1_i32_408
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v696 : BitVec 32 := Scalar.subi v695 v694
  let c8_i32_409 : BitVec 32 := 8#32
  let v697 : BitVec 32 := Scalar.muli v696 c8_i32_409
  let c7_i32_410 : BitVec 32 := 7#32
  let v698 : BitVec 32 := Scalar.addi v697 c7_i32_410
  let c256_i32_411 : BitVec 32 := 256#32
  let v699 : BitVec 32 := Scalar.muli v698 c256_i32_411
  v699
def k0_off3 (i : grid0.Coords) (k0_t2 : Fin (k0_t2_loop i).trips) (c7_i32_410 : BitVec 32) : Fin 3 → Nat :=
  let c0_412 : Index := 0#32
  let arg2 : BitVec 32 := BitVec.ofNat 32 (i 2).val
  let c1_i32_408 : BitVec 32 := 1#32
  let v695 : BitVec 32 := Scalar.subi arg2 c1_i32_408
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v696 : BitVec 32 := Scalar.subi v695 v694
  let c8_i32_409 : BitVec 32 := 8#32
  let v697 : BitVec 32 := Scalar.muli v696 c8_i32_409
  let v698 : BitVec 32 := Scalar.addi v697 c7_i32_410
  let c256_i32_411 : BitVec 32 := 256#32
  let v699 : BitVec 32 := Scalar.muli v698 c256_i32_411
  let v700 : BitVec 32 := v699
  let v701 : Index := Scalar.indexCast v700
  let c0_413 : Index := 0#32
  ![0, v701.toNat, 0]
def k0_mult18 (i : grid0.Coords) (k0_t2 : Fin (k0_t2_loop i).trips) : BitVec 32 :=
  let arg2 : BitVec 32 := BitVec.ofNat 32 (i 2).val
  let c1_i32_453 : BitVec 32 := 1#32
  let v763 : BitVec 32 := Scalar.subi arg2 c1_i32_453
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v764 : BitVec 32 := Scalar.subi v763 v694
  let c8_i32_454 : BitVec 32 := 8#32
  let v765 : BitVec 32 := Scalar.muli v764 c8_i32_454
  let c6_i32_455 : BitVec 32 := 6#32
  let v766 : BitVec 32 := Scalar.addi v765 c6_i32_455
  let c256_i32_456 : BitVec 32 := 256#32
  let v767 : BitVec 32 := Scalar.muli v766 c256_i32_456
  v767
def k0_mult19 (i : grid0.Coords) (k0_t2 : Fin (k0_t2_loop i).trips) : BitVec 32 :=
  let arg2 : BitVec 32 := BitVec.ofNat 32 (i 2).val
  let c1_i32_498 : BitVec 32 := 1#32
  let v831 : BitVec 32 := Scalar.subi arg2 c1_i32_498
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v832 : BitVec 32 := Scalar.subi v831 v694
  let c8_i32_499 : BitVec 32 := 8#32
  let v833 : BitVec 32 := Scalar.muli v832 c8_i32_499
  let c5_i32_500 : BitVec 32 := 5#32
  let v834 : BitVec 32 := Scalar.addi v833 c5_i32_500
  let c256_i32_501 : BitVec 32 := 256#32
  let v835 : BitVec 32 := Scalar.muli v834 c256_i32_501
  v835
def k0_mult20 (i : grid0.Coords) (k0_t2 : Fin (k0_t2_loop i).trips) : BitVec 32 :=
  let arg2 : BitVec 32 := BitVec.ofNat 32 (i 2).val
  let c1_i32_543 : BitVec 32 := 1#32
  let v899 : BitVec 32 := Scalar.subi arg2 c1_i32_543
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v900 : BitVec 32 := Scalar.subi v899 v694
  let c8_i32_544 : BitVec 32 := 8#32
  let v901 : BitVec 32 := Scalar.muli v900 c8_i32_544
  let c4_i32_545 : BitVec 32 := 4#32
  let v902 : BitVec 32 := Scalar.addi v901 c4_i32_545
  let c256_i32_546 : BitVec 32 := 256#32
  let v903 : BitVec 32 := Scalar.muli v902 c256_i32_546
  v903
def k0_mult21 (i : grid0.Coords) (k0_t2 : Fin (k0_t2_loop i).trips) : BitVec 32 :=
  let arg2 : BitVec 32 := BitVec.ofNat 32 (i 2).val
  let c1_i32_588 : BitVec 32 := 1#32
  let v967 : BitVec 32 := Scalar.subi arg2 c1_i32_588
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v968 : BitVec 32 := Scalar.subi v967 v694
  let c8_i32_589 : BitVec 32 := 8#32
  let v969 : BitVec 32 := Scalar.muli v968 c8_i32_589
  let c3_i32_590 : BitVec 32 := 3#32
  let v970 : BitVec 32 := Scalar.addi v969 c3_i32_590
  let c256_i32_591 : BitVec 32 := 256#32
  let v971 : BitVec 32 := Scalar.muli v970 c256_i32_591
  v971
def k0_mult22 (i : grid0.Coords) (k0_t2 : Fin (k0_t2_loop i).trips) : BitVec 32 :=
  let arg2 : BitVec 32 := BitVec.ofNat 32 (i 2).val
  let c1_i32_633 : BitVec 32 := 1#32
  let v1035 : BitVec 32 := Scalar.subi arg2 c1_i32_633
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v1036 : BitVec 32 := Scalar.subi v1035 v694
  let c8_i32_634 : BitVec 32 := 8#32
  let v1037 : BitVec 32 := Scalar.muli v1036 c8_i32_634
  let c2_i32_635 : BitVec 32 := 2#32
  let v1038 : BitVec 32 := Scalar.addi v1037 c2_i32_635
  let c256_i32_636 : BitVec 32 := 256#32
  let v1039 : BitVec 32 := Scalar.muli v1038 c256_i32_636
  v1039
def k0_mult23 (i : grid0.Coords) (k0_t2 : Fin (k0_t2_loop i).trips) : BitVec 32 :=
  let arg2 : BitVec 32 := BitVec.ofNat 32 (i 2).val
  let c1_i32_678 : BitVec 32 := 1#32
  let v1103 : BitVec 32 := Scalar.subi arg2 c1_i32_678
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v1104 : BitVec 32 := Scalar.subi v1103 v694
  let c8_i32_679 : BitVec 32 := 8#32
  let v1105 : BitVec 32 := Scalar.muli v1104 c8_i32_679
  let c1_i32_680 : BitVec 32 := 1#32
  let v1106 : BitVec 32 := Scalar.addi v1105 c1_i32_680
  let c256_i32_681 : BitVec 32 := 256#32
  let v1107 : BitVec 32 := Scalar.muli v1106 c256_i32_681
  v1107
def k0_mult24 (i : grid0.Coords) (k0_t2 : Fin (k0_t2_loop i).trips) : BitVec 32 :=
  let arg2 : BitVec 32 := BitVec.ofNat 32 (i 2).val
  let c1_i32_723 : BitVec 32 := 1#32
  let v1171 : BitVec 32 := Scalar.subi arg2 c1_i32_723
  let c0_i32_372 : BitVec 32 := 0#32
  let c0_i32_373 : BitVec 32 := 0#32
  let c0_i32_367 : BitVec 32 := 0#32
  let v632 : BitVec 32 := Scalar.subi arg2 c0_i32_367
  let c1_i32_368 : BitVec 32 := 1#32
  let c1_i32_369 : BitVec 32 := 1#32
  let v633 : BitVec 32 := Scalar.subi c1_i32_368 c1_i32_369
  let v634 : BitVec 32 := Scalar.addi v632 v633
  let c1_i32_370 : BitVec 32 := 1#32
  let v635 : BitVec 32 := Scalar.divsi v634 c1_i32_370
  let v636 : BitVec 32 := Scalar.subi v635 c0_i32_373
  let c1_i32_374 : BitVec 32 := 1#32
  let v638 : BitVec 32 := Scalar.divsi v636 c1_i32_374
  let v639 : BitVec 32 := Scalar.muli v638 c1_i32_374
  let v640 : BitVec 32 := Scalar.addi c0_i32_373 v639
  let c1_i32_376 : BitVec 32 := 1#32
  let arg15 : BitVec 32 := Scf.iv v640 c1_i32_376 k0_t2
  let c1_i32_371 : BitVec 32 := 1#32
  let v693 : BitVec 32 := Scalar.muli arg15 c1_i32_371
  let v694 : BitVec 32 := Scalar.addi c0_i32_372 v693
  let v1172 : BitVec 32 := Scalar.subi v1171 v694
  let c8_i32_724 : BitVec 32 := 8#32
  let v1173 : BitVec 32 := Scalar.muli v1172 c8_i32_724
  let c0_i32_725 : BitVec 32 := 0#32
  let v1174 : BitVec 32 := Scalar.addi v1173 c0_i32_725
  let c256_i32_726 : BitVec 32 := 256#32
  let v1175 : BitVec 32 := Scalar.muli v1174 c256_i32_726
  v1175
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference5Ideal.lean ====
abbrev S2x16384x6144 : Shape := ⟨3, ![2, 16384, 6144]⟩
abbrev S64 : Shape := ⟨1, ![64]⟩
abbrev S128 : Shape := ⟨1, ![128]⟩
abbrev S2x16384x1024 : Shape := ⟨3, ![2, 16384, 1024]⟩
abbrev S2x16384x8x2x64 : Shape := ⟨5, ![2, 16384, 8, 2, 64]⟩
abbrev S2x8x2x16384x64 : Shape := ⟨5, ![2, 8, 2, 16384, 64]⟩
abbrev S2x16384x8x128 : Shape := ⟨4, ![2, 16384, 8, 128]⟩
abbrev S2x8x16384x128 : Shape := ⟨4, ![2, 8, 16384, 128]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S2x8x2x16384x16384 : Shape := ⟨5, ![2, 8, 2, 16384, 16384]⟩
abbrev S_ : Shape := ⟨0, ![]⟩
abbrev S2x8x2x16384 : Shape := ⟨4, ![2, 8, 2, 16384]⟩
abbrev S2x8x2x16384x1 : Shape := ⟨5, ![2, 8, 2, 16384, 1]⟩
abbrev S2x8x1x16384x16384 : Shape := ⟨5, ![2, 8, 1, 16384, 16384]⟩
abbrev S2x8x16384x16384 : Shape := ⟨4, ![2, 8, 16384, 16384]⟩
abbrev S2x8x16384 : Shape := ⟨3, ![2, 8, 16384]⟩
abbrev S2x8x16384x1 : Shape := ⟨4, ![2, 8, 16384, 1]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x16384x6144, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S2x16384x1024, .f32⟩
  | .hbm, ⟨7, _⟩ => ⟨S2x16384x8x2x64, .f32⟩
  | .hbm, ⟨8, _⟩ => ⟨S2x8x2x16384x64, .f32⟩
  | .hbm, ⟨9, _⟩ => ⟨S2x16384x1024, .f32⟩
  | .hbm, ⟨10, _⟩ => ⟨S2x16384x8x2x64, .f32⟩
  | .hbm, ⟨11, _⟩ => ⟨S2x8x2x16384x64, .f32⟩
  | .hbm, ⟨12, _⟩ => ⟨S2x16384x1024, .f32⟩
  | .hbm, ⟨13, _⟩ => ⟨S2x16384x8x128, .f32⟩
  | .hbm, ⟨14, _⟩ => ⟨S2x8x16384x128, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S2x8x2x16384x16384, .f32⟩
  | .hbm, ⟨22, _⟩ => ⟨S_, .f32⟩
  | .hbm, ⟨23, _⟩ => ⟨S2x8x2x16384x16384, .f32⟩
  | .hbm, ⟨24, _⟩ => ⟨S2x8x2x16384x16384, .f32⟩
  | .hbm, ⟨25, _⟩ => ⟨S_, .f32⟩
  | .hbm, ⟨26, _⟩ => ⟨S_, .f32⟩
  | .hbm, ⟨27, _⟩ => ⟨S2x8x2x16384x16384, .i1⟩
  | .hbm, ⟨28, _⟩ => ⟨S2x8x2x16384x16384, .f32⟩
  | .hbm, ⟨29, _⟩ => ⟨S2x8x2x16384x16384, .f32⟩
  | .hbm, ⟨30, _⟩ => ⟨S_, .f32⟩
  | .hbm, ⟨31, _⟩ => ⟨S2x8x2x16384, .f32⟩
  | .hbm, ⟨32, _⟩ => ⟨S_, .f32⟩
  | .hbm, ⟨33, _⟩ => ⟨S2x8x2x16384, .f32⟩
  | .hbm, ⟨34, _⟩ => ⟨S2x8x2x16384, .f32⟩
  | .hbm, ⟨35, _⟩ => ⟨S2x8x2x16384x1, .f32⟩
  | .hbm, ⟨36, _⟩ => ⟨S2x8x2x16384x16384, .f32⟩
  | .hbm, ⟨37, _⟩ => ⟨S2x8x2x16384x16384, .f32⟩
  | .hbm, ⟨38, _⟩ => ⟨S2x8x2x16384x16384, .f32⟩
  | .hbm, ⟨39, _⟩ => ⟨S_, .f32⟩
  | .hbm, ⟨40, _⟩ => ⟨S2x8x2x16384, .f32⟩
  | .hbm, ⟨41, _⟩ => ⟨S2x8x2x16384x1, .f32⟩
  | .hbm, ⟨42, _⟩ => ⟨S2x8x2x16384x16384, .f32⟩
  | .hbm, ⟨43, _⟩ => ⟨S2x8x2x16384x16384, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2x8x1x16384x16384, .f32⟩
  | .hbm, ⟨56, _⟩ => ⟨S2x8x16384x16384, .f32⟩
  | .hbm, ⟨57, _⟩ => ⟨S2x8x1x16384x16384, .f32⟩
  | .hbm, ⟨58, _⟩ => ⟨S2x8x16384x16384, .f32⟩
  | .hbm, ⟨59, _⟩ => ⟨S2x8x16384x16384, .f32⟩
  | .hbm, ⟨60, _⟩ => ⟨S2x8x16384x16384, .f32⟩
  | .hbm, ⟨61, _⟩ => ⟨S2x8x16384x16384, .f32⟩
  | .hbm, ⟨62, _⟩ => ⟨S2x8x16384x128, .f32⟩
  | .hbm, ⟨63, _⟩ => ⟨S2x8x16384x128, .f32⟩
  | .hbm, ⟨64, _⟩ => ⟨S_, .f32⟩
  | .hbm, ⟨65, _⟩ => ⟨S2x8x16384, .f32⟩
  | .hbm, ⟨66, _⟩ => ⟨S2x8x16384x1, .f32⟩
  | .hbm, ⟨67, _⟩ => ⟨S_, .f32⟩
  | .hbm, ⟨68, _⟩ => ⟨S2x8x16384x1, .f32⟩
  | .hbm, ⟨69, _⟩ => ⟨S2x8x16384x1, .f32⟩
  | .hbm, ⟨70, _⟩ => ⟨S_, .f32⟩
  | .hbm, ⟨71, _⟩ => ⟨S2x8x16384x1, .f32⟩
  | .hbm, ⟨72, _⟩ => ⟨S2x8x16384x1, .f32⟩
  | .hbm, ⟨73, _⟩ => ⟨S2x8x16384x1, .f32⟩
  | .hbm, ⟨74, _⟩ => ⟨S2x8x16384x128, .f32⟩
  | .hbm, ⟨75, _⟩ => ⟨S2x8x16384x128, .f32⟩
  | .hbm, ⟨76, _⟩ => ⟨S1x1x1x128, .f32⟩
  | .hbm, ⟨77, _⟩ => ⟨S2x8x16384x128, .f32⟩
  | .hbm, ⟨78, _⟩ => ⟨S2x8x16384x128, .f32⟩
  | .hbm, ⟨79, _⟩ => ⟨S_, .f32⟩
  | .hbm, ⟨80, _⟩ => ⟨S2x8x16384x128, .f32⟩
  | .hbm, ⟨81, _⟩ => ⟨S2x8x16384x128, .f32⟩
  | .hbm, ⟨82, _⟩ => ⟨S2x16384x8x128, .f32⟩
  | .hbm, ⟨83, _⟩ => ⟨S2x16384x1024, .f32⟩
  | .hbm, ⟨84, _⟩ => ⟨S2x16384x1024, .bf16⟩
  | _, _ => ⟨S2x16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== Kernel6.lean ====
abbrev S2x16384x2048 : Shape := ⟨3, ![2, 16384, 2048]⟩
abbrev S2x16384 : Shape := ⟨2, ![2, 16384]⟩
abbrev S2048x6144 : Shape := ⟨2, ![2048, 6144]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S32768x2048 : Shape := ⟨2, ![32768, 2048]⟩
abbrev S32768x1 : Shape := ⟨2, ![32768, 1]⟩
abbrev S32768x6144 : Shape := ⟨2, ![32768, 6144]⟩
abbrev S512x2048 : Shape := ⟨2, ![512, 2048]⟩
abbrev S512x1 : Shape := ⟨2, ![512, 1]⟩
abbrev S512x6144 : Shape := ⟨2, ![512, 6144]⟩
abbrev S512x128 : Shape := ⟨2, ![512, 128]⟩
abbrev S2048x1024 : Shape := ⟨2, ![2048, 1024]⟩
abbrev S512x1024 : Shape := ⟨2, ![512, 1024]⟩

abbrev nBuf : Space → Nat
  | .hbm => 84
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2x16384, .i32⟩
  | .hbm, ⟨2, _⟩ => ⟨S2048x6144, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S128, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S_, .i1⟩
  | .hbm, ⟨34, _⟩ => ⟨S128, .i1⟩
  | .hbm, ⟨35, _⟩ => ⟨S128, .i1⟩
  | .hbm, ⟨36, _⟩ => ⟨S128, .i1⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S_, .i32⟩
  | .hbm, ⟨58, _⟩ => ⟨S_, .i1⟩
  | .hbm, ⟨59, _⟩ => ⟨S128, .i1⟩
  | .hbm, ⟨60, _⟩ => ⟨S128, .i1⟩
  | .hbm, ⟨61, _⟩ => ⟨S128, .i1⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i1⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S128, .i32⟩
  | .hbm, ⟨72, _⟩ => ⟨S128x1, .i32⟩
  | .hbm, ⟨73, _⟩ => ⟨S128, .f32⟩
  | .hbm, ⟨74, _⟩ => ⟨S_, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S32768x2048, .f32⟩
  | .hbm, ⟨80, _⟩ => ⟨S32768x2048, .bf16⟩
  | .hbm, ⟨81, _⟩ => ⟨S32768x1, .i32⟩
  | .hbm, ⟨82, _⟩ => ⟨S2048x6144, .bf16⟩
  | .hbm, ⟨83, _⟩ => ⟨S32768x6144, .bf16⟩
  | .local _ .vmem, ⟨0, _⟩ => ⟨S512x2048, .bf16⟩
  | .local _ .vmem, ⟨1, _⟩ => ⟨S512x2048, .bf16⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S2048x6144, .bf16⟩
  | .local _ .vmem, ⟨6, _⟩ => ⟨S512x6144, .bf16⟩
  | .local _ .vmem, ⟨7, _⟩ => ⟨S512x6144, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_c_4 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v14 : Ref sig .tc := ⟨.hbm, 64, rfl⟩
abbrev main_c_5 : Ref sig .tc := ⟨.hbm, 65, rfl⟩
abbrev main_v15 : Ref sig .tc := ⟨.hbm, 66, rfl⟩
abbrev main_v16 : Ref sig .tc := ⟨.hbm, 67, rfl⟩
abbrev main_c_6 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel6Ideal.lean ====
variable {F : FTy → Type} [FloatOps F] [Named F]
def κ : String → Option EReal := fun
  | "diff_scale" => some (((8 * (Real.log 2))⁻¹ : ℝ) : EReal)
  | "sb_scale" => some ((((Real.sqrt 128) * (Real.log 2))⁻¹ : ℝ) : EReal)
  | _ => none
-- ==== Reference6Ideal.lean ====
abbrev S2x16384x2048 : Shape := ⟨3, ![2, 16384, 2048]⟩
abbrev S2x16384 : Shape := ⟨2, ![2, 16384]⟩
abbrev S2048x6144 : Shape := ⟨2, ![2048, 6144]⟩
abbrev S2x16384x6144 : Shape := ⟨3, ![2, 16384, 6144]⟩
abbrev S8 : Shape := ⟨1, ![8]⟩
abbrev S_ : Shape := ⟨0, ![]⟩
abbrev S2x16384x1 : Shape := ⟨3, ![2, 16384, 1]⟩
abbrev S1x1x8 : Shape := ⟨3, ![1, 1, 8]⟩
abbrev S2x16384x8 : Shape := ⟨3, ![2, 16384, 8]⟩
abbrev S2x16384x1x1x8 : Shape := ⟨5, ![2, 16384, 1, 1, 8]⟩
abbrev S2x16384x1024 : Shape := ⟨3, ![2, 16384, 1024]⟩
abbrev S2x16384x8x2x64 : Shape := ⟨5, ![2, 16384, 8, 2, 64]⟩
abbrev S2x16384x8x2x8 : Shape := ⟨5, ![2, 16384, 8, 2, 8]⟩
abbrev S2x16384x8x2x48 : Shape := ⟨5, ![2, 16384, 8, 2, 48]⟩
abbrev S1 : Shape := ⟨1, ![1]⟩
abbrev S1x1x1 : Shape := ⟨3, ![1, 1, 1]⟩
abbrev S32768x6144 : Shape := ⟨2, ![32768, 6144]⟩

abbrev nBuf : Space → Nat
  | .hbm => 85
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384, .i32⟩
  | .hbm, ⟨2, _⟩ => ⟨S2048x6144, .f32⟩
  | .hbm, ⟨3, _⟩ => ⟨S2x16384x6144, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S2x16384, .f32⟩
  | .hbm, ⟨19, _⟩ => ⟨S2x16384x1, .f32⟩
  | .hbm, ⟨20, _⟩ => ⟨S1x1x8, .f32⟩
  | .hbm, ⟨21, _⟩ => ⟨S2x16384x8, .f32⟩
  | .hbm, ⟨22, _⟩ => ⟨S2x16384x8, .f32⟩
  | .hbm, ⟨23, _⟩ => ⟨S2x16384x8, .f32⟩
  | .hbm, ⟨24, _⟩ => ⟨S2x16384x8, .f32⟩
  | .hbm, ⟨25, _⟩ => ⟨S2x16384x1x1x8, .f32⟩
  | .hbm, ⟨26, _⟩ => ⟨S2x16384x8, .f32⟩
  | .hbm, ⟨27, _⟩ => ⟨S2x16384x1x1x8, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x8x2x64, .f32⟩
  | .hbm, ⟨35, _⟩ => ⟨S2x16384x8x2x8, .f32⟩
  | .hbm, ⟨36, _⟩ => ⟨S2x16384x8x2x8, .f32⟩
  | .hbm, ⟨37, _⟩ => ⟨S2x16384x8x2x8, .f32⟩
  | .hbm, ⟨38, _⟩ => ⟨S2x16384x8x2x8, .f32⟩
  | .hbm, ⟨39, _⟩ => ⟨S2x16384x8x2x8, .f32⟩
  | .hbm, ⟨40, _⟩ => ⟨S2x16384x8x2x8, .f32⟩
  | .hbm, ⟨41, _⟩ => ⟨S2x16384x8x2x8, .f32⟩
  | .hbm, ⟨42, _⟩ => ⟨S2x16384x8x2x8, .f32⟩
  | .hbm, ⟨43, _⟩ => ⟨S2x16384x8x2x8, .f32⟩
  | .hbm, ⟨44, _⟩ => ⟨S2x16384x8x2x8, .f32⟩
  | .hbm, ⟨45, _⟩ => ⟨S2x16384x8x2x8, .f32⟩
  | .hbm, ⟨46, _⟩ => ⟨S2x16384x8x2x8, .f32⟩
  | .hbm, ⟨47, _⟩ => ⟨S2x16384x8x2x48, .f32⟩
  | .hbm, ⟨48, _⟩ => ⟨S2x16384x8x2x64, .f32⟩
  | .hbm, ⟨49, _⟩ => ⟨S2x16384x1024, .f32⟩
  | .hbm, ⟨50, _⟩ => ⟨S2x16384x8x2x64, .f32⟩
  | .hbm, ⟨51, _⟩ => ⟨S2x16384x8x2x8, .f32⟩
  | .hbm, ⟨52, _⟩ => ⟨S2x16384x8x2x8, .f32⟩
  | .hbm, ⟨53, _⟩ => ⟨S2x16384x8x2x8, .f32⟩
  | .hbm, ⟨54, _⟩ => ⟨S2x16384x8x2x8, .f32⟩
  | .hbm, ⟨55, _⟩ => ⟨S2x16384x8x2x8, .f32⟩
  | .hbm, ⟨56, _⟩ => ⟨S2x16384x8x2x8, .f32⟩
  | .hbm, ⟨57, _⟩ => ⟨S2x16384x8x2x8, .f32⟩
  | .hbm, ⟨58, _⟩ => ⟨S2x16384x8x2x8, .f32⟩
  | .hbm, ⟨59, _⟩ => ⟨S2x16384x8x2x8, .f32⟩
  | .hbm, ⟨60, _⟩ => ⟨S2x16384x8x2x8, .f32⟩
  | .hbm, ⟨61, _⟩ => ⟨S2x16384x8x2x8, .f32⟩
  | .hbm, ⟨62, _⟩ => ⟨S2x16384x8x2x8, .f32⟩
  | .hbm, ⟨63, _⟩ => ⟨S2x16384x8x2x48, .f32⟩
  | .hbm, ⟨64, _⟩ => ⟨S2x16384x8x2x64, .f32⟩
  | .hbm, ⟨65, _⟩ => ⟨S2x16384x1024, .f32⟩
  | .hbm, ⟨66, _⟩ => ⟨S_, .f32⟩
  | .hbm, ⟨67, _⟩ => ⟨S1, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1, .f32⟩
  | .hbm, ⟨73, _⟩ => ⟨S1x1x1, .f32⟩
  | .hbm, ⟨74, _⟩ => ⟨S2x16384x1024, .f32⟩
  | .hbm, ⟨75, _⟩ => ⟨S2x16384x1024, .f32⟩
  | .hbm, ⟨76, _⟩ => ⟨S_, .f32⟩
  | .hbm, ⟨77, _⟩ => ⟨S1, .f32⟩
  | .hbm, ⟨78, _⟩ => ⟨S1, .f32⟩
  | .hbm, ⟨79, _⟩ => ⟨S1x1x1, .f32⟩
  | .hbm, ⟨80, _⟩ => ⟨S2x16384x1024, .f32⟩
  | .hbm, ⟨81, _⟩ => ⟨S2x16384x1024, .f32⟩
  | .hbm, ⟨82, _⟩ => ⟨S2x16384x6144, .f32⟩
  | .hbm, ⟨83, _⟩ => ⟨S32768x6144, .f32⟩
  | .hbm, ⟨84, _⟩ => ⟨S32768x6144, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_3 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_5 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩

abbrev nD : Nat := 1
abbrev τ : Topo := Topo.v7x

variable {F : FTy → Type} [FloatOps F]
-- ==== Proof.Row.lean ====
module

public import Idealize.ShloMosaic.Lib.Pointwise
public import Idealize.ShloMosaic.Lib.WordCmp

@[expose] public section

/-!
# One query row of the stick-breaking attention, in tiles of 256 keys

The arithmetic of one row, free of arrays: the log of the break probability `lb`, the log of the complement `lo`, what one
tile of 256 keys adds to the output and to the running sum of `lo` over later keys, and the same over any range of keys.
-/

noncomputable section
namespace SbRow
open Idealize.ShloMosaic

/-- `log2 e`, the value the kernel's constant is named for. -/
def log2e : EReal := (((Real.log 2)⁻¹ : ℝ) : EReal)

/-- The base-two logarithm of the sigmoid, as the kernel computes it of a score `z` in base-two units. -/
def lb (z : EReal) : EReal := min z 0 - Ideal.log (1 + Ideal.exp2 (0 - max z (-z))) * log2e

/-- The base-two logarithm of one minus the sigmoid at key `j` of a tile, zero from key `b` on. -/
def lo (b : ℕ) (Z : Fin 256 → EReal) (j : Fin 256) : EReal := if (j : ℕ) < b then lb (Z j) - Z j else 0

/-- The sum of `lo` over the tile's keys after `s`. -/
def wi (b : ℕ) (Z : Fin 256 → EReal) (s : Fin 256) : EReal := ∑ j : Fin 256, if (s : ℕ) < (j : ℕ) then lo b Z j else 0

/-- The sum of `lo` over the tile. -/
def tot (b : ℕ) (Z : Fin 256 → EReal) : EReal := ∑ j : Fin 256, lo b Z j

/-- What a tile adds to one output entry, `C` being the sum of `lo` over the keys after the tile. -/
def part (b : ℕ) (Z V : Fin 256 → EReal) (C : EReal) : EReal :=
  ∑ s : Fin 256, if (s : ℕ) < b then Ideal.exp2 (lb (Z s) + wi b Z s + C) * V s else 0

/-- A sum over 256 keys as the sums over its halves. -/
theorem split256 (f : Fin 256 → EReal) :
    ∑ s, f s = ∑ x : Fin 128, f ⟨x, by omega⟩ + ∑ x : Fin 128, f ⟨128 + x, by omega⟩ := by
  rw [show (∑ s : Fin 256, f s) = ∑ s : Fin (128 + 128), f s from rfl, Fin.sum_univ_add]
  rfl

/-- The signed comparison of two small words selects by the order of the numbers. -/
theorem select_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_of_lt (by simp; omega) (by simp; omega)]
  simp only [BitVec.toNat_ofNat, Nat.mod_eq_of_lt (show a < 2 ^ 32 by omega), Nat.mod_eq_of_lt (show b < 2 ^ 32 by omega)]
  by_cases h : a < b <;> simp [Scalar.select, h]

/-- The same for the comparison the other way. -/
theorem select_sgt {α : Type} {a b : ℕ} (ha : a < 2 ^ 31) (hb : b < 2 ^ 31) (x y : α) :
    Scalar.select (IntOp.cmpi .sgt (BitVec.ofNat 32 a) (BitVec.ofNat 32 b)) x y = if b < a then x else y := by
  rw [WordCmp.cmpi_sgt_of_lt (by simp; omega) (by simp; omega)]
  simp only [BitVec.toNat_ofNat, Nat.mod_eq_of_lt (show a < 2 ^ 32 by omega), Nat.mod_eq_of_lt (show b < 2 ^ 32 by omega)]
  by_cases h : b < a <;> simp [Scalar.select, h]

/-- The keys after the first, and the first: the whole tile. -/
theorem wi_zero_add (b : ℕ) (Z : Fin 256 → EReal) : wi b Z 0 + lo b Z 0 = tot b Z := by
  unfold wi tot
  rw [Fin.sum_univ_succ, Fin.sum_univ_succ (f := fun j => lo b Z j)]
  simp [add_comm]

/-! ## Any range of keys

A row of scores `z` by key and of values `v` by key; the row's own position is `t`, and keys from `t` on are not allowed. -/

/-- The base-two logarithm of the complement at key `s`, zero where the key is not allowed. -/
def lom (t : ℕ) (z : ℕ → EReal) (s : ℕ) : EReal := if s < t then lb (z s) - z s else 0

/-- The sum of `lom` over the keys from `n` on. -/
def later (t : ℕ) (z : ℕ → EReal) (n : ℕ) : EReal := ∑ s ∈ Finset.Ico n 16384, lom t z s

/-- One key's term of the output. -/
def term (t : ℕ) (z v : ℕ → EReal) (s : ℕ) : EReal :=
  if s < t then Ideal.exp2 (lb (z s) + later t z (s + 1)) * v s else 0

/-- The output over the keys from `n` on. -/
def outp (t : ℕ) (z v : ℕ → EReal) (n : ℕ) : EReal := ∑ s ∈ Finset.Ico n 16384, term t z v s

/-- A sum from `n` on, its first 256 keys apart. -/
theorem sum_split (f : ℕ → EReal) {n : ℕ} (hn : n + 256 ≤ 16384) :
    ∑ s ∈ Finset.Ico n 16384, f s = ∑ s : Fin 256, f (n + s) + ∑ s ∈ Finset.Ico (n + 256) 16384, f s := by
  rw [← Finset.sum_Ico_consecutive f (show n ≤ n + 256 by omega) hn, Finset.sum_Ico_eq_sum_range, show n + 256 - n = 256 by omega,
    Finset.sum_range]

theorem later_of_le {t n : ℕ} (z : ℕ → EReal) (h : t ≤ n) : later t z n = 0 :=
  Finset.sum_eq_zero fun s hs => if_neg (by have := (Finset.mem_Ico.mp hs).1; omega)

theorem outp_of_le {t n : ℕ} (z v : ℕ → EReal) (h : t ≤ n) : outp t z v n = 0 :=
  Finset.sum_eq_zero fun s hs => if_neg (by have := (Finset.mem_Ico.mp hs).1; omega)

/-- One more tile of 256 keys in the sum of `lom`. -/
theorem later_step {t b n : ℕ} (z : ℕ → EReal) (hn : n + 256 ≤ 16384) (hb : ∀ s < 256, s < b ↔ n + s < t) :
    later t z n = later t z (n + 256) + tot b fun s => z (n + s) := by
  unfold later tot
  rw [sum_split _ hn, add_comm]
  congr 1
  refine Finset.sum_congr rfl fun s _ => ?_
  unfold lom lo
  simp only [hb s s.isLt]

/-- The sum of `lom` over the keys after key `n + s`: those of the tile, then the rest. -/
theorem later_inner {t b n : ℕ} (z : ℕ → EReal) (hn : n + 256 ≤ 16384) (hb : ∀ s < 256, s < b ↔ n + s < t) (s : Fin 256) :
    later t z (n + s + 1) = wi b (fun s => z (n + s)) s + later t z (n + 256) := by
  unfold later wi
  rw [← Finset.sum_Ico_consecutive (lom t z) (show n + s + 1 ≤ n + 256 by omega) hn]
  congr 1
  have e : Finset.Ico (n + s + 1) (n + 256) = (Finset.Ico n (n + 256)).filter fun j => n + s < j := by
    ext j; simp only [Finset.mem_Ico, Finset.mem_filter]; omega
  rw [e, Finset.sum_filter, Finset.sum_Ico_eq_sum_range, show n + 256 - n = 256 by omega, Finset.sum_range]
  refine Finset.sum_congr rfl fun j _ => ?_
  unfold lom lo
  simp only [hb j j.isLt, show n + (s : ℕ) < n + (j : ℕ) ↔ (s : ℕ) < j by omega]

/-- One more tile of 256 keys in the output. -/
theorem outp_step {t b n : ℕ} (z v : ℕ → EReal) (hn : n + 256 ≤ 16384) (hb : ∀ s < 256, s < b ↔ n + s < t) :
    outp t z v n = outp t z v (n + 256) + part b (fun s => z (n + s)) (fun s => v (n + s)) (later t z (n + 256)) := by
  unfold outp part
  rw [sum_split _ hn, add_comm]
  congr 1
  refine Finset.sum_congr rfl fun s _ => ?_
  unfold term
  simp only [hb s s.isLt, later_inner z hn hb s]
  simp only [add_assoc]

/-! ## The attention of an array of projections

The columns of a row hold eight heads of 128 query entries, then eight of key entries, then eight of value entries. -/

/-- Whole-number positions as coordinates. -/
abbrev key (s : ℕ) : Fin 16384 := Fin.ofNat 16384 s

/-- Column `e` of head `h` in section `n` (queries, keys, values). -/
def col (n : Fin 3) (h : Fin 8) (e : Fin 128) : Fin 6144 := ⟨1024 * n + 128 * h + e, by omega⟩

/-- The score of position `t` at key `s`. -/
def score (X : (⟨3, ![2, 16384, 6144]⟩ : Shape).Idx → EReal) (b : Fin 2) (h : Fin 8) (t s : ℕ) : EReal :=
  ∑ e : Fin 128, X (ix3 b (key t) (col 0 h e)) * X (ix3 b (key s) (col 1 h e))

/-- Entry `d` of the value at key `s`. -/
def value (X : (⟨3, ![2, 16384, 6144]⟩ : Shape).Idx → EReal) (b : Fin 2) (h : Fin 8) (d : Fin 128) (s : ℕ) : EReal :=
  X (ix3 b (key s) (col 2 h d))

/-- The output array in base-two units: entry `128 h + d` of position `t` is the output of head `h`. -/
def attn (X : (⟨3, ![2, 16384, 6144]⟩ : Shape).Idx → EReal) : (⟨3, ![2, 16384, 1024]⟩ : Shape).Idx → EReal := fun j =>
  outp (j 1).val (score X (j 0) ⟨(j 2).val / 128, Nat.div_lt_of_lt_mul (j 2).isLt⟩ (j 1).val)
    (value X (j 0) ⟨(j 2).val / 128, Nat.div_lt_of_lt_mul (j 2).isLt⟩ ⟨(j 2).val % 128, Nat.mod_lt _ (by norm_num)⟩) 0

end SbRow
end
end
-- ==== Proof.Diagonal.lean ====
module

public import proofs.«01_k».proof.Proof.Gen.KernelIdeal.Skeleton
public import Idealize.ShloMosaic.Lib.Pointwise
public import proofs.«01_k».proof.Proof.Row

@[expose] public section
set_option maxRecDepth 16384

/-!
# What a tile on the diagonal stores

A block of 2048 queries meets the block's own 2048 keys in eight tiles of 256 keys, the last one first. The tile at keys
`256 j` is met by the rows from `256 j` on, and key `s` of it is allowed to row `r` of them exactly when `s < r`. For each
tile: the output rows it stores are those loaded plus the tile's part, the running sums those loaded plus the tile's sum.
-/

noncomputable section
namespace Cert.KernelIdeal.Gen
open Idealize.ShloMosaic Idealize.ShloMosaic.TcCoe SbRow

/-- The output rows stored by the tile of the keys from 1792. -/
theorem diag_acc7 (q : FVec Ideal S1x256x128 .bf16) (k v : FVec Ideal S1x256x128 .bf16) (car acc : FVec Ideal S256x128 .f32)
    (r : Fin 256) (d : Fin 128) (C : EReal) (hcar : ∀ l, car (ix2 r l) = C) :
    k0_pay189 (F := Ideal) (k0_pay136 k q) k0_pay137 (k0_pay139 k0_pay132 k q) v car acc (ix2 r d) =
      acc (ix2 r d) + part r (fun s => ∑ e, q (ix3 0 r e) * k (ix3 0 s e)) (fun s => v (ix3 0 s d)) C := by
  pointwise [k0_pay189, k0_pay136, k0_pay137, k0_pay139, k0_pay132, k0_pay135, k0_pay138]
  unfold part wi lo
  rw [split256]
  simp (disch := omega) only [select_slt, select_sgt, hcar]
  rfl

/-- The running sums stored by the tile of the keys from 1792. -/
theorem diag_car7 (q : FVec Ideal S1x256x128 .bf16) (k : FVec Ideal S1x256x128 .bf16) (car : FVec Ideal S256x128 .f32)
    (r : Fin 256) (l : Fin 128) :
    k0_pay190 (F := Ideal) (k0_pay140 k0_pay132 k q) car (ix2 r l) =
      car (ix2 r l) + tot r (fun s => ∑ e, q (ix3 0 r e) * k (ix3 0 s e)) := by
  pointwise [k0_pay190, k0_pay140, k0_pay132, k0_pay139, k0_pay138, k0_pay136, k0_pay135, k0_pay137]
  rw [← wi_zero_add]
  unfold wi lo
  simp (disch := omega) only [select_slt, select_sgt]
  rfl

/-- The output rows stored by the tile of the keys from 1536. -/
theorem diag_acc6 (q : FVec Ideal S1x512x128 .bf16) (k v : FVec Ideal S1x256x128 .bf16) (car acc : FVec Ideal S512x128 .f32)
    (r : Fin 512) (d : Fin 128) (C : EReal) (hcar : ∀ l, car (ix2 r l) = C) :
    k0_pay193 (F := Ideal) k0_pay144 (k0_pay191 v) (k0_pay192 (k0_pay143 (k0_pay141 k q)) (k0_pay146 k0_pay132 (k0_pay141 k q)) car) (FloatOps.ofBits .f32 0#32) acc (ix2 r d) =
      acc (ix2 r d) + part r (fun s => ∑ e, q (ix3 0 r e) * k (ix3 0 s e)) (fun s => v (ix3 0 s d)) C := by
  pointwise [k0_pay193, k0_pay144, k0_pay191, k0_pay192, k0_pay143, k0_pay141, k0_pay146, k0_pay132, k0_pay142, k0_pay145]
  unfold part wi lo
  rw [split256]
  simp (disch := omega) only [select_slt, select_sgt, hcar]
  rfl

/-- The running sums stored by the tile of the keys from 1536. -/
theorem diag_car6 (q : FVec Ideal S1x512x128 .bf16) (k : FVec Ideal S1x256x128 .bf16) (car : FVec Ideal S512x128 .f32)
    (r : Fin 512) (l : Fin 128) :
    k0_pay194 (F := Ideal) (k0_pay147 k0_pay132 (k0_pay141 k q)) car (ix2 r l) =
      car (ix2 r l) + tot r (fun s => ∑ e, q (ix3 0 r e) * k (ix3 0 s e)) := by
  pointwise [k0_pay194, k0_pay147, k0_pay132, k0_pay141, k0_pay146, k0_pay145, k0_pay143, k0_pay142, k0_pay144]
  rw [← wi_zero_add]
  unfold wi lo
  simp (disch := omega) only [select_slt, select_sgt]
  rfl

/-- The output rows stored by the tile of the keys from 1280. -/
theorem diag_acc5 (q : FVec Ideal S1x768x128 .bf16) (k v : FVec Ideal S1x256x128 .bf16) (car acc : FVec Ideal S768x128 .f32)
    (r : Fin 768) (d : Fin 128) (C : EReal) (hcar : ∀ l, car (ix2 r l) = C) :
    k0_pay195 (F := Ideal) (k0_pay151 (k0_pay148 k q) (k0_pay149 k q) k0_pay150) k0_pay152 (k0_pay154 k0_pay132 (k0_pay148 k q) (k0_pay149 k q) k0_pay150) v car acc (ix2 r d) =
      acc (ix2 r d) + part r (fun s => ∑ e, q (ix3 0 r e) * k (ix3 0 s e)) (fun s => v (ix3 0 s d)) C := by
  pointwise [k0_pay195, k0_pay151, k0_pay148, k0_pay149, k0_pay150, k0_pay152, k0_pay154, k0_pay132, k0_pay153]
  unfold part wi lo
  rw [split256]
  simp (disch := omega) only [select_slt, select_sgt, hcar]
  rfl

/-- The running sums stored by the tile of the keys from 1280. -/
theorem diag_car5 (q : FVec Ideal S1x768x128 .bf16) (k : FVec Ideal S1x256x128 .bf16) (car : FVec Ideal S768x128 .f32)
    (r : Fin 768) (l : Fin 128) :
    k0_pay196 (F := Ideal) (k0_pay155 k0_pay132 (k0_pay148 k q) (k0_pay149 k q) k0_pay150) car (ix2 r l) =
      car (ix2 r l) + tot r (fun s => ∑ e, q (ix3 0 r e) * k (ix3 0 s e)) := by
  pointwise [k0_pay196, k0_pay155, k0_pay132, k0_pay148, k0_pay149, k0_pay150, k0_pay154, k0_pay153, k0_pay151, k0_pay152]
  rw [← wi_zero_add]
  unfold wi lo
  simp (disch := omega) only [select_slt, select_sgt]
  rfl

/-- The output rows stored by the tile of the keys from 1024. -/
theorem diag_acc4 (q : FVec Ideal S1x1024x128 .bf16) (k v : FVec Ideal S1x256x128 .bf16) (car acc : FVec Ideal S1024x128 .f32)
    (r : Fin 1024) (d : Fin 128) (C : EReal) (hcar : ∀ l, car (ix2 r l) = C) :
    k0_pay197 (F := Ideal) (k0_pay157 k q) k0_pay158 (k0_pay160 k0_pay132 k q) v car acc (ix2 r d) =
      acc (ix2 r d) + part r (fun s => ∑ e, q (ix3 0 r e) * k (ix3 0 s e)) (fun s => v (ix3 0 s d)) C := by
  pointwise [k0_pay197, k0_pay157, k0_pay158, k0_pay160, k0_pay132, k0_pay156, k0_pay159]
  unfold part wi lo
  rw [split256]
  simp (disch := omega) only [select_slt, select_sgt, hcar]
  rfl

/-- The running sums stored by the tile of the keys from 1024. -/
theorem diag_car4 (q : FVec Ideal S1x1024x128 .bf16) (k : FVec Ideal S1x256x128 .bf16) (car : FVec Ideal S1024x128 .f32)
    (r : Fin 1024) (l : Fin 128) :
    k0_pay198 (F := Ideal) (k0_pay161 k0_pay132 k q) car (ix2 r l) =
      car (ix2 r l) + tot r (fun s => ∑ e, q (ix3 0 r e) * k (ix3 0 s e)) := by
  pointwise [k0_pay198, k0_pay161, k0_pay132, k0_pay160, k0_pay159, k0_pay157, k0_pay156, k0_pay158]
  rw [← wi_zero_add]
  unfold wi lo
  simp (disch := omega) only [select_slt, select_sgt]
  rfl

/-- The output rows stored by the tile of the keys from 768. -/
theorem diag_acc3 (q : FVec Ideal S1x1280x128 .bf16) (k v : FVec Ideal S1x256x128 .bf16) (car acc : FVec Ideal S1280x128 .f32)
    (r : Fin 1280) (d : Fin 128) (C : EReal) (hcar : ∀ l, car (ix2 r l) = C) :
    k0_pay200 (F := Ideal) (k0_pay163 k q) k0_pay164 (k0_pay166 k0_pay132 k q) (k0_pay199 v) car acc (ix2 r d) =
      acc (ix2 r d) + part r (fun s => ∑ e, q (ix3 0 r e) * k (ix3 0 s e)) (fun s => v (ix3 0 s d)) C := by
  pointwise [k0_pay200, k0_pay163, k0_pay164, k0_pay166, k0_pay132, k0_pay199, k0_pay162, k0_pay165]
  unfold part wi lo
  rw [split256]
  simp (disch := omega) only [select_slt, select_sgt, hcar]
  rfl

/-- The running sums stored by the tile of the keys from 768. -/
theorem diag_car3 (q : FVec Ideal S1x1280x128 .bf16) (k : FVec Ideal S1x256x128 .bf16) (car : FVec Ideal S1280x128 .f32)
    (r : Fin 1280) (l : Fin 128) :
    k0_pay201 (F := Ideal) (k0_pay167 k0_pay132 k q) car (ix2 r l) =
      car (ix2 r l) + tot r (fun s => ∑ e, q (ix3 0 r e) * k (ix3 0 s e)) := by
  pointwise [k0_pay201, k0_pay167, k0_pay132, k0_pay166, k0_pay165, k0_pay163, k0_pay162, k0_pay164]
  rw [← wi_zero_add]
  unfold wi lo
  simp (disch := omega) only [select_slt, select_sgt]
  rfl

/-- The output rows stored by the tile of the keys from 512. -/
theorem diag_acc2 (q : FVec Ideal S1x1536x128 .bf16) (k v : FVec Ideal S1x256x128 .bf16) (car acc : FVec Ideal S1536x128 .f32)
    (r : Fin 1536) (d : Fin 128) (C : EReal) (hcar : ∀ l, car (ix2 r l) = C) :
    k0_pay203 (F := Ideal) acc (k0_pay202 (k0_pay170 (k0_pay168 k q)) k0_pay171 (k0_pay173 k0_pay132 (k0_pay168 k q)) v car) (ix2 r d) =
      acc (ix2 r d) + part r (fun s => ∑ e, q (ix3 0 r e) * k (ix3 0 s e)) (fun s => v (ix3 0 s d)) C := by
  pointwise [k0_pay203, k0_pay202, k0_pay170, k0_pay168, k0_pay171, k0_pay173, k0_pay132, k0_pay169, k0_pay172]
  unfold part wi lo
  rw [split256]
  simp (disch := omega) only [select_slt, select_sgt, hcar]
  rfl

/-- The running sums stored by the tile of the keys from 512. -/
theorem diag_car2 (q : FVec Ideal S1x1536x128 .bf16) (k : FVec Ideal S1x256x128 .bf16) (car : FVec Ideal S1536x128 .f32)
    (r : Fin 1536) (l : Fin 128) :
    k0_pay204 (F := Ideal) (k0_pay174 k0_pay132 (k0_pay168 k q)) car (ix2 r l) =
      car (ix2 r l) + tot r (fun s => ∑ e, q (ix3 0 r e) * k (ix3 0 s e)) := by
  pointwise [k0_pay204, k0_pay174, k0_pay132, k0_pay168, k0_pay173, k0_pay172, k0_pay170, k0_pay169, k0_pay171]
  rw [← wi_zero_add]
  unfold wi lo
  simp (disch := omega) only [select_slt, select_sgt]
  rfl

/-- The output rows stored by the tile of the keys from 256. -/
theorem diag_acc1 (q : FVec Ideal S1x1792x128 .bf16) (k v : FVec Ideal S1x256x128 .bf16) (car acc : FVec Ideal S1792x128 .f32)
    (r : Fin 1792) (d : Fin 128) (C : EReal) (hcar : ∀ l, car (ix2 r l) = C) :
    k0_pay205 (F := Ideal) (k0_pay178 (k0_pay175 k q) (k0_pay176 k q) k0_pay177) k0_pay179 (k0_pay181 k0_pay132 (k0_pay175 k q) (k0_pay176 k q) k0_pay177) v car acc (ix2 r d) =
      acc (ix2 r d) + part r (fun s => ∑ e, q (ix3 0 r e) * k (ix3 0 s e)) (fun s => v (ix3 0 s d)) C := by
  pointwise [k0_pay205, k0_pay178, k0_pay175, k0_pay176, k0_pay177, k0_pay179, k0_pay181, k0_pay132, k0_pay180]
  unfold part wi lo
  rw [split256]
  simp (disch := omega) only [select_slt, select_sgt, hcar]
  rfl

/-- The running sums stored by the tile of the keys from 256. -/
theorem diag_car1 (q : FVec Ideal S1x1792x128 .bf16) (k : FVec Ideal S1x256x128 .bf16) (car : FVec Ideal S1792x128 .f32)
    (r : Fin 1792) (l : Fin 128) :
    k0_pay206 (F := Ideal) (k0_pay182 k0_pay132 (k0_pay175 k q) (k0_pay176 k q) k0_pay177) car (ix2 r l) =
      car (ix2 r l) + tot r (fun s => ∑ e, q (ix3 0 r e) * k (ix3 0 s e)) := by
  pointwise [k0_pay206, k0_pay182, k0_pay132, k0_pay175, k0_pay176, k0_pay177, k0_pay181, k0_pay180, k0_pay178, k0_pay179]
  rw [← wi_zero_add]
  unfold wi lo
  simp (disch := omega) only [select_slt, select_sgt]
  rfl

/-- The output rows stored by the tile of the keys from 0. -/
theorem diag_acc0 (q : FVec Ideal S1x2048x128 .bf16) (k v : FVec Ideal S1x256x128 .bf16) (car acc : FVec Ideal S2048x128 .f32)
    (r : Fin 2048) (d : Fin 128) (C : EReal) (hcar : ∀ l, car (ix2 r l) = C) :
    k0_pay207 (F := Ideal) (k0_pay184 k q) k0_pay185 (k0_pay187 k0_pay132 k q) v car acc (ix2 r d) =
      acc (ix2 r d) + part r (fun s => ∑ e, q (ix3 0 r e) * k (ix3 0 s e)) (fun s => v (ix3 0 s d)) C := by
  pointwise [k0_pay207, k0_pay184, k0_pay185, k0_pay187, k0_pay132, k0_pay183, k0_pay186]
  unfold part wi lo
  rw [split256]
  simp (disch := omega) only [select_slt, select_sgt, hcar]
  rfl

/-- The running sums stored by the tile of the keys from 0. -/
theorem diag_car0 (q : FVec Ideal S1x2048x128 .bf16) (k : FVec Ideal S1x256x128 .bf16) (car : FVec Ideal S2048x128 .f32)
    (r : Fin 2048) (l : Fin 128) :
    k0_pay208 (F := Ideal) (k0_pay188 k0_pay132 k q) car (ix2 r l) =
      car (ix2 r l) + tot r (fun s => ∑ e, q (ix3 0 r e) * k (ix3 0 s e)) := by
  pointwise [k0_pay208, k0_pay188, k0_pay132, k0_pay187, k0_pay186, k0_pay184, k0_pay183, k0_pay185]
  rw [← wi_zero_add]
  unfold wi lo
  simp (disch := omega) only [select_slt, select_sgt]
  rfl

end Cert.KernelIdeal.Gen
end
end
-- ==== Proof.Reads.lean ====
module

public import proofs.«01_k».proof.Proof.Gen.KernelIdeal.Skeleton
public import Idealize.ShloMosaic.Lib.VecWindow
public import Idealize.ShloMosaic.Lib.Pipeline.Value
public import proofs.«01_k».proof.Proof.Row

@[expose] public section
set_option maxRecDepth 16384

/-!
# Loads and stores of rows

What a load of rows reads of the blocks of queries, keys and values and of a scratch buffer of 2048 rows, and what a
store of rows leaves there.
-/

noncomputable section
namespace Cert.KernelIdeal.Gen
open Idealize.ShloMosaic Idealize.ShloMosaic.TcCoe SbRow

/-- A load of rows of the query block. -/
theorem read_q {n o : ℕ} (a : Memref sig .tc .vmem S1x2048x128 .bf16) (ha : a.IsWhole) (x : Vec Ideal S1x2048x128 .bf16)
    (off : Fin 3 → ℕ) (inb : ∀ b, off b + (![1, n, 128] : Fin 3 → ℕ) b ≤ S1x2048x128.size b) (hoff : off = ![0, o, 0]) (r : Fin n) (e : Fin 128) (h : o + r < 2048) :
    View.readAt (Elt Ideal) a.view (Rect.unit (s := S1x2048x128) off ![1, n, 128] inb).toLoadRect (ha.unread x) (ix3 0 r e)
      = x (ix3 0 ⟨o + r, h⟩ e) := by
  subst hoff
  rw [View.readAt_eq_ld, ha.read_unread]
  refine congrArg x (funext fun b => Fin.ext ?_)
  fin_cases b
  · rfl
  · show o + 1 * (r : ℕ) = o + r; omega
  · show 0 + 1 * (e : ℕ) = e; omega

/-- A load of a tile of 256 keys (or of their values). -/
theorem read_k {o : ℕ} (a : Memref sig .tc .vmem S1x16384x128 .bf16) (ha : a.IsWhole) (x : Vec Ideal S1x16384x128 .bf16)
    (off : Fin 3 → ℕ) (inb : ∀ b, off b + S1x256x128.size b ≤ S1x16384x128.size b) (hoff : off = ![0, o, 0]) (s : Fin 256) (e : Fin 128) :
    View.readAt (Elt Ideal) a.view (Rect.unit (s := S1x16384x128) off S1x256x128.size inb).toLoadRect (ha.unread x) (ix3 0 s e)
      = x (ix3 0 (key (o + s)) e) := by
  subst hoff
  have ho : o + 256 ≤ 16384 := inb 1
  rw [View.readAt_eq_ld, ha.read_unread]
  refine congrArg x (funext fun b => Fin.ext ?_)
  fin_cases b
  · rfl
  · show o + 1 * (s : ℕ) = (o + s) % 16384; omega
  · show 0 + 1 * (e : ℕ) = e; omega

variable {κ' : Kind} {sp : Space}

/-- A load of rows of the scratch buffer, after the stores `L`. -/
theorem read_rows {n o : ℕ} (v : View sig .tc .vmem S2048x128 .f32) (L : List (View.Piece (Elt Ideal) S2048x128 .f32))
    (inb : ∀ b, (![o, 0] : Fin 2 → ℕ) b + (![n, 128] : Fin 2 → ℕ) b ≤ S2048x128.size b) (r : Fin n) (l : Fin 128) (h : o + r < 2048) :
    v.readCov L (Rect.unit (s := S2048x128) ![o, 0] ![n, 128] inb).toLoadRect (ix2 r l) = View.canon L (ix2 ⟨o + r, h⟩ l) := by
  rw [View.readCov_eq_canon']
  refine congrArg (View.canon L) (funext fun b => Fin.ext ?_)
  fin_cases b
  · show o + 1 * (r : ℕ) = o + r; omega
  · show 0 + 1 * (l : ℕ) = l; omega

/-- A row inside the rows stored last holds what was stored. -/
theorem canon_in {n o : ℕ} (L : List (View.Piece (Elt Ideal) S2048x128 .f32))
    (inb : ∀ b, (![o, 0] : Fin 2 → ℕ) b + (![n, 128] : Fin 2 → ℕ) b ≤ S2048x128.size b)
    (P : (⟨2, ![n, 128]⟩ : Shape).Idx → Ideal .f32) (r : Fin n) (l : Fin 128) (h : o + r < 2048) :
    View.canon (⟨Rect.unit (s := S2048x128) ![o, 0] ![n, 128] inb, P⟩ :: L) (ix2 ⟨o + r, h⟩ l) = P (ix2 r l) := by
  rw [← View.canon_cons_emb (Rect.unit (s := S2048x128) ![o, 0] ![n, 128] inb) P L (ix2 r l)]
  refine congrArg (View.canon _) (funext fun b => Fin.ext ?_)
  fin_cases b
  · show o + r = o + 1 * (r : ℕ); omega
  · show (l : ℕ) = 0 + 1 * l; omega

/-- A row before the rows stored last holds what it held. -/
theorem canon_out {n o : ℕ} (L : List (View.Piece (Elt Ideal) S2048x128 .f32))
    (inb : ∀ b, (![o, 0] : Fin 2 → ℕ) b + (![n, 128] : Fin 2 → ℕ) b ≤ S2048x128.size b)
    (P : (⟨2, ![n, 128]⟩ : Shape).Idx → Ideal .f32) (r : Fin 2048) (l : Fin 128) (h : (r : ℕ) < o) :
    View.canon (⟨Rect.unit (s := S2048x128) ![o, 0] ![n, 128] inb, P⟩ :: L) (ix2 r l) = View.canon L (ix2 r l) := by
  refine View.canon_cons_of_not_mem _ _ fun hm => ?_
  have hr : o ≤ (r : ℕ) := ((Rect.mem_set_unit (inb := inb)).mp hm 0).1
  omega

/-- One diagonal tile in the running sums. -/
theorem step_car {n j : ℕ} (hn : 256 * j + n = 2048) (i : ℕ) (hi : i < 8) (hj : j < 8) (z : Fin 2048 → ℕ → EReal)
    (L : List (View.Piece (Elt Ideal) S2048x128 .f32))
    (inb : ∀ b, (![256 * j, 0] : Fin 2 → ℕ) b + (![n, 128] : Fin 2 → ℕ) b ≤ S2048x128.size b)
    (P : (⟨2, ![n, 128]⟩ : Shape).Idx → Ideal .f32)
    (hL : ∀ r l, View.canon L (ix2 r l) = later (2048 * i + r) (z r) (2048 * i + 256 * j + 256))
    (hP : ∀ (r : Fin n) (l : Fin 128), P (ix2 r l) = View.canon L (ix2 ⟨256 * j + r, by omega⟩ l)
      + tot r fun s => z ⟨256 * j + r, by omega⟩ (2048 * i + 256 * j + s)) (r : Fin 2048) (l : Fin 128) :
    View.canon (⟨Rect.unit (s := S2048x128) ![256 * j, 0] ![n, 128] inb, P⟩ :: L) (ix2 r l)
      = later (2048 * i + r) (z r) (2048 * i + 256 * j) := by
  by_cases h : (r : ℕ) < 256 * j
  · rw [canon_out L inb P r l h, hL, later_of_le _ (by omega), later_of_le _ (by omega)]
  · obtain ⟨q, hq, rfl⟩ : ∃ (q : Fin n) (h : 256 * j + (q : ℕ) < 2048), r = ⟨256 * j + q, h⟩ :=
      ⟨⟨r - 256 * j, by omega⟩, by simp; omega, Fin.ext (by simp; omega)⟩
    rw [canon_in L inb P q l (by omega), hP, hL]
    exact (later_step _ (by omega) fun s _ => by simp; omega).symm

/-- One diagonal tile in the output. -/
theorem step_acc {n j : ℕ} (hn : 256 * j + n = 2048) (i : ℕ) (hi : i < 8) (hj : j < 8) (z : Fin 2048 → ℕ → EReal)
    (v : Fin 128 → ℕ → EReal) (L : List (View.Piece (Elt Ideal) S2048x128 .f32))
    (inb : ∀ b, (![256 * j, 0] : Fin 2 → ℕ) b + (![n, 128] : Fin 2 → ℕ) b ≤ S2048x128.size b)
    (P : (⟨2, ![n, 128]⟩ : Shape).Idx → Ideal .f32)
    (hL : ∀ r d, View.canon L (ix2 r d) = outp (2048 * i + r) (z r) (v d) (2048 * i + 256 * j + 256))
    (hP : ∀ (r : Fin n) (d : Fin 128), P (ix2 r d) = View.canon L (ix2 ⟨256 * j + r, by omega⟩ d)
      + part r (fun s => z ⟨256 * j + r, by omega⟩ (2048 * i + 256 * j + s)) (fun s => v d (2048 * i + 256 * j + s))
          (later (2048 * i + (256 * j + r)) (z ⟨256 * j + r, by omega⟩) (2048 * i + 256 * j + 256)))
    (r : Fin 2048) (d : Fin 128) :
    View.canon (⟨Rect.unit (s := S2048x128) ![256 * j, 0] ![n, 128] inb, P⟩ :: L) (ix2 r d)
      = outp (2048 * i + r) (z r) (v d) (2048 * i + 256 * j) := by
  by_cases h : (r : ℕ) < 256 * j
  · rw [canon_out L inb P r d h, hL, outp_of_le _ _ (by omega), outp_of_le _ _ (by omega)]
  · obtain ⟨q, hq, rfl⟩ : ∃ (q : Fin n) (h : 256 * j + (q : ℕ) < 2048), r = ⟨256 * j + q, h⟩ :=
      ⟨⟨r - 256 * j, by omega⟩, by simp; omega, Fin.ext (by simp; omega)⟩
    rw [canon_in L inb P q d (by omega), hP, hL]
    exact (outp_step _ _ (by omega) fun s _ => by simp; omega).symm

end Cert.KernelIdeal.Gen
end
end
-- ==== Proof.Own.lean ====
module

public import proofs.«01_k».proof.Proof.Gen.KernelIdeal.Frame
public import proofs.«01_k».proof.Proof.Diagonal
public import proofs.«01_k».proof.Proof.Reads

@[expose] public section
set_option maxRecDepth 16384

/-!
# The block's own keys

After the tiles of the block's own keys from `2048 i + 256 j` on, the scratch buffers hold, for every row, the sum of the
log-complements and the output over the keys from there on.
-/

noncomputable section
namespace Cert.KernelIdeal.Gen
open Idealize.ShloMosaic Idealize.ShloMosaic.TcCoe SbRow

/-- The score of row `r` of the query block at key `s`. -/
def sc (x0 : Vec Ideal S1x2048x128 .bf16) (x1 : Vec Ideal S1x16384x128 .bf16) (r : Fin 2048) (s : ℕ) : EReal :=
  ∑ e : Fin 128, x0 (ix3 0 r e) * x1 (ix3 0 (key s) e)

/-- Entry `d` of the value at key `s`. -/
def vl (x2 : Vec Ideal S1x16384x128 .bf16) (d : Fin 128) (s : ℕ) : EReal := x2 (ix3 0 (key s) d)

variable (c : Dev nD) (i : grid0.Coords) (arg3 : Memref sig .tc .vmem S1x2048x128 .bf16) (harg3 : arg3.IsWhole)
  (arg4 : Memref sig .tc .vmem S1x16384x128 .bf16) (harg4 : arg4.IsWhole) (arg5 : Memref sig .tc .vmem S1x16384x128 .bf16)
  (harg5 : arg5.IsWhole) (arg7 : Memref sig .tc .vmem S2048x128 .f32) (arg8 : Memref sig .tc .vmem S2048x128 .f32)
  (x0 : Vec Ideal S1x2048x128 .bf16) (x1 x2 : Vec Ideal S1x16384x128 .bf16)

/-- Where the tile of the block's own keys `256 j` starts. -/
theorem off1 (j : ℕ) (hj : j < 8) : k0_off1 i (BitVec.ofNat 32 j) = ![0, 2048 * (i 2).val + 256 * j, 0] :=
  k0_off1_eq i ⟨j, hj⟩

theorem zeros_car (r : Fin 2048) (l : Fin 128) :
    View.canon (Val := Elt Ideal) kernelRun0_A.sl.HS1_1 (ix2 r l) = later (2048 * (i 2).val + r) (sc x0 x1 r) (2048 * (i 2).val + 256 * 7 + 256) := by
  rw [later_of_le _ (by omega)]
  unfold kernelRun0_A.sl.HS1_1
  refine (congrArg (View.canon _) (show ix2 r l = ix2 ⟨0 + r, by omega⟩ l by simp)).trans ((canon_in [] _ _ r l (by omega)).trans ?_)
  exact Ideal.ofBits_zero_f32

theorem zeros_acc (r : Fin 2048) (d : Fin 128) :
    View.canon (Val := Elt Ideal) kernelRun0_A.sl.HS0_1 (ix2 r d) = outp (2048 * (i 2).val + r) (sc x0 x1 r) (vl x2 d) (2048 * (i 2).val + 256 * 7 + 256) := by
  rw [outp_of_le _ _ (by omega)]
  unfold kernelRun0_A.sl.HS0_1
  refine (congrArg (View.canon _) (show ix2 r d = ix2 ⟨0 + r, by omega⟩ d by simp)).trans ((canon_in [] _ _ r d (by omega)).trans ?_)
  exact Ideal.ofBits_zero_f32

/-- A tile's scores, of the rows and keys loaded for it. -/
theorem tile_scores {n : ℕ} (j : ℕ) (hj : j < 8) (hn : 256 * j + n = 2048) (inbq : ∀ b, (![0, 256 * j, 0] : Fin 3 → ℕ) b + (![1, n, 128] : Fin 3 → ℕ) b ≤ S1x2048x128.size b)
    (inbk : ∀ b, (k0_off1 i (BitVec.ofNat 32 j)) b + S1x256x128.size b ≤ S1x16384x128.size b) (r : Fin n) (s : Fin 256) :
    (∑ e : Fin 128, View.readAt (Elt Ideal) arg3.view (Rect.unit (s := S1x2048x128) ![0, 256 * j, 0] ![1, n, 128] inbq).toLoadRect (harg3.unread x0) (ix3 0 r e)
      * View.readAt (Elt Ideal) arg4.view (Rect.unit (s := S1x16384x128) (k0_off1 i (BitVec.ofNat 32 j)) S1x256x128.size inbk).toLoadRect (harg4.unread x1) (ix3 0 s e) : EReal)
      = sc x0 x1 ⟨256 * j + r, by omega⟩ (2048 * (i 2).val + 256 * j + s) := by
  refine Finset.sum_congr rfl fun e _ => ?_
  rw [read_q arg3 harg3 x0 _ inbq rfl r e (by omega), read_k arg4 harg4 x1 _ inbk (off1 i j hj) s e]

/-- The running sums after the tile of the block's own keys from 1792. -/
theorem after_car7 (r : Fin 2048) (l : Fin 128) :
    View.canon (kernelRun0_A.sl.HS1_2 c i arg3 harg3 arg4 harg4 arg8 x0 x1) (ix2 r l)
      = later (2048 * (i 2).val + r) (sc x0 x1 r) (2048 * (i 2).val + 256 * 7) := by
  unfold kernelRun0_A.sl.HS1_2
  refine step_car (n := 256) (j := 7) rfl _ (i 2).isLt (by omega) (sc x0 x1) _ _ _ (zeros_car i x0 x1) (fun r l => ?_) r l
  refine (diag_car7 _ _ _ r l).trans ?_
  refine congrArg₂ (· + ·) (read_rows (o := 1792) (n := 256) arg8.view _ _ r l (by omega)) ?_
  exact congrArg (tot r) (funext fun s => tile_scores i arg3 harg3 arg4 harg4 x0 x1 7 (by omega) rfl _ _ r s)

/-- The output after the tile of the block's own keys from 1792. -/
theorem after_acc7 (r : Fin 2048) (d : Fin 128) :
    View.canon (kernelRun0_A.sl.HS0_2 c i arg3 harg3 arg4 harg4 arg5 harg5 arg7 arg8 x0 x1 x2) (ix2 r d)
      = outp (2048 * (i 2).val + r) (sc x0 x1 r) (vl x2 d) (2048 * (i 2).val + 256 * 7) := by
  unfold kernelRun0_A.sl.HS0_2
  refine step_acc (n := 256) (j := 7) rfl _ (i 2).isLt (by omega) (sc x0 x1) (vl x2) _ _ _ (zeros_acc i x0 x1 x2) (fun r d => ?_) r d
  refine (diag_acc7 _ _ _ _ _ r d _ fun l => (read_rows (o := 1792) (n := 256) arg8.view _ _ r l (by omega)).trans
    (zeros_car i x0 x1 _ l)).trans ?_
  refine congrArg₂ (· + ·) (read_rows (o := 1792) (n := 256) arg7.view _ _ r d (by omega)) ?_
  exact congrArg₂ (fun Z V => part r Z V _) (funext fun s => tile_scores i arg3 harg3 arg4 harg4 x0 x1 7 (by omega) rfl _ _ r s)
    (funext fun s => read_k arg5 harg5 x2 _ _ (off1 i 7 (by omega)) s d)

/-- The running sums after the tile of the block's own keys from 1536. -/
theorem after_car6 (r : Fin 2048) (l : Fin 128) :
    View.canon (kernelRun0_A.sl.HS1_3 c i arg3 harg3 arg4 harg4 arg8 x0 x1) (ix2 r l)
      = later (2048 * (i 2).val + r) (sc x0 x1 r) (2048 * (i 2).val + 256 * 6) := by
  unfold kernelRun0_A.sl.HS1_3
  refine step_car (n := 512) (j := 6) rfl _ (i 2).isLt (by omega) (sc x0 x1) _ _ _ (after_car7 c i arg3 harg3 arg4 harg4 arg8 x0 x1) (fun r l => ?_) r l
  refine (diag_car6 _ _ _ r l).trans ?_
  refine congrArg₂ (· + ·) (read_rows (o := 1536) (n := 512) arg8.view _ _ r l (by omega)) ?_
  exact congrArg (tot r) (funext fun s => tile_scores i arg3 harg3 arg4 harg4 x0 x1 6 (by omega) rfl _ _ r s)

/-- The output after the tile of the block's own keys from 1536. -/
theorem after_acc6 (r : Fin 2048) (d : Fin 128) :
    View.canon (kernelRun0_A.sl.HS0_3 c i arg3 harg3 arg4 harg4 arg5 harg5 arg7 arg8 x0 x1 x2) (ix2 r d)
      = outp (2048 * (i 2).val + r) (sc x0 x1 r) (vl x2 d) (2048 * (i 2).val + 256 * 6) := by
  unfold kernelRun0_A.sl.HS0_3
  refine step_acc (n := 512) (j := 6) rfl _ (i 2).isLt (by omega) (sc x0 x1) (vl x2) _ _ _ (after_acc7 c i arg3 harg3 arg4 harg4 arg5 harg5 arg7 arg8 x0 x1 x2) (fun r d => ?_) r d
  refine (diag_acc6 _ _ _ _ _ r d _ fun l => (read_rows (o := 1536) (n := 512) arg8.view _ _ r l (by omega)).trans
    (after_car7 c i arg3 harg3 arg4 harg4 arg8 x0 x1 _ l)).trans ?_
  refine congrArg₂ (· + ·) (read_rows (o := 1536) (n := 512) arg7.view _ _ r d (by omega)) ?_
  exact congrArg₂ (fun Z V => part r Z V _) (funext fun s => tile_scores i arg3 harg3 arg4 harg4 x0 x1 6 (by omega) rfl _ _ r s)
    (funext fun s => read_k arg5 harg5 x2 _ _ (off1 i 6 (by omega)) s d)

/-- The running sums after the tile of the block's own keys from 1280. -/
theorem after_car5 (r : Fin 2048) (l : Fin 128) :
    View.canon (kernelRun0_A.sl.HS1_4 c i arg3 harg3 arg4 harg4 arg8 x0 x1) (ix2 r l)
      = later (2048 * (i 2).val + r) (sc x0 x1 r) (2048 * (i 2).val + 256 * 5) := by
  unfold kernelRun0_A.sl.HS1_4
  refine step_car (n := 768) (j := 5) rfl _ (i 2).isLt (by omega) (sc x0 x1) _ _ _ (after_car6 c i arg3 harg3 arg4 harg4 arg8 x0 x1) (fun r l => ?_) r l
  refine (diag_car5 _ _ _ r l).trans ?_
  refine congrArg₂ (· + ·) (read_rows (o := 1280) (n := 768) arg8.view _ _ r l (by omega)) ?_
  exact congrArg (tot r) (funext fun s => tile_scores i arg3 harg3 arg4 harg4 x0 x1 5 (by omega) rfl _ _ r s)

/-- The output after the tile of the block's own keys from 1280. -/
theorem after_acc5 (r : Fin 2048) (d : Fin 128) :
    View.canon (kernelRun0_A.sl.HS0_4 c i arg3 harg3 arg4 harg4 arg5 harg5 arg7 arg8 x0 x1 x2) (ix2 r d)
      = outp (2048 * (i 2).val + r) (sc x0 x1 r) (vl x2 d) (2048 * (i 2).val + 256 * 5) := by
  unfold kernelRun0_A.sl.HS0_4
  refine step_acc (n := 768) (j := 5) rfl _ (i 2).isLt (by omega) (sc x0 x1) (vl x2) _ _ _ (after_acc6 c i arg3 harg3 arg4 harg4 arg5 harg5 arg7 arg8 x0 x1 x2) (fun r d => ?_) r d
  refine (diag_acc5 _ _ _ _ _ r d _ fun l => (read_rows (o := 1280) (n := 768) arg8.view _ _ r l (by omega)).trans
    (after_car6 c i arg3 harg3 arg4 harg4 arg8 x0 x1 _ l)).trans ?_
  refine congrArg₂ (· + ·) (read_rows (o := 1280) (n := 768) arg7.view _ _ r d (by omega)) ?_
  exact congrArg₂ (fun Z V => part r Z V _) (funext fun s => tile_scores i arg3 harg3 arg4 harg4 x0 x1 5 (by omega) rfl _ _ r s)
    (funext fun s => read_k arg5 harg5 x2 _ _ (off1 i 5 (by omega)) s d)

/-- The running sums after the tile of the block's own keys from 1024. -/
theorem after_car4 (r : Fin 2048) (l : Fin 128) :
    View.canon (kernelRun0_A.sl.HS1_5 c i arg3 harg3 arg4 harg4 arg8 x0 x1) (ix2 r l)
      = later (2048 * (i 2).val + r) (sc x0 x1 r) (2048 * (i 2).val + 256 * 4) := by
  unfold kernelRun0_A.sl.HS1_5
  refine step_car (n := 1024) (j := 4) rfl _ (i 2).isLt (by omega) (sc x0 x1) _ _ _ (after_car5 c i arg3 harg3 arg4 harg4 arg8 x0 x1) (fun r l => ?_) r l
  refine (diag_car4 _ _ _ r l).trans ?_
  refine congrArg₂ (· + ·) (read_rows (o := 1024) (n := 1024) arg8.view _ _ r l (by omega)) ?_
  exact congrArg (tot r) (funext fun s => tile_scores i arg3 harg3 arg4 harg4 x0 x1 4 (by omega) rfl _ _ r s)

/-- The output after the tile of the block's own keys from 1024. -/
theorem after_acc4 (r : Fin 2048) (d : Fin 128) :
    View.canon (kernelRun0_A.sl.HS0_5 c i arg3 harg3 arg4 harg4 arg5 harg5 arg7 arg8 x0 x1 x2) (ix2 r d)
      = outp (2048 * (i 2).val + r) (sc x0 x1 r) (vl x2 d) (2048 * (i 2).val + 256 * 4) := by
  unfold kernelRun0_A.sl.HS0_5
  refine step_acc (n := 1024) (j := 4) rfl _ (i 2).isLt (by omega) (sc x0 x1) (vl x2) _ _ _ (after_acc5 c i arg3 harg3 arg4 harg4 arg5 harg5 arg7 arg8 x0 x1 x2) (fun r d => ?_) r d
  refine (diag_acc4 _ _ _ _ _ r d _ fun l => (read_rows (o := 1024) (n := 1024) arg8.view _ _ r l (by omega)).trans
    (after_car5 c i arg3 harg3 arg4 harg4 arg8 x0 x1 _ l)).trans ?_
  refine congrArg₂ (· + ·) (read_rows (o := 1024) (n := 1024) arg7.view _ _ r d (by omega)) ?_
  exact congrArg₂ (fun Z V => part r Z V _) (funext fun s => tile_scores i arg3 harg3 arg4 harg4 x0 x1 4 (by omega) rfl _ _ r s)
    (funext fun s => read_k arg5 harg5 x2 _ _ (off1 i 4 (by omega)) s d)

/-- The running sums after the tile of the block's own keys from 768. -/
theorem after_car3 (r : Fin 2048) (l : Fin 128) :
    View.canon (kernelRun0_A.sl.HS1_6 c i arg3 harg3 arg4 harg4 arg8 x0 x1) (ix2 r l)
      = later (2048 * (i 2).val + r) (sc x0 x1 r) (2048 * (i 2).val + 256 * 3) := by
  unfold kernelRun0_A.sl.HS1_6
  refine step_car (n := 1280) (j := 3) rfl _ (i 2).isLt (by omega) (sc x0 x1) _ _ _ (after_car4 c i arg3 harg3 arg4 harg4 arg8 x0 x1) (fun r l => ?_) r l
  refine (diag_car3 _ _ _ r l).trans ?_
  refine congrArg₂ (· + ·) (read_rows (o := 768) (n := 1280) arg8.view _ _ r l (by omega)) ?_
  exact congrArg (tot r) (funext fun s => tile_scores i arg3 harg3 arg4 harg4 x0 x1 3 (by omega) rfl _ _ r s)

/-- The output after the tile of the block's own keys from 768. -/
theorem after_acc3 (r : Fin 2048) (d : Fin 128) :
    View.canon (kernelRun0_A.sl.HS0_6 c i arg3 harg3 arg4 harg4 arg5 harg5 arg7 arg8 x0 x1 x2) (ix2 r d)
      = outp (2048 * (i 2).val + r) (sc x0 x1 r) (vl x2 d) (2048 * (i 2).val + 256 * 3) := by
  unfold kernelRun0_A.sl.HS0_6
  refine step_acc (n := 1280) (j := 3) rfl _ (i 2).isLt (by omega) (sc x0 x1) (vl x2) _ _ _ (after_acc4 c i arg3 harg3 arg4 harg4 arg5 harg5 arg7 arg8 x0 x1 x2) (fun r d => ?_) r d
  refine (diag_acc3 _ _ _ _ _ r d _ fun l => (read_rows (o := 768) (n := 1280) arg8.view _ _ r l (by omega)).trans
    (after_car4 c i arg3 harg3 arg4 harg4 arg8 x0 x1 _ l)).trans ?_
  refine congrArg₂ (· + ·) (read_rows (o := 768) (n := 1280) arg7.view _ _ r d (by omega)) ?_
  exact congrArg₂ (fun Z V => part r Z V _) (funext fun s => tile_scores i arg3 harg3 arg4 harg4 x0 x1 3 (by omega) rfl _ _ r s)
    (funext fun s => read_k arg5 harg5 x2 _ _ (off1 i 3 (by omega)) s d)

/-- The running sums after the tile of the block's own keys from 512. -/
theorem after_car2 (r : Fin 2048) (l : Fin 128) :
    View.canon (kernelRun0_A.sl.HS1_7 c i arg3 harg3 arg4 harg4 arg8 x0 x1) (ix2 r l)
      = later (2048 * (i 2).val + r) (sc x0 x1 r) (2048 * (i 2).val + 256 * 2) := by
  unfold kernelRun0_A.sl.HS1_7
  refine step_car (n := 1536) (j := 2) rfl _ (i 2).isLt (by omega) (sc x0 x1) _ _ _ (after_car3 c i arg3 harg3 arg4 harg4 arg8 x0 x1) (fun r l => ?_) r l
  refine (diag_car2 _ _ _ r l).trans ?_
  refine congrArg₂ (· + ·) (read_rows (o := 512) (n := 1536) arg8.view _ _ r l (by omega)) ?_
  exact congrArg (tot r) (funext fun s => tile_scores i arg3 harg3 arg4 harg4 x0 x1 2 (by omega) rfl _ _ r s)

/-- The output after the tile of the block's own keys from 512. -/
theorem after_acc2 (r : Fin 2048) (d : Fin 128) :
    View.canon (kernelRun0_A.sl.HS0_7 c i arg3 harg3 arg4 harg4 arg5 harg5 arg7 arg8 x0 x1 x2) (ix2 r d)
      = outp (2048 * (i 2).val + r) (sc x0 x1 r) (vl x2 d) (2048 * (i 2).val + 256 * 2) := by
  unfold kernelRun0_A.sl.HS0_7
  refine step_acc (n := 1536) (j := 2) rfl _ (i 2).isLt (by omega) (sc x0 x1) (vl x2) _ _ _ (after_acc3 c i arg3 harg3 arg4 harg4 arg5 harg5 arg7 arg8 x0 x1 x2) (fun r d => ?_) r d
  refine (diag_acc2 _ _ _ _ _ r d _ fun l => (read_rows (o := 512) (n := 1536) arg8.view _ _ r l (by omega)).trans
    (after_car3 c i arg3 harg3 arg4 harg4 arg8 x0 x1 _ l)).trans ?_
  refine congrArg₂ (· + ·) (read_rows (o := 512) (n := 1536) arg7.view _ _ r d (by omega)) ?_
  exact congrArg₂ (fun Z V => part r Z V _) (funext fun s => tile_scores i arg3 harg3 arg4 harg4 x0 x1 2 (by omega) rfl _ _ r s)
    (funext fun s => read_k arg5 harg5 x2 _ _ (off1 i 2 (by omega)) s d)

/-- The running sums after the tile of the block's own keys from 256. -/
theorem after_car1 (r : Fin 2048) (l : Fin 128) :
    View.canon (kernelRun0_A.sl.HS1_8 c i arg3 harg3 arg4 harg4 arg8 x0 x1) (ix2 r l)
      = later (2048 * (i 2).val + r) (sc x0 x1 r) (2048 * (i 2).val + 256 * 1) := by
  unfold kernelRun0_A.sl.HS1_8
  refine step_car (n := 1792) (j := 1) rfl _ (i 2).isLt (by omega) (sc x0 x1) _ _ _ (after_car2 c i arg3 harg3 arg4 harg4 arg8 x0 x1) (fun r l => ?_) r l
  refine (diag_car1 _ _ _ r l).trans ?_
  refine congrArg₂ (· + ·) (read_rows (o := 256) (n := 1792) arg8.view _ _ r l (by omega)) ?_
  exact congrArg (tot r) (funext fun s => tile_scores i arg3 harg3 arg4 harg4 x0 x1 1 (by omega) rfl _ _ r s)

/-- The output after the tile of the block's own keys from 256. -/
theorem after_acc1 (r : Fin 2048) (d : Fin 128) :
    View.canon (kernelRun0_A.sl.HS0_8 c i arg3 harg3 arg4 harg4 arg5 harg5 arg7 arg8 x0 x1 x2) (ix2 r d)
      = outp (2048 * (i 2).val + r) (sc x0 x1 r) (vl x2 d) (2048 * (i 2).val + 256 * 1) := by
  unfold kernelRun0_A.sl.HS0_8
  refine step_acc (n := 1792) (j := 1) rfl _ (i 2).isLt (by omega) (sc x0 x1) (vl x2) _ _ _ (after_acc2 c i arg3 harg3 arg4 harg4 arg5 harg5 arg7 arg8 x0 x1 x2) (fun r d => ?_) r d
  refine (diag_acc1 _ _ _ _ _ r d _ fun l => (read_rows (o := 256) (n := 1792) arg8.view _ _ r l (by omega)).trans
    (after_car2 c i arg3 harg3 arg4 harg4 arg8 x0 x1 _ l)).trans ?_
  refine congrArg₂ (· + ·) (read_rows (o := 256) (n := 1792) arg7.view _ _ r d (by omega)) ?_
  exact congrArg₂ (fun Z V => part r Z V _) (funext fun s => tile_scores i arg3 harg3 arg4 harg4 x0 x1 1 (by omega) rfl _ _ r s)
    (funext fun s => read_k arg5 harg5 x2 _ _ (off1 i 1 (by omega)) s d)

/-- The running sums after the tile of the block's own keys from 0. -/
theorem after_car0 (r : Fin 2048) (l : Fin 128) :
    View.canon (kernelRun0_A.sl.HS1_9 c i arg3 harg3 arg4 harg4 arg8 x0 x1) (ix2 r l)
      = later (2048 * (i 2).val + r) (sc x0 x1 r) (2048 * (i 2).val + 256 * 0) := by
  unfold kernelRun0_A.sl.HS1_9
  refine step_car (n := 2048) (j := 0) rfl _ (i 2).isLt (by omega) (sc x0 x1) _ _ _ (after_car1 c i arg3 harg3 arg4 harg4 arg8 x0 x1) (fun r l => ?_) r l
  refine (diag_car0 _ _ _ r l).trans ?_
  refine congrArg₂ (· + ·) (read_rows (o := 0) (n := 2048) arg8.view _ _ r l (by omega)) ?_
  exact congrArg (tot r) (funext fun s => tile_scores i arg3 harg3 arg4 harg4 x0 x1 0 (by omega) rfl _ _ r s)

/-- The output after the tile of the block's own keys from 0. -/
theorem after_acc0 (r : Fin 2048) (d : Fin 128) :
    View.canon (kernelRun0_A.sl.HS0_9 c i arg3 harg3 arg4 harg4 arg5 harg5 arg7 arg8 x0 x1 x2) (ix2 r d)
      = outp (2048 * (i 2).val + r) (sc x0 x1 r) (vl x2 d) (2048 * (i 2).val + 256 * 0) := by
  unfold kernelRun0_A.sl.HS0_9
  refine step_acc (n := 2048) (j := 0) rfl _ (i 2).isLt (by omega) (sc x0 x1) (vl x2) _ _ _ (after_acc1 c i arg3 harg3 arg4 harg4 arg5 harg5 arg7 arg8 x0 x1 x2) (fun r d => ?_) r d
  refine (diag_acc0 _ _ _ _ _ r d _ fun l => (read_rows (o := 0) (n := 2048) arg8.view _ _ r l (by omega)).trans
    (after_car1 c i arg3 harg3 arg4 harg4 arg8 x0 x1 _ l)).trans ?_
  refine congrArg₂ (· + ·) (read_rows (o := 0) (n := 2048) arg7.view _ _ r d (by omega)) ?_
  exact congrArg₂ (fun Z V => part r Z V _) (funext fun s => tile_scores i arg3 harg3 arg4 harg4 x0 x1 0 (by omega) rfl _ _ r s)
    (funext fun s => read_k arg5 harg5 x2 _ _ (off1 i 0 (by omega)) s d)

end Cert.KernelIdeal.Gen
end
end
-- ==== Proof.Turn.lean ====
module

public import proofs.«01_k».proof.Proof.Gen.KernelIdeal.Frame
public import proofs.«01_k».proof.Proof.Own

@[expose] public section
set_option maxRecDepth 16384

/-!
# The keys of an earlier block

One turn of the loop over the earlier blocks: eight tiles of 256 keys, all of them allowed to every row of the query block.
-/

noncomputable section
namespace Cert.KernelIdeal.Gen
open Idealize.ShloMosaic Idealize.ShloMosaic.TcCoe SbRow

/-- What a tile of allowed keys stores in the output buffer. -/
def tileAcc (q : FVec Ideal S1x2048x128 .bf16) (k v : FVec Ideal S1x256x128 .bf16) (car acc : FVec Ideal S2048x128 .f32) :
    FVec Ideal S2048x128 .f32 :=
  k0_pay1 (k0_pay9 k0_pay132 k q) (shapeCast S256x128 v shapeCasts_S1x256x128_S256x128) (extf .f32 (k0_pay7 k q) bitsLt_bf16_f32) car acc

/-- What a tile of allowed keys stores in the buffer of running sums. -/
def tileCar (q : FVec Ideal S1x2048x128 .bf16) (k : FVec Ideal S1x256x128 .bf16) (car : FVec Ideal S2048x128 .f32) :
    FVec Ideal S2048x128 .f32 :=
  k0_pay2 (k0_pay10 k0_pay132 k q) car

theorem tileAcc_apply (q : FVec Ideal S1x2048x128 .bf16) (k v : FVec Ideal S1x256x128 .bf16) (car acc : FVec Ideal S2048x128 .f32)
    (r : Fin 2048) (d : Fin 128) (C : EReal) (hcar : ∀ l, car (ix2 r l) = C) :
    tileAcc q k v car acc (ix2 r d) =
      acc (ix2 r d) + part 256 (fun s => ∑ e, q (ix3 0 r e) * k (ix3 0 s e)) (fun s => v (ix3 0 s d)) C := by
  unfold tileAcc
  pointwise [k0_pay1, k0_pay9, k0_pay8, k0_pay132, k0_pay7, k0_pay6]
  unfold part wi lo
  rw [split256]
  simp (disch := omega) only [select_slt, select_sgt, hcar, Fin.is_lt, if_true, Fin.val_mk]
  first
  | rfl
  | (refine congrArg₂ (· + ·) rfl (congrArg₂ (· + ·) (Finset.sum_congr rfl fun x _ => ?_) (Finset.sum_congr rfl fun x _ => ?_)) <;>
      rw [if_pos (by omega)] <;> rfl)

theorem tileCar_apply (q : FVec Ideal S1x2048x128 .bf16) (k : FVec Ideal S1x256x128 .bf16) (car : FVec Ideal S2048x128 .f32)
    (r : Fin 2048) (l : Fin 128) :
    tileCar q k car (ix2 r l) = car (ix2 r l) + tot 256 (fun s => ∑ e, q (ix3 0 r e) * k (ix3 0 s e)) := by
  unfold tileCar
  pointwise [k0_pay2, k0_pay10, k0_pay9, k0_pay8, k0_pay132, k0_pay7, k0_pay6]
  rw [← wi_zero_add]
  unfold wi lo
  simp (disch := omega) only [select_slt, select_sgt, Fin.is_lt, if_true]
  rfl

/-- Where the tiles of the block met in turn `t` start. -/
theorem off2 : ∀ (i : grid0.Coords) (t : Fin (k0_t1_loop i).trips) (r : Fin 8),
    k0_off2 i t (BitVec.ofNat 32 r.val) = ![0, 2048 * ((i 2).val - 1 - t.val) + 256 * r.val, 0] := by decide +kernel

/-- The loop has a turn for each earlier block. -/
theorem trips1 : ∀ i : grid0.Coords, (k0_t1_loop i).trips = (i 2).val := by decide +kernel

/-- The remainder loop has no turn. -/
theorem trips2 : ∀ i : grid0.Coords, (k0_t2_loop i).trips = 0 := by decide +kernel

theorem readCov_full (v : View sig .tc .vmem S2048x128 .f32) (L : List (View.Piece (Elt Ideal) S2048x128 .f32))
    (inb inb' : ∀ b, (![0, 0] : Fin 2 → ℕ) b + S2048x128.size b ≤ S2048x128.size b) (w : S2048x128.Idx → Ideal .f32) :
    v.readCov (⟨Rect.unit (s := S2048x128) ![0, 0] S2048x128.size inb, w⟩ :: L) (Rect.unit (s := S2048x128) ![0, 0] S2048x128.size inb').toLoadRect = w := by
  funext y
  obtain ⟨r, l, rfl⟩ : ∃ (r : Fin 2048) (l : Fin 128), y = ix2 r l := ⟨y 0, y 1, eq_ix2 y⟩
  refine (read_rows (o := 0) (n := 2048) v _ inb' r l (by omega)).trans ?_
  exact canon_in (o := 0) (n := 2048) L inb w r l (by omega)

variable (i : grid0.Coords) (arg3 : Memref sig .tc .vmem S1x2048x128 .bf16)
  (arg4 : Memref sig .tc .vmem S1x16384x128 .bf16) (arg5 : Memref sig .tc .vmem S1x16384x128 .bf16)
  (arg7 : Memref sig .tc .vmem S2048x128 .f32) (arg8 : Memref sig .tc .vmem S2048x128 .f32)
  (X3 : BufTy.Contents (Elt Ideal) arg3.view.ty) (X4 : BufTy.Contents (Elt Ideal) arg4.view.ty) (X5 : BufTy.Contents (Elt Ideal) arg5.view.ty)
  (t : Fin (k0_t1_loop i).trips) (f7 : BufTy.Contents (Elt Ideal) arg7.view.ty) (f8 : BufTy.Contents (Elt Ideal) arg8.view.ty)

/-- The queries as a turn loads them. -/
abbrev qAt : FVec Ideal S1x2048x128 .bf16 :=
  View.readAt (Elt Ideal) arg3.view (Rect.unit (s := S1x2048x128) ![0, 0, 0] S1x2048x128.size inb_S1x2048x128_S1x2048x128_0_0_0).toLoadRect X3

/-- A turn's tile `r` of keys, or of values. -/
abbrev kAt (a : Memref sig .tc .vmem S1x16384x128 .bf16) (X : BufTy.Contents (Elt Ideal) a.view.ty) (r : Fin 8) : FVec Ideal S1x256x128 .bf16 :=
  View.readAt (Elt Ideal) a.view (Rect.unit (s := S1x16384x128) (k0_off2 i t (BitVec.ofNat 32 r.val)) S1x256x128.size (k0_off2_inb i t r)).toLoadRect X

/-- A scratch buffer as a turn loads it. -/
abbrev sAt (a : Memref sig .tc .vmem S2048x128 .f32) (f : BufTy.Contents (Elt Ideal) a.view.ty) : FVec Ideal S2048x128 .f32 :=
  View.readAt (Elt Ideal) a.view (Rect.unit (s := S2048x128) ![0, 0] S2048x128.size inb_S2048x128_S2048x128_0_0).toLoadRect f

/-- The running sums after the first `n` tiles of a turn, the last tile of the block first. -/
def carAt : ℕ → FVec Ideal S2048x128 .f32
  | 0 => sAt arg8 f8
  | n + 1 => tileCar (qAt arg3 X3) (kAt i t arg4 X4 ⟨7 - n, by omega⟩) (carAt n)

/-- The output after the first `n` tiles of a turn. -/
def accAt : ℕ → FVec Ideal S2048x128 .f32
  | 0 => sAt arg7 f7
  | n + 1 => tileAcc (qAt arg3 X3) (kAt i t arg4 X4 ⟨7 - n, by omega⟩) (kAt i t arg5 X5 ⟨7 - n, by omega⟩)
      (carAt i arg3 arg4 arg8 X3 X4 t f8 n) (accAt n)

theorem car_eq1 : trip_k0_t1.sl.v782 i arg3 arg4 arg8 k0_pay132 X3 X4 t f8 = carAt i arg3 arg4 arg8 X3 X4 t f8 1 := by
  rfl

theorem acc_eq1 : trip_k0_t1.sl.v776 i arg3 arg4 arg5 arg7 arg8 k0_pay132 X3 X4 X5 t f7 f8 = accAt i arg3 arg4 arg5 arg7 arg8 X3 X4 X5 t f7 f8 1 := by
  rfl

theorem car_eq2 : trip_k0_t1.sl.v806 i arg3 arg4 arg8 k0_pay132 X3 X4 t f8 = carAt i arg3 arg4 arg8 X3 X4 t f8 2 := by
  have h : trip_k0_t1.sl.v790 i arg3 arg4 arg8 k0_pay132 X3 X4 t f8 = carAt i arg3 arg4 arg8 X3 X4 t f8 1 :=
    (readCov_full arg8.view _ _ _ _).trans (car_eq1 i arg3 arg4 arg8 X3 X4 t f8)
  refine Eq.trans ?_ (congrArg (tileCar (qAt arg3 X3) (kAt i t arg4 X4 ⟨7 - 1, by omega⟩)) h)
  rfl

theorem acc_eq2 : trip_k0_t1.sl.v800 i arg3 arg4 arg5 arg7 arg8 k0_pay132 X3 X4 X5 t f7 f8 = accAt i arg3 arg4 arg5 arg7 arg8 X3 X4 X5 t f7 f8 2 := by
  have h : trip_k0_t1.sl.v790 i arg3 arg4 arg8 k0_pay132 X3 X4 t f8 = carAt i arg3 arg4 arg8 X3 X4 t f8 1 :=
    (readCov_full arg8.view _ _ _ _).trans (car_eq1 i arg3 arg4 arg8 X3 X4 t f8)
  have h' : trip_k0_t1.sl.v794 i arg3 arg4 arg5 arg7 arg8 k0_pay132 X3 X4 X5 t f7 f8 = accAt i arg3 arg4 arg5 arg7 arg8 X3 X4 X5 t f7 f8 1 :=
    (readCov_full arg7.view _ _ _ _).trans (acc_eq1 i arg3 arg4 arg5 arg7 arg8 X3 X4 X5 t f7 f8)
  refine Eq.trans ?_ (congrArg₂ (tileAcc (qAt arg3 X3) (kAt i t arg4 X4 ⟨7 - 1, by omega⟩) (kAt i t arg5 X5 ⟨7 - 1, by omega⟩)) h h')
  rfl

theorem car_eq3 : trip_k0_t1.sl.v830 i arg3 arg4 arg8 k0_pay132 X3 X4 t f8 = carAt i arg3 arg4 arg8 X3 X4 t f8 3 := by
  have h : trip_k0_t1.sl.v814 i arg3 arg4 arg8 k0_pay132 X3 X4 t f8 = carAt i arg3 arg4 arg8 X3 X4 t f8 2 :=
    (readCov_full arg8.view _ _ _ _).trans (car_eq2 i arg3 arg4 arg8 X3 X4 t f8)
  refine Eq.trans ?_ (congrArg (tileCar (qAt arg3 X3) (kAt i t arg4 X4 ⟨7 - 2, by omega⟩)) h)
  rfl

theorem acc_eq3 : trip_k0_t1.sl.v824 i arg3 arg4 arg5 arg7 arg8 k0_pay132 X3 X4 X5 t f7 f8 = accAt i arg3 arg4 arg5 arg7 arg8 X3 X4 X5 t f7 f8 3 := by
  have h : trip_k0_t1.sl.v814 i arg3 arg4 arg8 k0_pay132 X3 X4 t f8 = carAt i arg3 arg4 arg8 X3 X4 t f8 2 :=
    (readCov_full arg8.view _ _ _ _).trans (car_eq2 i arg3 arg4 arg8 X3 X4 t f8)
  have h' : trip_k0_t1.sl.v818 i arg3 arg4 arg5 arg7 arg8 k0_pay132 X3 X4 X5 t f7 f8 = accAt i arg3 arg4 arg5 arg7 arg8 X3 X4 X5 t f7 f8 2 :=
    (readCov_full arg7.view _ _ _ _).trans (acc_eq2 i arg3 arg4 arg5 arg7 arg8 X3 X4 X5 t f7 f8)
  refine Eq.trans ?_ (congrArg₂ (tileAcc (qAt arg3 X3) (kAt i t arg4 X4 ⟨7 - 2, by omega⟩) (kAt i t arg5 X5 ⟨7 - 2, by omega⟩)) h h')
  rfl

theorem car_eq4 : trip_k0_t1.sl.v854 i arg3 arg4 arg8 k0_pay132 X3 X4 t f8 = carAt i arg3 arg4 arg8 X3 X4 t f8 4 := by
  have h : trip_k0_t1.sl.v838 i arg3 arg4 arg8 k0_pay132 X3 X4 t f8 = carAt i arg3 arg4 arg8 X3 X4 t f8 3 :=
    (readCov_full arg8.view _ _ _ _).trans (car_eq3 i arg3 arg4 arg8 X3 X4 t f8)
  refine Eq.trans ?_ (congrArg (tileCar (qAt arg3 X3) (kAt i t arg4 X4 ⟨7 - 3, by omega⟩)) h)
  rfl

theorem acc_eq4 : trip_k0_t1.sl.v848 i arg3 arg4 arg5 arg7 arg8 k0_pay132 X3 X4 X5 t f7 f8 = accAt i arg3 arg4 arg5 arg7 arg8 X3 X4 X5 t f7 f8 4 := by
  have h : trip_k0_t1.sl.v838 i arg3 arg4 arg8 k0_pay132 X3 X4 t f8 = carAt i arg3 arg4 arg8 X3 X4 t f8 3 :=
    (readCov_full arg8.view _ _ _ _).trans (car_eq3 i arg3 arg4 arg8 X3 X4 t f8)
  have h' : trip_k0_t1.sl.v842 i arg3 arg4 arg5 arg7 arg8 k0_pay132 X3 X4 X5 t f7 f8 = accAt i arg3 arg4 arg5 arg7 arg8 X3 X4 X5 t f7 f8 3 :=
    (readCov_full arg7.view _ _ _ _).trans (acc_eq3 i arg3 arg4 arg5 arg7 arg8 X3 X4 X5 t f7 f8)
  refine Eq.trans ?_ (congrArg₂ (tileAcc (qAt arg3 X3) (kAt i t arg4 X4 ⟨7 - 3, by omega⟩) (kAt i t arg5 X5 ⟨7 - 3, by omega⟩)) h h')
  rfl

theorem car_eq5 : trip_k0_t1.sl.v878 i arg3 arg4 arg8 k0_pay132 X3 X4 t f8 = carAt i arg3 arg4 arg8 X3 X4 t f8 5 := by
  have h : trip_k0_t1.sl.v862 i arg3 arg4 arg8 k0_pay132 X3 X4 t f8 = carAt i arg3 arg4 arg8 X3 X4 t f8 4 :=
    (readCov_full arg8.view _ _ _ _).trans (car_eq4 i arg3 arg4 arg8 X3 X4 t f8)
  refine Eq.trans ?_ (congrArg (tileCar (qAt arg3 X3) (kAt i t arg4 X4 ⟨7 - 4, by omega⟩)) h)
  rfl

theorem acc_eq5 : trip_k0_t1.sl.v872 i arg3 arg4 arg5 arg7 arg8 k0_pay132 X3 X4 X5 t f7 f8 = accAt i arg3 arg4 arg5 arg7 arg8 X3 X4 X5 t f7 f8 5 := by
  have h : trip_k0_t1.sl.v862 i arg3 arg4 arg8 k0_pay132 X3 X4 t f8 = carAt i arg3 arg4 arg8 X3 X4 t f8 4 :=
    (readCov_full arg8.view _ _ _ _).trans (car_eq4 i arg3 arg4 arg8 X3 X4 t f8)
  have h' : trip_k0_t1.sl.v866 i arg3 arg4 arg5 arg7 arg8 k0_pay132 X3 X4 X5 t f7 f8 = accAt i arg3 arg4 arg5 arg7 arg8 X3 X4 X5 t f7 f8 4 :=
    (readCov_full arg7.view _ _ _ _).trans (acc_eq4 i arg3 arg4 arg5 arg7 arg8 X3 X4 X5 t f7 f8)
  refine Eq.trans ?_ (congrArg₂ (tileAcc (qAt arg3 X3) (kAt i t arg4 X4 ⟨7 - 4, by omega⟩) (kAt i t arg5 X5 ⟨7 - 4, by omega⟩)) h h')
  rfl

theorem car_eq6 : trip_k0_t1.sl.v902 i arg3 arg4 arg8 k0_pay132 X3 X4 t f8 = carAt i arg3 arg4 arg8 X3 X4 t f8 6 := by
  have h : trip_k0_t1.sl.v886 i arg3 arg4 arg8 k0_pay132 X3 X4 t f8 = carAt i arg3 arg4 arg8 X3 X4 t f8 5 :=
    (readCov_full arg8.view _ _ _ _).trans (car_eq5 i arg3 arg4 arg8 X3 X4 t f8)
  refine Eq.trans ?_ (congrArg (tileCar (qAt arg3 X3) (kAt i t arg4 X4 ⟨7 - 5, by omega⟩)) h)
  rfl

theorem acc_eq6 : trip_k0_t1.sl.v896 i arg3 arg4 arg5 arg7 arg8 k0_pay132 X3 X4 X5 t f7 f8 = accAt i arg3 arg4 arg5 arg7 arg8 X3 X4 X5 t f7 f8 6 := by
  have h : trip_k0_t1.sl.v886 i arg3 arg4 arg8 k0_pay132 X3 X4 t f8 = carAt i arg3 arg4 arg8 X3 X4 t f8 5 :=
    (readCov_full arg8.view _ _ _ _).trans (car_eq5 i arg3 arg4 arg8 X3 X4 t f8)
  have h' : trip_k0_t1.sl.v890 i arg3 arg4 arg5 arg7 arg8 k0_pay132 X3 X4 X5 t f7 f8 = accAt i arg3 arg4 arg5 arg7 arg8 X3 X4 X5 t f7 f8 5 :=
    (readCov_full arg7.view _ _ _ _).trans (acc_eq5 i arg3 arg4 arg5 arg7 arg8 X3 X4 X5 t f7 f8)
  refine Eq.trans ?_ (congrArg₂ (tileAcc (qAt arg3 X3) (kAt i t arg4 X4 ⟨7 - 5, by omega⟩) (kAt i t arg5 X5 ⟨7 - 5, by omega⟩)) h h')
  rfl

theorem car_eq7 : trip_k0_t1.sl.v926 i arg3 arg4 arg8 k0_pay132 X3 X4 t f8 = carAt i arg3 arg4 arg8 X3 X4 t f8 7 := by
  have h : trip_k0_t1.sl.v910 i arg3 arg4 arg8 k0_pay132 X3 X4 t f8 = carAt i arg3 arg4 arg8 X3 X4 t f8 6 :=
    (readCov_full arg8.view _ _ _ _).trans (car_eq6 i arg3 arg4 arg8 X3 X4 t f8)
  refine Eq.trans ?_ (congrArg (tileCar (qAt arg3 X3) (kAt i t arg4 X4 ⟨7 - 6, by omega⟩)) h)
  rfl

theorem acc_eq7 : trip_k0_t1.sl.v920 i arg3 arg4 arg5 arg7 arg8 k0_pay132 X3 X4 X5 t f7 f8 = accAt i arg3 arg4 arg5 arg7 arg8 X3 X4 X5 t f7 f8 7 := by
  have h : trip_k0_t1.sl.v910 i arg3 arg4 arg8 k0_pay132 X3 X4 t f8 = carAt i arg3 arg4 arg8 X3 X4 t f8 6 :=
    (readCov_full arg8.view _ _ _ _).trans (car_eq6 i arg3 arg4 arg8 X3 X4 t f8)
  have h' : trip_k0_t1.sl.v914 i arg3 arg4 arg5 arg7 arg8 k0_pay132 X3 X4 X5 t f7 f8 = accAt i arg3 arg4 arg5 arg7 arg8 X3 X4 X5 t f7 f8 6 :=
    (readCov_full arg7.view _ _ _ _).trans (acc_eq6 i arg3 arg4 arg5 arg7 arg8 X3 X4 X5 t f7 f8)
  refine Eq.trans ?_ (congrArg₂ (tileAcc (qAt arg3 X3) (kAt i t arg4 X4 ⟨7 - 6, by omega⟩) (kAt i t arg5 X5 ⟨7 - 6, by omega⟩)) h h')
  rfl

end Cert.KernelIdeal.Gen
end
end
-- ==== Proof.Loop.lean ====
module

public import proofs.«01_k».proof.Proof.Turn

@[expose] public section
set_option maxRecDepth 16384

/-!
# The loop over the earlier blocks

Every turn takes the running sums and the output from the keys of one block on to those from the block before it on; after
the last turn they run over all keys.
-/

noncomputable section
namespace Cert.KernelIdeal.Gen
open Idealize.ShloMosaic Idealize.ShloMosaic.TcCoe SbRow

/-- A load of a whole scratch buffer reads it. -/
theorem sAt_apply (a : Memref sig .tc .vmem S2048x128 .f32) (f : BufTy.Contents (Elt Ideal) a.view.ty) (r : Fin 2048) (l : Fin 128) :
    sAt a f (ix2 r l) = a.view.read (Elt Ideal) f (ix2 r l) := by
  unfold sAt
  rw [View.readAt_eq_ld]
  refine congrArg (a.view.read (Elt Ideal) f) (funext fun b => Fin.ext ?_)
  fin_cases b
  · show 0 + 1 * (r : ℕ) = r; omega
  · show 0 + 1 * (l : ℕ) = l; omega

variable (c : Dev nD) (i : grid0.Coords) (arg3 : Memref sig .tc .vmem S1x2048x128 .bf16) (harg3 : arg3.IsWhole)
  (arg4 : Memref sig .tc .vmem S1x16384x128 .bf16) (harg4 : arg4.IsWhole) (arg5 : Memref sig .tc .vmem S1x16384x128 .bf16)
  (harg5 : arg5.IsWhole) (arg6 : Memref sig .tc .vmem S1x2048x128 .bf16) (harg6 : arg6.IsWhole)
  (arg7 : Memref sig .tc .vmem S2048x128 .f32) (harg7 : arg7.IsWhole) (arg8 : Memref sig .tc .vmem S2048x128 .f32) (harg8 : arg8.IsWhole)
  (x0 : Vec Ideal S1x2048x128 .bf16) (x1 x2 : Vec Ideal S1x16384x128 .bf16)

section turn
variable (t : Fin (k0_t1_loop i).trips) (f7 : BufTy.Contents (Elt Ideal) arg7.view.ty) (f8 : BufTy.Contents (Elt Ideal) arg8.view.ty)

/-- A tile's scores, of the rows and keys a turn loads for it. -/
theorem turn_scores (j : Fin 8) (r : Fin 2048) (s : Fin 256) :
    (∑ e : Fin 128, qAt arg3 (harg3.unread x0) (ix3 0 r e) * kAt i t arg4 (harg4.unread x1) j (ix3 0 s e) : EReal)
      = sc x0 x1 r (2048 * ((i 2).val - 1 - t.val) + 256 * j.val + s) := by
  refine Finset.sum_congr rfl fun e _ => ?_
  refine congrArg₂ (· * ·) ((read_q arg3 harg3 x0 _ _ rfl r e (by omega)).trans (congrArg x0 (congrArg (fun r => ix3 0 r e) (Fin.ext (by simp)))))
    (read_k arg4 harg4 x1 _ _ (off2 i t j) s e)

theorem carAt_eq (hf : ∀ r l, sAt arg8 f8 (ix2 r l) = later (2048 * (i 2).val + r) (sc x0 x1 r) (2048 * ((i 2).val - 1 - t.val) + 2048))
    (n : ℕ) (hn : n ≤ 8) (r : Fin 2048) (l : Fin 128) :
    carAt i arg3 arg4 arg8 (harg3.unread x0) (harg4.unread x1) t f8 n (ix2 r l)
      = later (2048 * (i 2).val + r) (sc x0 x1 r) (2048 * ((i 2).val - 1 - t.val) + 256 * (8 - n)) := by
  have ht : t.val < (i 2).val := lt_of_lt_of_eq t.isLt (trips1 i)
  have hi : (i 2).val < 8 := (i 2).isLt
  induction n with
  | zero => exact hf r l
  | succ n ih =>
    unfold carAt
    rw [tileCar_apply, ih (by omega), later_step (b := 256) (n := 2048 * ((i 2).val - 1 - t.val) + 256 * (8 - (n + 1))) _ (by omega) (by intros; omega),
      show 2048 * ((i 2).val - 1 - t.val) + 256 * (8 - (n + 1)) + 256 = 2048 * ((i 2).val - 1 - t.val) + 256 * (8 - n) by omega]
    refine congrArg _ (congrArg (tot 256) (funext fun s => ?_))
    exact (turn_scores i arg3 harg3 arg4 harg4 x0 x1 t _ r s).trans (congrArg (sc x0 x1 r) (by simp only [Fin.val_mk]; omega))

theorem accAt_eq (hf : ∀ r l, sAt arg8 f8 (ix2 r l) = later (2048 * (i 2).val + r) (sc x0 x1 r) (2048 * ((i 2).val - 1 - t.val) + 2048))
    (hg : ∀ r d, sAt arg7 f7 (ix2 r d) = outp (2048 * (i 2).val + r) (sc x0 x1 r) (vl x2 d) (2048 * ((i 2).val - 1 - t.val) + 2048))
    (n : ℕ) (hn : n ≤ 8) (r : Fin 2048) (d : Fin 128) :
    accAt i arg3 arg4 arg5 arg7 arg8 (harg3.unread x0) (harg4.unread x1) (harg5.unread x2) t f7 f8 n (ix2 r d)
      = outp (2048 * (i 2).val + r) (sc x0 x1 r) (vl x2 d) (2048 * ((i 2).val - 1 - t.val) + 256 * (8 - n)) := by
  have ht : t.val < (i 2).val := lt_of_lt_of_eq t.isLt (trips1 i)
  have hi : (i 2).val < 8 := (i 2).isLt
  induction n with
  | zero => exact hg r d
  | succ n ih =>
    unfold accAt
    rw [tileAcc_apply _ _ _ _ _ r d _ (carAt_eq i arg3 harg3 arg4 harg4 arg8 x0 x1 t f8 hf n (by omega) r), ih (by omega),
      outp_step (b := 256) (n := 2048 * ((i 2).val - 1 - t.val) + 256 * (8 - (n + 1))) _ _ (by omega) (by intros; omega),
      show 2048 * ((i 2).val - 1 - t.val) + 256 * (8 - (n + 1)) + 256 = 2048 * ((i 2).val - 1 - t.val) + 256 * (8 - n) by omega]
    refine congrArg _ (congrArg₂ (fun Z V => part 256 Z V _) (funext fun s => ?_) (funext fun s => ?_))
    · exact (turn_scores i arg3 harg3 arg4 harg4 x0 x1 t _ r s).trans (congrArg (sc x0 x1 r) (by simp only [Fin.val_mk]; omega))
    · exact (read_k arg5 harg5 x2 _ _ (off2 i t _) s d).trans (congrArg (vl x2 d) (by simp only [Fin.val_mk]; omega))

/-- What a turn leaves in the buffer of running sums. -/
theorem turn_car (X3 : BufTy.Contents (Elt Ideal) arg3.view.ty) (X4 : BufTy.Contents (Elt Ideal) arg4.view.ty) (X5 : BufTy.Contents (Elt Ideal) arg5.view.ty) :
    arg8.view.read (Elt Ideal) (arg8.view.writes (Elt Ideal) f8 ((tripL_k0_t1 (F := Ideal) Variants.none c none i arg3 harg3 arg4 harg4 arg5 harg5 arg6 harg6 arg7 harg7
      arg8 harg8 (BitVec.ofNat 32 (i 2).val) k0_pay132 1#32 0#32 0#32 X3 X4 X5 t f7 f8).2))
      = carAt i arg3 arg4 arg8 X3 X4 t f8 8 := by
  unfold tripL_k0_t1 trip_k0_t1
  dsimp only
  refine (View.read_writes_full _ _ _ _ _).trans ?_
  have h : trip_k0_t1.sl.v934 i arg3 arg4 arg8 k0_pay132 X3 X4 t f8 = carAt i arg3 arg4 arg8 X3 X4 t f8 7 :=
    (readCov_full arg8.view _ _ _ _).trans (car_eq7 i arg3 arg4 arg8 X3 X4 t f8)
  refine Eq.trans ?_ (congrArg (tileCar (qAt arg3 X3) (kAt i t arg4 X4 ⟨7 - 7, by omega⟩)) h)
  rfl

/-- What a turn leaves in the output buffer. -/
theorem turn_acc (X3 : BufTy.Contents (Elt Ideal) arg3.view.ty) (X4 : BufTy.Contents (Elt Ideal) arg4.view.ty) (X5 : BufTy.Contents (Elt Ideal) arg5.view.ty) :
    arg7.view.read (Elt Ideal) (arg7.view.writes (Elt Ideal) f7 ((tripL_k0_t1 (F := Ideal) Variants.none c none i arg3 harg3 arg4 harg4 arg5 harg5 arg6 harg6 arg7 harg7
      arg8 harg8 (BitVec.ofNat 32 (i 2).val) k0_pay132 1#32 0#32 0#32 X3 X4 X5 t f7 f8).1))
      = accAt i arg3 arg4 arg5 arg7 arg8 X3 X4 X5 t f7 f8 8 := by
  unfold tripL_k0_t1 trip_k0_t1
  dsimp only
  refine (View.read_writes_full _ _ _ _ _).trans ?_
  have h : trip_k0_t1.sl.v934 i arg3 arg4 arg8 k0_pay132 X3 X4 t f8 = carAt i arg3 arg4 arg8 X3 X4 t f8 7 :=
    (readCov_full arg8.view _ _ _ _).trans (car_eq7 i arg3 arg4 arg8 X3 X4 t f8)
  have h' : trip_k0_t1.sl.v938 i arg3 arg4 arg5 arg7 arg8 k0_pay132 X3 X4 X5 t f7 f8 = accAt i arg3 arg4 arg5 arg7 arg8 X3 X4 X5 t f7 f8 7 :=
    (readCov_full arg7.view _ _ _ _).trans (acc_eq7 i arg3 arg4 arg5 arg7 arg8 X3 X4 X5 t f7 f8)
  refine Eq.trans ?_ (congrArg₂ (tileAcc (qAt arg3 X3) (kAt i t arg4 X4 ⟨7 - 7, by omega⟩) (kAt i t arg5 X5 ⟨7 - 7, by omega⟩)) h h')
  rfl

end turn

/-- The stores of the first `n` turns over the contents `G7`, `G8`. -/
abbrev turns (G7 : BufTy.Contents (Elt Ideal) arg7.view.ty) (G8 : BufTy.Contents (Elt Ideal) arg8.view.ty) (n : ℕ) :=
  pb_k0_t1 (F := Ideal) Variants.none c none i arg3 harg3 arg4 harg4 arg5 harg5 arg6 harg6 arg7 harg7
      arg8 harg8 (BitVec.ofNat 32 (i 2).val) k0_pay132 1#32 0#32 0#32 (harg3.unread x0) (harg4.unread x1) (harg5.unread x2) G7 G8 n

/-- After `n` turns the buffers run over the keys from block `i - n` on. -/
theorem turns_eq (G7 : BufTy.Contents (Elt Ideal) arg7.view.ty) (G8 : BufTy.Contents (Elt Ideal) arg8.view.ty)
    (h8 : ∀ r l, arg8.view.read (Elt Ideal) G8 (ix2 r l) = later (2048 * (i 2).val + r) (sc x0 x1 r) (2048 * (i 2).val))
    (h7 : ∀ r d, arg7.view.read (Elt Ideal) G7 (ix2 r d) = outp (2048 * (i 2).val + r) (sc x0 x1 r) (vl x2 d) (2048 * (i 2).val))
    (n : ℕ) (hn : n ≤ (i 2).val) :
    (∀ r l, arg8.view.read (Elt Ideal) (arg8.view.writes (Elt Ideal) G8
        (turns c i arg3 harg3 arg4 harg4 arg5 harg5 arg6 harg6 arg7 harg7 arg8 harg8 x0 x1 x2 G7 G8 n).2) (ix2 r l)
        = later (2048 * (i 2).val + r) (sc x0 x1 r) (2048 * ((i 2).val - n))) ∧
    (∀ r d, arg7.view.read (Elt Ideal) (arg7.view.writes (Elt Ideal) G7
        (turns c i arg3 harg3 arg4 harg4 arg5 harg5 arg6 harg6 arg7 harg7 arg8 harg8 x0 x1 x2 G7 G8 n).1) (ix2 r d)
        = outp (2048 * (i 2).val + r) (sc x0 x1 r) (vl x2 d) (2048 * ((i 2).val - n))) := by
  induction n with
  | zero => exact ⟨h8, h7⟩
  | succ n ih =>
    obtain ⟨ih8, ih7⟩ := ih (by omega)
    have hs := pb_k0_t1_succ (F := Ideal) Variants.none c none i arg3 harg3 arg4 harg4 arg5 harg5 arg6 harg6 arg7 harg7
      arg8 harg8 (BitVec.ofNat 32 (i 2).val) k0_pay132 1#32 0#32 0#32 (harg3.unread x0) (harg4.unread x1) (harg5.unread x2) G7 G8
      ⟨n, by rw [trips1]; omega⟩
    dsimp only at hs
    unfold turns at ih8 ih7 ⊢
    rw [hs]
    dsimp only
    rw [View.writes_append, View.writes_append, turn_car, turn_acc]
    have e : 2048 * ((i 2).val - n) = 2048 * ((i 2).val - 1 - n) + 2048 := by omega
    have e' : 2048 * ((i 2).val - (n + 1)) = 2048 * ((i 2).val - 1 - n) + 256 * (8 - 8) := by omega
    rw [e] at ih8 ih7
    rw [e']
    generalize arg8.view.writes (Elt Ideal) G8 _ = f8 at ih8 ⊢
    generalize arg7.view.writes (Elt Ideal) G7 _ = f7 at ih7 ⊢
    have hf := fun r l => (sAt_apply arg8 f8 r l).trans (ih8 r l)
    have hg := fun r d => (sAt_apply arg7 f7 r d).trans (ih7 r d)
    exact ⟨carAt_eq i arg3 harg3 arg4 harg4 arg8 x0 x1 ⟨n, by rw [trips1]; omega⟩ f8 hf 8 le_rfl,
      accAt_eq i arg3 harg3 arg4 harg4 arg5 harg5 arg7 arg8 x0 x1 x2 ⟨n, by rw [trips1]; omega⟩ f7 f8 hf hg 8 le_rfl⟩

/-- The output buffer at the end: every row's output over all keys. -/
theorem final_acc (r : Fin 2048) (d : Fin 128) :
    kernelRun0_A.sl.v504 c i arg3 harg3 arg4 harg4 arg5 harg5 arg6 harg6 arg7 harg7 arg8 harg8 x0 x1 x2 (ix2 r d)
      = outp (2048 * (i 2).val + r) (sc x0 x1 r) (vl x2 d) 0 := by
  unfold kernelRun0_A.sl.v504
  refine (read_rows (o := 0) (n := 2048) arg7.view _ _ r d (by omega)).trans ?_
  rw [show (⟨0 + (r : ℕ), by omega⟩ : Fin 2048) = r from Fin.ext (by simp)]
  rw [← View.read_writes_junk_eq_canon arg7.view, View.writes_append,
    show Scf.trips (k0_t2_loop i).lb (k0_t2_loop i).ub (k0_t2_loop i).st = 0 from trips2 i, pb_k0_t2.eq_1,
    show Scf.trips (k0_t1_loop i).lb (k0_t1_loop i).ub (k0_t1_loop i).st = (i 2).val from trips1 i, View.writes_append]
  have h8 : ∀ r l, arg8.view.read (Elt Ideal) (arg8.view.writes (Elt Ideal) arg8.view.junk
      (kernelRun0_A.sl.HS1_9 c i arg3 harg3 arg4 harg4 arg8 x0 x1)) (ix2 r l) = later (2048 * (i 2).val + r) (sc x0 x1 r) (2048 * (i 2).val) := fun r l => by
    rw [View.read_writes_junk_eq_canon]
    exact after_car0 c i arg3 harg3 arg4 harg4 arg8 x0 x1 r l
  have h7 : ∀ r d, arg7.view.read (Elt Ideal) (arg7.view.writes (Elt Ideal) arg7.view.junk
      (kernelRun0_A.sl.HS0_9 c i arg3 harg3 arg4 harg4 arg5 harg5 arg7 arg8 x0 x1 x2)) (ix2 r d)
      = outp (2048 * (i 2).val + r) (sc x0 x1 r) (vl x2 d) (2048 * (i 2).val) := fun r d => by
    rw [View.read_writes_junk_eq_canon]
    exact after_acc0 c i arg3 harg3 arg4 harg4 arg5 harg5 arg7 arg8 x0 x1 x2 r d
  generalize arg8.view.writes (Elt Ideal) arg8.view.junk (kernelRun0_A.sl.HS1_9 c i arg3 harg3 arg4 harg4 arg8 x0 x1) = G8 at h8 ⊢
  generalize arg7.view.writes (Elt Ideal) arg7.view.junk (kernelRun0_A.sl.HS0_9 c i arg3 harg3 arg4 harg4 arg5 harg5 arg7 arg8 x0 x1 x2) = G7 at h7 ⊢
  have T := (turns_eq c i arg3 harg3 arg4 harg4 arg5 harg5 arg6 harg6 arg7 harg7 arg8 harg8 x0 x1 x2 G7 G8 h8 h7 (i 2).val le_rfl).2 r d
  rw [Nat.sub_self, Nat.mul_zero] at T
  exact T

/-- What a block writes back. -/
theorem pay5_apply (w : FVec Ideal S2048x128 .f32) (r : Fin 2048) (d : Fin 128) : k0_pay5 (F := Ideal) w (ix3 0 r d) = w (ix2 r d) := by
  pointwise [k0_pay5]

end Cert.KernelIdeal.Gen
end
end
-- ==== Proof.Blocks.lean ====
module

public import proofs.«01_k».proof.Proof.Gen.KernelIdeal.Value
public import Idealize.ShloMosaic.Lib.Pipeline.ValueKit.Geometry
public import proofs.«01_k».proof.Proof.Loop

@[expose] public section
set_option maxRecDepth 16384

/-!
# The array the kernel writes

Grid point `64 b + 8 h + i` writes rows `2048 i` to `2048 i + 2047` of head `h` of sequence `b`; together the points write
the attention of the array the windows read.
-/

noncomputable section
namespace Cert.KernelIdeal.Gen
open Idealize.ShloMosaic Idealize.ShloMosaic.TcCoe SbRow
open Idealize.ShloMosaic.Pipeline (Dat)

variable (m : (ℓ : Loc nD τ sig) → Buf (Elt Ideal) ℓ) (c : Dev nD)

theorem index0 : ∀ t : Fin grid0.N, win0_0.index t = ![t.val / 64, t.val % 8, t.val / 8 % 8] := by decide +kernel
theorem index1 : ∀ t : Fin grid0.N, win0_1.index t = ![t.val / 64, 0, 8 + t.val / 8 % 8] := by decide +kernel
theorem index2 : ∀ t : Fin grid0.N, win0_2.index t = ![t.val / 64, 0, 16 + t.val / 8 % 8] := by decide +kernel
theorem index3 : ∀ t : Fin grid0.N, win0_3.index t = ![t.val / 64, t.val % 8, t.val / 8 % 8] := by decide +kernel
theorem coord2 : ∀ t : Fin grid0.N, (grid0.coords t 2).val = t.val % 8 := by decide +kernel
theorem point_lt (t : Fin cfg0.N) : t.val < 128 := lt_of_lt_of_eq t.isLt (by decide +kernel)

/-- The sequence of a grid point. -/
def seqOf (t : Fin cfg0.N) : Fin 2 := ⟨t.val / 64, by have := point_lt t; omega⟩
/-- The head of a grid point. -/
def headOf (t : Fin cfg0.N) : Fin 8 := ⟨t.val / 8 % 8, by omega⟩

theorem q_block (t : Fin cfg0.N) (r : Fin 2048) (e : Fin 128) :
    iblk m c 0 t (ix3 0 r e) = V m c main_v11 (ix3 (seqOf t) (key (2048 * (t.val % 8) + r)) (col 0 (headOf t) e)) := by
  unfold iblk
  refine congrArg (V m c main_v11) (funext fun a => Fin.ext ?_)
  fin_cases a
  · blk_simp [index0 t]; rfl
  · blk_simp [index0 t]
    show t.val % 8 * 2048 + (r : ℕ) = (2048 * (t.val % 8) + r) % 16384; omega
  · blk_simp [index0 t]
    show t.val / 8 % 8 * 128 + (e : ℕ) = 1024 * 0 + 128 * (t.val / 8 % 8) + e; omega

theorem k_block (t : Fin cfg0.N) (s : Fin 16384) (e : Fin 128) :
    iblk m c 1 t (ix3 0 s e) = V m c main_v11 (ix3 (seqOf t) s (col 1 (headOf t) e)) := by
  unfold iblk
  refine congrArg (V m c main_v11) (funext fun a => Fin.ext ?_)
  fin_cases a
  · blk_simp [index1 t]; rfl
  · blk_simp [index1 t]; rfl
  · blk_simp [index1 t]
    show (8 + t.val / 8 % 8) * 128 + (e : ℕ) = 1024 * 1 + 128 * (t.val / 8 % 8) + e; omega

theorem v_block (t : Fin cfg0.N) (s : Fin 16384) (e : Fin 128) :
    iblk m c 2 t (ix3 0 s e) = V m c main_v11 (ix3 (seqOf t) s (col 2 (headOf t) e)) := by
  unfold iblk
  refine congrArg (V m c main_v11) (funext fun a => Fin.ext ?_)
  fin_cases a
  · blk_simp [index2 t]; rfl
  · blk_simp [index2 t]; rfl
  · blk_simp [index2 t]
    show (16 + t.val / 8 % 8) * 128 + (e : ℕ) = 1024 * 2 + 128 * (t.val / 8 % 8) + e; omega

/-- What a grid point's body leaves in the output block. -/
theorem out_eq (t : Fin cfg0.N) (r : Fin 2048) (d : Fin 128) :
    outsAt0 m c t (ix3 0 r d) = outp (2048 * (t.val % 8) + r) (score (V m c main_v11) (seqOf t) (headOf t) (2048 * (t.val % 8) + r))
      (value (V m c main_v11) (seqOf t) (headOf t) d) 0 := by
  unfold outsAt0 out0_A_3
  rw [View.read_writes_junk_eq_canon]
  unfold kernelRun0_A
  dsimp only
  rw [View.canon_unit_zero (S := S1x2048x128) (funext fun a => by fin_cases a <;> rfl), pay5_apply, final_acc, coord2]
  refine congrArg₂ (fun z v => outp _ z v 0) (funext fun s => ?_) (funext fun s => v_block m c t (key s) d)
  exact Finset.sum_congr rfl fun e _ => congrArg₂ (· * ·) (q_block m c t r e) (k_block m c t (key s) e)

/-- What a grid point writes back is its block of the attention. -/
theorem flushed_eq (t : Fin cfg0.N) : (dats m 0 c).flushed 3 t = ((cfg0.win 3).blk t).view.read (Elt Ideal) (attn (V m c main_v11)) := by
  rw [Value.flushed3]
  funext y
  obtain ⟨b, r, d, rfl⟩ : ∃ (b : Fin 1) (r : Fin 2048) (d : Fin 128), y = ix3 b r d := ⟨y 0, y 1, y 2, eq_ix3 y⟩
  obtain rfl : b = 0 := Subsingleton.elim _ _
  refine (out_eq m c t r d).trans ?_
  have e : ((cfg0.win 3).blk t).view.emb (ix3 0 r d) = ix3 (seqOf t) (key (2048 * (t.val % 8) + r)) ⟨128 * (t.val / 8 % 8) + d, by omega⟩ := by
    funext a
    refine Fin.ext ?_
    fin_cases a
    · blk_simp [index3 t]; rfl
    · blk_simp [index3 t]
      show t.val % 8 * 2048 + (r : ℕ) = (2048 * (t.val % 8) + r) % 16384; omega
    · blk_simp [index3 t]
      show t.val / 8 % 8 * 128 + (d : ℕ) = 128 * (t.val / 8 % 8) + d; omega
  refine Eq.trans ?_ (congrArg (attn (V m c main_v11)) e).symm
  have e1 : (2048 * (t.val % 8) + (r : ℕ)) % 16384 = 2048 * (t.val % 8) + r := by omega
  have e2 : (⟨(128 * (t.val / 8 % 8) + (d : ℕ)) / 128, by omega⟩ : Fin 8) = headOf t := Fin.ext (by show _ = t.val / 8 % 8; simp only; omega)
  have e3 : (⟨(128 * (t.val / 8 % 8) + (d : ℕ)) % 128, by omega⟩ : Fin 128) = d := Fin.ext (by simp only; omega)
  show _ = outp ((2048 * (t.val % 8) + (r : ℕ)) % 16384) (score _ (seqOf t) ⟨(128 * (t.val / 8 % 8) + (d : ℕ)) / 128, _⟩ ((2048 * (t.val % 8) + (r : ℕ)) % 16384))
    (value _ (seqOf t) ⟨(128 * (t.val / 8 % 8) + (d : ℕ)) / 128, _⟩ ⟨(128 * (t.val / 8 % 8) + (d : ℕ)) % 128, _⟩) 0
  rw [e1, e2, e3]

/-- Every entry of the output is in some point's block. -/
theorem cover (i : S2x16384x1024.Idx) : ∃ t : Fin cfg0.N, (cfg0.win 3).flush t = true ∧ i ∈ ((cfg0.win 3).blk t).view.set := by
  have h0 : (i 0 : ℕ) < 2 := (i 0).isLt
  have h1 : (i 1 : ℕ) < 16384 := (i 1).isLt
  have h2 : (i 2 : ℕ) < 1024 := (i 2).isLt
  have hN : grid0.N = 128 := by decide +kernel
  have hM : cfg0.N = 128 := hN
  refine ⟨⟨64 * (i 0 : ℕ) + 8 * ((i 2 : ℕ) / 128) + (i 1 : ℕ) / 2048, by omega⟩, (by decide +kernel : ∀ t : Fin cfg0.N, (cfg0.win 3).flush t = true) _, ?_⟩
  mem_blk [index3 ⟨64 * (i 0 : ℕ) + 8 * ((i 2 : ℕ) / 128) + (i 1 : ℕ) / 2048, by omega⟩]
  refine ⟨⟨?_, ?_⟩, ⟨?_, ?_⟩, ?_, ?_⟩ <;> simp only <;> omega

/-- The array after the run is the attention of the array the windows read. -/
theorem final_array : (dats m 0 c).arrAt 3 cfg0.N = attn (V m c main_v11) :=
  (dats m 0 c).arrAt_eq_of_cover 3 (attn (V m c main_v11)) (fun t _ => flushed_eq m c t) cover

end Cert.KernelIdeal.Gen
end
end
-- ==== Proof.Equation.lean ====
module

public import proofs.«01_k».proof.Proof.Row

@[expose] public section

/-!
# One row in base two and in base e

The kernel works with scores multiplied by `log2 e`, so that its logarithms and exponentials are of base two; the reference
uses natural logarithms. At finite scores the two rows are equal, whatever the values are.
-/

noncomputable section
namespace SbRow
open Idealize.ShloMosaic

/-- The reference's logarithm of the sigmoid. -/
def ls (y : EReal) : EReal := -(max (-y) 0 + Ideal.log1p (Ideal.exp (-(max (-y) (- -y)))))

/-- The logarithm of the sigmoid of a real number. -/
def lsr (r : ℝ) : ℝ := min r 0 - Real.log (1 + Real.exp (-|r|))

/-- One key's term of the reference's output. -/
def refTerm (t : ℕ) (y v : ℕ → EReal) (s : ℕ) : EReal :=
  (if s < t then Ideal.exp (ls (y s) + ∑ j : Fin 16384, (if (j : ℕ) < t then ls (-(y j)) else 0) * (if s < (j : ℕ) then 1 else 0)) else 0) * v s

theorem log2_pos : 0 < Real.log 2 := Real.log_pos (by norm_num)

theorem coe_max (a b : ℝ) : max (a : EReal) b = ((max a b : ℝ) : EReal) := by
  rcases le_total a b with h | h
  · rw [max_eq_right h, max_eq_right (EReal.coe_le_coe_iff.mpr h)]
  · rw [max_eq_left h, max_eq_left (EReal.coe_le_coe_iff.mpr h)]

theorem coe_min (a b : ℝ) : min (a : EReal) b = ((min a b : ℝ) : EReal) := by
  rcases le_total a b with h | h
  · rw [min_eq_left h, min_eq_left (EReal.coe_le_coe_iff.mpr h)]
  · rw [min_eq_right h, min_eq_right (EReal.coe_le_coe_iff.mpr h)]

theorem exp_coe (r : ℝ) : Ideal.exp (r : EReal) = ((Real.exp r : ℝ) : EReal) := rfl

/-- Base two at a quotient by `log 2` is base e. -/
theorem exp2_coe (r : ℝ) : Ideal.exp2 ((r / Real.log 2 : ℝ) : EReal) = ((Real.exp r : ℝ) : EReal) := by
  refine congrArg Real.toEReal ?_
  show (2 : ℝ) ^ (r / Real.log 2) = Real.exp r
  rw [Real.rpow_def_of_pos (by norm_num), mul_div_cancel₀ _ log2_pos.ne']

/-- The logarithm of one plus an exponential. -/
theorem log_one_add (r : ℝ) : Ideal.log (1 + ((Real.exp r : ℝ) : EReal)) = ((Real.log (1 + Real.exp r) : ℝ) : EReal) := by
  have h : (1 : EReal) + ((Real.exp r : ℝ) : EReal) = ((1 + Real.exp r : ℝ) : EReal) := by push_cast; rfl
  rw [h]
  show (if 1 + Real.exp r ≤ 0 then (⊥ : EReal) else _) = _
  rw [if_neg (by have := Real.exp_pos r; linarith)]

theorem ls_coe (r : ℝ) : ls (r : EReal) = ((lsr r : ℝ) : EReal) := by
  unfold ls lsr Ideal.log1p
  rw [← EReal.coe_neg, ← EReal.coe_neg, coe_max, ← EReal.coe_neg, exp_coe, log_one_add, ← EReal.coe_zero, coe_max, ← EReal.coe_add, ← EReal.coe_neg]
  refine congrArg Real.toEReal ?_
  have h : max (-r) (- -r) = |r| := by rw [neg_neg, max_comm]; rfl
  have h2 : max (-r) 0 = -min r 0 := by rw [← neg_zero, max_neg_neg, neg_zero]
  rw [h, h2]; ring

/-- The complement's logarithm. -/
theorem lsr_neg (r : ℝ) : lsr (-r) = lsr r - r := by
  unfold lsr
  rw [abs_neg]
  rcases le_total r 0 with h | h
  · rw [min_eq_left h, min_eq_right (by linarith)]; ring
  · rw [min_eq_right h, min_eq_left (by linarith)]; ring

/-- The kernel's logarithm is the reference's over `log 2`. -/
theorem lb_coe (r : ℝ) : lb ((r / Real.log 2 : ℝ) : EReal) = ((lsr r / Real.log 2 : ℝ) : EReal) := by
  unfold lb log2e lsr
  have h0 : (0 : EReal) - max ((r / Real.log 2 : ℝ) : EReal) (-((r / Real.log 2 : ℝ) : EReal)) = ((-|r| / Real.log 2 : ℝ) : EReal) := by
    rw [← EReal.coe_neg, coe_max, ← EReal.coe_zero, ← EReal.coe_sub]
    refine congrArg Real.toEReal ?_
    rw [show max (r / Real.log 2) (-(r / Real.log 2)) = |r / Real.log 2| from rfl, abs_div, abs_of_pos log2_pos]; ring
  rw [h0, exp2_coe, log_one_add, ← EReal.coe_zero, coe_min, ← EReal.coe_mul, ← EReal.coe_sub]
  refine congrArg Real.toEReal ?_
  have h1 : min (r / Real.log 2) 0 = min r 0 / Real.log 2 := by rw [← min_div_div_right log2_pos.le, zero_div]
  rw [h1]; ring

/-- The complement's logarithm at a real score, in base two. -/
theorem lom_coe (t : ℕ) (z : ℕ → EReal) (r : ℕ → ℝ) (hz : ∀ s, z s = ((r s / Real.log 2 : ℝ) : EReal)) (s : ℕ) :
    lom t z s = (((if s < t then lsr (-(r s)) else 0) / Real.log 2 : ℝ) : EReal) := by
  unfold lom
  split
  · rw [hz, lb_coe, ← EReal.coe_sub, lsr_neg, sub_div]
  · rw [zero_div, EReal.coe_zero]

theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A sum over the positions after `s` as a sum over all positions. -/
theorem sum_later (f : ℕ → ℝ) (s N : ℕ) : ∑ j ∈ Finset.Ico (s + 1) N, f j = ∑ j : Fin N, f j * (if s < (j : ℕ) then 1 else 0) := by
  rw [Fin.sum_univ_eq_sum_range (fun j => f j * (if s < j then (1 : ℝ) else 0)) N]
  simp only [mul_ite, mul_one, mul_zero]
  rw [← Finset.sum_filter]
  refine Finset.sum_congr ?_ fun _ _ => rfl
  ext j
  simp only [Finset.mem_Ico, Finset.mem_filter, Finset.mem_range]
  omega

/-- The sum over the later keys, in base two. -/
theorem later_coe (t : ℕ) (z : ℕ → EReal) (r : ℕ → ℝ) (hz : ∀ s, z s = ((r s / Real.log 2 : ℝ) : EReal)) (s : ℕ) :
    later t z (s + 1) = (((∑ j : Fin 16384, (if (j : ℕ) < t then lsr (-(r j)) else 0) * (if s < (j : ℕ) then 1 else 0)) / Real.log 2 : ℝ) : EReal) := by
  unfold later
  rw [Finset.sum_congr rfl fun j _ => lom_coe t z r hz j, coe_sum, ← Finset.sum_div,
    sum_later (fun j => if j < t then lsr (-(r j)) else 0) s 16384]

/-- A row of the kernel is the row of the reference. -/
theorem row_eq (t : ℕ) (z y v : ℕ → EReal) (r : ℕ → ℝ) (hz : ∀ s, z s = ((r s / Real.log 2 : ℝ) : EReal)) (hy : ∀ s, y s = ((r s : ℝ) : EReal)) :
    outp t z v 0 = ∑ s : Fin 16384, refTerm t y v s := by
  unfold outp
  rw [← Finset.range_eq_Ico, Finset.sum_range]
  refine Finset.sum_congr rfl fun s _ => ?_
  unfold term refTerm
  split
  · refine congrArg (· * v s) ?_
    rw [later_coe t z r hz, hz, lb_coe, ← EReal.coe_add, ← add_div, exp2_coe, hy, ls_coe]
    rw [Finset.sum_congr rfl fun (j : Fin 16384) _ => show (if (j : ℕ) < t then ls (-(y j)) else 0) * (if (s : ℕ) < (j : ℕ) then (1 : EReal) else 0)
      = (((if (j : ℕ) < t then lsr (-(r j)) else 0) * (if (s : ℕ) < (j : ℕ) then 1 else 0) : ℝ) : EReal) from ?_, coe_sum, ← EReal.coe_add, exp_coe]
    rw [hy, ← EReal.coe_neg, ls_coe]
    split <;> split <;> simp
  · rw [zero_mul]

end SbRow
end
end
-- ==== Proof.Prefix.lean ====
module

public import proofs.«01_k».proof.Proof.Blocks
public import proofs.«01_k».proof.Proof.Equation
public import proofs.«01_k».proof.Proof.Gen.Pre_finite_queries_keys
public import Idealize.ShloMosaic.Lib.ReduceAll
public import Idealize.ShloMosaic.Lib.StableHlo.ReadAt

@[expose] public section
set_option maxRecDepth 16384

/-!
# What the windows read, and what the precondition says

The array the windows read is the argument with its query columns multiplied by the scale over `log 2`. The precondition says
that every query and key entry of the argument is a real number.
-/

noncomputable section
namespace Cert.KernelIdeal.Gen
open Idealize.ShloMosaic Idealize.ShloMosaic.TcCoe SbRow

variable (m : (ℓ : Loc nD τ sig) → Buf (Elt Ideal) ℓ) (c : Dev nD)

/-- The argument array. -/
abbrev argOf : (⟨3, ![2, 16384, 6144]⟩ : Shape).Idx → EReal := m ((c : Thread nD τ).loc main_arg0)

/-- The word of one. -/
theorem one_word : Ideal.ofBits .f32 0x3F800000#32 = 1 := by
  simp [Ideal.ofBits, Ideal.ieee]
  rw [← EReal.coe_mul, ← EReal.coe_one]
  norm_num

theorem staged (b : Fin 2) (t : Fin 16384) (n : Fin 6144) :
    V m c main_v11 (ix3 b t n) = argOf m c (ix3 b t n) *
      (if (n : ℕ) < 1024 then Ideal.div (Ideal.ofBits .f32 0x3DB504F3#32) (Ideal.log (Ideal.ofBits .f32 0x40000000#32)) else 1) := by
  unfold V
  after_reads_at
  exact congrArg (argOf m c (ix3 b t n) * ·) ((select_slt (by omega) (by norm_num) _ _).trans (if_congr Iff.rfl rfl one_word))

/-- The word of two. -/
theorem two_word : Ideal.ofBits .f32 0x40000000#32 = ((2 : ℝ) : EReal) := by
  simp [Ideal.ofBits, Ideal.ieee]
  rw [← EReal.coe_mul]
  norm_num

/-- The scale of the scores is a real number. -/
theorem scale_word : ∃ r : ℝ, Ideal.ofBits .f32 0x3DB504F3#32 = (r : EReal) := by
  simp only [Ideal.ofBits, Ideal.ieee]
  exact ⟨_, rfl⟩

/-- The scale of the scores. -/
def scl : ℝ := scale_word.choose
theorem scl_eq : Ideal.ofBits .f32 0x3DB504F3#32 = (scl : EReal) := scale_word.choose_spec

/-- The scale over `log 2`. -/
theorem scl_div : Ideal.div (Ideal.ofBits .f32 0x3DB504F3#32) (Ideal.log (Ideal.ofBits .f32 0x40000000#32)) = ((scl / Real.log 2 : ℝ) : EReal) := by
  have h : Ideal.log ((2 : ℝ) : EReal) = ((Real.log 2 : ℝ) : EReal) := by
    show (if (2 : ℝ) ≤ 0 then (⊥ : EReal) else _) = _
    rw [if_neg (by norm_num)]
  rw [two_word, h, scl_eq]
  unfold Ideal.div
  rw [if_neg (by rw [← EReal.coe_zero]; exact fun e => log2_pos.ne' (EReal.coe_injective e))]
  rw [← EReal.coe_inv, ← EReal.coe_mul, div_eq_mul_inv]

/-- The precondition, read: every query and key entry is a real number. -/
theorem finite_of_pre (h : Cert.Pre_finite_queries_keys.fn (F := Ideal) (m ((c : Thread nD τ).loc main_arg0)) = fun _ => 1#1)
    (b : Fin 2) (t : Fin 16384) (n : Fin 2048) : ∃ r : ℝ, argOf m c (ix3 b t ⟨n, by omega⟩) = (r : EReal) := by
  have e := congrFun h ix0
  haveI : Subsingleton Cert.Pre_finite_queries_keys.S_.Idx := ⟨fun x y => funext fun a => a.elim0⟩
  have e2 := Host.reduce_andi_all _ _ _ _ _ e (ix3 b t n)
  have hs := extractStridedSlice_apply (t := Cert.Pre_finite_queries_keys.S2x16384x2048) ![0, 0, 0] (argOf m c)
    Cert.Pre_finite_queries_keys.Facts.slices_S2x16384x6144_S2x16384x2048_0_0_0 (ix3 b t n) (ix3 b t ⟨n, by omega⟩)
    (fun a => by fin_cases a <;> exact (Nat.zero_add _).symm)
  have e3 : Ideal.cmp .olt (max (argOf m c (ix3 b t ⟨n, by omega⟩)) (-(argOf m c (ix3 b t ⟨n, by omega⟩)))) (Ideal.ofBits .f32 0x7F800000#32) = 1#1 := by
    rw [← hs]; exact e2
  have top_word : Ideal.ofBits .f32 0x7F800000#32 = ⊤ := by simp [Ideal.ofBits, Ideal.ieee]
  rw [top_word] at e3
  have e4 : max (argOf m c (ix3 b t ⟨n, by omega⟩)) (-(argOf m c (ix3 b t ⟨n, by omega⟩))) < ⊤ := by
    by_contra hc
    simp [Ideal.cmp, hc] at e3
  have e5 := lt_of_le_of_lt (le_max_left _ _) e4
  have e6 := lt_of_le_of_lt (le_max_right _ _) e4
  refine ⟨_, (EReal.coe_toReal e5.ne fun hb => ?_).symm⟩
  rw [hb] at e6
  exact lt_irrefl _ e6

/-- The real number an entry is. -/
abbrev num (b : Fin 2) (t : Fin 16384) (n : Fin 6144) : ℝ := (argOf m c (ix3 b t n)).toReal

/-- The score of position `t` at key `s`, a real number. -/
def rscore (b : Fin 2) (h : Fin 8) (t s : ℕ) : ℝ :=
  (∑ e : Fin 128, num m c b (key t) (col 0 h e) * num m c b (key s) (col 1 h e)) * scl

variable (hfin : ∀ (b : Fin 2) (t : Fin 16384) (n : Fin 2048), ∃ r : ℝ, argOf m c (ix3 b t ⟨n, by omega⟩) = (r : EReal))
include hfin

theorem num_q (b : Fin 2) (t : Fin 16384) (h : Fin 8) (e : Fin 128) : argOf m c (ix3 b t (col 0 h e)) = (num m c b t (col 0 h e) : EReal) := by
  obtain ⟨r, hr⟩ := hfin b t ⟨128 * h + e, by omega⟩
  have e1 : (⟨128 * (h : ℕ) + e, by omega⟩ : Fin 6144) = col 0 h e := Fin.ext (show 128 * (h : ℕ) + e = 1024 * 0 + 128 * h + e by omega)
  rw [num, ← e1, hr, EReal.toReal_coe]

theorem num_k (b : Fin 2) (t : Fin 16384) (h : Fin 8) (e : Fin 128) : argOf m c (ix3 b t (col 1 h e)) = (num m c b t (col 1 h e) : EReal) := by
  obtain ⟨r, hr⟩ := hfin b t ⟨1024 + 128 * h + e, by omega⟩
  have e1 : (⟨1024 + 128 * (h : ℕ) + e, by omega⟩ : Fin 6144) = col 1 h e := Fin.ext (show 1024 + 128 * (h : ℕ) + e = 1024 * 1 + 128 * h + e by omega)
  rw [num, ← e1, hr, EReal.toReal_coe]

/-- The scores of the array the windows read are the real scores over `log 2`. -/
theorem score_staged (b : Fin 2) (h : Fin 8) (t s : ℕ) : score (V m c main_v11) b h t s = ((rscore m c b h t s / Real.log 2 : ℝ) : EReal) := by
  unfold score rscore
  rw [Finset.sum_mul, Finset.sum_div, ← coe_sum]
  refine Finset.sum_congr rfl fun e _ => ?_
  have h0 : ((col 0 h e : Fin 6144) : ℕ) < 1024 := by show 1024 * 0 + 128 * (h : ℕ) + e < 1024; omega
  have h1 : ¬ ((col 1 h e : Fin 6144) : ℕ) < 1024 := by show ¬ 1024 * 1 + 128 * (h : ℕ) + e < 1024; omega
  rw [staged, staged, if_pos h0, if_neg h1, mul_one, scl_div, num_q m c hfin, num_k m c hfin, ← EReal.coe_mul, ← EReal.coe_mul]
  refine congrArg Real.toEReal ?_
  ring

omit hfin in
/-- The values of the array the windows read are the argument's. -/
theorem value_staged (b : Fin 2) (h : Fin 8) (d : Fin 128) : value (V m c main_v11) b h d = fun s => argOf m c (ix3 b (key s) (col 2 h d)) := by
  funext s
  have h1 : ¬ ((col 2 h d : Fin 6144) : ℕ) < 1024 := by show ¬ 1024 * 2 + 128 * (h : ℕ) + d < 1024; omega
  unfold value
  rw [staged, if_neg h1, mul_one]

end Cert.KernelIdeal.Gen
end
end
-- ==== Proof.Formula.lean ====
module

public import proofs.«01_k».proof.Proof.Equation
public import proofs.«01_k».proof.Proof.Gen.ReferenceIdeal.Read

@[expose] public section
set_option maxRecDepth 16384

/-!
# What the reference computes

Its operations read one after another: the scores, the two logarithms, the sum over the later keys, the weights, the output.
-/

noncomputable section
namespace Cert.ReferenceIdeal.Read
open Idealize.ShloMosaic SbRow

variable (x : (⟨3, ![2, 16384, 6144]⟩ : Shape).Idx → EReal)

/-- The reference's score. -/
def rsc (b : Fin 2) (h : Fin 8) (t s : ℕ) : EReal :=
  (∑ e : Fin 128, x (ix3 b (key t) (col 0 h e)) * x (ix3 b (key s) (col 1 h e))) * Ideal.ofBits .f32 0x3DB504F3#32

theorem key_val (t : Fin 16384) : key t = t := Fin.ext (Nat.mod_eq_of_lt t.isLt)

theorem q_at (b : Fin 2) (h : Fin 8) (t : Fin 16384) (e : Fin 128) : val_main_v2 (F := Ideal) x (ix4 b h t e) = x (ix3 b t (col 0 h e)) := by
  rw [val_main_v2_apply, val_main_v1_apply, val_main_v0_apply]
  refine congrArg x (funext fun a => Fin.ext ?_)
  fin_cases a
  · show ((((b : ℕ) * 16384 + t) * 8 + h) * 128 + e) / 16777216 = b; omega
  · show ((((b : ℕ) * 16384 + t) * 8 + h) * 128 + e) / 1024 % 16384 = t; omega
  · show ((((b : ℕ) * 16384 + t) * 8 + h) * 128 + e) % 1024 = 1024 * 0 + 128 * h + e; omega

theorem k_at (b : Fin 2) (h : Fin 8) (t : Fin 16384) (e : Fin 128) : val_main_v5 (F := Ideal) x (ix4 b h t e) = x (ix3 b t (col 1 h e)) := by
  rw [val_main_v5_apply, val_main_v4_apply, val_main_v3_apply]
  refine congrArg x (funext fun a => Fin.ext ?_)
  fin_cases a
  · show ((((b : ℕ) * 16384 + t) * 8 + h) * 128 + e) / 16777216 = b; omega
  · show ((((b : ℕ) * 16384 + t) * 8 + h) * 128 + e) / 1024 % 16384 = t; omega
  · show 1024 + ((((b : ℕ) * 16384 + t) * 8 + h) * 128 + e) % 1024 = 1024 * 1 + 128 * h + e; omega

theorem v_at (b : Fin 2) (h : Fin 8) (t : Fin 16384) (e : Fin 128) : val_main_v8 (F := Ideal) x (ix4 b h t e) = x (ix3 b t (col 2 h e)) := by
  rw [val_main_v8_apply, val_main_v7_apply, val_main_v6_apply]
  refine congrArg x (funext fun a => Fin.ext ?_)
  fin_cases a
  · show ((((b : ℕ) * 16384 + t) * 8 + h) * 128 + e) / 16777216 = b; omega
  · show ((((b : ℕ) * 16384 + t) * 8 + h) * 128 + e) / 1024 % 16384 = t; omega
  · show 2048 + ((((b : ℕ) * 16384 + t) * 8 + h) * 128 + e) % 1024 = 1024 * 2 + 128 * h + e; omega

/-- The scores. -/
theorem score_at (b : Fin 2) (h : Fin 8) (t s : Fin 16384) : val_main_v23 (F := Ideal) x (ix4 b h t s) = rsc x b h t s := by
  rw [val_main_v23_apply, val_main_v21_apply, val_main_v22_apply, val_main_cst_apply]
  unfold rsc
  rw [key_val, key_val]
  refine congrArg (· * Ideal.ofBits .f32 0x3DB504F3#32) (Finset.sum_congr rfl fun e _ => ?_)
  have e1 : lidx_main_v21 (ix4 b h t s) e = ix4 b h t e := funext fun a => by fin_cases a <;> rfl
  have e2 : ridx_main_v21 (ix4 b h t s) e = ix4 b h s e := funext fun a => by fin_cases a <;> rfl
  rw [e1, e2, q_at, k_at]

/-- The spelling of the reference's logarithm of the sigmoid. -/
theorem ls_spelt (y : EReal) :
    -Scalar.select (Ideal.cmp .une (-y - 0) (-y - 0)) (-y + 0) (max (-y) 0 + Ideal.log1p (Ideal.exp (-(max (-y - 0) (-(-y - 0)))))) = ls y := by
  have h : Ideal.cmp .une (-y - 0) (-y - 0) = 0#1 := by simp [Ideal.cmp]
  rw [h, sub_zero]
  rfl

theorem beta_at (i : S2x8x16384x16384.Idx) : val_main_v24 (F := Ideal) x i = ls (val_main_v23 (F := Ideal) x i) := by
  rw [← ls_spelt]
  simp only [val_main_v24_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, val_main_call0_v0_apply, Ideal.ofBits_def, Ideal.ofBits_zero_f32]
  rfl

theorem om_at (i : S2x8x16384x16384.Idx) : val_main_v26 (F := Ideal) x i = ls (-(val_main_v23 (F := Ideal) x i)) := by
  rw [← ls_spelt]
  simp only [val_main_v26_apply, val_main_call1_v1_apply, val_main_call1_call0_v4_apply, val_main_call1_call0_v6_apply, val_main_call1_call0_v11_apply,
    val_main_call1_call0_v1_apply, val_main_call1_call0_v10_apply, val_main_call1_call0_v9_apply, val_main_call1_call0_v8_apply,
    val_main_call1_call0_v7_apply, val_main_call1_call0_v3_apply, val_main_call1_call0_v0_apply, val_main_call1_call0_v2_apply,
    val_main_call1_call0_v5_apply, val_main_call1_call0_cst_apply, val_main_call1_v0_apply, val_main_v25_apply, Ideal.ofBits_def, Ideal.ofBits_zero_f32]
  rfl

/-- The masked logarithm of the complement. -/
theorem masked_at (b : Fin 2) (h : Fin 8) (t s : Fin 16384) :
    val_main_v27 (F := Ideal) x (ix4 b h t s) = if (s : ℕ) < t then ls (-(rsc x b h t s)) else 0 := by
  rw [val_main_v27_apply, val_main_call2_v1_apply, val_main_v20_apply, val_main_v18_apply, val_main_v16_apply, val_main_v9_apply, val_main_v19_apply,
    val_main_v17_apply, val_main_v9_apply, val_main_call2_v2_apply, val_main_call2_v0_apply, val_main_cst_0_apply, om_at, score_at,
    Ideal.ofBits_def, Ideal.ofBits_zero_f32]
  exact select_slt (by show (s : ℕ) < _; omega) (by show (t : ℕ) < _; omega) _ _

/-- The mask of the later keys. -/
theorem tri_at (j s : Fin 16384) : val_main_v15 (F := Ideal) (ix2 j s) = if (s : ℕ) < j then 1 else 0 := by
  rw [val_main_v15_apply, val_main_v14_apply, val_main_v12_apply, val_main_v10_apply, val_main_v9_apply, val_main_v13_apply, val_main_v11_apply, val_main_v9_apply]
  show ((((IntOp.cmpi .sgt (BitVec.ofNat 32 j) (BitVec.ofNat 32 s)).toNat : ℝ)) : EReal) = _
  rw [WordCmp.cmpi_sgt_of_lt (by simp; omega) (by simp; omega)]
  simp only [BitVec.toNat_ofNat, Nat.mod_eq_of_lt (show (j : ℕ) < 2 ^ 32 by omega), Nat.mod_eq_of_lt (show (s : ℕ) < 2 ^ 32 by omega)]
  by_cases h : (s : ℕ) < j <;> simp [h]

/-- The weights. -/
theorem weight_at (b : Fin 2) (h : Fin 8) (t s : Fin 16384) :
    val_main_v31 (F := Ideal) x (ix4 b h t s) = if (s : ℕ) < t then Ideal.exp (ls (rsc x b h t s) +
      ∑ j : Fin 16384, (if (j : ℕ) < t then ls (-(rsc x b h t j)) else 0) * (if (s : ℕ) < (j : ℕ) then 1 else 0)) else 0 := by
  have e : val_main_v28 (F := Ideal) x (ix4 b h t s) =
      ∑ j : Fin 16384, (if (j : ℕ) < t then ls (-(rsc x b h t j)) else 0) * (if (s : ℕ) < (j : ℕ) then 1 else 0) := by
    rw [val_main_v28_apply]
    refine Finset.sum_congr rfl fun j _ => ?_
    have e1 : lidx_main_v28 (ix4 b h t s) j = ix4 b h t j := funext fun a => by fin_cases a <;> rfl
    have e2 : ridx_main_v28 (ix4 b h t s) j = ix2 j s := funext fun a => by fin_cases a <;> rfl
    rw [e1, e2, masked_at, tri_at]
  rw [val_main_v31_apply, val_main_call3_v1_apply, val_main_v20_apply, val_main_v18_apply, val_main_v16_apply, val_main_v9_apply, val_main_v19_apply,
    val_main_v17_apply, val_main_v9_apply, val_main_call3_v2_apply, val_main_call3_v0_apply, val_main_cst_1_apply, val_main_v30_apply, val_main_v29_apply,
    beta_at, score_at, e, Ideal.ofBits_def, Ideal.ofBits_zero_f32]
  exact select_slt (by show (s : ℕ) < _; omega) (by show (t : ℕ) < _; omega) _ _

/-- The reference's result. -/
theorem result_at (b : Fin 2) (t : Fin 16384) (h : Fin 8) (d : Fin 128) :
    val_main_v35 (F := Ideal) x (ix3 b t ⟨128 * h + d, by omega⟩) =
      ∑ s : Fin 16384, refTerm t (rsc x b h t) (fun s => x (ix3 b (key s) (col 2 h d))) s := by
  rw [val_main_v35_apply, val_main_v34_apply, val_main_v33_apply]
  have e : idx_main_v33 (idx_main_v34 (ix3 b t ⟨128 * h + d, by omega⟩)) = ix4 b h t d := by
    funext a
    refine Fin.ext ?_
    fin_cases a
    · show (((b : ℕ) * 16384 + t) * 1024 + (128 * h + d)) / 16777216 = b; omega
    · show (((b : ℕ) * 16384 + t) * 1024 + (128 * h + d)) / 128 % 8 = h; omega
    · show (((b : ℕ) * 16384 + t) * 1024 + (128 * h + d)) / 1024 % 16384 = t; omega
    · show (((b : ℕ) * 16384 + t) * 1024 + (128 * h + d)) % 128 = d; omega
  rw [e]
  show val_main_v32 (F := Ideal) x (ix4 b h t d) = _
  rw [val_main_v32_apply]
  refine Finset.sum_congr rfl fun s _ => ?_
  have e1 : lidx_main_v32 (ix4 b h t d) s = ix4 b h t s := funext fun a => by fin_cases a <;> rfl
  have e2 : ridx_main_v32 (ix4 b h t d) s = ix4 b h s d := funext fun a => by fin_cases a <;> rfl
  rw [e1, e2, weight_at, v_at]
  unfold refTerm
  show _ = _ * x (ix3 b (key s) (col 2 h d))
  rw [key_val]

end Cert.ReferenceIdeal.Read
end
end
-- ==== Proof.Norm.lean ====
module

public import Idealize.ShloMosaic.Lib.Pointwise
public import Idealize.ShloMosaic.Lib.ValueIdx
public import Idealize.ShloMosaic.PureOps.Ideal.Laws

@[expose] public section

/-!
# The residual sum's normalization

A row of 2048 entries less its mean, over the root of its mean square and a small number, times a gain, plus an offset;
and the word `2^(1/4)` the residual is multiplied by. Every call that ends in a normalization is read to this.
-/

noncomputable section
namespace LayerRow
open Idealize.ShloMosaic

/-- The mean of a row. -/
def mean (y : Fin 2048 → EReal) : EReal := Ideal.div (∑ k, y k) (Ideal.ofBits .f32 0x45000000#32)

/-- The factor of the residual. -/
def alpha : EReal := Ideal.ofBits .f32 0x3F9837F0#32

/-- The normalized row. -/
def norm (y g b : Fin 2048 → EReal) (j : Fin 2048) : EReal :=
  (y j - mean y) * Ideal.rsqrt (mean (fun k => (y k - mean y) * (y k - mean y)) + Ideal.ofBits .f32 0x3727C5AC#32) * g j + b j

/-- The sequence of a row of the flattened input. -/
def seqOf (n : Fin 32768) : Fin 2 := ⟨n / 16384, by omega⟩
/-- The position of a row of the flattened input. -/
def posOf (n : Fin 32768) : Fin 16384 := ⟨n % 16384, by omega⟩

/-- The word of one. -/
theorem one_word : Ideal.ofBits .f32 0x3F800000#32 = 1 := by
  simp [Ideal.ofBits, Ideal.ieee]
  rw [← EReal.coe_mul, ← EReal.coe_one]
  norm_num

end LayerRow
end
end
-- ==== Proof.FfnTerms.lean ====
module

public import proofs.«01_k».proof.Proof.Gen.Kernel2Ideal.Value
public import proofs.«01_k».proof.Proof.Norm

@[expose] public section
set_option maxRecDepth 16384

/-!
# What a grid point of the feed-forward block computes

The body adds eleven tiles of 256 inner features to the output buffer, one after another; then it replaces the buffer's
content by the normalized row of the residual and half of that sum, and writes the same row to the other output.
-/

noncomputable section
namespace Cert.Kernel2Ideal.Gen
open Idealize.ShloMosaic Idealize.ShloMosaic.TcCoe LayerRow

/-- What one tile of 256 inner features adds to an output entry. -/
def tile (x : FVec Ideal S512x2048 .bf16) (wg wu : Vec Ideal S2048x256 .bf16) (wd : Vec Ideal S256x2048 .bf16) (r : Fin 512) (j : Fin 2048) : EReal :=
  ∑ k : Fin 256, (∑ e, x (ix2 r e) * wg (ix2 e k)) * Ideal.logistic (∑ e, x (ix2 r e) * wg (ix2 e k)) * (∑ e, x (ix2 r e) * wu (ix2 e k)) * wd (ix2 k j)

variable (v0 : Vec Ideal S512x2048 .f32) (xb : FVec Ideal S512x2048 .bf16) (wg wu : Vec Ideal S2048x256 .bf16) (wd : Vec Ideal S256x2048 .bf16) (o : Vec Ideal S512x2048 .f32)
  (r : Fin 512) (j : Fin 2048)

theorem tile0 : k0_pay4 v0 wg wu wd (ix2 r j) = tile (k0_pay3 v0) wg wu wd r j := by
  pointwise [k0_pay4, k0_pay3, tile]
theorem tile1 : k0_pay5 v0 wg wu wd o (ix2 r j) = o (ix2 r j) + tile (k0_pay3 v0) wg wu wd r j := by
  pointwise [k0_pay5, k0_pay3, tile]
theorem tile2 : k0_pay6 xb wg wu wd o (ix2 r j) = o (ix2 r j) + tile xb wg wu wd r j := by
  pointwise [k0_pay6, tile]
theorem tile3 : k0_pay9 (k0_pay7 xb wg wu wd) (k0_pay8 o) (ix2 r j) = o (ix2 r j) + tile xb wg wu wd r j := by
  pointwise [k0_pay9, k0_pay7, k0_pay8, tile]
theorem tile4 : k0_pay10 xb wg wu wd o (ix2 r j) = o (ix2 r j) + tile xb wg wu wd r j := by
  pointwise [k0_pay10, tile]
theorem tile5 : k0_pay12 (k0_pay11 xb wg wu wd) o (ix2 r j) = o (ix2 r j) + tile xb wg wu wd r j := by
  pointwise [k0_pay12, k0_pay11, tile]
theorem tile6 : k0_pay13 xb wg wu wd o (ix2 r j) = o (ix2 r j) + tile xb wg wu wd r j := by
  pointwise [k0_pay13, tile]
theorem tile7 : k0_pay15 (k0_pay14 xb wg wu wd) o (ix2 r j) = o (ix2 r j) + tile xb wg wu wd r j := by
  pointwise [k0_pay15, k0_pay14, tile]
theorem tile8 : k0_pay16 xb wg wu wd o (ix2 r j) = o (ix2 r j) + tile xb wg wu wd r j := by
  pointwise [k0_pay16, tile]
theorem tile9 : k0_pay19 (k0_pay17 xb wg wu) (k0_pay18 wd) o (ix2 r j) = o (ix2 r j) + tile xb wg wu wd r j := by
  pointwise [k0_pay19, k0_pay17, k0_pay18, tile]
theorem tile10 : k0_pay20 xb wg wu wd o (ix2 r j) = o (ix2 r j) + tile xb wg wu wd r j := by
  pointwise [k0_pay20, tile]

/-- The row before the normalization. -/
def ffnRow (x : Fin 2048 → EReal) (o : Fin 2048 → EReal) (j : Fin 2048) : EReal := alpha * x j + Ideal.ofBits .f32 0x3F000000#32 * o j

theorem cast_at : k0_pay3 v0 (ix2 r j) = v0 (ix2 r j) := by
  pointwise [k0_pay3]

theorem result0 (g b : Vec Ideal S1x2048 .f32) : k0_pay1 (k0_pay21 v0 o) g b (ix2 r j) =
    norm (ffnRow (fun k => v0 (ix2 r k)) (fun k => o (ix2 r k))) (fun k => g (ix2 0 k)) (fun k => b (ix2 0 k)) j := by
  pointwise [k0_pay1, k0_pay21]
  rfl

theorem result1 (g b : Vec Ideal S1x2048 .f32) : k0_pay2 (k0_pay21 v0 o) g b (ix2 r j) =
    norm (ffnRow (fun k => v0 (ix2 r k)) (fun k => o (ix2 r k))) (fun k => g (ix2 0 k)) (fun k => b (ix2 0 k)) j := by
  pointwise [k0_pay2, k0_pay1, k0_pay21]
  rfl

end Cert.Kernel2Ideal.Gen
end
end
-- ==== Proof.Loads.lean ====
module

public import Idealize.ShloMosaic.Lib.VecWindow
public import Idealize.ShloMosaic.Lib.Pipeline.Value
public import Idealize.ShloMosaic.Lib.ValueIdx
public import Idealize.ShloMosaic.Lib.Pointwise

@[expose] public section

/-!
# Loads and stores of a part of a matrix

What a load of some rows and columns of a matrix reads, and what a store of some rows leaves in it.
-/

noncomputable section
namespace LayerRow
open Idealize.ShloMosaic Idealize.ShloMosaic.TcCoe

variable {N M n l o p : ℕ} {t : EltTy}

/-- A load of `n` rows from `o` and `l` columns from `p`. -/
theorem ld_at (x : (⟨2, ![N, M]⟩ : Shape).Idx → Elt Ideal t)
    (inb : ∀ b, (![o, p] : Fin 2 → ℕ) b + (![n, l] : Fin 2 → ℕ) b ≤ (⟨2, ![N, M]⟩ : Shape).size b) (r : Fin n) (j : Fin l) (h : o + r < N) (h' : p + j < M) :
    View.ld (Val := Elt Ideal) (e' := t) x (Rect.unit (s := ⟨2, ![N, M]⟩) ![o, p] ![n, l] inb) (ix2 r j) = x (ix2 ⟨o + r, h⟩ ⟨p + j, h'⟩) := by
  refine congrArg x (funext fun b => Fin.ext ?_)
  fin_cases b
  · show o + 1 * (r : ℕ) = o + r; omega
  · show p + 1 * (j : ℕ) = p + j; omega

/-- The same of a block in its buffer. -/
theorem readAt_at {sig : RefSig} (a : Memref sig .tc .vmem ⟨2, ![N, M]⟩ t) (ha : a.IsWhole) (x : (⟨2, ![N, M]⟩ : Shape).Idx → Elt Ideal t)
    (inb : ∀ b, (![o, p] : Fin 2 → ℕ) b + (![n, l] : Fin 2 → ℕ) b ≤ (⟨2, ![N, M]⟩ : Shape).size b) (r : Fin n) (j : Fin l) (h : o + r < N) (h' : p + j < M) :
    View.readAt (Elt Ideal) a.view (Rect.unit (s := ⟨2, ![N, M]⟩) ![o, p] ![n, l] inb).toLoadRect (ha.unread x) (ix2 r j) = x (ix2 ⟨o + r, h⟩ ⟨p + j, h'⟩) := by
  rw [View.readAt_eq_ld, ha.read_unread]
  exact ld_at x inb r j h h'

/-- A row inside the rows stored last holds what was stored. -/
theorem canon_rows (L : List (View.Piece (Elt Ideal) ⟨2, ![N, M]⟩ t))
    (inb : ∀ b, (![o, 0] : Fin 2 → ℕ) b + (![n, M] : Fin 2 → ℕ) b ≤ (⟨2, ![N, M]⟩ : Shape).size b)
    (P : (⟨2, ![n, M]⟩ : Shape).Idx → Elt Ideal t) (r : Fin n) (j : Fin M) (h : o + r < N) :
    View.canon (⟨Rect.unit (s := ⟨2, ![N, M]⟩) ![o, 0] ![n, M] inb, P⟩ :: L) (ix2 ⟨o + r, h⟩ j) = P (ix2 r j) := by
  rw [← View.canon_cons_emb (Rect.unit (s := ⟨2, ![N, M]⟩) ![o, 0] ![n, M] inb) P L (ix2 r j)]
  refine congrArg (View.canon _) (funext fun b => Fin.ext ?_)
  fin_cases b
  · show o + r = o + 1 * (r : ℕ); omega
  · show (j : ℕ) = 0 + 1 * j; omega

/-- A row before the rows stored last holds what it held. -/
theorem canon_before (L : List (View.Piece (Elt Ideal) ⟨2, ![N, M]⟩ t))
    (inb : ∀ b, (![o, 0] : Fin 2 → ℕ) b + (![n, M] : Fin 2 → ℕ) b ≤ (⟨2, ![N, M]⟩ : Shape).size b)
    (P : (⟨2, ![n, M]⟩ : Shape).Idx → Elt Ideal t) (r : Fin N) (j : Fin M) (h : (r : ℕ) < o) :
    View.canon (⟨Rect.unit (s := ⟨2, ![N, M]⟩) ![o, 0] ![n, M] inb, P⟩ :: L) (ix2 r j) = View.canon L (ix2 r j) := by
  refine View.canon_cons_of_not_mem _ _ fun hm => ?_
  have hr : o ≤ (r : ℕ) := ((Rect.mem_set_unit (inb := inb)).mp hm 0).1
  omega

/-- A load of the whole matrix after a store of the whole matrix reads what was stored. -/
theorem readCov_whole {sig : RefSig} (v : View sig .tc .vmem ⟨2, ![N, M]⟩ t) (L : List (View.Piece (Elt Ideal) ⟨2, ![N, M]⟩ t))
    (inb inb' : ∀ b, (![0, 0] : Fin 2 → ℕ) b + (![N, M] : Fin 2 → ℕ) b ≤ (⟨2, ![N, M]⟩ : Shape).size b) (w : (⟨2, ![N, M]⟩ : Shape).Idx → Elt Ideal t)
    (r : Fin N) (j : Fin M) :
    v.readCov (⟨Rect.unit (s := ⟨2, ![N, M]⟩) ![0, 0] ![N, M] inb, w⟩ :: L) (Rect.unit (s := ⟨2, ![N, M]⟩) ![0, 0] ![N, M] inb').toLoadRect (ix2 r j) = w (ix2 r j) := by
  rw [View.readCov_eq_canon']
  refine Eq.trans (congrArg (View.canon _) (funext fun b => Fin.ext ?_)) (canon_rows (o := 0) (n := N) L inb w r j (by omega))
  fin_cases b
  · show 0 + 1 * (r : ℕ) = 0 + r; omega
  · show 0 + 1 * (j : ℕ) = j; omega

/-- A store of the whole matrix leaves what was stored. -/
theorem canon_whole (L : List (View.Piece (Elt Ideal) ⟨2, ![N, M]⟩ t))
    (inb : ∀ b, (![0, 0] : Fin 2 → ℕ) b + (![N, M] : Fin 2 → ℕ) b ≤ (⟨2, ![N, M]⟩ : Shape).size b) (w : (⟨2, ![N, M]⟩ : Shape).Idx → Elt Ideal t)
    (r : Fin N) (j : Fin M) : View.canon (⟨Rect.unit (s := ⟨2, ![N, M]⟩) ![0, 0] ![N, M] inb, w⟩ :: L) (ix2 r j) = w (ix2 r j) :=
  (congrArg (View.canon _) (by simp)).trans (canon_rows (o := 0) (n := N) L inb w r j (by omega))

end LayerRow
end
end
-- ==== Proof.FfnSum.lean ====
module

public import proofs.«01_k».proof.Proof.FfnTerms
public import proofs.«01_k».proof.Proof.Loads

@[expose] public section
set_option maxRecDepth 16384

/-!
# The feed-forward sum, tile by tile

After `n` tiles the output buffer holds, for every row and column, the sum over the first `256 n` inner features.
-/

noncomputable section
namespace Cert.Kernel2Ideal.Gen
open Idealize.ShloMosaic Idealize.ShloMosaic.TcCoe LayerRow

/-- Inner feature `k`. -/
def inner (k : ℕ) : Fin 2816 := ⟨k % 2816, Nat.mod_lt _ (by norm_num)⟩

/-- What inner feature `k` adds to an entry of row `x`. -/
def feat (x : Fin 2048 → EReal) (wg wu : Fin 2048 → Fin 2816 → EReal) (wd : Fin 2816 → EReal) (k : Fin 2816) : EReal :=
  (∑ e, x e * wg e k) * Ideal.logistic (∑ e, x e * wg e k) * (∑ e, x e * wu e k) * wd k

/-- The sum over the first `256 n` inner features. -/
def upto (x0 : Vec Ideal S512x2048 .f32) (x1 x2 : Vec Ideal S2048x2816 .bf16) (x3 : Vec Ideal S2816x2048 .bf16) (r : Fin 512) (j : Fin 2048) (n : ℕ) : EReal :=
  ∑ k ∈ Finset.range (256 * n), feat (fun e => x0 (ix2 r e)) (fun e k => x1 (ix2 e k)) (fun e k => x2 (ix2 e k)) (fun k => x3 (ix2 k j)) (inner k)

theorem upto_all (x0 : Vec Ideal S512x2048 .f32) (x1 x2 : Vec Ideal S2048x2816 .bf16) (x3 : Vec Ideal S2816x2048 .bf16) (r : Fin 512) (j : Fin 2048) :
    upto x0 x1 x2 x3 r j 11 = ∑ k, feat (fun e => x0 (ix2 r e)) (fun e k => x1 (ix2 e k)) (fun e k => x2 (ix2 e k)) (fun k => x3 (ix2 k j)) k := by
  unfold upto
  rw [show 256 * 11 = 2816 from rfl, Finset.sum_range]
  exact Finset.sum_congr rfl fun k _ => congrArg _ (Fin.ext (Nat.mod_eq_of_lt k.isLt))

variable (c : Dev nD) (arg1 : Memref sig .tc .vmem S512x2048 .f32) (harg1 : arg1.IsWhole)
  (arg2 : Memref sig .tc .vmem S2048x2816 .bf16) (harg2 : arg2.IsWhole) (arg3 : Memref sig .tc .vmem S2048x2816 .bf16) (harg3 : arg3.IsWhole)
  (arg4 : Memref sig .tc .vmem S2816x2048 .bf16) (harg4 : arg4.IsWhole) (arg7 : Memref sig .tc .vmem S512x2048 .f32)
  (x0 : Vec Ideal S512x2048 .f32) (x1 x2 : Vec Ideal S2048x2816 .bf16) (x3 : Vec Ideal S2816x2048 .bf16) (r : Fin 512) (j : Fin 2048)

/-- The row the products read. -/
theorem row_at (e : Fin 2048) : kernelRun0_A.sl.r c arg1 harg1 x0 (ix2 r e) = x0 (ix2 r e) := by
  unfold kernelRun0_A.sl.r
  rw [cast_at]
  refine (readAt_at (o := 0) (p := 0) (n := 512) (l := 2048) arg1 harg1 x0 _ r e (by omega) (by omega)).trans (congrArg x0 (by simp))

/-- A tile's sum is the sum over its inner features. -/
theorem tile_sum {o : ℕ} (n : ℕ) (ho : o = 256 * n) (hn : n < 11) (xb : FVec Ideal S512x2048 .bf16) (hx : ∀ e, xb (ix2 r e) = x0 (ix2 r e))
    (inb1 inb2 : ∀ b, (![0, o] : Fin 2 → ℕ) b + (![2048, 256] : Fin 2 → ℕ) b ≤ S2048x2816.size b)
    (inb3 : ∀ b, (![o, 0] : Fin 2 → ℕ) b + (![256, 2048] : Fin 2 → ℕ) b ≤ S2816x2048.size b) :
    tile xb (View.readAt (Elt Ideal) arg2.view (Rect.unit (s := S2048x2816) ![0, o] ![2048, 256] inb1).toLoadRect (harg2.unread x1))
      (View.readAt (Elt Ideal) arg3.view (Rect.unit (s := S2048x2816) ![0, o] ![2048, 256] inb2).toLoadRect (harg3.unread x2))
      (View.readAt (Elt Ideal) arg4.view (Rect.unit (s := S2816x2048) ![o, 0] ![256, 2048] inb3).toLoadRect (harg4.unread x3)) r j
    = ∑ k ∈ Finset.range 256, feat (fun e => x0 (ix2 r e)) (fun e k => x1 (ix2 e k)) (fun e k => x2 (ix2 e k)) (fun k => x3 (ix2 k j)) (inner (256 * n + k)) := by
  subst ho
  unfold tile feat
  rw [Finset.sum_range]
  refine Finset.sum_congr rfl fun k _ => ?_
  have hk : (⟨256 * n + (k : ℕ), by omega⟩ : Fin 2816) = inner (256 * n + k) := Fin.ext (Nat.mod_eq_of_lt (by omega)).symm
  have hz : ∀ e : Fin 2048, (⟨0 + (e : ℕ), by omega⟩ : Fin 2048) = e := fun e => Fin.ext (Nat.zero_add _)
  have h1 : (∑ e, xb (ix2 r e) * View.readAt (Elt Ideal) arg2.view (Rect.unit (s := S2048x2816) ![0, 256 * n] ![2048, 256] inb1).toLoadRect (harg2.unread x1) (ix2 e k) : EReal)
      = ∑ e, x0 (ix2 r e) * x1 (ix2 e (inner (256 * n + k))) :=
    Finset.sum_congr rfl fun e _ => congrArg₂ (· * ·) (hx e) ((readAt_at arg2 harg2 x1 inb1 e k (by omega) (by omega)).trans (by rw [hk, hz]))
  have h2 : (∑ e, xb (ix2 r e) * View.readAt (Elt Ideal) arg3.view (Rect.unit (s := S2048x2816) ![0, 256 * n] ![2048, 256] inb2).toLoadRect (harg3.unread x2) (ix2 e k) : EReal)
      = ∑ e, x0 (ix2 r e) * x2 (ix2 e (inner (256 * n + k))) :=
    Finset.sum_congr rfl fun e _ => congrArg₂ (· * ·) (hx e) ((readAt_at arg3 harg3 x2 inb2 e k (by omega) (by omega)).trans (by rw [hk, hz]))
  have h3 : View.readAt (Elt Ideal) arg4.view (Rect.unit (s := S2816x2048) ![256 * n, 0] ![256, 2048] inb3).toLoadRect (harg4.unread x3) (ix2 k j)
      = x3 (ix2 (inner (256 * n + k)) j) := (readAt_at arg4 harg4 x3 inb3 k j (by omega) (by omega)).trans (by rw [hk, hz])
  exact congrArg₂ (· * ·) (congrArg₂ (· * ·) (congrArg₂ (· * ·) h1 (congrArg Ideal.logistic h1)) h2) h3

theorem step {o : ℕ} (n : ℕ) (ho : o = 256 * n) (hn : n < 11) (xb : FVec Ideal S512x2048 .bf16) (hx : ∀ e, xb (ix2 r e) = x0 (ix2 r e))
    (inb1 inb2 : ∀ b, (![0, o] : Fin 2 → ℕ) b + (![2048, 256] : Fin 2 → ℕ) b ≤ S2048x2816.size b)
    (inb3 : ∀ b, (![o, 0] : Fin 2 → ℕ) b + (![256, 2048] : Fin 2 → ℕ) b ≤ S2816x2048.size b) :
    upto x0 x1 x2 x3 r j n + tile xb (View.readAt (Elt Ideal) arg2.view (Rect.unit (s := S2048x2816) ![0, o] ![2048, 256] inb1).toLoadRect (harg2.unread x1))
      (View.readAt (Elt Ideal) arg3.view (Rect.unit (s := S2048x2816) ![0, o] ![2048, 256] inb2).toLoadRect (harg3.unread x2))
      (View.readAt (Elt Ideal) arg4.view (Rect.unit (s := S2816x2048) ![o, 0] ![256, 2048] inb3).toLoadRect (harg4.unread x3)) r j
    = upto x0 x1 x2 x3 r j (n + 1) := by
  rw [tile_sum arg2 harg2 arg3 harg3 arg4 harg4 x0 x1 x2 x3 r j n ho hn xb hx inb1 inb2 inb3]
  unfold upto
  rw [Nat.mul_succ, Finset.sum_range_add]

/-- The buffer after the first tile. -/
theorem acc1 : kernelRun0_A.sl.v30 c arg1 harg1 arg2 harg2 arg3 harg3 arg4 harg4 arg7 x0 x1 x2 x3 (ix2 r j) = upto x0 x1 x2 x3 r j 1 := by
  unfold kernelRun0_A.sl.v30 kernelRun0_A.sl.H6_1
  refine (readCov_whole _ _ _ _ _ r j).trans ?_
  refine (tile0 _ _ _ _ r j).trans ((zero_add _).symm.trans ?_)
  exact step arg2 harg2 arg3 harg3 arg4 harg4 x0 x1 x2 x3 r j 0 rfl (by omega) _ (row_at c arg1 harg1 x0 r) _ _ _

/-- The buffer after the second tile. -/
theorem acc2 : kernelRun0_A.sl.v47 c arg1 harg1 arg2 harg2 arg3 harg3 arg4 harg4 arg7 x0 x1 x2 x3 (ix2 r j) = upto x0 x1 x2 x3 r j 2 := by
  unfold kernelRun0_A.sl.v47 kernelRun0_A.sl.H6_2
  refine (readCov_whole _ _ _ _ _ r j).trans ?_
  unfold kernelRun0_A.sl.r_1
  rw [tile1, acc1]
  exact step arg2 harg2 arg3 harg3 arg4 harg4 x0 x1 x2 x3 r j 1 rfl (by omega) _ (row_at c arg1 harg1 x0 r) _ _ _

/-- The buffer after the third tile. -/
theorem acc3 : kernelRun0_A.sl.v64 c arg1 harg1 arg2 harg2 arg3 harg3 arg4 harg4 arg7 x0 x1 x2 x3 (ix2 r j) = upto x0 x1 x2 x3 r j 3 := by
  unfold kernelRun0_A.sl.v64 kernelRun0_A.sl.H6_3
  refine (readCov_whole _ _ _ _ _ r j).trans ?_
  rw [tile2, acc2]
  exact step arg2 harg2 arg3 harg3 arg4 harg4 x0 x1 x2 x3 r j 2 rfl (by omega) _ (row_at c arg1 harg1 x0 r) _ _ _

/-- The buffer after the fourth tile. -/
theorem acc4 : kernelRun0_A.sl.v81 c arg1 harg1 arg2 harg2 arg3 harg3 arg4 harg4 arg7 x0 x1 x2 x3 (ix2 r j) = upto x0 x1 x2 x3 r j 4 := by
  unfold kernelRun0_A.sl.v81 kernelRun0_A.sl.H6_4
  refine (readCov_whole _ _ _ _ _ r j).trans ?_
  unfold kernelRun0_A.sl.r_2 kernelRun0_A.sl.r_3
  rw [tile3, acc3]
  exact step arg2 harg2 arg3 harg3 arg4 harg4 x0 x1 x2 x3 r j 3 rfl (by omega) _ (row_at c arg1 harg1 x0 r) _ _ _

/-- The buffer after the fifth tile. -/
theorem acc5 : kernelRun0_A.sl.v98 c arg1 harg1 arg2 harg2 arg3 harg3 arg4 harg4 arg7 x0 x1 x2 x3 (ix2 r j) = upto x0 x1 x2 x3 r j 5 := by
  unfold kernelRun0_A.sl.v98 kernelRun0_A.sl.H6_5
  refine (readCov_whole _ _ _ _ _ r j).trans ?_
  rw [tile4, acc4]
  exact step arg2 harg2 arg3 harg3 arg4 harg4 x0 x1 x2 x3 r j 4 rfl (by omega) _ (row_at c arg1 harg1 x0 r) _ _ _

/-- The buffer after the sixth tile. -/
theorem acc6 : kernelRun0_A.sl.v115 c arg1 harg1 arg2 harg2 arg3 harg3 arg4 harg4 arg7 x0 x1 x2 x3 (ix2 r j) = upto x0 x1 x2 x3 r j 6 := by
  unfold kernelRun0_A.sl.v115 kernelRun0_A.sl.H6_6
  refine (readCov_whole _ _ _ _ _ r j).trans ?_
  unfold kernelRun0_A.sl.r_4
  rw [tile5, acc5]
  exact step arg2 harg2 arg3 harg3 arg4 harg4 x0 x1 x2 x3 r j 5 rfl (by omega) _ (row_at c arg1 harg1 x0 r) _ _ _

/-- The buffer after the seventh tile. -/
theorem acc7 : kernelRun0_A.sl.v132 c arg1 harg1 arg2 harg2 arg3 harg3 arg4 harg4 arg7 x0 x1 x2 x3 (ix2 r j) = upto x0 x1 x2 x3 r j 7 := by
  unfold kernelRun0_A.sl.v132 kernelRun0_A.sl.H6_7
  refine (readCov_whole _ _ _ _ _ r j).trans ?_
  rw [tile6, acc6]
  exact step arg2 harg2 arg3 harg3 arg4 harg4 x0 x1 x2 x3 r j 6 rfl (by omega) _ (row_at c arg1 harg1 x0 r) _ _ _

/-- The buffer after the eighth tile. -/
theorem acc8 : kernelRun0_A.sl.v149 c arg1 harg1 arg2 harg2 arg3 harg3 arg4 harg4 arg7 x0 x1 x2 x3 (ix2 r j) = upto x0 x1 x2 x3 r j 8 := by
  unfold kernelRun0_A.sl.v149 kernelRun0_A.sl.H6_8
  refine (readCov_whole _ _ _ _ _ r j).trans ?_
  unfold kernelRun0_A.sl.r_5
  rw [tile7, acc7]
  exact step arg2 harg2 arg3 harg3 arg4 harg4 x0 x1 x2 x3 r j 7 rfl (by omega) _ (row_at c arg1 harg1 x0 r) _ _ _

/-- The buffer after the ninth tile. -/
theorem acc9 : kernelRun0_A.sl.v166 c arg1 harg1 arg2 harg2 arg3 harg3 arg4 harg4 arg7 x0 x1 x2 x3 (ix2 r j) = upto x0 x1 x2 x3 r j 9 := by
  unfold kernelRun0_A.sl.v166 kernelRun0_A.sl.H6_9
  refine (readCov_whole _ _ _ _ _ r j).trans ?_
  rw [tile8, acc8]
  exact step arg2 harg2 arg3 harg3 arg4 harg4 x0 x1 x2 x3 r j 8 rfl (by omega) _ (row_at c arg1 harg1 x0 r) _ _ _

/-- The buffer after the tenth tile. -/
theorem acc10 : kernelRun0_A.sl.v183 c arg1 harg1 arg2 harg2 arg3 harg3 arg4 harg4 arg7 x0 x1 x2 x3 (ix2 r j) = upto x0 x1 x2 x3 r j 10 := by
  unfold kernelRun0_A.sl.v183 kernelRun0_A.sl.H6_10
  refine (readCov_whole _ _ _ _ _ r j).trans ?_
  unfold kernelRun0_A.sl.r_6 kernelRun0_A.sl.r_7
  rw [tile9, acc9]
  exact step arg2 harg2 arg3 harg3 arg4 harg4 x0 x1 x2 x3 r j 9 rfl (by omega) _ (row_at c arg1 harg1 x0 r) _ _ _

/-- The buffer after the eleventh tile. -/
theorem acc11 : kernelRun0_A.sl.v191 c arg1 harg1 arg2 harg2 arg3 harg3 arg4 harg4 arg7 x0 x1 x2 x3 (ix2 r j) = upto x0 x1 x2 x3 r j 11 := by
  unfold kernelRun0_A.sl.v191 kernelRun0_A.sl.H6_11
  refine (readCov_whole _ _ _ _ _ r j).trans ?_
  rw [tile10, acc10]
  exact step arg2 harg2 arg3 harg3 arg4 harg4 x0 x1 x2 x3 r j 10 rfl (by omega) _ (row_at c arg1 harg1 x0 r) _ _ _

end Cert.Kernel2Ideal.Gen
end
end
-- ==== Proof.FfnBlocks.lean ====
module

public import proofs.«01_k».proof.Proof.FfnSum
public import Idealize.ShloMosaic.Lib.Pipeline.ValueKit.Geometry
public import Idealize.ShloMosaic.Lib.StableHlo.ReadAt

@[expose] public section
set_option maxRecDepth 16384

/-!
# The arrays the feed-forward block writes

Grid point `t` writes rows `512 t` to `512 t + 511` of both outputs; together the points write the feed-forward block of
the arguments.
-/

noncomputable section
namespace Cert.Kernel2Ideal.Gen
open Idealize.ShloMosaic Idealize.ShloMosaic.TcCoe LayerRow
open Idealize.ShloMosaic.Pipeline (Dat)

/-- The feed-forward block, entry by entry, of its six arguments. -/
def ffn (x : (⟨3, ![2, 16384, 2048]⟩ : Shape).Idx → EReal) (wg wu : (⟨2, ![2048, 2816]⟩ : Shape).Idx → EReal)
    (wd : (⟨2, ![2816, 2048]⟩ : Shape).Idx → EReal) (g b : (⟨1, ![2048]⟩ : Shape).Idx → EReal) : (⟨2, ![32768, 2048]⟩ : Shape).Idx → EReal := fun i =>
  norm (ffnRow (fun k => x (ix3 (seqOf (i 0)) (posOf (i 0)) k))
    (fun j => ∑ k, feat (fun e => x (ix3 (seqOf (i 0)) (posOf (i 0)) e)) (fun e k => wg (ix2 e k)) (fun e k => wu (ix2 e k)) (fun k => wd (ix2 k j)) k))
    (fun k => g (ix1 k)) (fun k => b (ix1 k)) (i 1)

variable (m : (ℓ : Loc nD τ sig) → Buf (Elt Ideal) ℓ) (c : Dev nD)

/-- The arguments. -/
abbrev arg0Of : (⟨3, ![2, 16384, 2048]⟩ : Shape).Idx → EReal := m ((c : Thread nD τ).loc main_arg0)
abbrev arg1Of : (⟨2, ![2048, 2816]⟩ : Shape).Idx → EReal := m ((c : Thread nD τ).loc main_arg1)
abbrev arg2Of : (⟨2, ![2048, 2816]⟩ : Shape).Idx → EReal := m ((c : Thread nD τ).loc main_arg2)
abbrev arg3Of : (⟨2, ![2816, 2048]⟩ : Shape).Idx → EReal := m ((c : Thread nD τ).loc main_arg3)
abbrev arg4Of : (⟨1, ![2048]⟩ : Shape).Idx → EReal := m ((c : Thread nD τ).loc main_arg4)
abbrev arg5Of : (⟨1, ![2048]⟩ : Shape).Idx → EReal := m ((c : Thread nD τ).loc main_arg5)

theorem staged0 (n : Fin 32768) (e : Fin 2048) : V m c main_v0 (ix2 n e) = arg0Of m c (ix3 (seqOf n) (posOf n) e) := by
  unfold V
  after_reads_at
  rfl
theorem staged1 (e : Fin 2048) (k : Fin 2816) : V m c main_v1 (ix2 e k) = arg1Of m c (ix2 e k) := by
  unfold V
  after_reads_at
theorem staged2 (e : Fin 2048) (k : Fin 2816) : V m c main_v2 (ix2 e k) = arg2Of m c (ix2 e k) := by
  unfold V
  after_reads_at
theorem staged3 (k : Fin 2816) (e : Fin 2048) : V m c main_v3 (ix2 k e) = arg3Of m c (ix2 k e) := by
  unfold V
  after_reads_at
theorem staged4 (e : Fin 2048) : V m c main_v4 (ix2 0 e) = arg4Of m c (ix1 e) := by
  unfold V
  after_reads_at
theorem staged5 (e : Fin 2048) : V m c main_v5 (ix2 0 e) = arg5Of m c (ix1 e) := by
  unfold V
  after_reads_at

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![t.val, 0] := by decide +kernel
theorem point_lt (t : Fin cfg0.N) : t.val < 64 := lt_of_lt_of_eq t.isLt (by decide +kernel)

/-- Row `r` of a grid point's block. -/
def rowOf (t : Fin cfg0.N) (r : Fin 512) : Fin 32768 := ⟨512 * t.val + r, by have := point_lt t; omega⟩

theorem block0 (t : Fin cfg0.N) (r : Fin 512) (e : Fin 2048) : iblk m c 0 t (ix2 r e) = arg0Of m c (ix3 (seqOf (rowOf t r)) (posOf (rowOf t r)) e) := by
  rw [← staged0]
  unfold iblk
  refine congrArg (V m c main_v0) (funext fun a => Fin.ext ?_)
  fin_cases a
  · blk_simp [index0 t]
    show t.val * 512 + (r : ℕ) = 512 * t.val + r; omega
  · blk_simp [index0 t]; rfl
theorem block1 (t : Fin cfg0.N) (e : Fin 2048) (k : Fin 2816) : iblk m c 1 t (ix2 e k) = arg1Of m c (ix2 e k) := by
  rw [← staged1]
  unfold iblk
  refine congrArg (V m c main_v1) (funext fun a => Fin.ext ?_)
  fin_cases a <;> blk_simp [index1 t] <;> rfl
theorem block2 (t : Fin cfg0.N) (e : Fin 2048) (k : Fin 2816) : iblk m c 2 t (ix2 e k) = arg2Of m c (ix2 e k) := by
  rw [← staged2]
  unfold iblk
  refine congrArg (V m c main_v2) (funext fun a => Fin.ext ?_)
  fin_cases a <;> blk_simp [index2 t] <;> rfl
theorem block3 (t : Fin cfg0.N) (k : Fin 2816) (e : Fin 2048) : iblk m c 3 t (ix2 k e) = arg3Of m c (ix2 k e) := by
  rw [← staged3]
  unfold iblk
  refine congrArg (V m c main_v3) (funext fun a => Fin.ext ?_)
  fin_cases a <;> blk_simp [index3 t] <;> rfl
theorem block4 (t : Fin cfg0.N) (e : Fin 2048) : iblk m c 4 t (ix2 0 e) = arg4Of m c (ix1 e) := by
  rw [← staged4]
  unfold iblk
  refine congrArg (V m c main_v4) (funext fun a => Fin.ext ?_)
  fin_cases a <;> blk_simp [index4 t] <;> rfl
theorem block5 (t : Fin cfg0.N) (e : Fin 2048) : iblk m c 5 t (ix2 0 e) = arg5Of m c (ix1 e) := by
  rw [← staged5]
  unfold iblk
  refine congrArg (V m c main_v5) (funext fun a => Fin.ext ?_)
  fin_cases a <;> blk_simp [index5 t] <;> rfl

/-- The feed-forward block of the arguments. -/
def target : (⟨2, ![32768, 2048]⟩ : Shape).Idx → EReal := ffn (arg0Of m c) (arg1Of m c) (arg2Of m c) (arg3Of m c) (arg4Of m c) (arg5Of m c)

/-- The normalized row of a grid point, of the blocks it reads. -/
theorem row_eq (t : Fin cfg0.N) (r : Fin 512) (j : Fin 2048) (v0 o : Vec Ideal S512x2048 .f32) (g b : Vec Ideal S1x2048 .f32)
    (h0 : ∀ k, v0 (ix2 r k) = iblk m c 0 t (ix2 r k)) (ho : ∀ k, o (ix2 r k) = upto (iblk m c 0 t) (iblk m c 1 t) (iblk m c 2 t) (iblk m c 3 t) r k 11)
    (hg : ∀ k, g (ix2 0 k) = iblk m c 4 t (ix2 0 k)) (hb : ∀ k, b (ix2 0 k) = iblk m c 5 t (ix2 0 k)) :
    norm (ffnRow (fun k => v0 (ix2 r k)) (fun k => o (ix2 r k))) (fun k => g (ix2 0 k)) (fun k => b (ix2 0 k)) j = target m c (ix2 (rowOf t r) j) := by
  have e0 : (fun k => v0 (ix2 r k)) = fun k => arg0Of m c (ix3 (seqOf (rowOf t r)) (posOf (rowOf t r)) k) := funext fun k => (h0 k).trans (block0 m c t r k)
  have eg : (fun k => g (ix2 0 k)) = fun k => arg4Of m c (ix1 k) := funext fun k => (hg k).trans (block4 m c t k)
  have eb : (fun k => b (ix2 0 k)) = fun k => arg5Of m c (ix1 k) := funext fun k => (hb k).trans (block5 m c t k)
  have eo : (fun k => o (ix2 r k)) = fun j => ∑ k, feat (fun e => arg0Of m c (ix3 (seqOf (rowOf t r)) (posOf (rowOf t r)) e)) (fun e k => arg1Of m c (ix2 e k))
      (fun e k => arg2Of m c (ix2 e k)) (fun k => arg3Of m c (ix2 k j)) k := by
    funext j
    rw [ho, upto_all]
    refine Finset.sum_congr rfl fun k _ => ?_
    unfold feat
    simp only [block0, block1, block2, block3]
  rw [e0, eg, eb, eo]
  rfl

theorem out_eq6 (t : Fin cfg0.N) (r : Fin 512) (j : Fin 2048) : (outsAt0 m c t).1 (ix2 r j) = target m c (ix2 (rowOf t r) j) := by
  unfold outsAt0 out0_A_6
  dsimp only
  rw [View.read_writes_junk_eq_canon]
  unfold kernelRun0_A
  dsimp only
  refine (canon_whole _ _ _ r j).trans ?_
  unfold kernelRun0_A.sl.r_8 kernelRun0_A.sl.r_9
  refine (result0 _ _ r j _ _).trans (row_eq m c t r j _ _ _ _ (fun k => ?_) (fun k => ?_) (fun k => ?_) fun k => ?_)
  · exact (readAt_at _ _ _ _ r k (by omega) (by omega)).trans (congrArg (iblk m c 0 t) (by simp))
  · exact acc11 _ _ _ _ _ _ _ _ _ _ _ _ _ _ r k
  · exact (readAt_at (n := 1) _ _ _ _ 0 k (by simp) (by omega)).trans (congrArg (iblk m c 4 t) (by simp))
  · exact (readAt_at (n := 1) _ _ _ _ 0 k (by simp) (by omega)).trans (congrArg (iblk m c 5 t) (by simp))

theorem out_eq7 (t : Fin cfg0.N) (r : Fin 512) (j : Fin 2048) : (outsAt0 m c t).2 (ix2 r j) = target m c (ix2 (rowOf t r) j) := by
  unfold outsAt0 out0_A_7
  dsimp only
  rw [View.read_writes_junk_eq_canon]
  unfold kernelRun0_A
  dsimp only
  refine (canon_whole _ _ _ r j).trans ?_
  unfold kernelRun0_A.sl.r_8 kernelRun0_A.sl.r_9
  refine (result1 _ _ r j _ _).trans (row_eq m c t r j _ _ _ _ (fun k => ?_) (fun k => ?_) (fun k => ?_) fun k => ?_)
  · exact (readAt_at _ _ _ _ r k (by omega) (by omega)).trans (congrArg (iblk m c 0 t) (by simp))
  · exact acc11 _ _ _ _ _ _ _ _ _ _ _ _ _ _ r k
  · exact (readAt_at (n := 1) _ _ _ _ 0 k (by simp) (by omega)).trans (congrArg (iblk m c 4 t) (by simp))
  · exact (readAt_at (n := 1) _ _ _ _ 0 k (by simp) (by omega)).trans (congrArg (iblk m c 5 t) (by simp))

theorem emb6 (t : Fin cfg0.N) (r : Fin 512) (j : Fin 2048) : ((cfg0.win 6).blk t).view.emb (ix2 r j) = ix2 (rowOf t r) j := by
  funext a
  refine Fin.ext ?_
  fin_cases a
  · blk_simp [index6 t]
    show t.val * 512 + (r : ℕ) = 512 * t.val + r; omega
  · blk_simp [index6 t]; rfl

theorem emb7 (t : Fin cfg0.N) (r : Fin 512) (j : Fin 2048) : ((cfg0.win 7).blk t).view.emb (ix2 r j) = ix2 (rowOf t r) j := by
  funext a
  refine Fin.ext ?_
  fin_cases a
  · blk_simp [index7 t]
    show t.val * 512 + (r : ℕ) = 512 * t.val + r; omega
  · blk_simp [index7 t]; rfl

/-- What a grid point writes back is its block of the feed-forward block. -/
theorem flushed_eq6 (t : Fin cfg0.N) : (dats m 0 c).flushed 6 t = ((cfg0.win 6).blk t).view.read (Elt Ideal) (target m c) := by
  rw [Value.flushed6]
  funext y
  obtain ⟨r, j, rfl⟩ : ∃ (r : Fin 512) (j : Fin 2048), y = ix2 r j := ⟨y 0, y 1, eq_ix2 y⟩
  exact (out_eq6 m c t r j).trans (congrArg (target m c) (emb6 t r j)).symm

theorem flushed_eq7 (t : Fin cfg0.N) : (dats m 0 c).flushed 7 t = ((cfg0.win 7).blk t).view.read (Elt Ideal) (target m c) := by
  rw [Value.flushed7]
  funext y
  obtain ⟨r, j, rfl⟩ : ∃ (r : Fin 512) (j : Fin 2048), y = ix2 r j := ⟨y 0, y 1, eq_ix2 y⟩
  exact (out_eq7 m c t r j).trans (congrArg (target m c) (emb7 t r j)).symm

/-- Every entry of an output is in some point's block. -/
theorem cover6 (i : S32768x2048.Idx) : ∃ t : Fin cfg0.N, (cfg0.win 6).flush t = true ∧ i ∈ ((cfg0.win 6).blk t).view.set := by
  have h0 : (i 0 : ℕ) < 32768 := (i 0).isLt
  have h1 : (i 1 : ℕ) < 2048 := (i 1).isLt
  have hN : grid0.N = 64 := by decide +kernel
  have hM : cfg0.N = 64 := hN
  refine ⟨⟨(i 0 : ℕ) / 512, by omega⟩, (by decide +kernel : ∀ t : Fin cfg0.N, (cfg0.win 6).flush t = true) _, ?_⟩
  mem_blk [index6 ⟨(i 0 : ℕ) / 512, by omega⟩]
  refine ⟨⟨?_, ?_⟩, ?_, ?_⟩ <;> simp only <;> omega

theorem cover7 (i : S32768x2048.Idx) : ∃ t : Fin cfg0.N, (cfg0.win 7).flush t = true ∧ i ∈ ((cfg0.win 7).blk t).view.set := by
  have h0 : (i 0 : ℕ) < 32768 := (i 0).isLt
  have h1 : (i 1 : ℕ) < 2048 := (i 1).isLt
  have hN : grid0.N = 64 := by decide +kernel
  have hM : cfg0.N = 64 := hN
  refine ⟨⟨(i 0 : ℕ) / 512, by omega⟩, (by decide +kernel : ∀ t : Fin cfg0.N, (cfg0.win 7).flush t = true) _, ?_⟩
  mem_blk [index7 ⟨(i 0 : ℕ) / 512, by omega⟩]
  refine ⟨⟨?_, ?_⟩, ?_, ?_⟩ <;> simp only <;> omega

/-- Both arrays after the run are the feed-forward block of the arguments. -/
theorem final_array6 : (dats m 0 c).arrAt 6 cfg0.N = target m c :=
  (dats m 0 c).arrAt_eq_of_cover 6 (target m c) (fun t _ => flushed_eq6 m c t) cover6

theorem final_array7 : (dats m 0 c).arrAt 7 cfg0.N = target m c :=
  (dats m 0 c).arrAt_eq_of_cover 7 (target m c) (fun t _ => flushed_eq7 m c t) cover7

end Cert.Kernel2Ideal.Gen
end
end
-- ==== Proof.FfnFormula.lean ====
module

public import proofs.«01_k».proof.Proof.Gen.Reference2Ideal.Read
public import proofs.«01_k».proof.Proof.FfnBlocks

@[expose] public section
set_option maxRecDepth 16384

/-!
# What the reference of the feed-forward block computes

Its operations read one after another: the row, its mean, its mean square, the normalized row.
-/

noncomputable section
namespace Cert.Reference2Ideal.Read
open Idealize.ShloMosaic LayerRow

variable (x0 : (⟨3, ![2, 16384, 2048]⟩ : Shape).Idx → EReal) (x1 : (⟨2, ![2048, 2816]⟩ : Shape).Idx → EReal) (x2 : (⟨2, ![2048, 2816]⟩ : Shape).Idx → EReal) (x3 : (⟨2, ![2816, 2048]⟩ : Shape).Idx → EReal) (x4 : (⟨1, ![2048]⟩ : Shape).Idx → EReal) (x5 : (⟨1, ![2048]⟩ : Shape).Idx → EReal)

/-- The mean of a row. -/
theorem mean_at (b : Fin 2) (t : Fin 16384) (z : Fin 1) :
    val_main_v13 (F := Ideal) x0 x1 x2 x3 (ix3 b t z) = mean (fun k => val_main_v9 (F := Ideal) x0 x1 x2 x3 (ix3 b t k)) := by
  rw [val_main_v13_apply, val_main_v11_apply, val_main_v12_apply, val_main_v10_apply, val_main_cst_1_apply, val_main_cst_2_apply, Ideal.ofBits_def, Ideal.ofBits_zero_f32, zero_add]
  refine congrArg (fun s => Ideal.div s (Ideal.ofBits .f32 0x45000000#32)) (Finset.sum_congr rfl fun k _ => ?_)
  exact congrArg (val_main_v9 (F := Ideal) x0 x1 x2 x3) (funext fun a => by fin_cases a <;> rfl)

theorem less_mean_at (b : Fin 2) (t : Fin 16384) (j : Fin 2048) :
    val_main_v15 (F := Ideal) x0 x1 x2 x3 (ix3 b t j) = val_main_v9 (F := Ideal) x0 x1 x2 x3 (ix3 b t j) - mean (fun k => val_main_v9 (F := Ideal) x0 x1 x2 x3 (ix3 b t k)) := by
  have e : idx_main_v14 (ix3 b t j) = ix3 b t 0 := funext fun a => by fin_cases a <;> rfl
  rw [val_main_v15_apply, val_main_v14_apply, e, mean_at]
  rfl

theorem less_mean_again_at (b : Fin 2) (t : Fin 16384) (j : Fin 2048) :
    val_main_v22 (F := Ideal) x0 x1 x2 x3 (ix3 b t j) = val_main_v9 (F := Ideal) x0 x1 x2 x3 (ix3 b t j) - mean (fun k => val_main_v9 (F := Ideal) x0 x1 x2 x3 (ix3 b t k)) := by
  have e : idx_main_v21 (ix3 b t j) = ix3 b t 0 := funext fun a => by fin_cases a <;> rfl
  rw [val_main_v22_apply, val_main_v21_apply, e, mean_at]
  rfl

/-- The root of the mean square. -/
theorem root_at (b : Fin 2) (t : Fin 16384) (z : Fin 1) :
    val_main_v25 (F := Ideal) x0 x1 x2 x3 (ix3 b t z) =
      Ideal.rsqrt (mean (fun k => (val_main_v9 (F := Ideal) x0 x1 x2 x3 (ix3 b t k) - mean (fun k => val_main_v9 (F := Ideal) x0 x1 x2 x3 (ix3 b t k)))
        * (val_main_v9 (F := Ideal) x0 x1 x2 x3 (ix3 b t k) - mean (fun k => val_main_v9 (F := Ideal) x0 x1 x2 x3 (ix3 b t k)))) + Ideal.ofBits .f32 0x3727C5AC#32) := by
  rw [val_main_v25_apply, val_main_v24_apply, val_main_v23_apply, val_main_v20_apply, val_main_v18_apply, val_main_v19_apply, val_main_v17_apply, val_main_cst_3_apply, val_main_cst_4_apply, val_main_cst_5_apply, Ideal.ofBits_def, Ideal.ofBits_zero_f32, zero_add]
  refine congrArg (fun s => Ideal.rsqrt (Ideal.div s (Ideal.ofBits .f32 0x45000000#32) + Ideal.ofBits .f32 0x3727C5AC#32)) (Finset.sum_congr rfl fun k _ => ?_)
  have e : idx_main_v17 (idx_main_v18 (ix3 b t z)) k = ix3 b t k := funext fun a => by fin_cases a <;> rfl
  rw [e, val_main_v16_apply, less_mean_at]
  rfl

/-- The normalized row. -/
theorem norm_at (b : Fin 2) (t : Fin 16384) (j : Fin 2048) :
    val_main_v33 (F := Ideal) x0 x1 x2 x3 x4 x5 (ix3 b t j) =
      norm (fun k => val_main_v9 (F := Ideal) x0 x1 x2 x3 (ix3 b t k)) (fun k => x4 (ix1 k)) (fun k => x5 (ix1 k)) j := by
  have e : idx_main_v26 (ix3 b t j) = ix3 b t 0 := funext fun a => by fin_cases a <;> rfl
  have eg : idx_main_v28 (idx_main_v29 (ix3 b t j)) = ix1 j := funext fun a => by fin_cases a <;> rfl
  have eb : idx_main_v31 (idx_main_v32 (ix3 b t j)) = ix1 j := funext fun a => by fin_cases a <;> rfl
  rw [val_main_v33_apply, val_main_v30_apply, val_main_v27_apply, val_main_v26_apply, val_main_v29_apply, val_main_v28_apply, val_main_v32_apply, val_main_v31_apply, e, eg, eb, less_mean_again_at, root_at]
  rfl

/-- The flattened result. -/
theorem flat_at (n : Fin 32768) (j : Fin 2048) :
    val_main_v34 (F := Ideal) x0 x1 x2 x3 x4 x5 (ix2 n j) =
      norm (fun k => val_main_v9 (F := Ideal) x0 x1 x2 x3 (ix3 (seqOf n) (posOf n) k)) (fun k => x4 (ix1 k)) (fun k => x5 (ix1 k)) j := by
  rw [val_main_v34_apply, ← norm_at]
  refine congrArg (val_main_v33 (F := Ideal) x0 x1 x2 x3 x4 x5) (funext fun a => Fin.ext ?_)
  fin_cases a
  · show ((n : ℕ) * 2048 + j) / 33554432 = (n : ℕ) / 16384; omega
  · show ((n : ℕ) * 2048 + j) / 2048 % 16384 = (n : ℕ) % 16384; omega
  · show ((n : ℕ) * 2048 + j) % 2048 = j; omega

/-- The gate's projection. -/
theorem gate_at (b : Fin 2) (t : Fin 16384) (k : Fin 2816) : val_main_v0 (F := Ideal) x0 x1 (ix3 b t k) = ∑ e : Fin 2048, x0 (ix3 b t e) * x1 (ix2 e k) := by
  rw [val_main_v0_apply]
  refine Finset.sum_congr rfl fun e _ => ?_
  have e1 : lidx_main_v0 (ix3 b t k) e = ix3 b t e := funext fun a => by fin_cases a <;> rfl
  have e2 : ridx_main_v0 (ix3 b t k) e = ix2 e k := funext fun a => by fin_cases a <;> rfl
  rw [e1, e2]

theorem up_at (b : Fin 2) (t : Fin 16384) (k : Fin 2816) : val_main_v2 (F := Ideal) x0 x2 (ix3 b t k) = ∑ e : Fin 2048, x0 (ix3 b t e) * x2 (ix2 e k) := by
  rw [val_main_v2_apply]
  refine Finset.sum_congr rfl fun e _ => ?_
  have e1 : lidx_main_v2 (ix3 b t k) e = ix3 b t e := funext fun a => by fin_cases a <;> rfl
  have e2 : ridx_main_v2 (ix3 b t k) e = ix2 e k := funext fun a => by fin_cases a <;> rfl
  rw [e1, e2]

/-- The gate times its sigmoid. -/
theorem silu_at (i : S2x16384x2816.Idx) : val_main_v1 (F := Ideal) x0 x1 i = val_main_v0 (F := Ideal) x0 x1 i * Ideal.logistic (val_main_v0 (F := Ideal) x0 x1 i) := by
  rw [val_main_v1_apply, val_main_call0_v5_apply, val_main_call0_v4_apply, val_main_call0_v3_apply, val_main_call0_v2_apply, val_main_call0_v1_apply,
    val_main_call0_v0_apply, val_main_call0_cst_apply, val_main_call0_cst_0_apply, Ideal.ofBits_def, one_word]
  rfl

/-- The row before the normalization. -/
theorem row_at (b : Fin 2) (t : Fin 16384) (j : Fin 2048) : val_main_v9 (F := Ideal) x0 x1 x2 x3 (ix3 b t j) =
    Cert.Kernel2Ideal.Gen.ffnRow (fun k => x0 (ix3 b t k)) (fun j => ∑ k, Cert.Kernel2Ideal.Gen.feat (fun e => x0 (ix3 b t e)) (fun e k => x1 (ix2 e k))
      (fun e k => x2 (ix2 e k)) (fun k => x3 (ix2 k j)) k) j := by
  rw [val_main_v9_apply, val_main_v6_apply, val_main_v5_apply, val_main_v8_apply, val_main_v7_apply, val_main_cst_apply, val_main_cst_0_apply,
    val_main_v4_apply]
  refine congrArg (fun s => alpha * x0 (ix3 b t j) + Ideal.ofBits .f32 0x3F000000#32 * s) (Finset.sum_congr rfl fun k _ => ?_)
  have e1 : lidx_main_v4 (ix3 b t j) k = ix3 b t k := funext fun a => by fin_cases a <;> rfl
  have e2 : ridx_main_v4 (ix3 b t j) k = ix2 k j := funext fun a => by fin_cases a <;> rfl
  rw [e1, e2, val_main_v3_apply, silu_at, gate_at, up_at]
  rfl

/-- Both results are the feed-forward block. -/
theorem result_eq : val_main_v34 (F := Ideal) x0 x1 x2 x3 x4 x5 = Cert.Kernel2Ideal.Gen.ffn x0 x1 x2 x3 x4 x5 := by
  funext i
  obtain ⟨n, j, rfl⟩ : ∃ (n : Fin 32768) (j : Fin 2048), i = ix2 n j := ⟨i 0, i 1, eq_ix2 i⟩
  rw [flat_at]
  simp only [row_at]
  rfl

theorem result_eq' : val_main_v35 (F := Ideal) x0 x1 x2 x3 x4 x5 = Cert.Kernel2Ideal.Gen.ffn x0 x1 x2 x3 x4 x5 := by
  rw [← result_eq]
  rfl

end Cert.Reference2Ideal.Read
end
end
-- ==== Proof.PleTerms.lean ====
module

public import proofs.«01_k».proof.Proof.Gen.Kernel3Ideal.Value
public import proofs.«01_k».proof.Proof.Norm

@[expose] public section
set_option maxRecDepth 16384

/-!
# One row group of the gated per-layer embedding

What the body stores for 256 rows, entry by entry: the normalized row of the residual and the gated embedding.
-/

noncomputable section
namespace Cert.Kernel3Ideal.Gen
open Idealize.ShloMosaic Idealize.ShloMosaic.TcCoe LayerRow

/-- The row before the normalization. -/
def pleRow (x xb : Fin 2048 → EReal) (p : Fin 256 → EReal) (wg : Fin 2048 → Fin 2048 → EReal) (bg : Fin 2048 → EReal)
    (wp : Fin 256 → Fin 2048 → EReal) (j : Fin 2048) : EReal :=
  alpha * x j + Ideal.logistic ((∑ e, xb e * wg e j) + bg j) * ∑ e, p e * wp e j

theorem first_group (v0 : Vec Ideal S256x2048 .bf16) (v2 : Vec Ideal S2048x2048 .bf16) (v5 : Vec Ideal S1x2048 .f32) (v10 : Vec Ideal S256x256 .f32)
    (v13 : Vec Ideal S256x2048 .bf16) (v16 : Vec Ideal S256x2048 .f32) (v22 v24 : Vec Ideal S1x2048 .f32) (r : Fin 256) (j : Fin 2048) :
    k0_pay7 (k0_pay2 v22) (k0_pay3 v24) (k0_pay4 v0 v2 v5 v10 v13 v16) (k0_pay5 v0 v2 v5 v10 v13 v16) (k0_pay6 (F := Ideal)) (ix2 r j) =
      norm (pleRow (fun k => v16 (ix2 r k)) (fun e => v0 (ix2 r e)) (fun e => v10 (ix2 r e)) (fun e k => v2 (ix2 e k)) (fun k => v5 (ix2 0 k))
        (fun e k => v13 (ix2 e k))) (fun k => v22 (ix2 0 k)) (fun k => v24 (ix2 0 k)) j := by
  pointwise [k0_pay7, k0_pay2, k0_pay3, k0_pay4, k0_pay5, k0_pay6]
  rfl

theorem second_group (v0 : Vec Ideal S256x2048 .bf16) (v2 : Vec Ideal S2048x2048 .bf16) (v5 : Vec Ideal S1x2048 .f32) (v10 : Vec Ideal S256x256 .f32)
    (v13 : Vec Ideal S256x2048 .bf16) (v16 : Vec Ideal S256x2048 .f32) (v22 v24 : Vec Ideal S1x2048 .f32) (r : Fin 256) (j : Fin 2048) :
    k0_pay1 (k0_pay8 v0 v2 v5 v10 v13 v16) (k0_pay9 v22) (k0_pay10 v24) (ix2 r j) =
      norm (pleRow (fun k => v16 (ix2 r k)) (fun e => v0 (ix2 r e)) (fun e => v10 (ix2 r e)) (fun e k => v2 (ix2 e k)) (fun k => v5 (ix2 0 k))
        (fun e k => v13 (ix2 e k))) (fun k => v22 (ix2 0 k)) (fun k => v24 (ix2 0 k)) j := by
  pointwise [k0_pay1, k0_pay8, k0_pay9, k0_pay10]
  rfl

end Cert.Kernel3Ideal.Gen
end
end
-- ==== Proof.PleBlocks.lean ====
module

public import proofs.«01_k».proof.Proof.PleTerms
public import proofs.«01_k».proof.Proof.Loads
public import Idealize.ShloMosaic.Lib.Pipeline.ValueKit.Geometry
public import Idealize.ShloMosaic.Lib.StableHlo.ReadAt

@[expose] public section
set_option maxRecDepth 16384

/-!
# The array the gated per-layer embedding writes

Grid point `t` writes rows `512 t` to `512 t + 511`, in two groups of 256; together the points write the gated per-layer
embedding of the arguments.
-/

noncomputable section
namespace Cert.Kernel3Ideal.Gen
open Idealize.ShloMosaic Idealize.ShloMosaic.TcCoe LayerRow
open Idealize.ShloMosaic.Pipeline (Dat)

/-- The gated per-layer embedding, entry by entry, of its seven arguments. -/
def ple (x : (⟨3, ![2, 16384, 2048]⟩ : Shape).Idx → EReal) (p : (⟨3, ![2, 16384, 256]⟩ : Shape).Idx → EReal) (wg : (⟨2, ![2048, 2048]⟩ : Shape).Idx → EReal)
    (bg : (⟨1, ![2048]⟩ : Shape).Idx → EReal) (wp : (⟨2, ![256, 2048]⟩ : Shape).Idx → EReal) (g b : (⟨1, ![2048]⟩ : Shape).Idx → EReal) :
    (⟨2, ![32768, 2048]⟩ : Shape).Idx → EReal := fun i =>
  norm (pleRow (fun k => x (ix3 (seqOf (i 0)) (posOf (i 0)) k)) (fun k => x (ix3 (seqOf (i 0)) (posOf (i 0)) k)) (fun e => p (ix3 (seqOf (i 0)) (posOf (i 0)) e))
    (fun e k => wg (ix2 e k)) (fun k => bg (ix1 k)) (fun e k => wp (ix2 e k))) (fun k => g (ix1 k)) (fun k => b (ix1 k)) (i 1)

variable (m : (ℓ : Loc nD τ sig) → Buf (Elt Ideal) ℓ) (c : Dev nD)

/-- The arguments. -/
abbrev arg0Of : (⟨3, ![2, 16384, 2048]⟩ : Shape).Idx → EReal := m ((c : Thread nD τ).loc main_arg0)
abbrev arg1Of : (⟨3, ![2, 16384, 256]⟩ : Shape).Idx → EReal := m ((c : Thread nD τ).loc main_arg1)
abbrev arg2Of : (⟨2, ![2048, 2048]⟩ : Shape).Idx → EReal := m ((c : Thread nD τ).loc main_arg2)
abbrev arg3Of : (⟨1, ![2048]⟩ : Shape).Idx → EReal := m ((c : Thread nD τ).loc main_arg3)
abbrev arg4Of : (⟨2, ![256, 2048]⟩ : Shape).Idx → EReal := m ((c : Thread nD τ).loc main_arg4)
abbrev arg5Of : (⟨1, ![2048]⟩ : Shape).Idx → EReal := m ((c : Thread nD τ).loc main_arg5)
abbrev arg6Of : (⟨1, ![2048]⟩ : Shape).Idx → EReal := m ((c : Thread nD τ).loc main_arg6)

theorem staged0 (n : Fin 32768) (e : Fin 2048) : V m c main_v0 (ix2 n e) = arg0Of m c (ix3 (seqOf n) (posOf n) e) := by
  unfold V
  after_reads_at
  rfl
theorem staged1 (n : Fin 32768) (e : Fin 2048) : V m c main_v1 (ix2 n e) = arg0Of m c (ix3 (seqOf n) (posOf n) e) := by
  unfold V
  after_reads_at
  rfl
theorem staged2 (n : Fin 32768) (e : Fin 256) : V m c main_v2 (ix2 n e) = arg1Of m c (ix3 (seqOf n) (posOf n) e) := by
  unfold V
  after_reads_at
  rfl
theorem staged3 (e : Fin 2048) (k : Fin 2048) : V m c main_v3 (ix2 e k) = arg2Of m c (ix2 e k) := by
  unfold V
  after_reads_at
theorem staged4 (e : Fin 2048) : V m c main_v4 (ix2 0 e) = arg3Of m c (ix1 e) := by
  unfold V
  after_reads_at
theorem staged5 (e : Fin 256) (k : Fin 2048) : V m c main_v5 (ix2 e k) = arg4Of m c (ix2 e k) := by
  unfold V
  after_reads_at
theorem staged6 (e : Fin 2048) : V m c main_v6 (ix2 0 e) = arg5Of m c (ix1 e) := by
  unfold V
  after_reads_at
theorem staged7 (e : Fin 2048) : V m c main_v7 (ix2 0 e) = arg6Of m c (ix1 e) := by
  unfold V
  after_reads_at

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index8 : ∀ t : Fin grid0.N, win0_8.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem point_lt (t : Fin cfg0.N) : t.val < 64 := lt_of_lt_of_eq t.isLt (by decide +kernel)

/-- Row `r` of a grid point's block. -/
def rowOf (t : Fin cfg0.N) (r : Fin 512) : Fin 32768 := ⟨512 * t.val + r, by have := point_lt t; omega⟩

theorem block0 (t : Fin cfg0.N) (r : Fin 512) (e : Fin 2048) : iblk m c 0 t (ix2 r e) = arg0Of m c (ix3 (seqOf (rowOf t r)) (posOf (rowOf t r)) e) := by
  rw [← staged0]
  unfold iblk
  refine congrArg (V m c main_v0) (funext fun a => Fin.ext ?_)
  fin_cases a
  · blk_simp [index0 t]
    show t.val * 512 + (r : ℕ) = 512 * t.val + r; omega
  · blk_simp [index0 t]; rfl
theorem block1 (t : Fin cfg0.N) (r : Fin 512) (e : Fin 2048) : iblk m c 1 t (ix2 r e) = arg0Of m c (ix3 (seqOf (rowOf t r)) (posOf (rowOf t r)) e) := by
  rw [← staged1]
  unfold iblk
  refine congrArg (V m c main_v1) (funext fun a => Fin.ext ?_)
  fin_cases a
  · blk_simp [index1 t]
    show t.val * 512 + (r : ℕ) = 512 * t.val + r; omega
  · blk_simp [index1 t]; rfl
theorem block2 (t : Fin cfg0.N) (r : Fin 512) (e : Fin 256) : iblk m c 2 t (ix2 r e) = arg1Of m c (ix3 (seqOf (rowOf t r)) (posOf (rowOf t r)) e) := by
  rw [← staged2]
  unfold iblk
  refine congrArg (V m c main_v2) (funext fun a => Fin.ext ?_)
  fin_cases a
  · blk_simp [index2 t]
    show t.val * 512 + (r : ℕ) = 512 * t.val + r; omega
  · blk_simp [index2 t]; rfl
theorem block3 (t : Fin cfg0.N) (e : Fin 2048) (k : Fin 2048) : iblk m c 3 t (ix2 e k) = arg2Of m c (ix2 e k) := by
  rw [← staged3]
  unfold iblk
  refine congrArg (V m c main_v3) (funext fun a => Fin.ext ?_)
  fin_cases a <;> blk_simp [index3 t] <;> rfl
theorem block4 (t : Fin cfg0.N) (e : Fin 2048) : iblk m c 4 t (ix2 0 e) = arg3Of m c (ix1 e) := by
  rw [← staged4]
  unfold iblk
  refine congrArg (V m c main_v4) (funext fun a => Fin.ext ?_)
  fin_cases a <;> blk_simp [index4 t] <;> rfl
theorem block5 (t : Fin cfg0.N) (e : Fin 256) (k : Fin 2048) : iblk m c 5 t (ix2 e k) = arg4Of m c (ix2 e k) := by
  rw [← staged5]
  unfold iblk
  refine congrArg (V m c main_v5) (funext fun a => Fin.ext ?_)
  fin_cases a <;> blk_simp [index5 t] <;> rfl
theorem block6 (t : Fin cfg0.N) (e : Fin 2048) : iblk m c 6 t (ix2 0 e) = arg5Of m c (ix1 e) := by
  rw [← staged6]
  unfold iblk
  refine congrArg (V m c main_v6) (funext fun a => Fin.ext ?_)
  fin_cases a <;> blk_simp [index6 t] <;> rfl
theorem block7 (t : Fin cfg0.N) (e : Fin 2048) : iblk m c 7 t (ix2 0 e) = arg6Of m c (ix1 e) := by
  rw [← staged7]
  unfold iblk
  refine congrArg (V m c main_v7) (funext fun a => Fin.ext ?_)
  fin_cases a <;> blk_simp [index7 t] <;> rfl

/-- The gated per-layer embedding of the arguments. -/
def target : (⟨2, ![32768, 2048]⟩ : Shape).Idx → EReal :=
  ple (arg0Of m c) (arg1Of m c) (arg2Of m c) (arg3Of m c) (arg4Of m c) (arg5Of m c) (arg6Of m c)

/-- The normalized row of a grid point, of the blocks it reads. -/
theorem row_eq (t : Fin cfg0.N) (r : Fin 256) (r' : Fin 512) (j : Fin 2048) (v0 : Vec Ideal S256x2048 .bf16) (v2 : Vec Ideal S2048x2048 .bf16)
    (v5 : Vec Ideal S1x2048 .f32) (v10 : Vec Ideal S256x256 .f32) (v13 : Vec Ideal S256x2048 .bf16) (v16 : Vec Ideal S256x2048 .f32) (g b : Vec Ideal S1x2048 .f32)
    (h0 : ∀ k, v0 (ix2 r k) = iblk m c 1 t (ix2 r' k)) (h2 : ∀ e k, v2 (ix2 e k) = iblk m c 3 t (ix2 e k)) (h5 : ∀ k, v5 (ix2 0 k) = iblk m c 4 t (ix2 0 k))
    (h10 : ∀ k, v10 (ix2 r k) = iblk m c 2 t (ix2 r' k)) (h13 : ∀ e k, v13 (ix2 e k) = iblk m c 5 t (ix2 e k)) (h16 : ∀ k, v16 (ix2 r k) = iblk m c 0 t (ix2 r' k))
    (hg : ∀ k, g (ix2 0 k) = iblk m c 6 t (ix2 0 k)) (hb : ∀ k, b (ix2 0 k) = iblk m c 7 t (ix2 0 k)) :
    norm (pleRow (fun k => v16 (ix2 r k)) (fun e => v0 (ix2 r e)) (fun e => v10 (ix2 r e)) (fun e k => v2 (ix2 e k)) (fun k => v5 (ix2 0 k))
        (fun e k => v13 (ix2 e k))) (fun k => g (ix2 0 k)) (fun k => b (ix2 0 k)) j = target m c (ix2 (rowOf t r') j) := by
  simp only [h0, h2, h5, h10, h13, h16, hg, hb, block0, block1, block2, block3, block4, block5, block6, block7]
  rfl

theorem out_eq (t : Fin cfg0.N) (r : Fin 512) (j : Fin 2048) :
    out0_8 (iblk m c 0 t) (iblk m c 1 t) (iblk m c 2 t) (iblk m c 3 t) (iblk m c 4 t) (iblk m c 5 t) (iblk m c 6 t) (iblk m c 7 t) (ix2 r j)
      = target m c (ix2 (rowOf t r) j) := by
  unfold out0_8
  by_cases hr : (r : ℕ) < 256
  · rw [canon_before (o := 256) (n := 256) _ _ _ r j hr]
    have er : r = ⟨0 + ((⟨r, hr⟩ : Fin 256) : ℕ), by omega⟩ := Fin.ext (Nat.zero_add _).symm
    refine (congrArg (View.canon _) (congrArg (fun z => ix2 z j) er)).trans ((canon_rows (o := 0) (n := 256) _ _ _ ⟨r, hr⟩ j (by simp only; omega)).trans ?_)
    refine (first_group _ _ _ _ _ _ _ _ ⟨r, hr⟩ j).trans (row_eq m c t _ r j _ _ _ _ _ _ _ _ (fun k => ?_) (fun e k => ?_) (fun k => ?_) (fun k => ?_)
      (fun e k => ?_) (fun k => ?_) (fun k => ?_) fun k => ?_)
    · exact (ld_at (o := 0) (p := 0) _ _ (⟨r, hr⟩ : Fin 256) k (by simp only; omega) (by omega)).trans (congrArg (iblk m c 1 t) (by simp))
    · exact (ld_at (o := 0) (p := 0) _ _ e k (by omega) (by omega)).trans (congrArg (iblk m c 3 t) (by simp))
    · exact (ld_at (o := 0) (p := 0) (n := 1) _ _ 0 k (by simp) (by omega)).trans (congrArg (iblk m c 4 t) (by simp))
    · exact (ld_at (o := 0) (p := 0) _ _ (⟨r, hr⟩ : Fin 256) k (by simp only; omega) (by omega)).trans (congrArg (iblk m c 2 t) (by simp))
    · exact (ld_at (o := 0) (p := 0) _ _ e k (by omega) (by omega)).trans (congrArg (iblk m c 5 t) (by simp))
    · exact (ld_at (o := 0) (p := 0) _ _ (⟨r, hr⟩ : Fin 256) k (by simp only; omega) (by omega)).trans (congrArg (iblk m c 0 t) (by simp))
    · exact (ld_at (o := 0) (p := 0) (n := 1) _ _ 0 k (by simp) (by omega)).trans (congrArg (iblk m c 6 t) (by simp))
    · exact (ld_at (o := 0) (p := 0) (n := 1) _ _ 0 k (by simp) (by omega)).trans (congrArg (iblk m c 7 t) (by simp))
  · have er : r = ⟨256 + ((⟨r - 256, by omega⟩ : Fin 256) : ℕ), by simp only; omega⟩ := Fin.ext (by simp only; omega)
    have ei : ∀ h, (⟨256 + ((r : ℕ) - 256), h⟩ : Fin 512) = r := fun _ => Fin.ext (by simp only; omega)
    refine (congrArg (View.canon _) (congrArg (fun z => ix2 z j) er)).trans
      ((canon_rows (o := 256) (n := 256) _ _ _ ⟨r - 256, by omega⟩ j (by simp only; omega)).trans ?_)
    refine (second_group _ _ _ _ _ _ _ _ ⟨r - 256, by omega⟩ j).trans (row_eq m c t _ r j _ _ _ _ _ _ _ _ (fun k => ?_) (fun e k => ?_) (fun k => ?_) (fun k => ?_)
      (fun e k => ?_) (fun k => ?_) (fun k => ?_) fun k => ?_)
    · exact (ld_at (o := 256) (p := 0) _ _ (⟨r - 256, by omega⟩ : Fin 256) k (by simp only; omega) (by omega)).trans (congrArg (iblk m c 1 t) (by simp [ei]))
    · exact (ld_at (o := 0) (p := 0) _ _ e k (by omega) (by omega)).trans (congrArg (iblk m c 3 t) (by simp))
    · exact (ld_at (o := 0) (p := 0) (n := 1) _ _ 0 k (by simp) (by omega)).trans (congrArg (iblk m c 4 t) (by simp))
    · exact (ld_at (o := 256) (p := 0) _ _ (⟨r - 256, by omega⟩ : Fin 256) k (by simp only; omega) (by omega)).trans (congrArg (iblk m c 2 t) (by simp [ei]))
    · exact (ld_at (o := 0) (p := 0) _ _ e k (by omega) (by omega)).trans (congrArg (iblk m c 5 t) (by simp))
    · exact (ld_at (o := 256) (p := 0) _ _ (⟨r - 256, by omega⟩ : Fin 256) k (by simp only; omega) (by omega)).trans (congrArg (iblk m c 0 t) (by simp [ei]))
    · exact (ld_at (o := 0) (p := 0) (n := 1) _ _ 0 k (by simp) (by omega)).trans (congrArg (iblk m c 6 t) (by simp))
    · exact (ld_at (o := 0) (p := 0) (n := 1) _ _ 0 k (by simp) (by omega)).trans (congrArg (iblk m c 7 t) (by simp))

theorem emb8 (t : Fin cfg0.N) (r : Fin 512) (j : Fin 2048) : ((cfg0.win 8).blk t).view.emb (ix2 r j) = ix2 (rowOf t r) j := by
  funext a
  refine Fin.ext ?_
  fin_cases a
  · blk_simp [index8 t]
    show t.val * 512 + (r : ℕ) = 512 * t.val + r; omega
  · blk_simp [index8 t]; rfl

/-- What a grid point writes back is its block of the gated per-layer embedding. -/
theorem flushed_eq (t : Fin cfg0.N) : (dats m 0 c).flushed 8 t = ((cfg0.win 8).blk t).view.read (Elt Ideal) (target m c) := by
  rw [Value.flushed8]
  funext y
  obtain ⟨r, j, rfl⟩ : ∃ (r : Fin 512) (j : Fin 2048), y = ix2 r j := ⟨y 0, y 1, eq_ix2 y⟩
  exact (out_eq m c t r j).trans (congrArg (target m c) (emb8 t r j)).symm

/-- Every entry of the output is in some point's block. -/
theorem cover (i : S32768x2048.Idx) : ∃ t : Fin cfg0.N, (cfg0.win 8).flush t = true ∧ i ∈ ((cfg0.win 8).blk t).view.set := by
  have h0 : (i 0 : ℕ) < 32768 := (i 0).isLt
  have h1 : (i 1 : ℕ) < 2048 := (i 1).isLt
  have hN : grid0.N = 64 := by decide +kernel
  have hM : cfg0.N = 64 := hN
  refine ⟨⟨(i 0 : ℕ) / 512, by omega⟩, (by decide +kernel : ∀ t : Fin cfg0.N, (cfg0.win 8).flush t = true) _, ?_⟩
  mem_blk [index8 ⟨(i 0 : ℕ) / 512, by omega⟩]
  refine ⟨⟨?_, ?_⟩, ?_, ?_⟩ <;> simp only <;> omega

/-- The array after the run is the gated per-layer embedding of the arguments. -/
theorem final_array : (dats m 0 c).arrAt 8 cfg0.N = target m c :=
  (dats m 0 c).arrAt_eq_of_cover 8 (target m c) (fun t _ => flushed_eq m c t) cover

end Cert.Kernel3Ideal.Gen
end
end
-- ==== Proof.PleFormula.lean ====
module

public import proofs.«01_k».proof.Proof.Gen.Reference3Ideal.Read
public import proofs.«01_k».proof.Proof.PleBlocks

@[expose] public section
set_option maxRecDepth 16384

/-!
# What the reference of the gated per-layer embedding computes

Its operations read one after another: the row, its mean, its mean square, the normalized row.
-/

noncomputable section
namespace Cert.Reference3Ideal.Read
open Idealize.ShloMosaic LayerRow

variable (x0 : (⟨3, ![2, 16384, 2048]⟩ : Shape).Idx → EReal) (x1 : (⟨3, ![2, 16384, 256]⟩ : Shape).Idx → EReal) (x2 : (⟨2, ![2048, 2048]⟩ : Shape).Idx → EReal) (x3 : (⟨1, ![2048]⟩ : Shape).Idx → EReal) (x4 : (⟨2, ![256, 2048]⟩ : Shape).Idx → EReal) (x5 : (⟨1, ![2048]⟩ : Shape).Idx → EReal) (x6 : (⟨1, ![2048]⟩ : Shape).Idx → EReal)

/-- The mean of a row. -/
theorem mean_at (b : Fin 2) (t : Fin 16384) (z : Fin 1) :
    val_main_v18 (F := Ideal) x0 x1 x2 x3 x4 (ix3 b t z) = mean (fun k => val_main_v14 (F := Ideal) x0 x1 x2 x3 x4 (ix3 b t k)) := by
  rw [val_main_v18_apply, val_main_v16_apply, val_main_v17_apply, val_main_v15_apply, val_main_cst_2_apply, val_main_cst_3_apply, Ideal.ofBits_def, Ideal.ofBits_zero_f32, zero_add]
  refine congrArg (fun s => Ideal.div s (Ideal.ofBits .f32 0x45000000#32)) (Finset.sum_congr rfl fun k _ => ?_)
  exact congrArg (val_main_v14 (F := Ideal) x0 x1 x2 x3 x4) (funext fun a => by fin_cases a <;> rfl)

theorem less_mean_at (b : Fin 2) (t : Fin 16384) (j : Fin 2048) :
    val_main_v20 (F := Ideal) x0 x1 x2 x3 x4 (ix3 b t j) = val_main_v14 (F := Ideal) x0 x1 x2 x3 x4 (ix3 b t j) - mean (fun k => val_main_v14 (F := Ideal) x0 x1 x2 x3 x4 (ix3 b t k)) := by
  have e : idx_main_v19 (ix3 b t j) = ix3 b t 0 := funext fun a => by fin_cases a <;> rfl
  rw [val_main_v20_apply, val_main_v19_apply, e, mean_at]
  rfl

theorem less_mean_again_at (b : Fin 2) (t : Fin 16384) (j : Fin 2048) :
    val_main_v27 (F := Ideal) x0 x1 x2 x3 x4 (ix3 b t j) = val_main_v14 (F := Ideal) x0 x1 x2 x3 x4 (ix3 b t j) - mean (fun k => val_main_v14 (F := Ideal) x0 x1 x2 x3 x4 (ix3 b t k)) := by
  have e : idx_main_v26 (ix3 b t j) = ix3 b t 0 := funext fun a => by fin_cases a <;> rfl
  rw [val_main_v27_apply, val_main_v26_apply, e, mean_at]
  rfl

/-- The root of the mean square. -/
theorem root_at (b : Fin 2) (t : Fin 16384) (z : Fin 1) :
    val_main_v30 (F := Ideal) x0 x1 x2 x3 x4 (ix3 b t z) =
      Ideal.rsqrt (mean (fun k => (val_main_v14 (F := Ideal) x0 x1 x2 x3 x4 (ix3 b t k) - mean (fun k => val_main_v14 (F := Ideal) x0 x1 x2 x3 x4 (ix3 b t k)))
        * (val_main_v14 (F := Ideal) x0 x1 x2 x3 x4 (ix3 b t k) - mean (fun k => val_main_v14 (F := Ideal) x0 x1 x2 x3 x4 (ix3 b t k)))) + Ideal.ofBits .f32 0x3727C5AC#32) := by
  rw [val_main_v30_apply, val_main_v29_apply, val_main_v28_apply, val_main_v25_apply, val_main_v23_apply, val_main_v24_apply, val_main_v22_apply, val_main_cst_4_apply, val_main_cst_5_apply, val_main_cst_6_apply, Ideal.ofBits_def, Ideal.ofBits_zero_f32, zero_add]
  refine congrArg (fun s => Ideal.rsqrt (Ideal.div s (Ideal.ofBits .f32 0x45000000#32) + Ideal.ofBits .f32 0x3727C5AC#32)) (Finset.sum_congr rfl fun k _ => ?_)
  have e : idx_main_v22 (idx_main_v23 (ix3 b t z)) k = ix3 b t k := funext fun a => by fin_cases a <;> rfl
  rw [e, val_main_v21_apply, less_mean_at]
  rfl

/-- The normalized row. -/
theorem norm_at (b : Fin 2) (t : Fin 16384) (j : Fin 2048) :
    val_main_v38 (F := Ideal) x0 x1 x2 x3 x4 x5 x6 (ix3 b t j) =
      norm (fun k => val_main_v14 (F := Ideal) x0 x1 x2 x3 x4 (ix3 b t k)) (fun k => x5 (ix1 k)) (fun k => x6 (ix1 k)) j := by
  have e : idx_main_v31 (ix3 b t j) = ix3 b t 0 := funext fun a => by fin_cases a <;> rfl
  have eg : idx_main_v33 (idx_main_v34 (ix3 b t j)) = ix1 j := funext fun a => by fin_cases a <;> rfl
  have eb : idx_main_v36 (idx_main_v37 (ix3 b t j)) = ix1 j := funext fun a => by fin_cases a <;> rfl
  rw [val_main_v38_apply, val_main_v35_apply, val_main_v32_apply, val_main_v31_apply, val_main_v34_apply, val_main_v33_apply, val_main_v37_apply, val_main_v36_apply, e, eg, eb, less_mean_again_at, root_at]
  rfl

/-- The flattened result. -/
theorem flat_at (n : Fin 32768) (j : Fin 2048) :
    val_main_v39 (F := Ideal) x0 x1 x2 x3 x4 x5 x6 (ix2 n j) =
      norm (fun k => val_main_v14 (F := Ideal) x0 x1 x2 x3 x4 (ix3 (seqOf n) (posOf n) k)) (fun k => x5 (ix1 k)) (fun k => x6 (ix1 k)) j := by
  rw [val_main_v39_apply, ← norm_at]
  refine congrArg (val_main_v38 (F := Ideal) x0 x1 x2 x3 x4 x5 x6) (funext fun a => Fin.ext ?_)
  fin_cases a
  · show ((n : ℕ) * 2048 + j) / 33554432 = (n : ℕ) / 16384; omega
  · show ((n : ℕ) * 2048 + j) / 2048 % 16384 = (n : ℕ) % 16384; omega
  · show ((n : ℕ) * 2048 + j) % 2048 = j; omega

/-- The gate. -/
theorem gate_at (b : Fin 2) (t : Fin 16384) (j : Fin 2048) : val_main_v3 (F := Ideal) x0 x2 x3 (ix3 b t j) = (∑ e : Fin 2048, x0 (ix3 b t e) * x2 (ix2 e j)) + x3 (ix1 j) := by
  have eb : idx_main_v1 (idx_main_v2 (ix3 b t j)) = ix1 j := funext fun a => by fin_cases a <;> rfl
  rw [val_main_v3_apply, val_main_v0_apply, val_main_v2_apply, val_main_v1_apply, eb]
  refine congrArg (· + x3 (ix1 j)) (Finset.sum_congr rfl fun e _ => ?_)
  have e1 : lidx_main_v0 (ix3 b t j) e = ix3 b t e := funext fun a => by fin_cases a <;> rfl
  have e2 : ridx_main_v0 (ix3 b t j) e = ix2 e j := funext fun a => by fin_cases a <;> rfl
  rw [e1, e2]

/-- The embedding's projection. -/
theorem proj_at (b : Fin 2) (t : Fin 16384) (j : Fin 2048) : val_main_v12 (F := Ideal) x1 x4 (ix3 b t j) = ∑ e : Fin 256, x1 (ix3 b t e) * x4 (ix2 e j) := by
  rw [val_main_v12_apply]
  refine Finset.sum_congr rfl fun e _ => ?_
  have e1 : lidx_main_v12 (ix3 b t j) e = ix3 b t e := funext fun a => by fin_cases a <;> rfl
  have e2 : ridx_main_v12 (ix3 b t j) e = ix2 e j := funext fun a => by fin_cases a <;> rfl
  rw [e1, e2]

/-- The row before the normalization. -/
theorem row_at (b : Fin 2) (t : Fin 16384) (j : Fin 2048) : val_main_v14 (F := Ideal) x0 x1 x2 x3 x4 (ix3 b t j) =
    Cert.Kernel3Ideal.Gen.pleRow (fun k => x0 (ix3 b t k)) (fun k => x0 (ix3 b t k)) (fun e => x1 (ix3 b t e)) (fun e k => x2 (ix2 e k)) (fun k => x3 (ix1 k))
      (fun e k => x4 (ix2 e k)) j := by
  have one : FloatOps.ofBits (F := Ideal) FTy.f32 0x3F800000#32 = (1 : EReal) := one_word
  rw [val_main_v14_apply, val_main_v11_apply, val_main_v10_apply, val_main_v13_apply, val_main_v9_apply, val_main_v8_apply, val_main_v7_apply, val_main_v6_apply,
    val_main_v5_apply, val_main_v4_apply, val_main_cst_apply, val_main_cst_0_apply, val_main_cst_1_apply, gate_at, proj_at, one]
  rfl

/-- The result is the gated per-layer embedding. -/
theorem result_eq : val_main_v39 (F := Ideal) x0 x1 x2 x3 x4 x5 x6 = Cert.Kernel3Ideal.Gen.ple x0 x1 x2 x3 x4 x5 x6 := by
  funext i
  obtain ⟨n, j, rfl⟩ : ∃ (n : Fin 32768) (j : Fin 2048), i = ix2 n j := ⟨i 0, i 1, eq_ix2 i⟩
  rw [flat_at]
  simp only [row_at]
  rfl

end Cert.Reference3Ideal.Read
end
end
-- ==== Proof.OutTerms.lean ====
module

public import proofs.«01_k».proof.Proof.Gen.Kernel4Ideal.Value
public import proofs.«01_k».proof.Proof.Norm

@[expose] public section
set_option maxRecDepth 16384

/-!
# One row group of the projection out of the two attentions

What the body stores for 256 rows, entry by entry: the normalized row of the residual and the two products.
-/

noncomputable section
namespace Cert.Kernel4Ideal.Gen
open Idealize.ShloMosaic Idealize.ShloMosaic.TcCoe LayerRow

/-- The row before the normalization. -/
def outRow (h : Fin 2048 → EReal) (s d : Fin 1024 → EReal) (ws wd : Fin 1024 → Fin 2048 → EReal) (j : Fin 2048) : EReal :=
  alpha * h j + ((∑ e, s e * ws e j) + ∑ e, d e * wd e j)

theorem first_group (v0 : Vec Ideal S256x1024 .bf16) (v2 : Vec Ideal S1024x2048 .bf16) (v5 : Vec Ideal S256x1024 .bf16)
    (v7 : Vec Ideal S1024x2048 .bf16) (v11 : Vec Ideal S256x2048 .f32) (v16 v18 : Vec Ideal S1x2048 .f32) (r : Fin 256) (j : Fin 2048) :
    k0_pay5 (k0_pay2 v18) (k0_pay3 v0 v2 v5 v7 v11) (k0_pay4 v16) (ix2 r j) =
      norm (outRow (fun k => v11 (ix2 r k)) (fun e => v0 (ix2 r e)) (fun e => v5 (ix2 r e)) (fun e k => v2 (ix2 e k)) (fun e k => v7 (ix2 e k)))
        (fun k => v16 (ix2 0 k)) (fun k => v18 (ix2 0 k)) j := by
  pointwise [k0_pay5, k0_pay2, k0_pay3, k0_pay4]
  rfl

theorem second_group (v0 : Vec Ideal S256x1024 .bf16) (v2 : Vec Ideal S1024x2048 .bf16) (v5 : Vec Ideal S256x1024 .bf16)
    (v7 : Vec Ideal S1024x2048 .bf16) (v11 : Vec Ideal S256x2048 .f32) (v16 v18 : Vec Ideal S1x2048 .f32) (r : Fin 256) (j : Fin 2048) :
    k0_pay1 (k0_pay6 v16) (k0_pay7 v18) (k0_pay8 v0 v2 v5 v7 v11) (k0_pay9 v0 v2 v5 v7 v11) (Scalar.ofBits .f32 0x3727C5AC#32) (ix2 r j) =
      norm (outRow (fun k => v11 (ix2 r k)) (fun e => v0 (ix2 r e)) (fun e => v5 (ix2 r e)) (fun e k => v2 (ix2 e k)) (fun e k => v7 (ix2 e k)))
        (fun k => v16 (ix2 0 k)) (fun k => v18 (ix2 0 k)) j := by
  pointwise [k0_pay1, k0_pay6, k0_pay7, k0_pay8, k0_pay9]
  rfl

end Cert.Kernel4Ideal.Gen
end
end
-- ==== Proof.OutBlocks.lean ====
module

public import proofs.«01_k».proof.Proof.OutTerms
public import proofs.«01_k».proof.Proof.Loads
public import Idealize.ShloMosaic.Lib.Pipeline.ValueKit.Geometry
public import Idealize.ShloMosaic.Lib.StableHlo.ReadAt

@[expose] public section
set_option maxRecDepth 16384

/-!
# The array the projection out of the attentions writes

Grid point `t` writes rows `512 t` to `512 t + 511`, in two groups of 256; together the points write the projection of the
two attentions, added to the residual and normalized.
-/

noncomputable section
namespace Cert.Kernel4Ideal.Gen
open Idealize.ShloMosaic Idealize.ShloMosaic.TcCoe LayerRow
open Idealize.ShloMosaic.Pipeline (Dat)

/-- The projection out, entry by entry, of its six arguments. -/
def projOut (x : (⟨3, ![2, 16384, 2048]⟩ : Shape).Idx → EReal) (s d : (⟨3, ![2, 16384, 1024]⟩ : Shape).Idx → EReal) (w : (⟨2, ![2048, 2048]⟩ : Shape).Idx → EReal)
    (g b : (⟨1, ![2048]⟩ : Shape).Idx → EReal) : (⟨2, ![32768, 2048]⟩ : Shape).Idx → EReal := fun i =>
  norm (outRow (fun k => x (ix3 (seqOf (i 0)) (posOf (i 0)) k)) (fun e => s (ix3 (seqOf (i 0)) (posOf (i 0)) e)) (fun e => d (ix3 (seqOf (i 0)) (posOf (i 0)) e))
    (fun e k => w (ix2 ⟨e, by omega⟩ k)) (fun e k => w (ix2 ⟨1024 + e, by omega⟩ k))) (fun k => g (ix1 k)) (fun k => b (ix1 k)) (i 1)

variable (m : (ℓ : Loc nD τ sig) → Buf (Elt Ideal) ℓ) (c : Dev nD)

/-- The arguments. -/
abbrev arg0Of : (⟨3, ![2, 16384, 2048]⟩ : Shape).Idx → EReal := m ((c : Thread nD τ).loc main_arg0)
abbrev arg1Of : (⟨3, ![2, 16384, 1024]⟩ : Shape).Idx → EReal := m ((c : Thread nD τ).loc main_arg1)
abbrev arg2Of : (⟨3, ![2, 16384, 1024]⟩ : Shape).Idx → EReal := m ((c : Thread nD τ).loc main_arg2)
abbrev arg3Of : (⟨2, ![2048, 2048]⟩ : Shape).Idx → EReal := m ((c : Thread nD τ).loc main_arg3)
abbrev arg4Of : (⟨1, ![2048]⟩ : Shape).Idx → EReal := m ((c : Thread nD τ).loc main_arg4)
abbrev arg5Of : (⟨1, ![2048]⟩ : Shape).Idx → EReal := m ((c : Thread nD τ).loc main_arg5)

theorem staged1 (n : Fin 32768) (e : Fin 2048) : V m c main_v1 (ix2 n e) = arg0Of m c (ix3 (seqOf n) (posOf n) e) := by
  unfold V
  after_reads_at
  rfl
theorem staged3 (n : Fin 32768) (e : Fin 1024) : V m c main_v3 (ix2 n e) = arg1Of m c (ix3 (seqOf n) (posOf n) e) := by
  unfold V
  after_reads_at
  rfl
theorem staged5 (n : Fin 32768) (e : Fin 1024) : V m c main_v5 (ix2 n e) = arg2Of m c (ix3 (seqOf n) (posOf n) e) := by
  unfold V
  after_reads_at
  rfl
theorem staged6 (e : Fin 1024) (k : Fin 2048) : V m c main_v6 (ix2 e k) = arg3Of m c (ix2 ⟨e, by omega⟩ k) := by
  unfold V
  after_reads_at
theorem staged7 (e : Fin 1024) (k : Fin 2048) : V m c main_v7 (ix2 e k) = arg3Of m c (ix2 ⟨1024 + e, by omega⟩ k) := by
  unfold V
  after_reads_at
theorem staged8 (e : Fin 2048) : V m c main_v8 (ix2 0 e) = arg4Of m c (ix1 e) := by
  unfold V
  after_reads_at
theorem staged9 (e : Fin 2048) : V m c main_v9 (ix2 0 e) = arg5Of m c (ix1 e) := by
  unfold V
  after_reads_at

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index7 : ∀ t : Fin grid0.N, win0_7.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem point_lt (t : Fin cfg0.N) : t.val < 64 := lt_of_lt_of_eq t.isLt (by decide +kernel)

/-- Row `r` of a grid point's block. -/
def rowOf (t : Fin cfg0.N) (r : Fin 512) : Fin 32768 := ⟨512 * t.val + r, by have := point_lt t; omega⟩

theorem block0 (t : Fin cfg0.N) (r : Fin 512) (e : Fin 2048) : iblk m c 0 t (ix2 r e) = arg0Of m c (ix3 (seqOf (rowOf t r)) (posOf (rowOf t r)) e) := by
  rw [← staged1]
  unfold iblk
  refine congrArg (V m c main_v1) (funext fun a => Fin.ext ?_)
  fin_cases a
  · blk_simp [index0 t]
    show t.val * 512 + (r : ℕ) = 512 * t.val + r; omega
  · blk_simp [index0 t]; rfl
theorem block1 (t : Fin cfg0.N) (r : Fin 512) (e : Fin 1024) : iblk m c 1 t (ix2 r e) = arg1Of m c (ix3 (seqOf (rowOf t r)) (posOf (rowOf t r)) e) := by
  rw [← staged3]
  unfold iblk
  refine congrArg (V m c main_v3) (funext fun a => Fin.ext ?_)
  fin_cases a
  · blk_simp [index1 t]
    show t.val * 512 + (r : ℕ) = 512 * t.val + r; omega
  · blk_simp [index1 t]; rfl
theorem block2 (t : Fin cfg0.N) (r : Fin 512) (e : Fin 1024) : iblk m c 2 t (ix2 r e) = arg2Of m c (ix3 (seqOf (rowOf t r)) (posOf (rowOf t r)) e) := by
  rw [← staged5]
  unfold iblk
  refine congrArg (V m c main_v5) (funext fun a => Fin.ext ?_)
  fin_cases a
  · blk_simp [index2 t]
    show t.val * 512 + (r : ℕ) = 512 * t.val + r; omega
  · blk_simp [index2 t]; rfl
theorem block3 (t : Fin cfg0.N) (e : Fin 1024) (k : Fin 2048) : iblk m c 3 t (ix2 e k) = arg3Of m c (ix2 ⟨e, by omega⟩ k) := by
  rw [← staged6]
  unfold iblk
  refine congrArg (V m c main_v6) (funext fun a => Fin.ext ?_)
  fin_cases a <;> blk_simp [index3 t] <;> rfl
theorem block4 (t : Fin cfg0.N) (e : Fin 1024) (k : Fin 2048) : iblk m c 4 t (ix2 e k) = arg3Of m c (ix2 ⟨1024 + e, by omega⟩ k) := by
  rw [← staged7]
  unfold iblk
  refine congrArg (V m c main_v7) (funext fun a => Fin.ext ?_)
  fin_cases a <;> blk_simp [index4 t] <;> rfl
theorem block5 (t : Fin cfg0.N) (e : Fin 2048) : iblk m c 5 t (ix2 0 e) = arg4Of m c (ix1 e) := by
  rw [← staged8]
  unfold iblk
  refine congrArg (V m c main_v8) (funext fun a => Fin.ext ?_)
  fin_cases a <;> blk_simp [index5 t] <;> rfl
theorem block6 (t : Fin cfg0.N) (e : Fin 2048) : iblk m c 6 t (ix2 0 e) = arg5Of m c (ix1 e) := by
  rw [← staged9]
  unfold iblk
  refine congrArg (V m c main_v9) (funext fun a => Fin.ext ?_)
  fin_cases a <;> blk_simp [index6 t] <;> rfl

/-- The projection out of the arguments. -/
def target : (⟨2, ![32768, 2048]⟩ : Shape).Idx → EReal := projOut (arg0Of m c) (arg1Of m c) (arg2Of m c) (arg3Of m c) (arg4Of m c) (arg5Of m c)

/-- The normalized row of a grid point, of the blocks it reads. -/
theorem row_eq (t : Fin cfg0.N) (r : Fin 256) (r' : Fin 512) (j : Fin 2048) (v0 : Vec Ideal S256x1024 .bf16) (v2 : Vec Ideal S1024x2048 .bf16)
    (v5 : Vec Ideal S256x1024 .bf16) (v7 : Vec Ideal S1024x2048 .bf16) (v11 : Vec Ideal S256x2048 .f32) (g b : Vec Ideal S1x2048 .f32)
    (h0 : ∀ k, v0 (ix2 r k) = iblk m c 1 t (ix2 r' k)) (h2 : ∀ e k, v2 (ix2 e k) = iblk m c 3 t (ix2 e k)) (h5 : ∀ k, v5 (ix2 r k) = iblk m c 2 t (ix2 r' k))
    (h7 : ∀ e k, v7 (ix2 e k) = iblk m c 4 t (ix2 e k)) (h11 : ∀ k, v11 (ix2 r k) = iblk m c 0 t (ix2 r' k))
    (hg : ∀ k, g (ix2 0 k) = iblk m c 5 t (ix2 0 k)) (hb : ∀ k, b (ix2 0 k) = iblk m c 6 t (ix2 0 k)) :
    norm (outRow (fun k => v11 (ix2 r k)) (fun e => v0 (ix2 r e)) (fun e => v5 (ix2 r e)) (fun e k => v2 (ix2 e k)) (fun e k => v7 (ix2 e k)))
        (fun k => g (ix2 0 k)) (fun k => b (ix2 0 k)) j = target m c (ix2 (rowOf t r') j) := by
  simp only [h0, h2, h5, h7, h11, hg, hb, block0, block1, block2, block3, block4, block5, block6]
  rfl

theorem out_eq (t : Fin cfg0.N) (r : Fin 512) (j : Fin 2048) :
    out0_7 (iblk m c 0 t) (iblk m c 1 t) (iblk m c 2 t) (iblk m c 3 t) (iblk m c 4 t) (iblk m c 5 t) (iblk m c 6 t) (ix2 r j)
      = target m c (ix2 (rowOf t r) j) := by
  unfold out0_7
  by_cases hr : (r : ℕ) < 256
  · rw [canon_before (o := 256) (n := 256) _ _ _ r j hr]
    have er : r = ⟨0 + ((⟨r, hr⟩ : Fin 256) : ℕ), by omega⟩ := Fin.ext (Nat.zero_add _).symm
    refine (congrArg (View.canon _) (congrArg (fun z => ix2 z j) er)).trans ((canon_rows (o := 0) (n := 256) _ _ _ ⟨r, hr⟩ j (by simp only; omega)).trans ?_)
    refine (first_group _ _ _ _ _ _ _ ⟨r, hr⟩ j).trans (row_eq m c t _ r j _ _ _ _ _ _ _ (fun k => ?_) (fun e k => ?_) (fun k => ?_)
      (fun e k => ?_) (fun k => ?_) (fun k => ?_) fun k => ?_)
    · exact (ld_at (o := 0) (p := 0) _ _ (⟨r, hr⟩ : Fin 256) k (by simp only; omega) (by omega)).trans (congrArg (iblk m c 1 t) (by simp))
    · exact (ld_at (o := 0) (p := 0) _ _ e k (by omega) (by omega)).trans (congrArg (iblk m c 3 t) (by simp))
    · exact (ld_at (o := 0) (p := 0) _ _ (⟨r, hr⟩ : Fin 256) k (by simp only; omega) (by omega)).trans (congrArg (iblk m c 2 t) (by simp))
    · exact (ld_at (o := 0) (p := 0) _ _ e k (by omega) (by omega)).trans (congrArg (iblk m c 4 t) (by simp))
    · exact (ld_at (o := 0) (p := 0) _ _ (⟨r, hr⟩ : Fin 256) k (by simp only; omega) (by omega)).trans (congrArg (iblk m c 0 t) (by simp))
    · exact (ld_at (o := 0) (p := 0) (n := 1) _ _ 0 k (by simp) (by omega)).trans (congrArg (iblk m c 5 t) (by simp))
    · exact (ld_at (o := 0) (p := 0) (n := 1) _ _ 0 k (by simp) (by omega)).trans (congrArg (iblk m c 6 t) (by simp))
  · have er : r = ⟨256 + ((⟨r - 256, by omega⟩ : Fin 256) : ℕ), by simp only; omega⟩ := Fin.ext (by simp only; omega)
    have ei : ∀ h, (⟨256 + ((r : ℕ) - 256), h⟩ : Fin 512) = r := fun _ => Fin.ext (by simp only; omega)
    refine (congrArg (View.canon _) (congrArg (fun z => ix2 z j) er)).trans
      ((canon_rows (o := 256) (n := 256) _ _ _ ⟨r - 256, by omega⟩ j (by simp only; omega)).trans ?_)
    refine (second_group _ _ _ _ _ _ _ ⟨r - 256, by omega⟩ j).trans (row_eq m c t _ r j _ _ _ _ _ _ _ (fun k => ?_) (fun e k => ?_) (fun k => ?_)
      (fun e k => ?_) (fun k => ?_) (fun k => ?_) fun k => ?_)
    · exact (ld_at (o := 256) (p := 0) _ _ (⟨r - 256, by omega⟩ : Fin 256) k (by simp only; omega) (by omega)).trans (congrArg (iblk m c 1 t) (by simp [ei]))
    · exact (ld_at (o := 0) (p := 0) _ _ e k (by omega) (by omega)).trans (congrArg (iblk m c 3 t) (by simp))
    · exact (ld_at (o := 256) (p := 0) _ _ (⟨r - 256, by omega⟩ : Fin 256) k (by simp only; omega) (by omega)).trans (congrArg (iblk m c 2 t) (by simp [ei]))
    · exact (ld_at (o := 0) (p := 0) _ _ e k (by omega) (by omega)).trans (congrArg (iblk m c 4 t) (by simp))
    · exact (ld_at (o := 256) (p := 0) _ _ (⟨r - 256, by omega⟩ : Fin 256) k (by simp only; omega) (by omega)).trans (congrArg (iblk m c 0 t) (by simp [ei]))
    · exact (ld_at (o := 0) (p := 0) (n := 1) _ _ 0 k (by simp) (by omega)).trans (congrArg (iblk m c 5 t) (by simp))
    · exact (ld_at (o := 0) (p := 0) (n := 1) _ _ 0 k (by simp) (by omega)).trans (congrArg (iblk m c 6 t) (by simp))

theorem emb7 (t : Fin cfg0.N) (r : Fin 512) (j : Fin 2048) : ((cfg0.win 7).blk t).view.emb (ix2 r j) = ix2 (rowOf t r) j := by
  funext a
  refine Fin.ext ?_
  fin_cases a
  · blk_simp [index7 t]
    show t.val * 512 + (r : ℕ) = 512 * t.val + r; omega
  · blk_simp [index7 t]; rfl

/-- What a grid point writes back is its block of the projection out. -/
theorem flushed_eq (t : Fin cfg0.N) : (dats m 0 c).flushed 7 t = ((cfg0.win 7).blk t).view.read (Elt Ideal) (target m c) := by
  rw [Value.flushed7]
  funext y
  obtain ⟨r, j, rfl⟩ : ∃ (r : Fin 512) (j : Fin 2048), y = ix2 r j := ⟨y 0, y 1, eq_ix2 y⟩
  exact (out_eq m c t r j).trans (congrArg (target m c) (emb7 t r j)).symm

/-- Every entry of the output is in some point's block. -/
theorem cover (i : S32768x2048.Idx) : ∃ t : Fin cfg0.N, (cfg0.win 7).flush t = true ∧ i ∈ ((cfg0.win 7).blk t).view.set := by
  have h0 : (i 0 : ℕ) < 32768 := (i 0).isLt
  have h1 : (i 1 : ℕ) < 2048 := (i 1).isLt
  have hN : grid0.N = 64 := by decide +kernel
  have hM : cfg0.N = 64 := hN
  refine ⟨⟨(i 0 : ℕ) / 512, by omega⟩, (by decide +kernel : ∀ t : Fin cfg0.N, (cfg0.win 7).flush t = true) _, ?_⟩
  mem_blk [index7 ⟨(i 0 : ℕ) / 512, by omega⟩]
  refine ⟨⟨?_, ?_⟩, ?_, ?_⟩ <;> simp only <;> omega

/-- The array after the run is the projection out of the arguments. -/
theorem final_array : (dats m 0 c).arrAt 7 cfg0.N = target m c :=
  (dats m 0 c).arrAt_eq_of_cover 7 (target m c) (fun t _ => flushed_eq m c t) cover

end Cert.Kernel4Ideal.Gen
end
end
-- ==== Proof.OutFormula.lean ====
module

public import proofs.«01_k».proof.Proof.Gen.Reference4Ideal.Read
public import proofs.«01_k».proof.Proof.OutBlocks

@[expose] public section
set_option maxRecDepth 16384

/-!
# What the reference of the projection out computes

Its operations read one after another: the row, its mean, its mean square, the normalized row.
-/

noncomputable section
namespace Cert.Reference4Ideal.Read
open Idealize.ShloMosaic LayerRow

variable (x0 : (⟨3, ![2, 16384, 2048]⟩ : Shape).Idx → EReal) (x1 : (⟨3, ![2, 16384, 1024]⟩ : Shape).Idx → EReal) (x2 : (⟨3, ![2, 16384, 1024]⟩ : Shape).Idx → EReal) (x3 : (⟨2, ![2048, 2048]⟩ : Shape).Idx → EReal) (x4 : (⟨1, ![2048]⟩ : Shape).Idx → EReal) (x5 : (⟨1, ![2048]⟩ : Shape).Idx → EReal)

/-- The mean of a row. -/
theorem mean_at (b : Fin 2) (t : Fin 16384) (z : Fin 1) :
    val_main_v8 (F := Ideal) x0 x1 x2 x3 (ix3 b t z) = mean (fun k => val_main_v4 (F := Ideal) x0 x1 x2 x3 (ix3 b t k)) := by
  rw [val_main_v8_apply, val_main_v6_apply, val_main_v7_apply, val_main_v5_apply, val_main_cst_0_apply, val_main_cst_1_apply, Ideal.ofBits_def, Ideal.ofBits_zero_f32, zero_add]
  refine congrArg (fun s => Ideal.div s (Ideal.ofBits .f32 0x45000000#32)) (Finset.sum_congr rfl fun k _ => ?_)
  exact congrArg (val_main_v4 (F := Ideal) x0 x1 x2 x3) (funext fun a => by fin_cases a <;> rfl)

theorem less_mean_at (b : Fin 2) (t : Fin 16384) (j : Fin 2048) :
    val_main_v10 (F := Ideal) x0 x1 x2 x3 (ix3 b t j) = val_main_v4 (F := Ideal) x0 x1 x2 x3 (ix3 b t j) - mean (fun k => val_main_v4 (F := Ideal) x0 x1 x2 x3 (ix3 b t k)) := by
  have e : idx_main_v9 (ix3 b t j) = ix3 b t 0 := funext fun a => by fin_cases a <;> rfl
  rw [val_main_v10_apply, val_main_v9_apply, e, mean_at]
  rfl

theorem less_mean_again_at (b : Fin 2) (t : Fin 16384) (j : Fin 2048) :
    val_main_v17 (F := Ideal) x0 x1 x2 x3 (ix3 b t j) = val_main_v4 (F := Ideal) x0 x1 x2 x3 (ix3 b t j) - mean (fun k => val_main_v4 (F := Ideal) x0 x1 x2 x3 (ix3 b t k)) := by
  have e : idx_main_v16 (ix3 b t j) = ix3 b t 0 := funext fun a => by fin_cases a <;> rfl
  rw [val_main_v17_apply, val_main_v16_apply, e, mean_at]
  rfl

/-- The root of the mean square. -/
theorem root_at (b : Fin 2) (t : Fin 16384) (z : Fin 1) :
    val_main_v20 (F := Ideal) x0 x1 x2 x3 (ix3 b t z) =
      Ideal.rsqrt (mean (fun k => (val_main_v4 (F := Ideal) x0 x1 x2 x3 (ix3 b t k) - mean (fun k => val_main_v4 (F := Ideal) x0 x1 x2 x3 (ix3 b t k)))
        * (val_main_v4 (F := Ideal) x0 x1 x2 x3 (ix3 b t k) - mean (fun k => val_main_v4 (F := Ideal) x0 x1 x2 x3 (ix3 b t k)))) + Ideal.ofBits .f32 0x3727C5AC#32) := by
  rw [val_main_v20_apply, val_main_v19_apply, val_main_v18_apply, val_main_v15_apply, val_main_v13_apply, val_main_v14_apply, val_main_v12_apply, val_main_cst_2_apply, val_main_cst_3_apply, val_main_cst_4_apply, Ideal.ofBits_def, Ideal.ofBits_zero_f32, zero_add]
  refine congrArg (fun s => Ideal.rsqrt (Ideal.div s (Ideal.ofBits .f32 0x45000000#32) + Ideal.ofBits .f32 0x3727C5AC#32)) (Finset.sum_congr rfl fun k _ => ?_)
  have e : idx_main_v12 (idx_main_v13 (ix3 b t z)) k = ix3 b t k := funext fun a => by fin_cases a <;> rfl
  rw [e, val_main_v11_apply, less_mean_at]
  rfl

/-- The normalized row. -/
theorem norm_at (b : Fin 2) (t : Fin 16384) (j : Fin 2048) :
    val_main_v28 (F := Ideal) x0 x1 x2 x3 x4 x5 (ix3 b t j) =
      norm (fun k => val_main_v4 (F := Ideal) x0 x1 x2 x3 (ix3 b t k)) (fun k => x4 (ix1 k)) (fun k => x5 (ix1 k)) j := by
  have e : idx_main_v21 (ix3 b t j) = ix3 b t 0 := funext fun a => by fin_cases a <;> rfl
  have eg : idx_main_v23 (idx_main_v24 (ix3 b t j)) = ix1 j := funext fun a => by fin_cases a <;> rfl
  have eb : idx_main_v26 (idx_main_v27 (ix3 b t j)) = ix1 j := funext fun a => by fin_cases a <;> rfl
  rw [val_main_v28_apply, val_main_v25_apply, val_main_v22_apply, val_main_v21_apply, val_main_v24_apply, val_main_v23_apply, val_main_v27_apply, val_main_v26_apply, e, eg, eb, less_mean_again_at, root_at]
  rfl

/-- The flattened result. -/
theorem flat_at (n : Fin 32768) (j : Fin 2048) :
    val_main_v29 (F := Ideal) x0 x1 x2 x3 x4 x5 (ix2 n j) =
      norm (fun k => val_main_v4 (F := Ideal) x0 x1 x2 x3 (ix3 (seqOf n) (posOf n) k)) (fun k => x4 (ix1 k)) (fun k => x5 (ix1 k)) j := by
  rw [val_main_v29_apply, ← norm_at]
  refine congrArg (val_main_v28 (F := Ideal) x0 x1 x2 x3 x4 x5) (funext fun a => Fin.ext ?_)
  fin_cases a
  · show ((n : ℕ) * 2048 + j) / 33554432 = (n : ℕ) / 16384; omega
  · show ((n : ℕ) * 2048 + j) / 2048 % 16384 = (n : ℕ) % 16384; omega
  · show ((n : ℕ) * 2048 + j) % 2048 = j; omega

/-- The joined attentions' lower columns. -/
theorem join_lo (b : Fin 2) (t : Fin 16384) (e : Fin 1024) : val_main_v0 (F := Ideal) x1 x2 (ix3 b t ⟨e, by omega⟩) = x1 (ix3 b t e) :=
  concatenate_pair_apply_left (t := S2x16384x2048) (s₁ := S2x16384x1024) (s₂ := S2x16384x1024) 2 x1 x2 _ _ rfl (ix3 b t e) fun a => by fin_cases a <;> rfl

/-- The joined attentions' upper columns. -/
theorem join_hi (b : Fin 2) (t : Fin 16384) (e : Fin 1024) : val_main_v0 (F := Ideal) x1 x2 (ix3 b t ⟨1024 + e, by omega⟩) = x2 (ix3 b t e) :=
  concatenate_pair_apply_right (t := S2x16384x2048) (s₁ := S2x16384x1024) (s₂ := S2x16384x1024) 2 x1 x2 _ _ rfl rfl (ix3 b t e)
    (fun a h => by fin_cases a <;> first | rfl | exact absurd rfl h) (Nat.add_comm _ _)

/-- A sum over the joined columns, by halves. -/
theorem split_sum (f : Fin 2048 → EReal) : ∑ k, f k = (∑ e : Fin 1024, f ⟨e, by omega⟩) + ∑ e : Fin 1024, f ⟨1024 + e, by omega⟩ :=
  Fin.sum_univ_add (a := 1024) (b := 1024) f

/-- The row before the normalization. -/
theorem row_at (b : Fin 2) (t : Fin 16384) (j : Fin 2048) : val_main_v4 (F := Ideal) x0 x1 x2 x3 (ix3 b t j) =
    Cert.Kernel4Ideal.Gen.outRow (fun k => x0 (ix3 b t k)) (fun e => x1 (ix3 b t e)) (fun e => x2 (ix3 b t e)) (fun e k => x3 (ix2 ⟨e, by omega⟩ k))
      (fun e k => x3 (ix2 ⟨1024 + e, by omega⟩ k)) j := by
  rw [val_main_v4_apply, val_main_v2_apply, val_main_v1_apply, val_main_cst_apply, val_main_v3_apply, split_sum]
  have e1 : ∀ k, lidx_main_v3 (ix3 b t j) k = ix3 b t k := fun k => funext fun a => by fin_cases a <;> rfl
  have e2 : ∀ k, ridx_main_v3 (ix3 b t j) k = ix2 k j := fun k => funext fun a => by fin_cases a <;> rfl
  simp only [e1, e2, join_lo, join_hi]
  rfl

/-- The result is the projection out. -/
theorem result_eq : val_main_v29 (F := Ideal) x0 x1 x2 x3 x4 x5 = Cert.Kernel4Ideal.Gen.projOut x0 x1 x2 x3 x4 x5 := by
  funext i
  obtain ⟨n, j, rfl⟩ : ∃ (n : Fin 32768) (j : Fin 2048), i = ix2 n j := ⟨i 0, i 1, eq_ix2 i⟩
  rw [flat_at]
  simp only [row_at]
  rfl

end Cert.Reference4Ideal.Read
end
end
-- ==== Proof.QkvTerms.lean ====
module

public import proofs.«01_k».proof.Proof.Gen.Kernel6Ideal.Value
public import proofs.«01_k».proof.Proof.Norm

@[expose] public section
set_option maxRecDepth 16384

/-!
# One row of the projection into queries, keys and values

What the body stores, entry by entry: four sections of plain columns, and two sections of eight heads of 128 lanes each, where the
rotary turn adds to every lane a multiple of the lane eight above it and of the lane eight below it.
-/

noncomputable section
namespace Cert.Kernel6Ideal.Gen
open Idealize.ShloMosaic Idealize.ShloMosaic.TcCoe LayerRow

/-- The two scales of the queries, the values the kernel's constants are named for. -/
abbrev sbScale : Ideal .f32 := Named.named κ "sb_scale" 0x3E0293EE#32
abbrev diffScale : Ideal .f32 := Named.named κ "diff_scale" 0x3E38AA3B#32

/-- A lane of a head with its two neighbours, each under its own factor. The neighbours are taken around the end of the head. -/
def turned (o : ℕ) (ho : o + 128 ≤ 1024) (t : Fin 1024 → EReal) (p q s : Fin 128 → EReal) (j : Fin 128) : EReal :=
  t ⟨o + j, by omega⟩ * p j + t ⟨o + (j + 128 - 120) % 128, by omega⟩ * q j + t ⟨o + (j + 128 - 8) % 128, by omega⟩ * s j

section heads
variable (v1 : FVec Ideal S512x2048 .bf16) (p q s : FVec Ideal S512x128 .f32) (v74 : FVec Ideal S2048x1024 .bf16) (r : Fin 512) (j : Fin 128)

theorem head_k0 : (k0_pay30 v1 p q s v74) (ix2 r j) = turned 0 (by omega) (fun k => ∑ x, v1 (ix2 r x) * v74 (ix2 x k)) (fun l => p (ix2 r l)) (fun l => q (ix2 r l)) (fun l => s (ix2 r l)) j := by
  pointwise [k0_pay30, k0_pay29]
  simp only [turned, Nat.zero_add]
theorem head_k1 : (k0_pay32 (k0_pay31 v1 p q s v74) (Scalar.ofBits .f32 0x3F800000#32)) (ix2 r j) = turned 128 (by omega) (fun k => ∑ x, v1 (ix2 r x) * v74 (ix2 x k)) (fun l => p (ix2 r l)) (fun l => q (ix2 r l)) (fun l => s (ix2 r l)) j := by
  pointwise [k0_pay32, k0_pay31, k0_pay29]
  rfl
theorem head_k2 : (k0_pay33 p q s (k0_pay29 v1 v74)) (ix2 r j) = turned 256 (by omega) (fun k => ∑ x, v1 (ix2 r x) * v74 (ix2 x k)) (fun l => p (ix2 r l)) (fun l => q (ix2 r l)) (fun l => s (ix2 r l)) j := by
  pointwise [k0_pay33, k0_pay29]
  rfl
theorem head_k3 : (k0_pay34 p q s (k0_pay29 v1 v74)) (ix2 r j) = turned 384 (by omega) (fun k => ∑ x, v1 (ix2 r x) * v74 (ix2 x k)) (fun l => p (ix2 r l)) (fun l => q (ix2 r l)) (fun l => s (ix2 r l)) j := by
  pointwise [k0_pay34, k0_pay29]
  rfl
theorem head_k4 : (k0_pay35 p q s (k0_pay29 v1 v74)) (ix2 r j) = turned 512 (by omega) (fun k => ∑ x, v1 (ix2 r x) * v74 (ix2 x k)) (fun l => p (ix2 r l)) (fun l => q (ix2 r l)) (fun l => s (ix2 r l)) j := by
  pointwise [k0_pay35, k0_pay29]
  rfl
theorem head_k5 : (k0_pay36 p q s (k0_pay29 v1 v74)) (ix2 r j) = turned 640 (by omega) (fun k => ∑ x, v1 (ix2 r x) * v74 (ix2 x k)) (fun l => p (ix2 r l)) (fun l => q (ix2 r l)) (fun l => s (ix2 r l)) j := by
  pointwise [k0_pay36, k0_pay29]
  rfl
theorem head_k6 : (k0_pay37 p q s (k0_pay29 v1 v74)) (ix2 r j) = turned 768 (by omega) (fun k => ∑ x, v1 (ix2 r x) * v74 (ix2 x k)) (fun l => p (ix2 r l)) (fun l => q (ix2 r l)) (fun l => s (ix2 r l)) j := by
  pointwise [k0_pay37, k0_pay29]
  rfl
theorem head_k7 : (k0_pay38 p q s (k0_pay29 v1 v74)) (ix2 r j) = turned 896 (by omega) (fun k => ∑ x, v1 (ix2 r x) * v74 (ix2 x k)) (fun l => p (ix2 r l)) (fun l => q (ix2 r l)) (fun l => s (ix2 r l)) j := by
  pointwise [k0_pay38, k0_pay29]
  rfl
theorem head_q0 : (k0_pay17 v1 p q s v74 (constant S512x1024 .f32 0x00000000#32)) (ix2 r j) = turned 0 (by omega) (fun k => ∑ x, v1 (ix2 r x) * v74 (ix2 x k)) (fun l => p (ix2 r l)) (fun l => q (ix2 r l)) (fun l => s (ix2 r l)) j * diffScale := by
  pointwise [k0_pay17, k0_pay16]
  simp only [turned, Nat.zero_add]
theorem head_q1 : (k0_pay18 v1 p q s v74 (constant S512x1024 .f32 0x00000000#32)) (ix2 r j) = turned 128 (by omega) (fun k => ∑ x, v1 (ix2 r x) * v74 (ix2 x k)) (fun l => p (ix2 r l)) (fun l => q (ix2 r l)) (fun l => s (ix2 r l)) j * diffScale := by
  pointwise [k0_pay18, k0_pay16]
  rfl
theorem head_q2 : (k0_pay19 v1 p q s v74 (constant S512x1024 .f32 0x00000000#32)) (ix2 r j) = turned 256 (by omega) (fun k => ∑ x, v1 (ix2 r x) * v74 (ix2 x k)) (fun l => p (ix2 r l)) (fun l => q (ix2 r l)) (fun l => s (ix2 r l)) j * diffScale := by
  pointwise [k0_pay19, k0_pay16]
  rfl
theorem head_q3 : (k0_pay23 p q s (k0_pay20 v1 v74 (constant S512x1024 .f32 0x00000000#32)) (k0_pay21 v1 v74 (constant S512x1024 .f32 0x00000000#32)) (k0_pay22 v1 v74 (constant S512x1024 .f32 0x00000000#32))) (ix2 r j) = turned 384 (by omega) (fun k => ∑ x, v1 (ix2 r x) * v74 (ix2 x k)) (fun l => p (ix2 r l)) (fun l => q (ix2 r l)) (fun l => s (ix2 r l)) j * diffScale := by
  pointwise [k0_pay23, k0_pay21, k0_pay22, k0_pay20, k0_pay16]
  rfl
theorem head_q4 : (k0_pay24 p q s (k0_pay16 v1 v74 (constant S512x1024 .f32 0x00000000#32))) (ix2 r j) = turned 512 (by omega) (fun k => ∑ x, v1 (ix2 r x) * v74 (ix2 x k)) (fun l => p (ix2 r l)) (fun l => q (ix2 r l)) (fun l => s (ix2 r l)) j * diffScale := by
  pointwise [k0_pay24, k0_pay16]
  rfl
theorem head_q5 : (k0_pay25 p q s (k0_pay16 v1 v74 (constant S512x1024 .f32 0x00000000#32))) (ix2 r j) = turned 640 (by omega) (fun k => ∑ x, v1 (ix2 r x) * v74 (ix2 x k)) (fun l => p (ix2 r l)) (fun l => q (ix2 r l)) (fun l => s (ix2 r l)) j * diffScale := by
  pointwise [k0_pay25, k0_pay16]
  rfl
theorem head_q6 : (k0_pay27 (k0_pay26 p q s (k0_pay16 v1 v74 (constant S512x1024 .f32 0x00000000#32))) diffScale) (ix2 r j) = turned 768 (by omega) (fun k => ∑ x, v1 (ix2 r x) * v74 (ix2 x k)) (fun l => p (ix2 r l)) (fun l => q (ix2 r l)) (fun l => s (ix2 r l)) j * diffScale := by
  pointwise [k0_pay27, k0_pay26, k0_pay16]
  rfl
theorem head_q7 : (k0_pay28 p q s (k0_pay16 v1 v74 (constant S512x1024 .f32 0x00000000#32))) (ix2 r j) = turned 896 (by omega) (fun k => ∑ x, v1 (ix2 r x) * v74 (ix2 x k)) (fun l => p (ix2 r l)) (fun l => q (ix2 r l)) (fun l => s (ix2 r l)) j * diffScale := by
  pointwise [k0_pay28, k0_pay16]
  rfl
end heads

section plain
variable (v1 : FVec Ideal S512x2048 .bf16) (v74 : FVec Ideal S2048x1024 .bf16) (r : Fin 512) (j : Fin 1024)

theorem plain_0 : k0_pay12 v1 v74 (ix2 r j) = (∑ x, v1 (ix2 r x) * v74 (ix2 x j)) * sbScale := by
  pointwise [k0_pay12]
theorem plain_1 : k0_pay13 v1 v74 (ix2 r j) = ∑ x, v1 (ix2 r x) * v74 (ix2 x j) := by
  pointwise [k0_pay13]
theorem plain_2 : k0_pay14 v1 v74 (ix2 r j) = ∑ x, v1 (ix2 r x) * v74 (ix2 x j) := by
  pointwise [k0_pay14]
theorem plain_5 : k0_pay1 v1 (k0_pay39 v74) (constant S512x1024 .f32 0x00000000#32) (ix2 r j) = ∑ x, v1 (ix2 r x) * v74 (ix2 x j) := by
  pointwise [k0_pay1, k0_pay39]
end plain

theorem same_rows (v : Vec Ideal S512x2048 .bf16) : k0_pay2 v = v := by
  funext i
  pointwise [k0_pay2]
theorem same_weights (v : Vec Ideal S2048x1024 .bf16) : k0_pay15 v = v := by
  funext i
  pointwise [k0_pay15]

/-! The three factors of a lane: by its place in its component of 64 lanes. -/

/-- A choice by a bit that says whether `P` holds. -/
theorem select_bit {P : Prop} [Decidable P] {w : BitVec 1} (h : w = if P then 1#1 else 0#1) (a b : EReal) : Scalar.select w a b = if P then a else b := by
  subst h
  by_cases hp : P <;> simp [hp, Scalar.select]

theorem lane_word : ∀ j : Fin 128, k0_pay3 (ix2 0 j) = BitVec.ofNat 32 (j % 64) := by
  unfold k0_pay3
  decide +kernel

section factors
variable (x : Vec Ideal S512x1 .i32) (f : Vec Ideal S1x128 .f32) (r : Fin 512) (j : Fin 128)

/-- The angle of a row and a lane. -/
def angleOf (pos : BitVec 32) (f : EReal) : EReal := (FloatOps.sitofp (F := Ideal) FTy.f32 pos : EReal) * f

theorem own_factor : k0_pay6 x f (ix2 r j) = if (j : ℕ) % 64 < 16 then Ideal.cos (angleOf (x (ix2 r 0)) (f (ix2 0 j))) else 1 := by
  pointwise [k0_pay6, k0_pay4]
  rw [lane_word]
  exact select_bit (by revert j; decide +kernel) _ _
theorem above_factor : k0_pay10 (k0_pay7 x f) k0_pay8 k0_pay9 (ix2 r j) = if (j : ℕ) % 64 < 8 then 0 - Ideal.sin (angleOf (x (ix2 r 0)) (f (ix2 0 j))) else 0 := by
  pointwise [k0_pay10, k0_pay7, k0_pay8, k0_pay9, k0_pay5, k0_pay4]
  rw [lane_word]
  exact select_bit (by revert j; decide +kernel) _ _
theorem below_factor : k0_pay11 k0_pay3 (k0_pay5 x f) (ix2 r j) = if 8 ≤ (j : ℕ) % 64 ∧ (j : ℕ) % 64 < 16 then Ideal.sin (angleOf (x (ix2 r 0)) (f (ix2 0 j))) else 0 := by
  pointwise [k0_pay11, k0_pay5, k0_pay4]
  rw [lane_word]
  exact select_bit (by revert j; decide +kernel) _ _
end factors

/-! ## The rotary turn -/

/-- The turn of the first sixteen of each 64 columns, by eight angles' cosines and sines. -/
def rotary (t : Fin 6144 → EReal) (cs sn : Fin 8 → EReal) (k : Fin 6144) : EReal :=
  if h : (k : ℕ) % 64 < 8 then t k * cs ⟨k % 64, h⟩ - t ⟨k + 8, by omega⟩ * sn ⟨k % 64, h⟩
  else if h' : (k : ℕ) % 64 < 16 then t k * cs ⟨k % 64 - 8, by omega⟩ + t ⟨k - 8, by omega⟩ * sn ⟨k % 64 - 8, by omega⟩
  else t k

/-- A head of lanes, turned with the three factors, is the rotary turn of its columns. -/
theorem turned_eq (t : Fin 6144 → EReal) (cs sn : Fin 8 → EReal) (b o : ℕ) (hb : b + 1024 ≤ 6144) (hb' : b % 64 = 0) (ho : o + 128 ≤ 1024) (ho' : o % 64 = 0)
    (T : Fin 1024 → EReal) (hT : ∀ k, T k = t ⟨b + k, by omega⟩) (p q s : Fin 128 → EReal) (C S : Fin 128 → EReal)
    (hC : ∀ j : Fin 128, (j : ℕ) % 64 < 16 → C j = cs ⟨j % 8, by omega⟩) (hS : ∀ j : Fin 128, (j : ℕ) % 64 < 16 → S j = sn ⟨j % 8, by omega⟩)
    (hp : ∀ j : Fin 128, p j = if (j : ℕ) % 64 < 16 then C j else 1) (hq : ∀ j : Fin 128, q j = if (j : ℕ) % 64 < 8 then 0 - S j else 0)
    (hs : ∀ j : Fin 128, s j = if 8 ≤ (j : ℕ) % 64 ∧ (j : ℕ) % 64 < 16 then S j else 0) (j : Fin 128) :
    turned o ho T p q s j = rotary t cs sn ⟨b + o + j, by omega⟩ := by
  have em : (b + o + j) % 64 = (j : ℕ) % 64 := by omega
  have e0 : T ⟨o + j, by omega⟩ = t ⟨b + o + j, by omega⟩ := (hT _).trans (congrArg t (Fin.ext (by simp only; omega)))
  unfold turned rotary
  rw [hp, hq, hs, e0]
  simp only [em]
  by_cases h : (j : ℕ) % 64 < 8
  · have e1 : T ⟨o + (j + 128 - 120) % 128, by omega⟩ = t ⟨b + o + j + 8, by omega⟩ := (hT _).trans (congrArg t (Fin.ext (by simp only; omega)))
    have ei : (⟨(j : ℕ) % 8, by omega⟩ : Fin 8) = ⟨j % 64, h⟩ := Fin.ext (by simp only; omega)
    rw [if_pos (by omega), if_pos h, if_neg (by omega), dif_pos h, hC j (by omega), hS j (by omega), e1, ei, mul_zero, add_zero, zero_sub, mul_neg, sub_eq_add_neg]
  · by_cases h' : (j : ℕ) % 64 < 16
    · have e1 : T ⟨o + (j + 128 - 8) % 128, by omega⟩ = t ⟨b + o + j - 8, by omega⟩ := (hT _).trans (congrArg t (Fin.ext (by simp only; omega)))
      have ei : (⟨(j : ℕ) % 8, by omega⟩ : Fin 8) = ⟨j % 64 - 8, by omega⟩ := Fin.ext (by simp only; omega)
      rw [if_pos h', if_neg h, if_pos ⟨by omega, h'⟩, dif_neg h, dif_pos h', hC j h', hS j h', e1, ei, mul_zero, add_zero]
    · rw [if_neg h', if_neg h, if_neg (by omega), dif_neg h, dif_neg h', mul_zero, mul_zero, add_zero, add_zero, mul_one]

end Cert.Kernel6Ideal.Gen
end
end
-- ==== Proof.QkvBlocks.lean ====
module

public import proofs.«01_k».proof.Proof.QkvTerms
public import proofs.«01_k».proof.Proof.Loads
public import Idealize.ShloMosaic.Lib.Pipeline.ValueKit.Geometry
public import Idealize.ShloMosaic.Lib.StableHlo.ReadAt

@[expose] public section
set_option maxRecDepth 16384

/-!
# What a grid point of the projection leaves in its block

The body stores twenty runs of columns, left to right. An entry is read from the run that holds its column.
-/

noncomputable section
namespace LayerRow
open Idealize.ShloMosaic Idealize.ShloMosaic.TcCoe

/-- The columns stored last hold what was stored, and the columns before them what they held. -/
theorem store_cols {N M l p : ℕ} {t : EltTy} (L : List (View.Piece (Elt Ideal) ⟨2, ![N, M]⟩ t))
    (inb : ∀ b, (![0, p] : Fin 2 → ℕ) b + (![N, l] : Fin 2 → ℕ) b ≤ (⟨2, ![N, M]⟩ : Shape).size b)
    (P : (⟨2, ![N, l]⟩ : Shape).Idx → Elt Ideal t) {T : Fin M → Elt Ideal t} (r : Fin N) (j : Fin M) (hj : (j : ℕ) < p + l)
    (hin : ∀ (j' : Fin l) (h : p + j' < M), P (ix2 r j') = T ⟨p + j', h⟩) (hout : (j : ℕ) < p → View.canon L (ix2 r j) = T j) :
    View.canon (⟨Rect.unit (s := ⟨2, ![N, M]⟩) ![0, p] ![N, l] inb, P⟩ :: L) (ix2 r j) = T j := by
  by_cases hp : (j : ℕ) < p
  · rw [View.canon_cons_of_not_mem _ _ fun hm => ?_, hout hp]
    have hr : p ≤ (j : ℕ) := ((Rect.mem_set_unit (inb := inb)).mp hm 1).1
    omega
  · have ej : (⟨p + ((⟨j - p, by omega⟩ : Fin l) : ℕ), by simp only; omega⟩ : Fin M) = j := Fin.ext (by simp only; omega)
    have key := (View.canon_cons_emb (Rect.unit (s := ⟨2, ![N, M]⟩) ![0, p] ![N, l] inb) P L (ix2 r ⟨j - p, by omega⟩)).trans (hin ⟨j - p, by omega⟩ (by simp only; omega))
    rw [ej] at key
    rw [← key]
    refine congrArg (View.canon _) (funext fun b => Fin.ext ?_)
    fin_cases b
    · show (r : ℕ) = 0 + 1 * r; omega
    · show (j : ℕ) = p + 1 * (j - p); omega

end LayerRow

namespace Cert.Kernel6Ideal.Gen
open Idealize.ShloMosaic Idealize.ShloMosaic.TcCoe LayerRow
open Idealize.ShloMosaic.Pipeline (Dat)

/-- A row of the result, of the row of plain products and the eight angles' cosines and sines. -/
def column (t : Fin 6144 → EReal) (cs sn : Fin 8 → EReal) (k : Fin 6144) : EReal :=
  if (k : ℕ) < 1024 then t k * sbScale else if (k : ℕ) < 3072 then t k else if (k : ℕ) < 4096 then rotary t cs sn k * diffScale
  else if (k : ℕ) < 5120 then rotary t cs sn k else t k

section block
variable (x0 : Vec Ideal S512x2048 .bf16) (x1 : Vec Ideal S512x1 .i32) (g : Fin 8 → EReal) (x3 : Vec Ideal S2048x6144 .bf16) (r : Fin 512)

/-- The row of plain products. -/
def products (k : Fin 6144) : EReal := ∑ e, x0 (ix2 r e) * x3 (ix2 e k)

/-- A row of a block. -/
def rowOut (k : Fin 6144) : EReal :=
  column (products x0 x3 r) (fun i => Ideal.cos (angleOf (x1 (ix2 r 0)) (g i))) (fun i => Ideal.sin (angleOf (x1 (ix2 r 0)) (g i))) k

theorem plain_eq (b : ℕ) (hb : b + 1024 ≤ 6144) (hs : 1024 ≤ b ∧ b + 1024 ≤ 3072 ∨ 5120 ≤ b) (v1 : FVec Ideal S512x2048 .bf16) (v74 : FVec Ideal S2048x1024 .bf16)
    (hv : ∀ e, v1 (ix2 r e) = x0 (ix2 r e)) (hw : ∀ e k, v74 (ix2 e k) = x3 (ix2 e ⟨b + k, by omega⟩)) (j : Fin 1024) :
    ∑ e, v1 (ix2 r e) * v74 (ix2 e j) = rowOut x0 x1 g x3 r ⟨b + j, by omega⟩ := by
  unfold rowOut column
  have hj := j.isLt
  simp only [hv, hw]
  rcases hs with h | h
  · rw [if_neg (by omega), if_pos (by omega)]; rfl
  · rw [if_neg (by omega), if_neg (by omega), if_neg (by omega), if_neg (by omega)]; rfl

theorem plain_eq_scaled (b : ℕ) (hb : b + 1024 ≤ 6144) (hs : b = 0) (v1 : FVec Ideal S512x2048 .bf16) (v74 : FVec Ideal S2048x1024 .bf16)
    (hv : ∀ e, v1 (ix2 r e) = x0 (ix2 r e)) (hw : ∀ e k, v74 (ix2 e k) = x3 (ix2 e ⟨b + k, by omega⟩)) (j : Fin 1024) :
    (∑ e, v1 (ix2 r e) * v74 (ix2 e j)) * sbScale = rowOut x0 x1 g x3 r ⟨b + j, by omega⟩ := by
  unfold rowOut column
  have hj := j.isLt
  simp only [hv, hw]
  rw [if_pos (by omega)]; rfl

variable (o : ℕ) (ho : o + 128 ≤ 1024) (ho' : o % 64 = 0)
  (v1 : FVec Ideal S512x2048 .bf16) (v74 : FVec Ideal S2048x1024 .bf16) (X : Vec Ideal S512x1 .i32) (F : Vec Ideal S1x128 .f32)
  (hv : ∀ e, v1 (ix2 r e) = x0 (ix2 r e)) (hX : X (ix2 r 0) = x1 (ix2 r 0))
  (hF : ∀ j : Fin 128, (j : ℕ) % 64 < 16 → F (ix2 0 j) = g ⟨j % 8, by omega⟩) (j : Fin 128)

include ho' hv hX hF
theorem head_eq (b : ℕ) (hb : b + 1024 ≤ 6144) (hb' : b % 64 = 0) (hw : ∀ e k, v74 (ix2 e k) = x3 (ix2 e ⟨b + k, by omega⟩)) :
    turned o ho (fun k => ∑ e, v1 (ix2 r e) * v74 (ix2 e k)) (fun l => k0_pay6 X F (ix2 r l)) (fun l => k0_pay10 (k0_pay7 X F) k0_pay8 k0_pay9 (ix2 r l))
        (fun l => k0_pay11 k0_pay3 (k0_pay5 X F) (ix2 r l)) j =
      rotary (products x0 x3 r) (fun i => Ideal.cos (angleOf (x1 (ix2 r 0)) (g i))) (fun i => Ideal.sin (angleOf (x1 (ix2 r 0)) (g i))) ⟨b + o + j, by omega⟩ := by
  refine turned_eq _ _ _ b o hb hb' ho ho' _ (fun k => ?_) _ _ _ (fun l => Ideal.cos (angleOf (X (ix2 r 0)) (F (ix2 0 l)))) (fun l => Ideal.sin (angleOf (X (ix2 r 0)) (F (ix2 0 l))))
    (fun l hl => by simp only [hX, hF l hl]) (fun l hl => by simp only [hX, hF l hl]) (own_factor X F r) (above_factor X F r) (below_factor X F r) j
  simp only [hv, hw]
  rfl

theorem queries_eq (hw : ∀ e k, v74 (ix2 e k) = x3 (ix2 e ⟨3072 + k, by omega⟩)) :
    turned o ho (fun k => ∑ e, v1 (ix2 r e) * v74 (ix2 e k)) (fun l => k0_pay6 X F (ix2 r l)) (fun l => k0_pay10 (k0_pay7 X F) k0_pay8 k0_pay9 (ix2 r l))
        (fun l => k0_pay11 k0_pay3 (k0_pay5 X F) (ix2 r l)) j * diffScale = rowOut x0 x1 g x3 r ⟨3072 + o + j, by omega⟩ := by
  rw [head_eq x0 x1 g x3 r o ho ho' v1 v74 X F hv hX hF j 3072 (by omega) (by decide) hw]
  unfold rowOut column
  rw [if_neg (by simp only; omega), if_neg (by simp only; omega), if_pos (by simp only; omega)]

theorem keys_eq (hw : ∀ e k, v74 (ix2 e k) = x3 (ix2 e ⟨4096 + k, by omega⟩)) :
    turned o ho (fun k => ∑ e, v1 (ix2 r e) * v74 (ix2 e k)) (fun l => k0_pay6 X F (ix2 r l)) (fun l => k0_pay10 (k0_pay7 X F) k0_pay8 k0_pay9 (ix2 r l))
        (fun l => k0_pay11 k0_pay3 (k0_pay5 X F) (ix2 r l)) j = rowOut x0 x1 g x3 r ⟨4096 + o + j, by omega⟩ := by
  rw [head_eq x0 x1 g x3 r o ho ho' v1 v74 X F hv hX hF j 4096 (by omega) (by decide) hw]
  unfold rowOut column
  rw [if_neg (by simp only; omega), if_neg (by simp only; omega), if_neg (by simp only; omega), if_pos (by simp only; omega)]
end block

set_option maxHeartbeats 2000000 in
/-- What the body leaves in its block, row by row. -/
theorem block_eq (c : Dev nD) (i : grid0.Coords) (arg1 : Memref sig .tc .vmem S512x2048 .bf16) (harg1 : arg1.IsWhole) (arg2 : Memref sig .tc .vmem S512x1 .i32)
    (harg2 : arg2.IsWhole) (arg3 : Memref sig .tc .vmem S1x128 .f32) (harg3 : arg3.IsWhole) (arg4 : Memref sig .tc .vmem S2048x6144 .bf16) (harg4 : arg4.IsWhole)
    (arg5 : Memref sig .tc .vmem S512x6144 .bf16) (harg5 : arg5.IsWhole) (x0 : Vec Ideal S512x2048 .bf16) (x1 : Vec Ideal S512x1 .i32) (x2 : Vec Ideal S1x128 .f32)
    (x3 : Vec Ideal S2048x6144 .bf16) (g : Fin 8 → EReal) (hg : ∀ j : Fin 128, (j : ℕ) % 64 < 16 → x2 (ix2 0 j) = g ⟨j % 8, by omega⟩) (r : Fin 512) (j : Fin 6144) :
    out0_A_4 c i arg1 harg1 arg2 harg2 arg3 harg3 arg4 harg4 arg5 harg5 x0 x1 x2 x3 (ix2 r j) = rowOut x0 x1 g x3 r j := by
  unfold out0_A_4
  rw [View.read_writes_junk_eq_canon]
  unfold kernelRun0_A
  simp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.r_7, kernelRun0_A.sl.r_8, kernelRun0_A.sl.r_9, kernelRun0_A.sl.r_10, kernelRun0_A.sl.r_11, kernelRun0_A.sl.r_12, kernelRun0_A.sl.r_13,
    kernelRun0_A.sl.r_14, kernelRun0_A.sl.r_15, kernelRun0_A.sl.cst_30, kernelRun0_A.sl.cst_57, kernelRun0_A.sl.cst_72, same_rows, same_weights]
  have hv : ∀ e : Fin 2048, View.readAt (Elt Ideal) arg1.view (Rect.unit ![0, 0] S512x2048.size inb_S512x2048_S512x2048_0_0).toLoadRect (harg1.unread x0) (ix2 r e) = x0 (ix2 r e) :=
    fun e => (readAt_at (o := 0) (p := 0) arg1 harg1 x0 _ r e (by omega) (by omega)).trans (congrArg x0 (by simp))
  have hX : View.readAt (Elt Ideal) arg2.view (Rect.unit ![0, 0] S512x1.size inb_S512x1_S512x1_0_0).toLoadRect (harg2.unread x1) (ix2 r 0) = x1 (ix2 r 0) :=
    (readAt_at (o := 0) (p := 0) (l := 1) arg2 harg2 x1 _ r 0 (by omega) (by simp)).trans (congrArg x1 (by simp))
  have hF : ∀ j : Fin 128, (j : ℕ) % 64 < 16 → View.readAt (Elt Ideal) arg3.view (Rect.unit ![0, 0] S1x128.size inb_S1x128_S1x128_0_0).toLoadRect (harg3.unread x2) (ix2 0 j) = g ⟨j % 8, by omega⟩ :=
    fun j hj => ((readAt_at (o := 0) (p := 0) (n := 1) arg3 harg3 x2 _ 0 j (by simp) (by omega)).trans (congrArg x2 (by simp))).trans (hg j hj)
  generalize View.readAt (Elt Ideal) arg1.view (Rect.unit ![0, 0] S512x2048.size inb_S512x2048_S512x2048_0_0).toLoadRect (harg1.unread x0) = v1 at hv ⊢
  generalize View.readAt (Elt Ideal) arg2.view (Rect.unit ![0, 0] S512x1.size inb_S512x1_S512x1_0_0).toLoadRect (harg2.unread x1) = X at hX ⊢
  generalize View.readAt (Elt Ideal) arg3.view (Rect.unit ![0, 0] S1x128.size inb_S1x128_S1x128_0_0).toLoadRect (harg3.unread x2) = F at hF ⊢
  refine store_cols (p := 5120) (l := 1024) _ _ _ r j (by omega) (fun j' h => (plain_5 _ _ r j').trans (plain_eq x0 x1 g x3 r 5120 (by omega) (by omega) _ _ hv (fun e k => readAt_at (o := 0) (p := 5120) arg4 harg4 x3 _ e k (by omega) (by omega) |>.trans (congrArg x3 (by simp))) j')) fun hj => ?_
  refine store_cols (p := 4992) (l := 128) _ _ _ r j (by omega) (fun j' h => (head_k7 _ _ _ _ _ r j').trans (keys_eq x0 x1 g x3 r 896 (by omega) (by decide) _ _ _ _ hv hX hF j' (fun e k => readAt_at (o := 0) (p := 4096) arg4 harg4 x3 _ e k (by omega) (by omega) |>.trans (congrArg x3 (by simp))))) fun hj => ?_
  refine store_cols (p := 4864) (l := 128) _ _ _ r j (by omega) (fun j' h => (head_k6 _ _ _ _ _ r j').trans (keys_eq x0 x1 g x3 r 768 (by omega) (by decide) _ _ _ _ hv hX hF j' (fun e k => readAt_at (o := 0) (p := 4096) arg4 harg4 x3 _ e k (by omega) (by omega) |>.trans (congrArg x3 (by simp))))) fun hj => ?_
  refine store_cols (p := 4736) (l := 128) _ _ _ r j (by omega) (fun j' h => (head_k5 _ _ _ _ _ r j').trans (keys_eq x0 x1 g x3 r 640 (by omega) (by decide) _ _ _ _ hv hX hF j' (fun e k => readAt_at (o := 0) (p := 4096) arg4 harg4 x3 _ e k (by omega) (by omega) |>.trans (congrArg x3 (by simp))))) fun hj => ?_
  refine store_cols (p := 4608) (l := 128) _ _ _ r j (by omega) (fun j' h => (head_k4 _ _ _ _ _ r j').trans (keys_eq x0 x1 g x3 r 512 (by omega) (by decide) _ _ _ _ hv hX hF j' (fun e k => readAt_at (o := 0) (p := 4096) arg4 harg4 x3 _ e k (by omega) (by omega) |>.trans (congrArg x3 (by simp))))) fun hj => ?_
  refine store_cols (p := 4480) (l := 128) _ _ _ r j (by omega) (fun j' h => (head_k3 _ _ _ _ _ r j').trans (keys_eq x0 x1 g x3 r 384 (by omega) (by decide) _ _ _ _ hv hX hF j' (fun e k => readAt_at (o := 0) (p := 4096) arg4 harg4 x3 _ e k (by omega) (by omega) |>.trans (congrArg x3 (by simp))))) fun hj => ?_
  refine store_cols (p := 4352) (l := 128) _ _ _ r j (by omega) (fun j' h => (head_k2 _ _ _ _ _ r j').trans (keys_eq x0 x1 g x3 r 256 (by omega) (by decide) _ _ _ _ hv hX hF j' (fun e k => readAt_at (o := 0) (p := 4096) arg4 harg4 x3 _ e k (by omega) (by omega) |>.trans (congrArg x3 (by simp))))) fun hj => ?_
  refine store_cols (p := 4224) (l := 128) _ _ _ r j (by omega) (fun j' h => (head_k1 _ _ _ _ _ r j').trans (keys_eq x0 x1 g x3 r 128 (by omega) (by decide) _ _ _ _ hv hX hF j' (fun e k => readAt_at (o := 0) (p := 4096) arg4 harg4 x3 _ e k (by omega) (by omega) |>.trans (congrArg x3 (by simp))))) fun hj => ?_
  refine store_cols (p := 4096) (l := 128) _ _ _ r j (by omega) (fun j' h => (head_k0 _ _ _ _ _ r j').trans (keys_eq x0 x1 g x3 r 0 (by omega) (by decide) _ _ _ _ hv hX hF j' (fun e k => readAt_at (o := 0) (p := 4096) arg4 harg4 x3 _ e k (by omega) (by omega) |>.trans (congrArg x3 (by simp))))) fun hj => ?_
  refine store_cols (p := 3968) (l := 128) _ _ _ r j (by omega) (fun j' h => (head_q7 _ _ _ _ _ r j').trans (queries_eq x0 x1 g x3 r 896 (by omega) (by decide) _ _ _ _ hv hX hF j' (fun e k => readAt_at (o := 0) (p := 3072) arg4 harg4 x3 _ e k (by omega) (by omega) |>.trans (congrArg x3 (by simp))))) fun hj => ?_
  refine store_cols (p := 3840) (l := 128) _ _ _ r j (by omega) (fun j' h => (head_q6 _ _ _ _ _ r j').trans (queries_eq x0 x1 g x3 r 768 (by omega) (by decide) _ _ _ _ hv hX hF j' (fun e k => readAt_at (o := 0) (p := 3072) arg4 harg4 x3 _ e k (by omega) (by omega) |>.trans (congrArg x3 (by simp))))) fun hj => ?_
  refine store_cols (p := 3712) (l := 128) _ _ _ r j (by omega) (fun j' h => (head_q5 _ _ _ _ _ r j').trans (queries_eq x0 x1 g x3 r 640 (by omega) (by decide) _ _ _ _ hv hX hF j' (fun e k => readAt_at (o := 0) (p := 3072) arg4 harg4 x3 _ e k (by omega) (by omega) |>.trans (congrArg x3 (by simp))))) fun hj => ?_
  refine store_cols (p := 3584) (l := 128) _ _ _ r j (by omega) (fun j' h => (head_q4 _ _ _ _ _ r j').trans (queries_eq x0 x1 g x3 r 512 (by omega) (by decide) _ _ _ _ hv hX hF j' (fun e k => readAt_at (o := 0) (p := 3072) arg4 harg4 x3 _ e k (by omega) (by omega) |>.trans (congrArg x3 (by simp))))) fun hj => ?_
  refine store_cols (p := 3456) (l := 128) _ _ _ r j (by omega) (fun j' h => (head_q3 _ _ _ _ _ r j').trans (queries_eq x0 x1 g x3 r 384 (by omega) (by decide) _ _ _ _ hv hX hF j' (fun e k => readAt_at (o := 0) (p := 3072) arg4 harg4 x3 _ e k (by omega) (by omega) |>.trans (congrArg x3 (by simp))))) fun hj => ?_
  refine store_cols (p := 3328) (l := 128) _ _ _ r j (by omega) (fun j' h => (head_q2 _ _ _ _ _ r j').trans (queries_eq x0 x1 g x3 r 256 (by omega) (by decide) _ _ _ _ hv hX hF j' (fun e k => readAt_at (o := 0) (p := 3072) arg4 harg4 x3 _ e k (by omega) (by omega) |>.trans (congrArg x3 (by simp))))) fun hj => ?_
  refine store_cols (p := 3200) (l := 128) _ _ _ r j (by omega) (fun j' h => (head_q1 _ _ _ _ _ r j').trans (queries_eq x0 x1 g x3 r 128 (by omega) (by decide) _ _ _ _ hv hX hF j' (fun e k => readAt_at (o := 0) (p := 3072) arg4 harg4 x3 _ e k (by omega) (by omega) |>.trans (congrArg x3 (by simp))))) fun hj => ?_
  refine store_cols (p := 3072) (l := 128) _ _ _ r j (by omega) (fun j' h => (head_q0 _ _ _ _ _ r j').trans (queries_eq x0 x1 g x3 r 0 (by omega) (by decide) _ _ _ _ hv hX hF j' (fun e k => readAt_at (o := 0) (p := 3072) arg4 harg4 x3 _ e k (by omega) (by omega) |>.trans (congrArg x3 (by simp))))) fun hj => ?_
  refine store_cols (p := 2048) (l := 1024) _ _ _ r j (by omega) (fun j' h => (plain_2 _ _ r j').trans (plain_eq x0 x1 g x3 r 2048 (by omega) (by omega) _ _ hv (fun e k => readAt_at (o := 0) (p := 2048) arg4 harg4 x3 _ e k (by omega) (by omega) |>.trans (congrArg x3 (by simp))) j')) fun hj => ?_
  refine store_cols (p := 1024) (l := 1024) _ _ _ r j (by omega) (fun j' h => (plain_1 _ _ r j').trans (plain_eq x0 x1 g x3 r 1024 (by omega) (by omega) _ _ hv (fun e k => readAt_at (o := 0) (p := 1024) arg4 harg4 x3 _ e k (by omega) (by omega) |>.trans (congrArg x3 (by simp))) j')) fun hj => ?_
  refine store_cols (p := 0) (l := 1024) _ _ _ r j (by omega) (fun j' h => (plain_0 _ _ r j').trans (plain_eq_scaled x0 x1 g x3 r 0 (by omega) (by rfl) _ _ hv (fun e k => readAt_at (o := 0) (p := 0) arg4 harg4 x3 _ e k (by omega) (by omega) |>.trans (congrArg x3 (by simp))) j')) fun hj => ?_
  omega

end Cert.Kernel6Ideal.Gen
end
end
-- ==== Proof.QkvArray.lean ====
module

public import proofs.«01_k».proof.Proof.QkvBlocks

@[expose] public section
set_option maxRecDepth 16384

/-!
# The array the projection into queries, keys and values writes

Grid point `t` writes rows `512 t` to `512 t + 511`; together the points write the six sections of the projection. The kernel's host
hands every lane its rotary frequency, gathered from a table of eight.
-/

noncomputable section
namespace Cert.Kernel6Ideal.Gen
open Idealize.ShloMosaic Idealize.ShloMosaic.TcCoe LayerRow
open Idealize.ShloMosaic.Pipeline (Dat)

/-- The rotary frequency `i`: 500000 to the power `- 2 i / 16`. -/
def freq (i : Fin 8) : EReal :=
  FloatOps.hostPowf (F := Ideal) (FloatOps.ofBits .f32 0x48F42400#32)
    (FloatOps.hostDivf (FloatOps.hostNegf (FloatOps.addf (FloatOps.ofBits .f32 0x00000000#32)
      (FloatOps.mulf (FloatOps.ofBits .f32 0x40000000#32) (FloatOps.sitofp .f32 (BitVec.ofNat 32 i))))) (FloatOps.ofBits .f32 0x41800000#32))

/-- The projection, entry by entry, of its three arguments. -/
def projIn (x : (⟨3, ![2, 16384, 2048]⟩ : Shape).Idx → EReal) (pos : (⟨2, ![2, 16384]⟩ : Shape).Idx → BitVec 32) (w : (⟨2, ![2048, 6144]⟩ : Shape).Idx → EReal) :
    (⟨2, ![32768, 6144]⟩ : Shape).Idx → EReal := fun i =>
  column (fun k => ∑ e, x (ix3 (seqOf (i 0)) (posOf (i 0)) e) * w (ix2 e k))
    (fun f => Ideal.cos (angleOf (pos (ix2 (seqOf (i 0)) (posOf (i 0)))) (freq f)))
    (fun f => Ideal.sin (angleOf (pos (ix2 (seqOf (i 0)) (posOf (i 0)))) (freq f))) (i 1)

variable (m : (ℓ : Loc nD τ sig) → Buf (Elt Ideal) ℓ) (c : Dev nD)

/-- The arguments. -/
abbrev arg0Of : (⟨3, ![2, 16384, 2048]⟩ : Shape).Idx → EReal := m ((c : Thread nD τ).loc main_arg0)
abbrev arg1Of : (⟨2, ![2, 16384]⟩ : Shape).Idx → BitVec 32 := m ((c : Thread nD τ).loc main_arg1)
abbrev arg2Of : (⟨2, ![2048, 6144]⟩ : Shape).Idx → EReal := m ((c : Thread nD τ).loc main_arg2)

theorem staged25 (n : Fin 32768) (e : Fin 2048) : V m c main_v25 (ix2 n e) = arg0Of m c (ix3 (seqOf n) (posOf n) e) := by
  unfold V
  after_reads_at
  rfl
theorem staged26 (n : Fin 32768) : V m c main_v26 (ix2 n 0) = arg1Of m c (ix2 (seqOf n) (posOf n)) := by
  unfold V
  after_reads_at
  rfl
theorem staged27 (e : Fin 2048) (k : Fin 6144) : V m c main_v27 (ix2 e k) = arg2Of m c (ix2 e k) := by
  unfold V
  after_reads_at

/-- The gather of a lane's frequency, when the lane's entry of the index table is its place among eight. -/
theorem gather_lane (x : S8.Idx → EReal) (idx : IVec S128x1 32) (j : Fin 128) (h : (idx (ix2 j 0)).toInt = ((j % 8 : ℕ) : ℤ)) :
    Host.gather gather_S8_S128x1_S128_n_0_n_n_0_1_1 x idx (ix1 j) = x (ix1 ⟨j % 8, by omega⟩) := by
  unfold Host.gather
  refine congrArg x (funext fun a => Fin.ext ?_)
  obtain rfl : a = 0 := Subsingleton.elim _ _
  show gather_S8_S128x1_S128_n_0_n_n_0_1_1.start (ix1 j) idx 0 + gather_S8_S128x1_S128_n_0_n_n_0_1_1.batchCoord (ix1 j) 0
      + gather_S8_S128x1_S128_n_0_n_n_0_1_1.offCoord (ix1 j) 0 = (j : ℕ) % 8
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S128x1_S128_n_0_n_n_0_1_1.startIndexMap from List.mem_singleton.mpr rfl)]
  have e : gather_S8_S128x1_S128_n_0_n_n_0_1_1.siIdx (ix1 j) ⟨List.idxOf (0 : Fin 1) gather_S8_S128x1_S128_n_0_n_n_0_1_1.startIndexMap,
      List.idxOf_lt_length_iff.2 (List.mem_singleton.mpr rfl)⟩ = ix2 j 0 := by
    funext b; refine Fin.ext ?_
    fin_cases b <;> rfl
  rw [e, h]
  show min (((j : ℕ) % 8 : ℕ) : ℤ).toNat 7 = (j : ℕ) % 8
  omega

set_option maxHeartbeats 1000000 in
theorem staged23 (j : Fin 128) (hj : (j : ℕ) % 64 < 16) : V m c main_v23 (ix2 0 j) = freq ⟨j % 8, by omega⟩ := by
  unfold V
  after_reads_at
  rw [gather_lane _ _ j (by clear hj; revert j; decide +kernel)]
  refine (select_bit (P := (j : ℕ) % 64 < 16) (by clear hj; revert j; decide +kernel) _ _).trans ?_
  rw [if_pos hj]
  rfl

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem point_lt (t : Fin cfg0.N) : t.val < 64 := lt_of_lt_of_eq t.isLt (by decide +kernel)

/-- Row `r` of a grid point's block. -/
def rowOf (t : Fin cfg0.N) (r : Fin 512) : Fin 32768 := ⟨512 * t.val + r, by have := point_lt t; omega⟩

theorem block0 (t : Fin cfg0.N) (r : Fin 512) (e : Fin 2048) : iblk m c 0 t (ix2 r e) = arg0Of m c (ix3 (seqOf (rowOf t r)) (posOf (rowOf t r)) e) := by
  rw [← staged25]
  unfold iblk
  refine congrArg (V m c main_v25) (funext fun a => Fin.ext ?_)
  fin_cases a
  · blk_simp [index0 t]
    show t.val * 512 + (r : ℕ) = 512 * t.val + r; omega
  · blk_simp [index0 t]; rfl
theorem block1 (t : Fin cfg0.N) (r : Fin 512) : iblk m c 1 t (ix2 r 0) = arg1Of m c (ix2 (seqOf (rowOf t r)) (posOf (rowOf t r))) := by
  rw [← staged26]
  unfold iblk
  refine congrArg (V m c main_v26) (funext fun a => Fin.ext ?_)
  fin_cases a
  · blk_simp [index1 t]
    show t.val * 512 + (r : ℕ) = 512 * t.val + r; omega
  · blk_simp [index1 t]
theorem block2 (t : Fin cfg0.N) (j : Fin 128) (hj : (j : ℕ) % 64 < 16) : iblk m c 2 t (ix2 0 j) = freq ⟨j % 8, by omega⟩ := by
  rw [← staged23 m c j hj]
  unfold iblk
  refine congrArg (V m c main_v23) (funext fun a => Fin.ext ?_)
  fin_cases a <;> blk_simp [index2 t] <;> rfl
theorem block3 (t : Fin cfg0.N) (e : Fin 2048) (k : Fin 6144) : iblk m c 3 t (ix2 e k) = arg2Of m c (ix2 e k) := by
  rw [← staged27]
  unfold iblk
  refine congrArg (V m c main_v27) (funext fun a => Fin.ext ?_)
  fin_cases a <;> blk_simp [index3 t] <;> rfl

/-- The projection of the arguments. -/
def target : (⟨2, ![32768, 6144]⟩ : Shape).Idx → EReal := projIn (arg0Of m c) (arg1Of m c) (arg2Of m c)

theorem out_eq (t : Fin cfg0.N) (r : Fin 512) (j : Fin 6144) : outsAt0 m c t (ix2 r j) = target m c (ix2 (rowOf t r) j) := by
  unfold outsAt0
  rw [block_eq _ _ _ _ _ _ _ _ _ _ _ _ _ _ _ _ freq (block2 m c t) r j]
  have e0 : products (iblk m c 0 t) (iblk m c 3 t) r = fun k => ∑ e, arg0Of m c (ix3 (seqOf (rowOf t r)) (posOf (rowOf t r)) e) * arg2Of m c (ix2 e k) := by
    funext k
    unfold products
    simp only [block0, block3]
  unfold rowOut
  rw [e0, block1]
  rfl

theorem emb4 (t : Fin cfg0.N) (r : Fin 512) (j : Fin 6144) : ((cfg0.win 4).blk t).view.emb (ix2 r j) = ix2 (rowOf t r) j := by
  funext a
  refine Fin.ext ?_
  fin_cases a
  · blk_simp [index4 t]
    show t.val * 512 + (r : ℕ) = 512 * t.val + r; omega
  · blk_simp [index4 t]; rfl

/-- What a grid point writes back is its block of the projection. -/
theorem flushed_eq (t : Fin cfg0.N) : (dats m 0 c).flushed 4 t = ((cfg0.win 4).blk t).view.read (Elt Ideal) (target m c) := by
  rw [Value.flushed4]
  funext y
  obtain ⟨r, j, rfl⟩ : ∃ (r : Fin 512) (j : Fin 6144), y = ix2 r j := ⟨y 0, y 1, eq_ix2 y⟩
  exact (out_eq m c t r j).trans (congrArg (target m c) (emb4 t r j)).symm

/-- Every entry of the output is in some point's block. -/
theorem cover (i : S32768x6144.Idx) : ∃ t : Fin cfg0.N, (cfg0.win 4).flush t = true ∧ i ∈ ((cfg0.win 4).blk t).view.set := by
  have h0 : (i 0 : ℕ) < 32768 := (i 0).isLt
  have h1 : (i 1 : ℕ) < 6144 := (i 1).isLt
  have hN : grid0.N = 64 := by decide +kernel
  have hM : cfg0.N = 64 := hN
  refine ⟨⟨(i 0 : ℕ) / 512, by omega⟩, (by decide +kernel : ∀ t : Fin cfg0.N, (cfg0.win 4).flush t = true) _, ?_⟩
  mem_blk [index4 ⟨(i 0 : ℕ) / 512, by omega⟩]
  refine ⟨⟨?_, ?_⟩, ?_, ?_⟩ <;> simp only <;> omega

/-- The array after the run is the projection of the arguments. -/
theorem final_array : (dats m 0 c).arrAt 4 cfg0.N = target m c :=
  (dats m 0 c).arrAt_eq_of_cover 4 (target m c) (fun t _ => flushed_eq m c t) cover

end Cert.Kernel6Ideal.Gen
end
end
-- ==== Proof.QkvFormula.lean ====
module

public import proofs.«01_k».proof.Proof.Gen.Reference6Ideal.Read
public import proofs.«01_k».proof.Proof.QkvArray

@[expose] public section
set_option maxRecDepth 16384

/-!
# What the reference of the projection into queries, keys and values computes

Its operations read one after another: the plain products, the angles, the rotary turn of two of the six sections, the scales.
-/

noncomputable section
namespace Cert.Reference6Ideal.Read
open Idealize.ShloMosaic LayerRow Cert.Kernel6Ideal.Gen

variable (x0 : (⟨3, ![2, 16384, 2048]⟩ : Shape).Idx → EReal) (x1 : (⟨2, ![2, 16384]⟩ : Shape).Idx → BitVec 32) (x2 : (⟨2, ![2048, 6144]⟩ : Shape).Idx → EReal)

/-- A row of plain products. -/
def plain (b : Fin 2) (n : Fin 16384) (k : Fin 6144) : EReal := ∑ e, x0 (ix3 b n e) * x2 (ix2 e k)

theorem plain_at (b : Fin 2) (n : Fin 16384) (k : Fin 6144) : val_main_v0 (F := Ideal) x0 x2 (ix3 b n k) = plain x0 x2 b n k := by
  rw [val_main_v0_apply]
  refine Finset.sum_congr rfl fun e _ => ?_
  have el : lidx_main_v0 (ix3 b n k) e = ix3 b n e := funext fun a => by fin_cases a <;> rfl
  have er : ridx_main_v0 (ix3 b n k) e = ix2 e k := funext fun a => by fin_cases a <;> rfl
  rw [el, er]

/-! ## The angles -/

theorem freq_at (i : Fin 8) : val_main_v10 (F := Ideal) (ix1 i) = freq i := by
  rw [val_main_v10_apply, val_main_v9_apply, val_main_v8_apply, val_main_v7_apply, val_main_v6_apply, val_main_v5_apply, val_main_v4_apply, val_main_v3_apply, val_main_v2_apply, val_main_cst_apply, val_main_cst_0_apply, val_main_cst_1_apply, val_main_cst_2_apply]
  rfl
theorem angle_at (b : Fin 2) (n : Fin 16384) (i : Fin 8) : val_main_v16 (F := Ideal) x1 (ix3 b n i) = angleOf (x1 (ix2 b n)) (freq i) := by
  have e1 : idx_main_v12 (idx_main_v14 (ix3 b n i)) = ix2 b n := funext fun a => by fin_cases a <;> rfl
  have e2 : idx_main_v13 (idx_main_v15 (ix3 b n i)) = ix1 i := funext fun a => by fin_cases a <;> rfl
  rw [val_main_v16_apply, val_main_v14_apply, val_main_v12_apply, val_main_v15_apply, val_main_v13_apply, val_main_v11_apply, e1, e2, freq_at]
  rfl

/-- The cosine and the sine of an angle. -/
abbrev cosOf (b : Fin 2) (n : Fin 16384) (i : Fin 8) : EReal := Ideal.cos (angleOf (x1 (ix2 b n)) (freq i))
abbrev sinOf (b : Fin 2) (n : Fin 16384) (i : Fin 8) : EReal := Ideal.sin (angleOf (x1 (ix2 b n)) (freq i))

theorem cos_at (b : Fin 2) (n : Fin 16384) (y z : Fin 1) (i : Fin 8) : val_main_v18 (F := Ideal) x1 (ix5 b n y z i) = cosOf x1 b n i := by
  have e : idx_main_v18 (ix5 b n y z i) = ix3 b n i := funext fun a => by fin_cases a <;> rfl
  rw [val_main_v18_apply, val_main_v17_apply, e, angle_at]
  rfl
theorem sin_at (b : Fin 2) (n : Fin 16384) (y z : Fin 1) (i : Fin 8) : val_main_v20 (F := Ideal) x1 (ix5 b n y z i) = sinOf x1 b n i := by
  have e : idx_main_v20 (ix5 b n y z i) = ix3 b n i := funext fun a => by fin_cases a <;> rfl
  rw [val_main_v20_apply, val_main_v19_apply, e, angle_at]
  rfl

/-! ## The sections -/

theorem slice21 (b : Fin 2) (n : Fin 16384) (k : Fin 1024) : val_main_v21 (F := Ideal) x0 x2 (ix3 b n k) = plain x0 x2 b n ⟨k, by omega⟩ := by
  have e : idx_main_v21 (ix3 b n k) = ix3 b n ⟨k, by omega⟩ := funext fun a => by fin_cases a <;> rfl
  rw [val_main_v21_apply, e, plain_at]
theorem slice22 (b : Fin 2) (n : Fin 16384) (k : Fin 1024) : val_main_v22 (F := Ideal) x0 x2 (ix3 b n k) = plain x0 x2 b n ⟨1024 + k, by omega⟩ := by
  have e : idx_main_v22 (ix3 b n k) = ix3 b n ⟨1024 + k, by omega⟩ := funext fun a => by fin_cases a <;> rfl
  rw [val_main_v22_apply, e, plain_at]
theorem slice23 (b : Fin 2) (n : Fin 16384) (k : Fin 1024) : val_main_v23 (F := Ideal) x0 x2 (ix3 b n k) = plain x0 x2 b n ⟨2048 + k, by omega⟩ := by
  have e : idx_main_v23 (ix3 b n k) = ix3 b n ⟨2048 + k, by omega⟩ := funext fun a => by fin_cases a <;> rfl
  rw [val_main_v23_apply, e, plain_at]
theorem slice24 (b : Fin 2) (n : Fin 16384) (k : Fin 1024) : val_main_v24 (F := Ideal) x0 x2 (ix3 b n k) = plain x0 x2 b n ⟨3072 + k, by omega⟩ := by
  have e : idx_main_v24 (ix3 b n k) = ix3 b n ⟨3072 + k, by omega⟩ := funext fun a => by fin_cases a <;> rfl
  rw [val_main_v24_apply, e, plain_at]
theorem slice25 (b : Fin 2) (n : Fin 16384) (k : Fin 1024) : val_main_v25 (F := Ideal) x0 x2 (ix3 b n k) = plain x0 x2 b n ⟨4096 + k, by omega⟩ := by
  have e : idx_main_v25 (ix3 b n k) = ix3 b n ⟨4096 + k, by omega⟩ := funext fun a => by fin_cases a <;> rfl
  rw [val_main_v25_apply, e, plain_at]
theorem slice26 (b : Fin 2) (n : Fin 16384) (k : Fin 1024) : val_main_v26 (F := Ideal) x0 x2 (ix3 b n k) = plain x0 x2 b n ⟨5120 + k, by omega⟩ := by
  have e : idx_main_v26 (ix3 b n k) = ix3 b n ⟨5120 + k, by omega⟩ := funext fun a => by fin_cases a <;> rfl
  rw [val_main_v26_apply, e, plain_at]
theorem split_q (b : Fin 2) (n : Fin 16384) (h : Fin 8) (z : Fin 2) (l : Fin 64) :
    val_main_v27 (F := Ideal) x0 x2 (ix5 b n h z l) = plain x0 x2 b n ⟨3072 + (128 * h + 64 * z + l), by omega⟩ := by
  have e : idx_main_v27 (ix5 b n h z l) = ix3 b n ⟨128 * h + 64 * z + l, by omega⟩ := by
    funext a; refine Fin.ext ?_
    fin_cases a
    · show (((((b : ℕ) * 16384 + n) * 8 + h) * 2 + z) * 64 + l) / 16777216 = b; omega
    · show (((((b : ℕ) * 16384 + n) * 8 + h) * 2 + z) * 64 + l) / 1024 % 16384 = n; omega
    · show (((((b : ℕ) * 16384 + n) * 8 + h) * 2 + z) * 64 + l) % 1024 = 128 * (h : ℕ) + 64 * z + l; omega
  rw [val_main_v27_apply, e, slice24]
theorem split_k (b : Fin 2) (n : Fin 16384) (h : Fin 8) (z : Fin 2) (l : Fin 64) :
    val_main_v43 (F := Ideal) x0 x2 (ix5 b n h z l) = plain x0 x2 b n ⟨4096 + (128 * h + 64 * z + l), by omega⟩ := by
  have e : idx_main_v43 (ix5 b n h z l) = ix3 b n ⟨128 * h + 64 * z + l, by omega⟩ := by
    funext a; refine Fin.ext ?_
    fin_cases a
    · show (((((b : ℕ) * 16384 + n) * 8 + h) * 2 + z) * 64 + l) / 16777216 = b; omega
    · show (((((b : ℕ) * 16384 + n) * 8 + h) * 2 + z) * 64 + l) / 1024 % 16384 = n; omega
    · show (((((b : ℕ) * 16384 + n) * 8 + h) * 2 + z) * 64 + l) % 1024 = 128 * (h : ℕ) + 64 * z + l; omega
  rw [val_main_v43_apply, e, slice25]

/-! ## The rotary turn -/

theorem part28 (b : Fin 2) (n : Fin 16384) (h : Fin 8) (z : Fin 2) (l : Fin 8) : val_main_v28 (F := Ideal) x0 x2 (ix5 b n h z l) = plain x0 x2 b n ⟨3072 + (128 * h + 64 * z + l), by omega⟩ := by
  have e : idx_main_v28 (ix5 b n h z l) = ix5 b n h z ⟨l, by omega⟩ := funext fun a => by fin_cases a <;> rfl
  rw [val_main_v28_apply, e, split_q]
theorem part29 (b : Fin 2) (n : Fin 16384) (h : Fin 8) (z : Fin 2) (l : Fin 8) : val_main_v29 (F := Ideal) x0 x2 (ix5 b n h z l) = plain x0 x2 b n ⟨3072 + (128 * h + 64 * z + (8 + l)), by omega⟩ := by
  have e : idx_main_v29 (ix5 b n h z l) = ix5 b n h z ⟨8 + l, by omega⟩ := funext fun a => by fin_cases a <;> rfl
  rw [val_main_v29_apply, e, split_q]
theorem part40 (b : Fin 2) (n : Fin 16384) (h : Fin 8) (z : Fin 2) (l : Fin 48) : val_main_v40 (F := Ideal) x0 x2 (ix5 b n h z l) = plain x0 x2 b n ⟨3072 + (128 * h + 64 * z + (16 + l)), by omega⟩ := by
  have e : idx_main_v40 (ix5 b n h z l) = ix5 b n h z ⟨16 + l, by omega⟩ := funext fun a => by fin_cases a <;> rfl
  rw [val_main_v40_apply, e, split_q]
theorem first34 (b : Fin 2) (n : Fin 16384) (h : Fin 8) (z : Fin 2) (l : Fin 8) : val_main_v34 (F := Ideal) x0 x1 x2 (ix5 b n h z l) = plain x0 x2 b n ⟨3072 + (128 * h + 64 * z + l), by omega⟩ * cosOf x1 b n l - plain x0 x2 b n ⟨3072 + (128 * h + 64 * z + (8 + l)), by omega⟩ * sinOf x1 b n l := by
  have e30 : idx_main_v30 (ix5 b n h z l) = ix5 b n 0 0 l := funext fun a => by fin_cases a <;> rfl
  have e32 : idx_main_v32 (ix5 b n h z l) = ix5 b n 0 0 l := funext fun a => by fin_cases a <;> rfl
  rw [val_main_v34_apply, val_main_v31_apply, val_main_v33_apply, val_main_v30_apply, val_main_v32_apply, e30, e32, cos_at, sin_at, part28, part29]
  rfl
theorem second39 (b : Fin 2) (n : Fin 16384) (h : Fin 8) (z : Fin 2) (l : Fin 8) : val_main_v39 (F := Ideal) x0 x1 x2 (ix5 b n h z l) = plain x0 x2 b n ⟨3072 + (128 * h + 64 * z + (8 + l)), by omega⟩ * cosOf x1 b n l + plain x0 x2 b n ⟨3072 + (128 * h + 64 * z + l), by omega⟩ * sinOf x1 b n l := by
  have e35 : idx_main_v35 (ix5 b n h z l) = ix5 b n 0 0 l := funext fun a => by fin_cases a <;> rfl
  have e37 : idx_main_v37 (ix5 b n h z l) = ix5 b n 0 0 l := funext fun a => by fin_cases a <;> rfl
  rw [val_main_v39_apply, val_main_v36_apply, val_main_v38_apply, val_main_v35_apply, val_main_v37_apply, e35, e37, cos_at, sin_at, part28, part29]
  rfl
theorem part44 (b : Fin 2) (n : Fin 16384) (h : Fin 8) (z : Fin 2) (l : Fin 8) : val_main_v44 (F := Ideal) x0 x2 (ix5 b n h z l) = plain x0 x2 b n ⟨4096 + (128 * h + 64 * z + l), by omega⟩ := by
  have e : idx_main_v44 (ix5 b n h z l) = ix5 b n h z ⟨l, by omega⟩ := funext fun a => by fin_cases a <;> rfl
  rw [val_main_v44_apply, e, split_k]
theorem part45 (b : Fin 2) (n : Fin 16384) (h : Fin 8) (z : Fin 2) (l : Fin 8) : val_main_v45 (F := Ideal) x0 x2 (ix5 b n h z l) = plain x0 x2 b n ⟨4096 + (128 * h + 64 * z + (8 + l)), by omega⟩ := by
  have e : idx_main_v45 (ix5 b n h z l) = ix5 b n h z ⟨8 + l, by omega⟩ := funext fun a => by fin_cases a <;> rfl
  rw [val_main_v45_apply, e, split_k]
theorem part56 (b : Fin 2) (n : Fin 16384) (h : Fin 8) (z : Fin 2) (l : Fin 48) : val_main_v56 (F := Ideal) x0 x2 (ix5 b n h z l) = plain x0 x2 b n ⟨4096 + (128 * h + 64 * z + (16 + l)), by omega⟩ := by
  have e : idx_main_v56 (ix5 b n h z l) = ix5 b n h z ⟨16 + l, by omega⟩ := funext fun a => by fin_cases a <;> rfl
  rw [val_main_v56_apply, e, split_k]
theorem first50 (b : Fin 2) (n : Fin 16384) (h : Fin 8) (z : Fin 2) (l : Fin 8) : val_main_v50 (F := Ideal) x0 x1 x2 (ix5 b n h z l) = plain x0 x2 b n ⟨4096 + (128 * h + 64 * z + l), by omega⟩ * cosOf x1 b n l - plain x0 x2 b n ⟨4096 + (128 * h + 64 * z + (8 + l)), by omega⟩ * sinOf x1 b n l := by
  have e46 : idx_main_v46 (ix5 b n h z l) = ix5 b n 0 0 l := funext fun a => by fin_cases a <;> rfl
  have e48 : idx_main_v48 (ix5 b n h z l) = ix5 b n 0 0 l := funext fun a => by fin_cases a <;> rfl
  rw [val_main_v50_apply, val_main_v47_apply, val_main_v49_apply, val_main_v46_apply, val_main_v48_apply, e46, e48, cos_at, sin_at, part44, part45]
  rfl
theorem second55 (b : Fin 2) (n : Fin 16384) (h : Fin 8) (z : Fin 2) (l : Fin 8) : val_main_v55 (F := Ideal) x0 x1 x2 (ix5 b n h z l) = plain x0 x2 b n ⟨4096 + (128 * h + 64 * z + (8 + l)), by omega⟩ * cosOf x1 b n l + plain x0 x2 b n ⟨4096 + (128 * h + 64 * z + l), by omega⟩ * sinOf x1 b n l := by
  have e51 : idx_main_v51 (ix5 b n h z l) = ix5 b n 0 0 l := funext fun a => by fin_cases a <;> rfl
  have e53 : idx_main_v53 (ix5 b n h z l) = ix5 b n 0 0 l := funext fun a => by fin_cases a <;> rfl
  rw [val_main_v55_apply, val_main_v52_apply, val_main_v54_apply, val_main_v51_apply, val_main_v53_apply, e51, e53, cos_at, sin_at, part44, part45]
  rfl
/-- Three pieces joined along the last axis. -/
theorem joined (A B : (⟨5, ![2, 16384, 8, 2, 8]⟩ : Shape).Idx → EReal) (C : (⟨5, ![2, 16384, 8, 2, 48]⟩ : Shape).Idx → EReal)
    (hc : Shape.Concatenates [S2x16384x8x2x8, S2x16384x8x2x8, S2x16384x8x2x48] S2x16384x8x2x64 4) (b : Fin 2) (n : Fin 16384) (h : Fin 8) (z : Fin 2) (l : Fin 64) :
    concatenate S2x16384x8x2x64 4 [⟨S2x16384x8x2x8, A⟩, ⟨S2x16384x8x2x8, B⟩, ⟨S2x16384x8x2x48, C⟩] hc (ix5 b n h z l) =
      if h8 : (l : ℕ) < 8 then A (ix5 b n h z ⟨l, h8⟩) else if h16 : (l : ℕ) < 16 then B (ix5 b n h z ⟨l - 8, by omega⟩) else C (ix5 b n h z ⟨l - 16, by omega⟩) := by
  split_ifs with h8 h16
  · refine concatenate_apply_piece (t := S2x16384x8x2x64) 4 [⟨S2x16384x8x2x8, A⟩, ⟨S2x16384x8x2x8, B⟩, ⟨S2x16384x8x2x48, C⟩] hc (ix5 b n h z l) 0 (by simp) S2x16384x8x2x8 A rfl rfl 0 rfl (ix5 b n h z ⟨l, h8⟩) (fun a ha => ?_) (by show 0 + (l : ℕ) = l; omega)
    fin_cases a <;> first | exact absurd rfl ha | rfl
  · refine concatenate_apply_piece (t := S2x16384x8x2x64) 4 [⟨S2x16384x8x2x8, A⟩, ⟨S2x16384x8x2x8, B⟩, ⟨S2x16384x8x2x48, C⟩] hc (ix5 b n h z l) 1 (by simp) S2x16384x8x2x8 B rfl rfl 8 rfl (ix5 b n h z ⟨l - 8, by omega⟩) (fun a ha => ?_) (by show 8 + ((l : ℕ) - 8) = l; omega)
    fin_cases a <;> first | exact absurd rfl ha | rfl
  · refine concatenate_apply_piece (t := S2x16384x8x2x64) 4 [⟨S2x16384x8x2x8, A⟩, ⟨S2x16384x8x2x8, B⟩, ⟨S2x16384x8x2x48, C⟩] hc (ix5 b n h z l) 2 (by simp) S2x16384x8x2x48 C rfl rfl 16 rfl (ix5 b n h z ⟨l - 16, by omega⟩) (fun a ha => ?_) (by show 16 + ((l : ℕ) - 16) = l; omega)
    fin_cases a <;> first | exact absurd rfl ha | rfl

/-- The joined pieces, read at a column of the section. -/
theorem joined_rotary (t : Fin 6144 → EReal) (cs sn : Fin 8 → EReal) (o : ℕ) (ho : o + 1024 ≤ 6144) (ho' : o % 64 = 0) (b : Fin 2) (n : Fin 16384)
    (A B : (⟨5, ![2, 16384, 8, 2, 8]⟩ : Shape).Idx → EReal) (C : (⟨5, ![2, 16384, 8, 2, 48]⟩ : Shape).Idx → EReal)
    (hA : ∀ (h : Fin 8) (z : Fin 2) (l : Fin 8), A (ix5 b n h z l) = t ⟨o + (128 * h + 64 * z + l), by omega⟩ * cs l - t ⟨o + (128 * h + 64 * z + (8 + l)), by omega⟩ * sn l)
    (hB : ∀ (h : Fin 8) (z : Fin 2) (l : Fin 8), B (ix5 b n h z l) = t ⟨o + (128 * h + 64 * z + (8 + l)), by omega⟩ * cs l + t ⟨o + (128 * h + 64 * z + l), by omega⟩ * sn l)
    (hC : ∀ (h : Fin 8) (z : Fin 2) (l : Fin 48), C (ix5 b n h z l) = t ⟨o + (128 * h + 64 * z + (16 + l)), by omega⟩)
    (hc : Shape.Concatenates [S2x16384x8x2x8, S2x16384x8x2x8, S2x16384x8x2x48] S2x16384x8x2x64 4) (k : Fin 1024) :
    concatenate S2x16384x8x2x64 4 [⟨S2x16384x8x2x8, A⟩, ⟨S2x16384x8x2x8, B⟩, ⟨S2x16384x8x2x48, C⟩] hc
      (ix5 b n ⟨k / 128, by omega⟩ ⟨k / 64 % 2, by omega⟩ ⟨k % 64, by omega⟩) = rotary t cs sn ⟨o + k, by omega⟩ := by
  have em : (o + k) % 64 = (k : ℕ) % 64 := by omega
  rw [joined]
  unfold rotary
  simp only [em, hA, hB, hC]
  by_cases h : (k : ℕ) % 64 < 8
  · rw [dif_pos h, dif_pos h]
    refine congrArg₂ (fun u v => t u * cs ⟨k % 64, h⟩ - t v * sn ⟨k % 64, h⟩) (Fin.ext ?_) (Fin.ext ?_) <;> simp only <;> omega
  · by_cases h' : (k : ℕ) % 64 < 16
    · rw [dif_neg h, dif_pos h', dif_neg h, dif_pos h']
      refine congrArg₂ (fun u v => t u * cs ⟨k % 64 - 8, by omega⟩ + t v * sn ⟨k % 64 - 8, by omega⟩) (Fin.ext ?_) (Fin.ext ?_) <;> simp only <;> omega
    · rw [dif_neg h, dif_neg h', dif_neg h, dif_neg h']
      refine congrArg t (Fin.ext ?_)
      simp only
      omega

theorem turned42 (b : Fin 2) (n : Fin 16384) (k : Fin 1024) :
    val_main_v42 (F := Ideal) x0 x1 x2 (ix3 b n k) = rotary (plain x0 x2 b n) (cosOf x1 b n) (sinOf x1 b n) ⟨3072 + k, by omega⟩ := by
  have e : idx_main_v42 (ix3 b n k) = ix5 b n ⟨k / 128, by omega⟩ ⟨k / 64 % 2, by omega⟩ ⟨k % 64, by omega⟩ := by
    funext a; refine Fin.ext ?_
    fin_cases a
    · show (((b : ℕ) * 16384 + n) * 1024 + k) / 16777216 = b; omega
    · show (((b : ℕ) * 16384 + n) * 1024 + k) / 1024 % 16384 = n; omega
    · show (((b : ℕ) * 16384 + n) * 1024 + k) / 128 % 8 = (k : ℕ) / 128; omega
    · show (((b : ℕ) * 16384 + n) * 1024 + k) / 64 % 2 = (k : ℕ) / 64 % 2; omega
    · show (((b : ℕ) * 16384 + n) * 1024 + k) % 64 = (k : ℕ) % 64; omega
  rw [val_main_v42_apply, e]
  unfold val_main_v41
  exact joined_rotary _ _ _ 3072 (by omega) (by omega) b n (val_main_v34 (F := Ideal) x0 x1 x2) (val_main_v39 (F := Ideal) x0 x1 x2) (val_main_v40 (F := Ideal) x0 x2)
    (first34 x0 x1 x2 b n) (second39 x0 x1 x2 b n) (part40 x0 x2 b n) Gen.concatenates_S2x16384x8x2x8_S2x16384x8x2x8_S2x16384x8x2x48_S2x16384x8x2x64_d4 k
theorem turned58 (b : Fin 2) (n : Fin 16384) (k : Fin 1024) :
    val_main_v58 (F := Ideal) x0 x1 x2 (ix3 b n k) = rotary (plain x0 x2 b n) (cosOf x1 b n) (sinOf x1 b n) ⟨4096 + k, by omega⟩ := by
  have e : idx_main_v58 (ix3 b n k) = ix5 b n ⟨k / 128, by omega⟩ ⟨k / 64 % 2, by omega⟩ ⟨k % 64, by omega⟩ := by
    funext a; refine Fin.ext ?_
    fin_cases a
    · show (((b : ℕ) * 16384 + n) * 1024 + k) / 16777216 = b; omega
    · show (((b : ℕ) * 16384 + n) * 1024 + k) / 1024 % 16384 = n; omega
    · show (((b : ℕ) * 16384 + n) * 1024 + k) / 128 % 8 = (k : ℕ) / 128; omega
    · show (((b : ℕ) * 16384 + n) * 1024 + k) / 64 % 2 = (k : ℕ) / 64 % 2; omega
    · show (((b : ℕ) * 16384 + n) * 1024 + k) % 64 = (k : ℕ) % 64; omega
  rw [val_main_v58_apply, e]
  unfold val_main_v57
  exact joined_rotary _ _ _ 4096 (by omega) (by omega) b n (val_main_v50 (F := Ideal) x0 x1 x2) (val_main_v55 (F := Ideal) x0 x1 x2) (val_main_v56 (F := Ideal) x0 x2)
    (first50 x0 x1 x2 b n) (second55 x0 x1 x2 b n) (part56 x0 x2 b n) Gen.concatenates_S2x16384x8x2x8_S2x16384x8x2x8_S2x16384x8x2x48_S2x16384x8x2x64_d4 k
/-! ## The scales -/

theorem two_word : Ideal.ofBits .f32 0x40000000#32 = ((2 : ℝ) : EReal) := by
  simp [Ideal.ofBits, Ideal.ieee]
  rw [← EReal.coe_mul]
  norm_num
theorem eight_word : Ideal.ofBits .f32 0x41000000#32 = ((8 : ℝ) : EReal) := by
  simp [Ideal.ofBits, Ideal.ieee]
  rw [← EReal.coe_mul]
  norm_num
theorem width_word : Ideal.ofBits .f32 0x43000000#32 = ((128 : ℝ) : EReal) := by
  simp [Ideal.ofBits, Ideal.ieee]
  rw [← EReal.coe_mul]
  norm_num
theorem log_two : FloatOps.hostUnary (F := Ideal) (φ := .f32) .log (Ideal.ofBits .f32 0x40000000#32) = ((Real.log 2 : ℝ) : EReal) := by
  rw [Ideal.hostUnary_log_def, two_word, Ideal.log_coe, if_neg (by norm_num)]
theorem root_width : FloatOps.hostUnary (F := Ideal) (φ := .f32) .sqrt (Ideal.ofBits .f32 0x43000000#32) = ((Real.sqrt 128 : ℝ) : EReal) := by
  rw [Ideal.hostUnary_sqrt_def, width_word, Ideal.sqrt_coe, if_neg (by norm_num)]

theorem log_two_ne : Real.log 2 ≠ 0 := Real.log_ne_zero_of_pos_of_ne_one (by norm_num) (by norm_num)

theorem scaled_first (b : Fin 2) (n : Fin 16384) (k : Fin 1024) : val_main_v66 (F := Ideal) x0 x2 (ix3 b n k) = plain x0 x2 b n ⟨k, by omega⟩ * sbScale := by
  rw [val_main_v66_apply, slice21, val_main_v65_apply, val_main_v64_apply, val_main_v63_apply, val_main_v60_apply, val_main_v59_apply, val_main_v62_apply, val_main_v61_apply, val_main_cst_3_apply, val_main_cst_4_apply, Ideal.ofBits_def, Ideal.ofBits_def, log_two, root_width]
  show Ideal.div _ (((Real.sqrt 128 : ℝ) : EReal) * ((Real.log 2 : ℝ) : EReal)) = _
  rw [← EReal.coe_mul, Ideal.div_coe (mul_ne_zero (Real.sqrt_ne_zero'.2 (by norm_num)) log_two_ne), one_div]
  rfl
theorem scaled_second (b : Fin 2) (n : Fin 16384) (k : Fin 1024) :
    val_main_v71 (F := Ideal) x0 x1 x2 (ix3 b n k) = rotary (plain x0 x2 b n) (cosOf x1 b n) (sinOf x1 b n) ⟨3072 + k, by omega⟩ * diffScale := by
  rw [val_main_v71_apply, turned42, val_main_v70_apply, val_main_v69_apply, val_main_v68_apply, val_main_v67_apply, val_main_v62_apply, val_main_v61_apply, val_main_cst_4_apply, val_main_cst_5_apply, Ideal.ofBits_def, Ideal.ofBits_def, log_two, eight_word]
  show Ideal.div _ (((8 : ℝ) : EReal) * ((Real.log 2 : ℝ) : EReal)) = _
  rw [← EReal.coe_mul, Ideal.div_coe (mul_ne_zero (by norm_num) log_two_ne), one_div]
  rfl

/-! ## The six sections side by side -/

/-- Six sections joined along the last axis. -/
theorem six_joined (A0 A1 A2 A3 A4 A5 : (⟨3, ![2, 16384, 1024]⟩ : Shape).Idx → EReal)
    (hc : Shape.Concatenates [S2x16384x1024, S2x16384x1024, S2x16384x1024, S2x16384x1024, S2x16384x1024, S2x16384x1024] S2x16384x6144 2) (b : Fin 2) (n : Fin 16384) (k : Fin 6144) :
    concatenate S2x16384x6144 2 [⟨S2x16384x1024, A0⟩, ⟨S2x16384x1024, A1⟩, ⟨S2x16384x1024, A2⟩, ⟨S2x16384x1024, A3⟩, ⟨S2x16384x1024, A4⟩, ⟨S2x16384x1024, A5⟩] hc (ix3 b n k) =
      if h0 : (k : ℕ) < 1024 then A0 (ix3 b n ⟨k - 0, by omega⟩) else
      if h1 : (k : ℕ) < 2048 then A1 (ix3 b n ⟨k - 1024, by omega⟩) else
      if h2 : (k : ℕ) < 3072 then A2 (ix3 b n ⟨k - 2048, by omega⟩) else
      if h3 : (k : ℕ) < 4096 then A3 (ix3 b n ⟨k - 3072, by omega⟩) else
      if h4 : (k : ℕ) < 5120 then A4 (ix3 b n ⟨k - 4096, by omega⟩) else A5 (ix3 b n ⟨k - 5120, by omega⟩) := by
  split_ifs with h0 h1 h2 h3 h4
  · refine concatenate_apply_piece (t := S2x16384x6144) 2 [⟨S2x16384x1024, A0⟩, ⟨S2x16384x1024, A1⟩, ⟨S2x16384x1024, A2⟩, ⟨S2x16384x1024, A3⟩, ⟨S2x16384x1024, A4⟩, ⟨S2x16384x1024, A5⟩] hc (ix3 b n k) 0 (by simp) S2x16384x1024 A0 rfl rfl 0 rfl (ix3 b n ⟨k - 0, by omega⟩) (fun a ha => ?_) (by show 0 + ((k : ℕ) - 0) = k; omega)
    fin_cases a <;> first | exact absurd rfl ha | rfl
  · refine concatenate_apply_piece (t := S2x16384x6144) 2 [⟨S2x16384x1024, A0⟩, ⟨S2x16384x1024, A1⟩, ⟨S2x16384x1024, A2⟩, ⟨S2x16384x1024, A3⟩, ⟨S2x16384x1024, A4⟩, ⟨S2x16384x1024, A5⟩] hc (ix3 b n k) 1 (by simp) S2x16384x1024 A1 rfl rfl 1024 rfl (ix3 b n ⟨k - 1024, by omega⟩) (fun a ha => ?_) (by show 1024 + ((k : ℕ) - 1024) = k; omega)
    fin_cases a <;> first | exact absurd rfl ha | rfl
  · refine concatenate_apply_piece (t := S2x16384x6144) 2 [⟨S2x16384x1024, A0⟩, ⟨S2x16384x1024, A1⟩, ⟨S2x16384x1024, A2⟩, ⟨S2x16384x1024, A3⟩, ⟨S2x16384x1024, A4⟩, ⟨S2x16384x1024, A5⟩] hc (ix3 b n k) 2 (by simp) S2x16384x1024 A2 rfl rfl 2048 rfl (ix3 b n ⟨k - 2048, by omega⟩) (fun a ha => ?_) (by show 2048 + ((k : ℕ) - 2048) = k; omega)
    fin_cases a <;> first | exact absurd rfl ha | rfl
  · refine concatenate_apply_piece (t := S2x16384x6144) 2 [⟨S2x16384x1024, A0⟩, ⟨S2x16384x1024, A1⟩, ⟨S2x16384x1024, A2⟩, ⟨S2x16384x1024, A3⟩, ⟨S2x16384x1024, A4⟩, ⟨S2x16384x1024, A5⟩] hc (ix3 b n k) 3 (by simp) S2x16384x1024 A3 rfl rfl 3072 rfl (ix3 b n ⟨k - 3072, by omega⟩) (fun a ha => ?_) (by show 3072 + ((k : ℕ) - 3072) = k; omega)
    fin_cases a <;> first | exact absurd rfl ha | rfl
  · refine concatenate_apply_piece (t := S2x16384x6144) 2 [⟨S2x16384x1024, A0⟩, ⟨S2x16384x1024, A1⟩, ⟨S2x16384x1024, A2⟩, ⟨S2x16384x1024, A3⟩, ⟨S2x16384x1024, A4⟩, ⟨S2x16384x1024, A5⟩] hc (ix3 b n k) 4 (by simp) S2x16384x1024 A4 rfl rfl 4096 rfl (ix3 b n ⟨k - 4096, by omega⟩) (fun a ha => ?_) (by show 4096 + ((k : ℕ) - 4096) = k; omega)
    fin_cases a <;> first | exact absurd rfl ha | rfl
  · refine concatenate_apply_piece (t := S2x16384x6144) 2 [⟨S2x16384x1024, A0⟩, ⟨S2x16384x1024, A1⟩, ⟨S2x16384x1024, A2⟩, ⟨S2x16384x1024, A3⟩, ⟨S2x16384x1024, A4⟩, ⟨S2x16384x1024, A5⟩] hc (ix3 b n k) 5 (by simp) S2x16384x1024 A5 rfl rfl 5120 rfl (ix3 b n ⟨k - 5120, by omega⟩) (fun a ha => ?_) (by show 5120 + ((k : ℕ) - 5120) = k; omega)
    fin_cases a <;> first | exact absurd rfl ha | rfl

theorem sections_at (b : Fin 2) (n : Fin 16384) (k : Fin 6144) :
    val_main_v72 (F := Ideal) x0 x1 x2 (ix3 b n k) = column (plain x0 x2 b n) (cosOf x1 b n) (sinOf x1 b n) k := by
  unfold val_main_v72
  refine (six_joined (val_main_v66 (F := Ideal) x0 x2) (val_main_v22 (F := Ideal) x0 x2) (val_main_v23 (F := Ideal) x0 x2)
    (val_main_v71 (F := Ideal) x0 x1 x2) (val_main_v58 (F := Ideal) x0 x1 x2) (val_main_v26 (F := Ideal) x0 x2) _ b n k).trans ?_
  simp only [scaled_first, slice22, slice23, slice26, scaled_second, turned58]
  unfold column
  have back : ∀ (o : ℕ) (h : o ≤ k), (⟨o + ((k : ℕ) - o), by omega⟩ : Fin 6144) = k := fun o h => Fin.ext (by simp only; omega)
  by_cases h0 : (k : ℕ) < 1024
  · rw [dif_pos h0, if_pos h0]
    rfl
  by_cases h1 : (k : ℕ) < 2048
  · rw [dif_neg h0, dif_pos h1, if_neg h0, if_pos (by omega), back 1024 (by omega)]
  by_cases h2 : (k : ℕ) < 3072
  · rw [dif_neg h0, dif_neg h1, dif_pos h2, if_neg h0, if_pos h2, back 2048 (by omega)]
  by_cases h3 : (k : ℕ) < 4096
  · rw [dif_neg h0, dif_neg h1, dif_neg h2, dif_pos h3, if_neg h0, if_neg h2, if_pos h3, back 3072 (by omega)]
  by_cases h4 : (k : ℕ) < 5120
  · rw [dif_neg h0, dif_neg h1, dif_neg h2, dif_neg h3, dif_pos h4, if_neg h0, if_neg h2, if_neg h3, if_pos h4, back 4096 (by omega)]
  · rw [dif_neg h0, dif_neg h1, dif_neg h2, dif_neg h3, dif_neg h4, if_neg h0, if_neg h2, if_neg h3, if_neg h4, back 5120 (by omega)]

/-- What the reference leaves: the projection of its arguments. -/
theorem result_eq : val_main_v74 (F := Ideal) x0 x1 x2 = projIn x0 x1 x2 := by
  funext i
  obtain ⟨n, k, rfl⟩ : ∃ (n : Fin 32768) (k : Fin 6144), i = ix2 n k := ⟨i 0, i 1, eq_ix2 i⟩
  have e : idx_main_v73 (ix2 n k) = ix3 (seqOf n) (posOf n) k := by
    funext a; refine Fin.ext ?_
    fin_cases a
    · show ((n : ℕ) * 6144 + k) / 100663296 = (n : ℕ) / 16384; omega
    · show ((n : ℕ) * 6144 + k) / 6144 % 16384 = (n : ℕ) % 16384; omega
    · show ((n : ℕ) * 6144 + k) % 6144 = k; omega
  rw [val_main_v74_apply, val_main_v73_apply, e, sections_at]
  rfl

end Cert.Reference6Ideal.Read
end
end
-- ==== Proof.DiffRow.lean ====
module

public import Idealize.ShloMosaic.Lib.Pointwise
public import proofs.«01_k».proof.Proof.Row

@[expose] public section

/-!
# One query row of the differential attention, in tiles of 256 keys

The arithmetic of one row, free of arrays: the running maximum and the running sums a tile of 256 keys leaves (`mx`, `ac`),
and what they are after all tiles of keys from `n` on (`St`), for scores and values that are real numbers.
-/

noncomputable section
namespace DiffRow
open Idealize.ShloMosaic

/-- The running maximum after a tile of scores `z`. -/
def mx (M : EReal) (z : Fin 256 → EReal) : EReal := max M (Finset.fold max (Ideal.ofBits .f32 4286578688#32) z Finset.univ)

/-- A running sum after a tile of scores `z` and values `V`. -/
def ac (M a : EReal) (z V : Fin 256 → EReal) : EReal :=
  Ideal.exp2 (M - mx M z) * a + ∑ s, Ideal.exp2 (z s - mx M z) * V s

/-- The weighted sum of the values over the keys from `n` on which the row `q` may meet. -/
def W (x v : ℕ → ℝ) (q n : ℕ) : ℝ := ∑ s ∈ Finset.Ico n 16384, if s ≤ q then (2 : ℝ) ^ x s * v s else 0

/-- What the maximum and one sum hold after the keys from `n` on: nothing yet, or the weighted sum scaled by the maximum. -/
def St (x v : ℕ → ℝ) (q n : ℕ) (M a : EReal) : Prop :=
  (q < n ∧ M = ⊥ ∧ a = 0) ∨ (n ≤ q ∧ ∃ r : ℝ, M = (r : EReal) ∧ a = (((2 : ℝ) ^ (-r) * W x v q n : ℝ) : EReal))

theorem ofBits_neg_inf : Ideal.ofBits .f32 4286578688#32 = (⊥ : EReal) := by
  simp [Ideal.ofBits, Ideal.ieee]

theorem coe_sum {ι : Type} (t : Finset ι) (f : ι → ℝ) : ((∑ s ∈ t, f s : ℝ) : EReal) = ∑ s ∈ t, (f s : EReal) := by
  classical
  induction t using Finset.induction_on with
  | empty => simp
  | insert a t ha ih => rw [Finset.sum_insert ha, Finset.sum_insert ha, EReal.coe_add, ih]

/-- The first tile of the weighted sum and the rest. -/
theorem W_step (x v : ℕ → ℝ) (q n : ℕ) (hn : n + 256 ≤ 16384) :
    W x v q n = (∑ s : Fin 256, if n + s ≤ q then (2 : ℝ) ^ x (n + s) * v (n + s) else 0) + W x v q (n + 256) := by
  unfold W
  rw [← Finset.sum_Ico_consecutive _ (Nat.le_add_right n 256) hn, Finset.sum_Ico_eq_sum_range, Nat.add_sub_cancel_left,
    Finset.sum_range]

theorem W_of_lt (x v : ℕ → ℝ) (q n : ℕ) (h : q < n) : W x v q n = 0 := by
  refine Finset.sum_eq_zero fun s hs => if_neg ?_
  have := (Finset.mem_Ico.mp hs).1
  omega

/-- The weights alone add up to something positive. -/
theorem W_pos (x v : ℕ → ℝ) (q : ℕ) (hq : q < 16384) (hv : ∀ s, v s = 1) : 0 < W x v q 0 := by
  unfold W
  refine Finset.sum_pos' (fun s _ => ?_) ⟨0, by simp, ?_⟩
  · split
    · rw [hv, mul_one]; exact (Real.rpow_pos_of_pos two_pos _).le
    · exact le_rfl
  · rw [if_pos (Nat.zero_le _), hv, mul_one]; exact Real.rpow_pos_of_pos two_pos _

/-- The maximum after a tile of which the first score is a number, and no score is infinite upwards. -/
theorem mx_real (M : EReal) (z : Fin 256 → EReal) (hM : M < ⊤) (hz : ∀ s, z s < ⊤) (h0 : ⊥ < z 0) :
    ∃ R : ℝ, mx M z = (R : EReal) := by
  have h1 : mx M z < ⊤ := by
    unfold mx
    rw [ofBits_neg_inf]
    exact max_lt hM ((Finset.fold_max_lt _).mpr ⟨bot_lt_top, fun s _ => hz s⟩)
  have h2 : ⊥ < mx M z := by
    unfold mx
    exact lt_max_of_lt_right ((Finset.lt_fold_max _).mpr (.inr ⟨0, Finset.mem_univ _, h0⟩))
  exact ⟨(mx M z).toReal, (EReal.coe_toReal h1.ne h2.ne').symm⟩

/-- One tile: the keys from `n` to `n + 256`. -/
theorem St_step (x v : ℕ → ℝ) (q n : ℕ) (hn : n + 256 ≤ 16384) (hq : n ≤ q) (M a : EReal) (z V : Fin 256 → EReal)
    (hz : ∀ s : Fin 256, z s = if n + s ≤ q then (x (n + s) : EReal) else ⊥) (hV : ∀ s : Fin 256, V s = (v (n + s) : EReal))
    (h : St x v q (n + 256) M a) : St x v q n (mx M z) (ac M a z V) := by
  have hM : M < ⊤ := by
    rcases h with ⟨-, rfl, -⟩ | ⟨-, r, rfl, -⟩
    · exact bot_lt_top
    · exact EReal.coe_lt_top r
  obtain ⟨R, hR⟩ := mx_real M z hM (fun s => by rw [hz]; split; exacts [EReal.coe_lt_top _, bot_lt_top])
    (by rw [hz]; rw [if_pos (by simpa using hq)]; exact EReal.bot_lt_coe _)
  refine .inr ⟨hq, R, hR, ?_⟩
  unfold ac
  rw [hR, W_step x v q n hn, mul_add, EReal.coe_add, add_comm]
  refine congrArg₂ (· + ·) ?_ ?_
  · rw [Finset.mul_sum, coe_sum]
    refine Finset.sum_congr rfl fun s _ => ?_
    rw [hz, hV]
    split
    · rw [← EReal.coe_sub, Ideal.exp2_coe, ← EReal.coe_mul]
      congr 1
      show (2 : ℝ) ^ (x (n + s) - R) * _ = _
      rw [sub_eq_neg_add, Real.rpow_add two_pos, mul_assoc]
    · rw [EReal.bot_sub, Ideal.exp2_bot]
      simp
  · rcases h with ⟨hlt, rfl, rfl⟩ | ⟨-, r, rfl, rfl⟩
    · rw [W_of_lt x v q _ hlt]; simp
    · rw [← EReal.coe_sub, Ideal.exp2_coe, ← EReal.coe_mul]
      congr 1
      show (2 : ℝ) ^ (r - R) * _ = _
      rw [← mul_assoc, ← Real.rpow_add two_pos]
      congr 2
      ring

end DiffRow
end
end
-- ==== Proof.DiffTiles.lean ====
module

public import proofs.«01_k».proof.Proof.Gen.Kernel5Ideal.Skeleton
public import Idealize.ShloMosaic.Lib.Pointwise
public import proofs.«01_k».proof.Proof.DiffRow

@[expose] public section
set_option maxRecDepth 16384

/-!
# What a tile of the differential attention stores

A tile of 256 keys meets `n` rows of one component's queries. On the block's own keys key `s` is allowed to row `r` of them
exactly when `s ≤ r`; on an earlier block's keys all are. `dM` is the running maximum a tile stores, `dA` the running sums,
whose lanes from 128 on sum the weights alone.
-/

noncomputable section
namespace Cert.Kernel5Ideal.Gen
open Idealize.ShloMosaic Idealize.ShloMosaic.TcCoe SbRow DiffRow

/-- The same comparison as for the stick-breaking attention, the equal key allowed too. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_of_lt (by simp; omega) (by simp; omega)]
  simp only [BitVec.toNat_ofNat, Nat.mod_eq_of_lt (show a < 2 ^ 32 by omega), Nat.mod_eq_of_lt (show b < 2 ^ 32 by omega)]
  by_cases h : a ≤ b <;> simp [Scalar.select, h]

theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_of_lt (by simp; omega) (by simp; omega)]
  simp only [BitVec.toNat_ofNat, Nat.mod_eq_of_lt (show a < 2 ^ 32 by omega), Nat.mod_eq_of_lt (show b < 2 ^ 32 by omega)]
  by_cases h : b ≤ a <;> simp [Scalar.select, h]

/-- The value column `d` of a tile: the values, then ones. -/
def vcol (v : FVec Ideal S1x256x128 .bf16) (d : Fin 256) (s : Fin 256) : EReal :=
  if h : (d : ℕ) < 128 then v (ix3 0 s ⟨d, h⟩) else 1

/-- A tile's scores of row `r`, the keys that are not allowed left out. -/
def zrow {n : ℕ} (k : FVec Ideal S1x256x128 .bf16) (q : FVec Ideal ⟨3, ![1, n, 128]⟩ .bf16) (r : Fin n) (s : Fin 256) : EReal :=
  if (s : ℕ) ≤ r then ∑ e, q (ix3 0 r e) * k (ix3 0 s e) else Ideal.ofBits .f32 4286578688#32

/-- The running maximum stored by the tile of the keys from 1792 of the block. -/
def dM7 (k : FVec Ideal S1x256x128 .bf16) (q : FVec Ideal S1x256x128 .bf16) (m : FVec Ideal S1x256x128 .f32) : FVec Ideal S1x256x128 .f32 :=
  k0_pay217 (k0_pay206 k) q m

/-- The running sums stored by that tile. -/
def dA7 (k v : FVec Ideal S1x256x128 .bf16) (q : FVec Ideal S1x256x128 .bf16) (m : FVec Ideal S1x256x128 .f32) (a : FVec Ideal S1x256x256 .f32) :
    FVec Ideal S1x256x256 .f32 :=
  k0_pay218 (k0_pay206 k) (k0_pay207 v) q m a

theorem dM7_apply (k : FVec Ideal S1x256x128 .bf16) (q : FVec Ideal S1x256x128 .bf16) (m : FVec Ideal S1x256x128 .f32) (r : Fin 256) (l : Fin 128) :
    dM7 k q m (ix3 0 r l) = mx (m (ix3 0 r l)) (zrow k q r) := by
  pointwise [dM7, k0_pay217, k0_pay216, k0_pay215, k0_pay214, k0_pay206, k0_pay218, k0_pay207]
  unfold mx zrow
  simp (disch := omega) only [select_sle]

theorem dA7_apply (k v : FVec Ideal S1x256x128 .bf16) (q : FVec Ideal S1x256x128 .bf16) (m : FVec Ideal S1x256x128 .f32) (a : FVec Ideal S1x256x256 .f32)
    (r : Fin 256) (d : Fin 256) (M : EReal) (hm : ∀ l, m (ix3 0 r l) = M) :
    dA7 k v q m a (ix3 0 r d) = ac M (a (ix3 0 r d)) (zrow k q r) (vcol v d) := by
  pointwise [dA7, k0_pay217, k0_pay216, k0_pay215, k0_pay214, k0_pay206, k0_pay218, k0_pay207]
  unfold ac vcol mx zrow
  rw [split256]
  simp (disch := omega) only [select_sle, hm, dite_eq_ite, ite_self]
  rfl

/-- The running maximum stored by the tile of the keys from 1536 of the block. -/
def dM6 (k : FVec Ideal S1x256x128 .bf16) (q : FVec Ideal S1x512x128 .bf16) (m : FVec Ideal S1x512x128 .f32) : FVec Ideal S1x512x128 .f32 :=
  k0_pay231 (k0_pay219 k) q m

/-- The running sums stored by that tile. -/
def dA6 (k v : FVec Ideal S1x256x128 .bf16) (q : FVec Ideal S1x512x128 .bf16) (m : FVec Ideal S1x512x128 .f32) (a : FVec Ideal S1x512x256 .f32) :
    FVec Ideal S1x512x256 .f32 :=
  k0_pay233 (k0_pay232 (k0_pay219 k) (k0_pay220 v) q m a)

theorem dM6_apply (k : FVec Ideal S1x256x128 .bf16) (q : FVec Ideal S1x512x128 .bf16) (m : FVec Ideal S1x512x128 .f32) (r : Fin 512) (l : Fin 128) :
    dM6 k q m (ix3 0 r l) = mx (m (ix3 0 r l)) (zrow k q r) := by
  pointwise [dM6, k0_pay231, k0_pay230, k0_pay229, k0_pay228, k0_pay219, k0_pay233, k0_pay232, k0_pay220]
  unfold mx zrow
  simp (disch := omega) only [select_sle]

theorem dA6_apply (k v : FVec Ideal S1x256x128 .bf16) (q : FVec Ideal S1x512x128 .bf16) (m : FVec Ideal S1x512x128 .f32) (a : FVec Ideal S1x512x256 .f32)
    (r : Fin 512) (d : Fin 256) (M : EReal) (hm : ∀ l, m (ix3 0 r l) = M) :
    dA6 k v q m a (ix3 0 r d) = ac M (a (ix3 0 r d)) (zrow k q r) (vcol v d) := by
  pointwise [dA6, k0_pay231, k0_pay230, k0_pay229, k0_pay228, k0_pay219, k0_pay233, k0_pay232, k0_pay220]
  unfold ac vcol mx zrow
  rw [split256]
  simp (disch := omega) only [select_sle, hm, dite_eq_ite, ite_self]
  rfl

/-- The running maximum stored by the tile of the keys from 1280 of the block. -/
def dM5 (k : FVec Ideal S1x256x128 .bf16) (q : FVec Ideal S1x768x128 .bf16) (m : FVec Ideal S1x768x128 .f32) : FVec Ideal S1x768x128 .f32 :=
  k0_pay240 k q m

/-- The running sums stored by that tile. -/
def dA5 (k v : FVec Ideal S1x256x128 .bf16) (q : FVec Ideal S1x768x128 .bf16) (m : FVec Ideal S1x768x128 .f32) (a : FVec Ideal S1x768x256 .f32) :
    FVec Ideal S1x768x256 .f32 :=
  k0_pay242 (k0_pay235 v) (k0_pay239 k q m) (k0_pay241 k q m) a

theorem dM5_apply (k : FVec Ideal S1x256x128 .bf16) (q : FVec Ideal S1x768x128 .bf16) (m : FVec Ideal S1x768x128 .f32) (r : Fin 768) (l : Fin 128) :
    dM5 k q m (ix3 0 r l) = mx (m (ix3 0 r l)) (zrow k q r) := by
  pointwise [dM5, k0_pay240, k0_pay238, k0_pay237, k0_pay236, k0_pay234, k0_pay242, k0_pay235, k0_pay239, k0_pay241]
  unfold mx zrow
  simp (disch := omega) only [select_sle]

theorem dA5_apply (k v : FVec Ideal S1x256x128 .bf16) (q : FVec Ideal S1x768x128 .bf16) (m : FVec Ideal S1x768x128 .f32) (a : FVec Ideal S1x768x256 .f32)
    (r : Fin 768) (d : Fin 256) (M : EReal) (hm : ∀ l, m (ix3 0 r l) = M) :
    dA5 k v q m a (ix3 0 r d) = ac M (a (ix3 0 r d)) (zrow k q r) (vcol v d) := by
  pointwise [dA5, k0_pay240, k0_pay238, k0_pay237, k0_pay236, k0_pay234, k0_pay242, k0_pay235, k0_pay239, k0_pay241]
  unfold ac vcol mx zrow
  rw [split256]
  simp (disch := omega) only [select_sle, hm, dite_eq_ite, ite_self]
  rfl

/-- The running maximum stored by the tile of the keys from 1024 of the block. -/
def dM4 (k : FVec Ideal S1x256x128 .bf16) (q : FVec Ideal S1x1024x128 .bf16) (m : FVec Ideal S1x1024x128 .f32) : FVec Ideal S1x1024x128 .f32 :=
  k0_pay263 (k0_pay250 k) q m

/-- The running sums stored by that tile. -/
def dA4 (k v : FVec Ideal S1x256x128 .bf16) (q : FVec Ideal S1x1024x128 .bf16) (m : FVec Ideal S1x1024x128 .f32) (a : FVec Ideal S1x1024x256 .f32) :
    FVec Ideal S1x1024x256 .f32 :=
  k0_pay265 (k0_pay251 v) (k0_pay262 (k0_pay250 k) q m) (k0_pay264 (k0_pay250 k) q m) a

theorem dM4_apply (k : FVec Ideal S1x256x128 .bf16) (q : FVec Ideal S1x1024x128 .bf16) (m : FVec Ideal S1x1024x128 .f32) (r : Fin 1024) (l : Fin 128) :
    dM4 k q m (ix3 0 r l) = mx (m (ix3 0 r l)) (zrow k q r) := by
  pointwise [dM4, k0_pay263, k0_pay261, k0_pay260, k0_pay259, k0_pay250, k0_pay265, k0_pay251, k0_pay262, k0_pay264]
  unfold mx zrow
  simp (disch := omega) only [select_sle]

theorem dA4_apply (k v : FVec Ideal S1x256x128 .bf16) (q : FVec Ideal S1x1024x128 .bf16) (m : FVec Ideal S1x1024x128 .f32) (a : FVec Ideal S1x1024x256 .f32)
    (r : Fin 1024) (d : Fin 256) (M : EReal) (hm : ∀ l, m (ix3 0 r l) = M) :
    dA4 k v q m a (ix3 0 r d) = ac M (a (ix3 0 r d)) (zrow k q r) (vcol v d) := by
  pointwise [dA4, k0_pay263, k0_pay261, k0_pay260, k0_pay259, k0_pay250, k0_pay265, k0_pay251, k0_pay262, k0_pay264]
  unfold ac vcol mx zrow
  rw [split256]
  simp (disch := omega) only [select_sle, hm, dite_eq_ite, ite_self]
  rfl

/-- The running maximum stored by the tile of the keys from 768 of the block. -/
def dM3 (k : FVec Ideal S1x256x128 .bf16) (q : FVec Ideal S1x1280x128 .bf16) (m : FVec Ideal S1x1280x128 .f32) : FVec Ideal S1x1280x128 .f32 :=
  k0_pay272 (k0_pay270 k q m)

/-- The running sums stored by that tile. -/
def dA3 (k v : FVec Ideal S1x256x128 .bf16) (q : FVec Ideal S1x1280x128 .bf16) (m : FVec Ideal S1x1280x128 .f32) (a : FVec Ideal S1x1280x256 .f32) :
    FVec Ideal S1x1280x256 .f32 :=
  k0_pay273 (k0_pay267 v) (k0_pay268 k q) (k0_pay270 k q m) (k0_pay271 k q m) a

theorem dM3_apply (k : FVec Ideal S1x256x128 .bf16) (q : FVec Ideal S1x1280x128 .bf16) (m : FVec Ideal S1x1280x128 .f32) (r : Fin 1280) (l : Fin 128) :
    dM3 k q m (ix3 0 r l) = mx (m (ix3 0 r l)) (zrow k q r) := by
  pointwise [dM3, k0_pay272, k0_pay270, k0_pay269, k0_pay268, k0_pay266, k0_pay273, k0_pay267, k0_pay271]
  unfold mx zrow
  simp (disch := omega) only [select_sle]

theorem dA3_apply (k v : FVec Ideal S1x256x128 .bf16) (q : FVec Ideal S1x1280x128 .bf16) (m : FVec Ideal S1x1280x128 .f32) (a : FVec Ideal S1x1280x256 .f32)
    (r : Fin 1280) (d : Fin 256) (M : EReal) (hm : ∀ l, m (ix3 0 r l) = M) :
    dA3 k v q m a (ix3 0 r d) = ac M (a (ix3 0 r d)) (zrow k q r) (vcol v d) := by
  pointwise [dA3, k0_pay272, k0_pay270, k0_pay269, k0_pay268, k0_pay266, k0_pay273, k0_pay267, k0_pay271]
  unfold ac vcol mx zrow
  rw [split256]
  simp (disch := omega) only [select_sle, hm, dite_eq_ite, ite_self]
  rfl

/-- The running maximum stored by the tile of the keys from 512 of the block. -/
def dM2 (k : FVec Ideal S1x256x128 .bf16) (q : FVec Ideal S1x1536x128 .bf16) (m : FVec Ideal S1x1536x128 .f32) : FVec Ideal S1x1536x128 .f32 :=
  k0_pay286 (k0_pay283 k q) (k0_pay284 m)

/-- The running sums stored by that tile. -/
def dA2 (k v : FVec Ideal S1x256x128 .bf16) (q : FVec Ideal S1x1536x128 .bf16) (m : FVec Ideal S1x1536x128 .f32) (a : FVec Ideal S1x1536x256 .f32) :
    FVec Ideal S1x1536x256 .f32 :=
  k0_pay287 (k0_pay282 v) (k0_pay283 k q) (k0_pay284 m) a

theorem dM2_apply (k : FVec Ideal S1x256x128 .bf16) (q : FVec Ideal S1x1536x128 .bf16) (m : FVec Ideal S1x1536x128 .f32) (r : Fin 1536) (l : Fin 128) :
    dM2 k q m (ix3 0 r l) = mx (m (ix3 0 r l)) (zrow k q r) := by
  pointwise [dM2, k0_pay286, k0_pay285, k0_pay284, k0_pay283, k0_pay281, k0_pay287, k0_pay282]
  unfold mx zrow
  simp (disch := omega) only [select_sle]

theorem dA2_apply (k v : FVec Ideal S1x256x128 .bf16) (q : FVec Ideal S1x1536x128 .bf16) (m : FVec Ideal S1x1536x128 .f32) (a : FVec Ideal S1x1536x256 .f32)
    (r : Fin 1536) (d : Fin 256) (M : EReal) (hm : ∀ l, m (ix3 0 r l) = M) :
    dA2 k v q m a (ix3 0 r d) = ac M (a (ix3 0 r d)) (zrow k q r) (vcol v d) := by
  pointwise [dA2, k0_pay286, k0_pay285, k0_pay284, k0_pay283, k0_pay281, k0_pay287, k0_pay282]
  unfold ac vcol mx zrow
  rw [split256]
  simp (disch := omega) only [select_sle, hm, dite_eq_ite, ite_self]
  rfl

/-- The running maximum stored by the tile of the keys from 256 of the block. -/
def dM1 (k : FVec Ideal S1x256x128 .bf16) (q : FVec Ideal S1x1792x128 .bf16) (m : FVec Ideal S1x1792x128 .f32) : FVec Ideal S1x1792x128 .f32 :=
  k0_pay300 (k0_pay297 k q) m

/-- The running sums stored by that tile. -/
def dA1 (k v : FVec Ideal S1x256x128 .bf16) (q : FVec Ideal S1x1792x128 .bf16) (m : FVec Ideal S1x1792x128 .f32) (a : FVec Ideal S1x1792x256 .f32) :
    FVec Ideal S1x1792x256 .f32 :=
  k0_pay301 (k0_pay296 v) (k0_pay297 k q) m a

theorem dM1_apply (k : FVec Ideal S1x256x128 .bf16) (q : FVec Ideal S1x1792x128 .bf16) (m : FVec Ideal S1x1792x128 .f32) (r : Fin 1792) (l : Fin 128) :
    dM1 k q m (ix3 0 r l) = mx (m (ix3 0 r l)) (zrow k q r) := by
  pointwise [dM1, k0_pay300, k0_pay299, k0_pay298, k0_pay297, k0_pay295, k0_pay301, k0_pay296]
  unfold mx zrow
  simp (disch := omega) only [select_sle]

theorem dA1_apply (k v : FVec Ideal S1x256x128 .bf16) (q : FVec Ideal S1x1792x128 .bf16) (m : FVec Ideal S1x1792x128 .f32) (a : FVec Ideal S1x1792x256 .f32)
    (r : Fin 1792) (d : Fin 256) (M : EReal) (hm : ∀ l, m (ix3 0 r l) = M) :
    dA1 k v q m a (ix3 0 r d) = ac M (a (ix3 0 r d)) (zrow k q r) (vcol v d) := by
  pointwise [dA1, k0_pay300, k0_pay299, k0_pay298, k0_pay297, k0_pay295, k0_pay301, k0_pay296]
  unfold ac vcol mx zrow
  rw [split256]
  simp (disch := omega) only [select_sle, hm, dite_eq_ite, ite_self]
  rfl

/-- The running maximum stored by the tile of the keys from 0 of the block. -/
def dM0 (k : FVec Ideal S1x256x128 .bf16) (q : FVec Ideal S1x2048x128 .bf16) (m : FVec Ideal S1x2048x128 .f32) : FVec Ideal S1x2048x128 .f32 :=
  k0_pay314 (k0_pay310 k q) m

/-- The running sums stored by that tile. -/
def dA0 (k v : FVec Ideal S1x256x128 .bf16) (q : FVec Ideal S1x2048x128 .bf16) (m : FVec Ideal S1x2048x128 .f32) (a : FVec Ideal S1x2048x256 .f32) :
    FVec Ideal S1x2048x256 .f32 :=
  k0_pay315 (k0_pay309 v) (k0_pay310 k q) m a

theorem dM0_apply (k : FVec Ideal S1x256x128 .bf16) (q : FVec Ideal S1x2048x128 .bf16) (m : FVec Ideal S1x2048x128 .f32) (r : Fin 2048) (l : Fin 128) :
    dM0 k q m (ix3 0 r l) = mx (m (ix3 0 r l)) (zrow k q r) := by
  pointwise [dM0, k0_pay314, k0_pay313, k0_pay312, k0_pay311, k0_pay310, k0_pay308, k0_pay315, k0_pay309]
  unfold mx zrow
  simp (disch := omega) only [select_sle]

theorem dA0_apply (k v : FVec Ideal S1x256x128 .bf16) (q : FVec Ideal S1x2048x128 .bf16) (m : FVec Ideal S1x2048x128 .f32) (a : FVec Ideal S1x2048x256 .f32)
    (r : Fin 2048) (d : Fin 256) (M : EReal) (hm : ∀ l, m (ix3 0 r l) = M) :
    dA0 k v q m a (ix3 0 r d) = ac M (a (ix3 0 r d)) (zrow k q r) (vcol v d) := by
  pointwise [dA0, k0_pay314, k0_pay313, k0_pay312, k0_pay311, k0_pay310, k0_pay308, k0_pay315, k0_pay309]
  unfold ac vcol mx zrow
  rw [split256]
  simp (disch := omega) only [select_sle, hm, dite_eq_ite, ite_self]
  rfl

/-- The running maximum stored by the tile of an earlier block. -/
def dMt (k : FVec Ideal S1x256x128 .bf16) (q : FVec Ideal S1x2048x128 .bf16) (m : FVec Ideal S1x2048x128 .f32) : FVec Ideal S1x2048x128 .f32 :=
  k0_pay8 k q m

/-- The running sums stored by that tile. -/
def dAt (k v : FVec Ideal S1x256x128 .bf16) (q : FVec Ideal S1x2048x128 .bf16) (m : FVec Ideal S1x2048x128 .f32) (a : FVec Ideal S1x2048x256 .f32) :
    FVec Ideal S1x2048x256 .f32 :=
  k0_pay15 (k0_pay2 k) (k0_pay3 v) q m a

theorem dMt_apply (k : FVec Ideal S1x256x128 .bf16) (q : FVec Ideal S1x2048x128 .bf16) (m : FVec Ideal S1x2048x128 .f32) (r : Fin 2048) (l : Fin 128) :
    dMt k q m (ix3 0 r l) = mx (m (ix3 0 r l)) (fun s => ∑ e, q (ix3 0 r e) * k (ix3 0 s e)) := by
  pointwise [dMt, k0_pay8, k0_pay6, k0_pay5, k0_pay4, k0_pay2, k0_pay15, k0_pay13, k0_pay12, k0_pay11, k0_pay3]
  unfold mx

  rfl

theorem dAt_apply (k v : FVec Ideal S1x256x128 .bf16) (q : FVec Ideal S1x2048x128 .bf16) (m : FVec Ideal S1x2048x128 .f32) (a : FVec Ideal S1x2048x256 .f32)
    (r : Fin 2048) (d : Fin 256) (M : EReal) (hm : ∀ l, m (ix3 0 r l) = M) :
    dAt k v q m a (ix3 0 r d) = ac M (a (ix3 0 r d)) (fun s => ∑ e, q (ix3 0 r e) * k (ix3 0 s e)) (vcol v d) := by
  pointwise [dAt, k0_pay8, k0_pay6, k0_pay5, k0_pay4, k0_pay2, k0_pay15, k0_pay13, k0_pay12, k0_pay11, k0_pay3]
  unfold ac vcol mx
  rw [split256]
  simp (disch := omega) only [select_sle, hm, dite_eq_ite, ite_self]
  rfl

end Cert.Kernel5Ideal.Gen
end
end
-- ==== Proof.DiffReads.lean ====
module

public import proofs.«01_k».proof.Proof.Gen.Kernel5Ideal.Skeleton
public import Idealize.ShloMosaic.Lib.VecWindow
public import Idealize.ShloMosaic.Lib.Pipeline.Value
public import proofs.«01_k».proof.Proof.DiffTiles

@[expose] public section
set_option maxRecDepth 16384

/-!
# Loads and stores of one component's rows

The scratch buffers of the differential attention hold 2048 rows for each of the two components. What a load of rows reads of
them, what a store leaves there, and what one tile does to the state of a component (`Q`).
-/

noncomputable section
namespace Cert.Kernel5Ideal.Gen
open Idealize.ShloMosaic Idealize.ShloMosaic.TcCoe DiffRow

/-- A key's row of the block. -/
abbrev key (s : ℕ) : Fin 16384 := ⟨s % 16384, Nat.mod_lt _ (by norm_num)⟩

/-- A load of a tile of 256 keys (or of their values). -/
theorem read_k {o : ℕ} (a : Memref sig .tc .vmem S1x16384x128 .bf16) (ha : a.IsWhole) (x : Vec Ideal S1x16384x128 .bf16)
    (off : Fin 3 → ℕ) (inb : ∀ b, off b + S1x256x128.size b ≤ S1x16384x128.size b) (hoff : off = ![0, o, 0]) (s : Fin 256) (e : Fin 128) :
    View.readAt (Elt Ideal) a.view (Rect.unit (s := S1x16384x128) off S1x256x128.size inb).toLoadRect (ha.unread x) (ix3 0 s e)
      = x (ix3 0 (key (o + s)) e) := by
  subst hoff
  have ho : o + 256 ≤ 16384 := inb 1
  rw [View.readAt_eq_ld, ha.read_unread]
  refine congrArg x (funext fun b => Fin.ext ?_)
  fin_cases b
  · rfl
  · show o + 1 * (s : ℕ) = (o + s) % 16384; omega
  · show 0 + 1 * (e : ℕ) = e; omega

section rows
variable {w : ℕ} {ty : EltTy}

/-- A load of rows of a scratch buffer, after the stores `L`. -/
theorem read_rows {n o f w' : ℕ} (c : Fin 2) (v : View sig .tc .vmem ⟨3, ![2, 2048, w]⟩ ty) (L : List (View.Piece (Elt Ideal) ⟨3, ![2, 2048, w]⟩ ty))
    (inb : ∀ b, (![c.val, o, f] : Fin 3 → ℕ) b + (![1, n, w'] : Fin 3 → ℕ) b ≤ (⟨3, ![2, 2048, w]⟩ : Shape).size b) (r : Fin n) (l : Fin w')
    (h : o + r < 2048) (hl : f + l < w) :
    v.readCov L (Rect.unit (s := ⟨3, ![2, 2048, w]⟩) ![c.val, o, f] ![1, n, w'] inb).toLoadRect (ix3 0 r l)
      = View.canon L (ix3 c ⟨o + r, h⟩ ⟨f + l, hl⟩) := by
  rw [View.readCov_eq_canon']
  refine congrArg (View.canon L) (funext fun b => Fin.ext ?_)
  fin_cases b
  · show c.val + 1 * 0 = c.val; omega
  · show o + 1 * (r : ℕ) = o + r; omega
  · show f + 1 * (l : ℕ) = f + l; omega

/-- The same for a load of whole rows. -/
theorem read_rows' {n o : ℕ} (c : Fin 2) (v : View sig .tc .vmem ⟨3, ![2, 2048, w]⟩ ty) (L : List (View.Piece (Elt Ideal) ⟨3, ![2, 2048, w]⟩ ty))
    (inb : ∀ b, (![c.val, o, 0] : Fin 3 → ℕ) b + (![1, n, w] : Fin 3 → ℕ) b ≤ (⟨3, ![2, 2048, w]⟩ : Shape).size b) (r : Fin n) (l : Fin w)
    (h : o + r < 2048) :
    v.readCov L (Rect.unit (s := ⟨3, ![2, 2048, w]⟩) ![c.val, o, 0] ![1, n, w] inb).toLoadRect (ix3 0 r l)
      = View.canon L (ix3 c ⟨o + r, h⟩ l) :=
  (read_rows c v L inb r l h (by omega)).trans (congrArg (View.canon L) (congrArg (ix3 c ⟨o + r, h⟩) (Fin.ext (by simp))))

/-- A store of the whole buffer. -/
theorem canon_whole (L : List (View.Piece (Elt Ideal) ⟨3, ![2, 2048, w]⟩ ty))
    (inb : ∀ b, (![0, 0, 0] : Fin 3 → ℕ) b + (⟨3, ![2, 2048, w]⟩ : Shape).size b ≤ (⟨3, ![2, 2048, w]⟩ : Shape).size b)
    (P : (⟨3, ![2, 2048, w]⟩ : Shape).Idx → Elt Ideal ty) (c : Fin 2) (r : Fin 2048) (l : Fin w) :
    View.canon (⟨Rect.unit (s := ⟨3, ![2, 2048, w]⟩) ![0, 0, 0] (⟨3, ![2, 2048, w]⟩ : Shape).size inb, P⟩ :: L) (ix3 c r l) = P (ix3 c r l) := by
  rw [← View.canon_cons_emb (Rect.unit (s := ⟨3, ![2, 2048, w]⟩) ![0, 0, 0] (⟨3, ![2, 2048, w]⟩ : Shape).size inb) P L (ix3 c r l)]
  refine congrArg (View.canon _) (funext fun b => Fin.ext ?_)
  fin_cases b
  · show c.val = 0 + 1 * c.val; omega
  · show (r : ℕ) = 0 + 1 * (r : ℕ); omega
  · show (l : ℕ) = 0 + 1 * l; omega

/-- A row inside the rows stored last holds what was stored. -/
theorem canon_in {n o : ℕ} (c : Fin 2) (L : List (View.Piece (Elt Ideal) ⟨3, ![2, 2048, w]⟩ ty))
    (inb : ∀ b, (![c.val, o, 0] : Fin 3 → ℕ) b + (![1, n, w] : Fin 3 → ℕ) b ≤ (⟨3, ![2, 2048, w]⟩ : Shape).size b)
    (P : (⟨3, ![1, n, w]⟩ : Shape).Idx → Elt Ideal ty) (r : Fin n) (l : Fin w) (h : o + r < 2048) :
    View.canon (⟨Rect.unit (s := ⟨3, ![2, 2048, w]⟩) ![c.val, o, 0] ![1, n, w] inb, P⟩ :: L) (ix3 c ⟨o + r, h⟩ l) = P (ix3 0 r l) := by
  rw [← View.canon_cons_emb (Rect.unit (s := ⟨3, ![2, 2048, w]⟩) ![c.val, o, 0] ![1, n, w] inb) P L (ix3 0 r l)]
  refine congrArg (View.canon _) (funext fun b => Fin.ext ?_)
  fin_cases b
  · show c.val = c.val + 1 * 0; omega
  · show o + r = o + 1 * (r : ℕ); omega
  · show (l : ℕ) = 0 + 1 * l; omega

/-- A row before the rows stored last holds what it held, and so do the other component's rows. -/
theorem canon_out {n o : ℕ} (c c' : Fin 2) (L : List (View.Piece (Elt Ideal) ⟨3, ![2, 2048, w]⟩ ty))
    (inb : ∀ b, (![c.val, o, 0] : Fin 3 → ℕ) b + (![1, n, w] : Fin 3 → ℕ) b ≤ (⟨3, ![2, 2048, w]⟩ : Shape).size b)
    (P : (⟨3, ![1, n, w]⟩ : Shape).Idx → Elt Ideal ty) (r : Fin 2048) (l : Fin w) (h : c' ≠ c ∨ (r : ℕ) < o) :
    View.canon (⟨Rect.unit (s := ⟨3, ![2, 2048, w]⟩) ![c.val, o, 0] ![1, n, w] inb, P⟩ :: L) (ix3 c' r l) = View.canon L (ix3 c' r l) := by
  refine View.canon_cons_of_not_mem _ _ fun hm => ?_
  have hc := (Rect.mem_set_unit (inb := inb)).mp hm 0
  have hr := (Rect.mem_set_unit (inb := inb)).mp hm 1
  have h1 : c.val ≤ c'.val := hc.1
  have h2 : c'.val < c.val + 1 := hc.2
  have h3 : o ≤ (r : ℕ) := hr.1
  rcases h with h | h
  · exact h (Fin.ext (by omega))
  · omega

end rows

/-- What the buffers hold of component `c` after the keys from `n` on: in every row the same maximum in each lane, and the
sums of the columns `v`. -/
def Q (x : Fin 2048 → ℕ → ℝ) (v : Fin 256 → ℕ → ℝ) (p n : ℕ) (c : Fin 2) (m : S2x2048x128.Idx → EReal) (a : S2x2048x256.Idx → EReal) : Prop :=
  ∀ r : Fin 2048, ∃ M, (∀ l, m (ix3 c r l) = M) ∧ ∀ d, St (x r) (v d) (p + r) n M (a (ix3 c r d))

/-- One diagonal tile, of the component it works on. -/
theorem step_tile {n j : ℕ} (hn : 256 * j + n = 2048) (hj : j < 8) (p : ℕ) (hp : p + 2048 ≤ 16384) (c : Fin 2)
    (x : Fin 2048 → ℕ → ℝ) (v : Fin 256 → ℕ → ℝ) (k vv : FVec Ideal S1x256x128 .bf16) (q : FVec Ideal ⟨3, ![1, n, 128]⟩ .bf16)
    (LM : List (View.Piece (Elt Ideal) S2x2048x128 .f32)) (LA : List (View.Piece (Elt Ideal) S2x2048x256 .f32))
    (inb : ∀ b, (![c.val, 256 * j, 0] : Fin 3 → ℕ) b + (![1, n, 128] : Fin 3 → ℕ) b ≤ S2x2048x128.size b)
    (inb' : ∀ b, (![c.val, 256 * j, 0] : Fin 3 → ℕ) b + (![1, n, 256] : Fin 3 → ℕ) b ≤ S2x2048x256.size b)
    (P : (⟨3, ![1, n, 128]⟩ : Shape).Idx → Ideal .f32) (PA : (⟨3, ![1, n, 256]⟩ : Shape).Idx → Ideal .f32)
    (h : Q x v p (p + 256 * j + 256) c (View.canon LM) (View.canon LA))
    (hx : ∀ (r : Fin n) (s : Fin 256), (∑ e, q (ix3 0 r e) * k (ix3 0 s e) : EReal) = (x ⟨256 * j + r, by omega⟩ (p + 256 * j + s) : EReal))
    (hv : ∀ (d : Fin 256) (s : Fin 256), vcol vv d s = (v d (p + 256 * j + s) : EReal))
    (hP : ∀ (r : Fin n) (l : Fin 128), P (ix3 0 r l) = mx (View.canon LM (ix3 c ⟨256 * j + r, by omega⟩ l)) (zrow k q r))
    (hA : ∀ (r : Fin n) (d : Fin 256) (M : EReal), (∀ l, View.canon LM (ix3 c ⟨256 * j + r, by omega⟩ l) = M) →
      PA (ix3 0 r d) = ac M (View.canon LA (ix3 c ⟨256 * j + r, by omega⟩ d)) (zrow k q r) (vcol vv d)) :
    Q x v p (p + 256 * j) c
      (View.canon (⟨Rect.unit (s := S2x2048x128) ![c.val, 256 * j, 0] ![1, n, 128] inb, P⟩ :: LM))
      (View.canon (⟨Rect.unit (s := S2x2048x256) ![c.val, 256 * j, 0] ![1, n, 256] inb', PA⟩ :: LA)) := by
  intro r
  obtain ⟨M, hM, hS⟩ := h r
  by_cases hr : (r : ℕ) < 256 * j
  · refine ⟨M, fun l => (canon_out c c LM inb P r l (.inr hr)).trans (hM l), fun d => ?_⟩
    rw [canon_out c c LA inb' PA r d (.inr hr)]
    rcases hS d with ⟨_, h1, h2⟩ | ⟨h0, _⟩
    · exact .inl ⟨by omega, h1, h2⟩
    · omega
  · obtain ⟨y, hy, rfl⟩ : ∃ (y : Fin n) (h : 256 * j + (y : ℕ) < 2048), r = ⟨256 * j + y, h⟩ :=
      ⟨⟨r - 256 * j, by omega⟩, by simp; omega, Fin.ext (by simp; omega)⟩
    refine ⟨mx M (zrow k q y), fun l => (canon_in c LM inb P y l hy).trans ((hP y l).trans (by rw [hM])), fun d => ?_⟩
    rw [canon_in c LA inb' PA y d hy, hA y d M hM]
    refine St_step _ _ _ _ (by omega) (by simp) _ _ _ _ (fun s => ?_) (fun s => hv d s) (hS d)
    unfold zrow
    rw [hx, ofBits_neg_inf]
    by_cases hs : (s : ℕ) ≤ y
    · rw [if_pos hs, if_pos (by simp only []; omega)]
    · rw [if_neg hs, if_neg (by simp only []; omega)]

/-- A store of one component's rows leaves the other's state. -/
theorem keep_tile {n o : ℕ} (p m : ℕ) (c c' : Fin 2) (hc : c' ≠ c) (x : Fin 2048 → ℕ → ℝ) (v : Fin 256 → ℕ → ℝ)
    (LM : List (View.Piece (Elt Ideal) S2x2048x128 .f32)) (LA : List (View.Piece (Elt Ideal) S2x2048x256 .f32))
    (inb : ∀ b, (![c.val, o, 0] : Fin 3 → ℕ) b + (![1, n, 128] : Fin 3 → ℕ) b ≤ S2x2048x128.size b)
    (inb' : ∀ b, (![c.val, o, 0] : Fin 3 → ℕ) b + (![1, n, 256] : Fin 3 → ℕ) b ≤ S2x2048x256.size b)
    (P : (⟨3, ![1, n, 128]⟩ : Shape).Idx → Ideal .f32) (PA : (⟨3, ![1, n, 256]⟩ : Shape).Idx → Ideal .f32)
    (h : Q x v p m c' (View.canon LM) (View.canon LA)) :
    Q x v p m c'
      (View.canon (⟨Rect.unit (s := S2x2048x128) ![c.val, o, 0] ![1, n, 128] inb, P⟩ :: LM))
      (View.canon (⟨Rect.unit (s := S2x2048x256) ![c.val, o, 0] ![1, n, 256] inb', PA⟩ :: LA)) := by
  intro r
  obtain ⟨M, hM, hS⟩ := h r
  refine ⟨M, fun l => (canon_out c c' LM inb P r l (.inl hc)).trans (hM l), fun d => ?_⟩
  rw [canon_out c c' LA inb' PA r d (.inl hc)]
  exact hS d

end Cert.Kernel5Ideal.Gen
end
end
-- ==== Proof.DiffOwn.lean ====
module

public import proofs.«01_k».proof.Proof.Gen.Kernel5Ideal.Frame
public import proofs.«01_k».proof.Proof.DiffReads

@[expose] public section
set_option maxRecDepth 16384

/-!
# The block's own keys

After each of the sixteen pairs of stores for the block's own keys (eight tiles, the last one first, each for both components):
which keys the two components' rows have met.
-/

noncomputable section
namespace Cert.Kernel5Ideal.Gen
open Idealize.ShloMosaic Idealize.ShloMosaic.TcCoe DiffRow

/-- Component `c` of a query: half of the lanes. -/
def comp (c : Fin 2) (x0 : Vec Ideal S1x2048x128 .bf16) (r : Fin 2048) (e : Fin 128) : EReal :=
  if (e : ℕ) < 64 then (if c = 0 then x0 (ix3 0 r e) else 0) else (if c = 0 then 0 else x0 (ix3 0 r e))

/-- The value column `d` of the block: the values, then ones. -/
def vals (x2 : Vec Ideal S1x16384x128 .bf16) (d : Fin 256) (s : ℕ) : EReal :=
  if h : (d : ℕ) < 128 then x2 (ix3 0 (key s) ⟨d, h⟩) else 1

variable (c : Dev nD) (i : grid0.Coords) (arg3 : Memref sig .tc .vmem S1x2048x128 .bf16) (harg3 : arg3.IsWhole)
  (arg4 : Memref sig .tc .vmem S1x16384x128 .bf16) (harg4 : arg4.IsWhole) (arg5 : Memref sig .tc .vmem S1x16384x128 .bf16)
  (harg5 : arg5.IsWhole) (arg12 : Memref sig .tc .vmem S2x2048x128 .bf16) (arg13 : Memref sig .tc .vmem S2x2048x128 .f32)
  (arg14 : Memref sig .tc .vmem S2x2048x256 .f32)
  (x0 : Vec Ideal S1x2048x128 .bf16) (x1 x2 : Vec Ideal S1x16384x128 .bf16)

/-- Where the tile of the block's own keys `256 j` starts. -/
theorem off1 (j : ℕ) (hj : j < 8) : k0_off1 i (BitVec.ofNat 32 j) = ![0, 2048 * (i 2).val + 256 * j, 0] :=
  k0_off1_eq i ⟨j, hj⟩

/-- The components as they are stored for the tiles. -/
theorem comp_eq (r : Fin 2048) (e : Fin 128) (k : Fin 2) :
    View.canon (kernelRun0_A.sl.HS0_2 c arg3 harg3 x0) (ix3 k r e) = comp k x0 r e := by
  have hx : View.readAt (Elt Ideal) arg3.view (Rect.unit (s := S1x2048x128) ![0, 0, 0] S1x2048x128.size inb_S1x2048x128_S1x2048x128_0_0_0).toLoadRect (harg3.unread x0) (ix3 0 r e)
      = x0 (ix3 0 r e) := by
    rw [View.readAt_eq_ld, harg3.read_unread]
    refine congrArg x0 (funext fun b => Fin.ext ?_)
    fin_cases b
    · rfl
    · show 0 + 1 * (r : ℕ) = r; omega
    · show 0 + 1 * (e : ℕ) = e; omega
  have hr : ix3 k r e = ix3 k ⟨0 + r, by omega⟩ e := by simp
  unfold kernelRun0_A.sl.HS0_2 comp
  fin_cases k
  · refine (canon_out (o := 0) (n := 2048) 1 0 _ _ _ r e (.inl (by decide))).trans ?_
    refine (congrArg (View.canon _) hr).trans ((canon_in (o := 0) (n := 2048) 0 [] _ _ r e (by omega)).trans ?_)
    pointwise [k0_pay202, k0_pay200, k0_pay201]
    rw [show (64#32) = BitVec.ofNat 32 64 from rfl]
    simp (disch := omega) only [SbRow.select_slt]
    rw [hx]
  · refine (congrArg (View.canon _) hr).trans ((canon_in (o := 0) (n := 2048) 1 _ _ _ r e (by omega)).trans ?_)
    pointwise [k0_pay203, k0_pay200, k0_pay201]
    rw [show (64#32) = BitVec.ofNat 32 64 from rfl]
    simp (disch := omega) only [select_sge]
    rw [hx]
    by_cases h : (e : ℕ) < 64
    · rw [if_neg (by omega), if_pos h]
    · rw [if_pos (by omega), if_neg h]

/-- A load of a component's rows. -/
theorem read_comp {n o : ℕ} (k : Fin 2) (inb : ∀ b, (![k.val, o, 0] : Fin 3 → ℕ) b + (![1, n, 128] : Fin 3 → ℕ) b ≤ S2x2048x128.size b)
    (r : Fin n) (e : Fin 128) (h : o + r < 2048) :
    arg12.view.readCov (kernelRun0_A.sl.HS0_2 c arg3 harg3 x0) (Rect.unit (s := S2x2048x128) ![k.val, o, 0] ![1, n, 128] inb).toLoadRect (ix3 0 r e)
      = comp k x0 ⟨o + r, h⟩ e := by
  refine (read_rows k arg12.view _ inb r e h (by omega)).trans ?_
  rw [← comp_eq c arg3 harg3 x0]
  exact congrArg (View.canon _) (congrArg (ix3 k ⟨o + r, h⟩) (Fin.ext (by simp)))

/-- The queries' rows a tile of the block's own keys loads. -/
abbrev qOwn (k : Fin 2) (j n : ℕ) (inb : ∀ b, (![k.val, 256 * j, 0] : Fin 3 → ℕ) b + (![1, n, 128] : Fin 3 → ℕ) b ≤ S2x2048x128.size b) :
    FVec Ideal ⟨3, ![1, n, 128]⟩ .bf16 :=
  arg12.view.readCov (kernelRun0_A.sl.HS0_2 c arg3 harg3 x0) (Rect.unit (s := S2x2048x128) ![k.val, 256 * j, 0] ![1, n, 128] inb).toLoadRect

/-- The tile of the block's own keys (or values) from `256 j`. -/
abbrev kOwn (a : Memref sig .tc .vmem S1x16384x128 .bf16) (ha : a.IsWhole) (x : Vec Ideal S1x16384x128 .bf16) (j : Fin 8) : FVec Ideal S1x256x128 .bf16 :=
  View.readAt (Elt Ideal) a.view (Rect.unit (s := S1x16384x128) (k0_off1 i (BitVec.ofNat 32 j.val)) S1x256x128.size (k0_off1_inb i j)).toLoadRect (ha.unread x)

/-- The rows of running maxima a tile loads. -/
abbrev mOwn (L : List (View.Piece (Elt Ideal) S2x2048x128 .f32)) (k : Fin 2) (j n : ℕ)
    (inb : ∀ b, (![k.val, 256 * j, 0] : Fin 3 → ℕ) b + (![1, n, 128] : Fin 3 → ℕ) b ≤ S2x2048x128.size b) : FVec Ideal ⟨3, ![1, n, 128]⟩ .f32 :=
  arg13.view.readCov L (Rect.unit (s := S2x2048x128) ![k.val, 256 * j, 0] ![1, n, 128] inb).toLoadRect

/-- The rows of running sums a tile loads. -/
abbrev aOwn (L : List (View.Piece (Elt Ideal) S2x2048x256 .f32)) (k : Fin 2) (j n : ℕ)
    (inb : ∀ b, (![k.val, 256 * j, 0] : Fin 3 → ℕ) b + (![1, n, 256] : Fin 3 → ℕ) b ≤ S2x2048x256.size b) : FVec Ideal ⟨3, ![1, n, 256]⟩ .f32 :=
  arg14.view.readCov L (Rect.unit (s := S2x2048x256) ![k.val, 256 * j, 0] ![1, n, 256] inb).toLoadRect

section chain
variable (X : Fin 2 → Fin 2048 → ℕ → ℝ) (V : Fin 256 → ℕ → ℝ)
  (hX : ∀ k r s, (∑ e : Fin 128, comp k x0 r e * x1 (ix3 0 (key s) e) : EReal) = (X k r s : EReal))
  (hV : ∀ d s, vals x2 d s = (V d s : EReal))

include hX in
/-- A tile's scores, of the rows and keys loaded for it. -/
theorem own_scores {n : ℕ} (k : Fin 2) (j : Fin 8) (hn : 256 * j.val + n = 2048)
    (inb : ∀ b, (![k.val, 256 * j.val, 0] : Fin 3 → ℕ) b + (![1, n, 128] : Fin 3 → ℕ) b ≤ S2x2048x128.size b) (r : Fin n) (s : Fin 256) :
    (∑ e : Fin 128, qOwn c arg3 harg3 arg12 x0 k j.val n inb (ix3 0 r e) * kOwn i arg4 harg4 x1 j (ix3 0 s e) : EReal)
      = (X k ⟨256 * j.val + r, by omega⟩ (2048 * (i 2).val + 256 * j.val + s) : EReal) := by
  rw [← hX]
  refine Finset.sum_congr rfl fun e _ => congrArg₂ (· * ·) (read_comp c arg3 harg3 arg12 x0 k inb r e (by omega)) ?_
  exact read_k arg4 harg4 x1 _ _ (off1 i j.val j.isLt) s e

include hV in
/-- A tile's value columns. -/
theorem own_vals (j : Fin 8) (d s : Fin 256) :
    vcol (kOwn i arg5 harg5 x2 j) d s = (V d (2048 * (i 2).val + 256 * j.val + s) : EReal) := by
  rw [← hV]
  unfold vcol vals
  split
  · exact read_k arg5 harg5 x2 _ _ (off1 i j.val j.isLt) s _
  · rfl

/-- Both components' states. -/
def QQ (n0 n1 : ℕ) (LM : List (View.Piece (Elt Ideal) S2x2048x128 .f32)) (LA : List (View.Piece (Elt Ideal) S2x2048x256 .f32)) : Prop :=
  Q (X 0) V (2048 * (i 2).val) n0 0 (View.canon LM) (View.canon LA) ∧ Q (X 1) V (2048 * (i 2).val) n1 1 (View.canon LM) (View.canon LA)

/-- Before the first tile no key has been met. -/
theorem own_init : QQ i X V (2048 * (i 2).val + 256 * 7 + 256) (2048 * (i 2).val + 256 * 7 + 256) (kernelRun0_A.sl.HS1_1 (F := Ideal)) (kernelRun0_A.sl.HS2_1 (F := Ideal)) := by
  have hm : ∀ k r l, View.canon (Val := Elt Ideal) kernelRun0_A.sl.HS1_1 (ix3 k r l) = (⊥ : EReal) := fun k r l => by
    unfold kernelRun0_A.sl.HS1_1
    exact (canon_whole _ _ _ _ _ _).trans ofBits_neg_inf
  have ha : ∀ k r d, View.canon (Val := Elt Ideal) kernelRun0_A.sl.HS2_1 (ix3 k r d) = (0 : EReal) := fun k r l => by
    unfold kernelRun0_A.sl.HS2_1
    exact (canon_whole _ _ _ _ _ _).trans Ideal.ofBits_zero_f32
  exact ⟨fun r => ⟨⊥, fun l => hm 0 r l, fun d => .inl ⟨by omega, rfl, ha 0 r d⟩⟩,
    fun r => ⟨⊥, fun l => hm 1 r l, fun d => .inl ⟨by omega, rfl, ha 1 r d⟩⟩⟩

include hX hV in
theorem own_2 : QQ i X V (2048 * (i 2).val + 256 * 7) (2048 * (i 2).val + 256 * 7 + 256) (kernelRun0_A.sl.HS1_2 c i arg3 harg3 arg4 harg4 arg12 arg13 x0 x1) (kernelRun0_A.sl.HS2_2 c i arg3 harg3 arg4 harg4 arg5 harg5 arg12 arg13 arg14 x0 x1 x2) := by
  have hi : (i 2).val < 8 := (i 2).isLt
  have hQ := own_init i X V
  have hs : Q (X 0) V (2048 * (i 2).val) (2048 * (i 2).val + 256 * 7 + 256) 0 (View.canon (kernelRun0_A.sl.HS1_1 (F := Ideal))) (View.canon (kernelRun0_A.sl.HS2_1 (F := Ideal))) := hQ.1
  have hk : Q (X 1) V (2048 * (i 2).val) (2048 * (i 2).val + 256 * 7 + 256) 1 (View.canon (kernelRun0_A.sl.HS1_1 (F := Ideal))) (View.canon (kernelRun0_A.sl.HS2_1 (F := Ideal))) := hQ.2
  refine ⟨?_, keep_tile (n := 256) (o := 256 * 7) _ _ 0 1 (by decide) (X 1) V _ _ _ _ _ _ hk⟩
  refine step_tile (n := 256) (j := 7) rfl (by omega) _ (by omega) 0 (X 0) V (kOwn i arg4 harg4 x1 7) (kOwn i arg5 harg5 x2 7) (qOwn c arg3 harg3 arg12 x0 0 7 256 inb_S2x2048x128_S1x256x128_0_1792_0)
      (kernelRun0_A.sl.HS1_1 (F := Ideal)) (kernelRun0_A.sl.HS2_1 (F := Ideal)) inb_S2x2048x128_S1x256x128_0_1792_0 inb_S2x2048x256_S1x256x256_0_1792_0 _ _ hs
      (own_scores c i arg3 harg3 arg4 harg4 arg12 x0 x1 X hX 0 7 rfl inb_S2x2048x128_S1x256x128_0_1792_0)
      (fun d s => own_vals i arg5 harg5 x2 V hV 7 d s) (fun r l => ?_) (fun r d M hM => ?_)
  · refine (show _ = dM7 (kOwn i arg4 harg4 x1 7) (qOwn c arg3 harg3 arg12 x0 0 7 256 inb_S2x2048x128_S1x256x128_0_1792_0) (mOwn arg13 (kernelRun0_A.sl.HS1_1 (F := Ideal)) 0 7 256 inb_S2x2048x128_S1x256x128_0_1792_0) (ix3 0 r l) from rfl).trans ((dM7_apply (kOwn i arg4 harg4 x1 7) (qOwn c arg3 harg3 arg12 x0 0 7 256 inb_S2x2048x128_S1x256x128_0_1792_0) (mOwn arg13 (kernelRun0_A.sl.HS1_1 (F := Ideal)) 0 7 256 inb_S2x2048x128_S1x256x128_0_1792_0) r l).trans (congrArg₂ mx ?_ rfl))
    exact read_rows' (n := 256) 0 arg13.view _ inb_S2x2048x128_S1x256x128_0_1792_0 r l (by omega)
  · refine (show _ = dA7 (kOwn i arg4 harg4 x1 7) (kOwn i arg5 harg5 x2 7) (qOwn c arg3 harg3 arg12 x0 0 7 256 inb_S2x2048x128_S1x256x128_0_1792_0) (mOwn arg13 (kernelRun0_A.sl.HS1_1 (F := Ideal)) 0 7 256 inb_S2x2048x128_S1x256x128_0_1792_0) (aOwn arg14 (kernelRun0_A.sl.HS2_1 (F := Ideal)) 0 7 256 inb_S2x2048x256_S1x256x256_0_1792_0) (ix3 0 r d) from rfl).trans ((dA7_apply (kOwn i arg4 harg4 x1 7) (kOwn i arg5 harg5 x2 7) (qOwn c arg3 harg3 arg12 x0 0 7 256 inb_S2x2048x128_S1x256x128_0_1792_0) (mOwn arg13 (kernelRun0_A.sl.HS1_1 (F := Ideal)) 0 7 256 inb_S2x2048x128_S1x256x128_0_1792_0) (aOwn arg14 (kernelRun0_A.sl.HS2_1 (F := Ideal)) 0 7 256 inb_S2x2048x256_S1x256x256_0_1792_0) r d M fun l => ?_).trans ?_)
    · exact (read_rows' (n := 256) 0 arg13.view _ inb_S2x2048x128_S1x256x128_0_1792_0 r l (by omega)).trans (hM l)
    · exact congrArg (fun y => ac M y _ _) (read_rows' (n := 256) 0 arg14.view _ inb_S2x2048x256_S1x256x256_0_1792_0 r d (by omega))

include hX hV in
theorem own_3 : QQ i X V (2048 * (i 2).val + 256 * 7) (2048 * (i 2).val + 256 * 7) (kernelRun0_A.sl.HS1_3 c i arg3 harg3 arg4 harg4 arg12 arg13 x0 x1) (kernelRun0_A.sl.HS2_3 c i arg3 harg3 arg4 harg4 arg5 harg5 arg12 arg13 arg14 x0 x1 x2) := by
  have hi : (i 2).val < 8 := (i 2).isLt
  have hQ := own_2 c i arg3 harg3 arg4 harg4 arg5 harg5 arg12 arg13 arg14 x0 x1 x2 X V hX hV
  have hs : Q (X 1) V (2048 * (i 2).val) (2048 * (i 2).val + 256 * 7 + 256) 1 (View.canon (kernelRun0_A.sl.HS1_2 c i arg3 harg3 arg4 harg4 arg12 arg13 x0 x1)) (View.canon (kernelRun0_A.sl.HS2_2 c i arg3 harg3 arg4 harg4 arg5 harg5 arg12 arg13 arg14 x0 x1 x2)) := hQ.2
  have hk : Q (X 0) V (2048 * (i 2).val) (2048 * (i 2).val + 256 * 7) 0 (View.canon (kernelRun0_A.sl.HS1_2 c i arg3 harg3 arg4 harg4 arg12 arg13 x0 x1)) (View.canon (kernelRun0_A.sl.HS2_2 c i arg3 harg3 arg4 harg4 arg5 harg5 arg12 arg13 arg14 x0 x1 x2)) := hQ.1
  refine ⟨keep_tile (n := 256) (o := 256 * 7) _ _ 1 0 (by decide) (X 0) V _ _ _ _ _ _ hk, ?_⟩
  refine step_tile (n := 256) (j := 7) rfl (by omega) _ (by omega) 1 (X 1) V (kOwn i arg4 harg4 x1 7) (kOwn i arg5 harg5 x2 7) (qOwn c arg3 harg3 arg12 x0 1 7 256 inb_S2x2048x128_S1x256x128_1_1792_0)
      (kernelRun0_A.sl.HS1_2 c i arg3 harg3 arg4 harg4 arg12 arg13 x0 x1) (kernelRun0_A.sl.HS2_2 c i arg3 harg3 arg4 harg4 arg5 harg5 arg12 arg13 arg14 x0 x1 x2) inb_S2x2048x128_S1x256x128_1_1792_0 inb_S2x2048x256_S1x256x256_1_1792_0 _ _ hs
      (own_scores c i arg3 harg3 arg4 harg4 arg12 x0 x1 X hX 1 7 rfl inb_S2x2048x128_S1x256x128_1_1792_0)
      (fun d s => own_vals i arg5 harg5 x2 V hV 7 d s) (fun r l => ?_) (fun r d M hM => ?_)
  · refine (show _ = dM7 (kOwn i arg4 harg4 x1 7) (qOwn c arg3 harg3 arg12 x0 1 7 256 inb_S2x2048x128_S1x256x128_1_1792_0) (mOwn arg13 (kernelRun0_A.sl.HS1_2 c i arg3 harg3 arg4 harg4 arg12 arg13 x0 x1) 1 7 256 inb_S2x2048x128_S1x256x128_1_1792_0) (ix3 0 r l) from rfl).trans ((dM7_apply (kOwn i arg4 harg4 x1 7) (qOwn c arg3 harg3 arg12 x0 1 7 256 inb_S2x2048x128_S1x256x128_1_1792_0) (mOwn arg13 (kernelRun0_A.sl.HS1_2 c i arg3 harg3 arg4 harg4 arg12 arg13 x0 x1) 1 7 256 inb_S2x2048x128_S1x256x128_1_1792_0) r l).trans (congrArg₂ mx ?_ rfl))
    exact read_rows' (n := 256) 1 arg13.view _ inb_S2x2048x128_S1x256x128_1_1792_0 r l (by omega)
  · refine (show _ = dA7 (kOwn i arg4 harg4 x1 7) (kOwn i arg5 harg5 x2 7) (qOwn c arg3 harg3 arg12 x0 1 7 256 inb_S2x2048x128_S1x256x128_1_1792_0) (mOwn arg13 (kernelRun0_A.sl.HS1_2 c i arg3 harg3 arg4 harg4 arg12 arg13 x0 x1) 1 7 256 inb_S2x2048x128_S1x256x128_1_1792_0) (aOwn arg14 (kernelRun0_A.sl.HS2_2 c i arg3 harg3 arg4 harg4 arg5 harg5 arg12 arg13 arg14 x0 x1 x2) 1 7 256 inb_S2x2048x256_S1x256x256_1_1792_0) (ix3 0 r d) from rfl).trans ((dA7_apply (kOwn i arg4 harg4 x1 7) (kOwn i arg5 harg5 x2 7) (qOwn c arg3 harg3 arg12 x0 1 7 256 inb_S2x2048x128_S1x256x128_1_1792_0) (mOwn arg13 (kernelRun0_A.sl.HS1_2 c i arg3 harg3 arg4 harg4 arg12 arg13 x0 x1) 1 7 256 inb_S2x2048x128_S1x256x128_1_1792_0) (aOwn arg14 (kernelRun0_A.sl.HS2_2 c i arg3 harg3 arg4 harg4 arg5 harg5 arg12 arg13 arg14 x0 x1 x2) 1 7 256 inb_S2x2048x256_S1x256x256_1_1792_0) r d M fun l => ?_).trans ?_)
    · exact (read_rows' (n := 256) 1 arg13.view _ inb_S2x2048x128_S1x256x128_1_1792_0 r l (by omega)).trans (hM l)
    · exact congrArg (fun y => ac M y _ _) (read_rows' (n := 256) 1 arg14.view _ inb_S2x2048x256_S1x256x256_1_1792_0 r d (by omega))

include hX hV in
theorem own_4 : QQ i X V (2048 * (i 2).val + 256 * 6) (2048 * (i 2).val + 256 * 6 + 256) (kernelRun0_A.sl.HS1_4 c i arg3 harg3 arg4 harg4 arg12 arg13 x0 x1) (kernelRun0_A.sl.HS2_4 c i arg3 harg3 arg4 harg4 arg5 harg5 arg12 arg13 arg14 x0 x1 x2) := by
  have hi : (i 2).val < 8 := (i 2).isLt
  have hQ := own_3 c i arg3 harg3 arg4 harg4 arg5 harg5 arg12 arg13 arg14 x0 x1 x2 X V hX hV
  have hs : Q (X 0) V (2048 * (i 2).val) (2048 * (i 2).val + 256 * 6 + 256) 0 (View.canon (kernelRun0_A.sl.HS1_3 c i arg3 harg3 arg4 harg4 arg12 arg13 x0 x1)) (View.canon (kernelRun0_A.sl.HS2_3 c i arg3 harg3 arg4 harg4 arg5 harg5 arg12 arg13 arg14 x0 x1 x2)) := hQ.1
  have hk : Q (X 1) V (2048 * (i 2).val) (2048 * (i 2).val + 256 * 6 + 256) 1 (View.canon (kernelRun0_A.sl.HS1_3 c i arg3 harg3 arg4 harg4 arg12 arg13 x0 x1)) (View.canon (kernelRun0_A.sl.HS2_3 c i arg3 harg3 arg4 harg4 arg5 harg5 arg12 arg13 arg14 x0 x1 x2)) := hQ.2
  refine ⟨?_, keep_tile (n := 512) (o := 256 * 6) _ _ 0 1 (by decide) (X 1) V _ _ _ _ _ _ hk⟩
  refine step_tile (n := 512) (j := 6) rfl (by omega) _ (by omega) 0 (X 0) V (kOwn i arg4 harg4 x1 6) (kOwn i arg5 harg5 x2 6) (qOwn c arg3 harg3 arg12 x0 0 6 512 inb_S2x2048x128_S1x512x128_0_1536_0)
      (kernelRun0_A.sl.HS1_3 c i arg3 harg3 arg4 harg4 arg12 arg13 x0 x1) (kernelRun0_A.sl.HS2_3 c i arg3 harg3 arg4 harg4 arg5 harg5 arg12 arg13 arg14 x0 x1 x2) inb_S2x2048x128_S1x512x128_0_1536_0 inb_S2x2048x256_S1x512x256_0_1536_0 _ _ hs
      (own_scores c i arg3 harg3 arg4 harg4 arg12 x0 x1 X hX 0 6 rfl inb_S2x2048x128_S1x512x128_0_1536_0)
      (fun d s => own_vals i arg5 harg5 x2 V hV 6 d s) (fun r l => ?_) (fun r d M hM => ?_)
  · refine (show _ = dM6 (kOwn i arg4 harg4 x1 6) (qOwn c arg3 harg3 arg12 x0 0 6 512 inb_S2x2048x128_S1x512x128_0_1536_0) (mOwn arg13 (kernelRun0_A.sl.HS1_3 c i arg3 harg3 arg4 harg4 arg12 arg13 x0 x1) 0 6 512 inb_S2x2048x128_S1x512x128_0_1536_0) (ix3 0 r l) from rfl).trans ((dM6_apply (kOwn i arg4 harg4 x1 6) (qOwn c arg3 harg3 arg12 x0 0 6 512 inb_S2x2048x128_S1x512x128_0_1536_0) (mOwn arg13 (kernelRun0_A.sl.HS1_3 c i arg3 harg3 arg4 harg4 arg12 arg13 x0 x1) 0 6 512 inb_S2x2048x128_S1x512x128_0_1536_0) r l).trans (congrArg₂ mx ?_ rfl))
    exact read_rows' (n := 512) 0 arg13.view _ inb_S2x2048x128_S1x512x128_0_1536_0 r l (by omega)
  · refine (show _ = dA6 (kOwn i arg4 harg4 x1 6) (kOwn i arg5 harg5 x2 6) (qOwn c arg3 harg3 arg12 x0 0 6 512 inb_S2x2048x128_S1x512x128_0_1536_0) (mOwn arg13 (kernelRun0_A.sl.HS1_3 c i arg3 harg3 arg4 harg4 arg12 arg13 x0 x1) 0 6 512 inb_S2x2048x128_S1x512x128_0_1536_0) (aOwn arg14 (kernelRun0_A.sl.HS2_3 c i arg3 harg3 arg4 harg4 arg5 harg5 arg12 arg13 arg14 x0 x1 x2) 0 6 512 inb_S2x2048x256_S1x512x256_0_1536_0) (ix3 0 r d) from rfl).trans ((dA6_apply (kOwn i arg4 harg4 x1 6) (kOwn i arg5 harg5 x2 6) (qOwn c arg3 harg3 arg12 x0 0 6 512 inb_S2x2048x128_S1x512x128_0_1536_0) (mOwn arg13 (kernelRun0_A.sl.HS1_3 c i arg3 harg3 arg4 harg4 arg12 arg13 x0 x1) 0 6 512 inb_S2x2048x128_S1x512x128_0_1536_0) (aOwn arg14 (kernelRun0_A.sl.HS2_3 c i arg3 harg3 arg4 harg4 arg5 harg5 arg12 arg13 arg14 x0 x1 x2) 0 6 512 inb_S2x2048x256_S1x512x256_0_1536_0) r d M fun l => ?_).trans ?_)
    · exact (read_rows' (n := 512) 0 arg13.view _ inb_S2x2048x128_S1x512x128_0_1536_0 r l (by omega)).trans (hM l)
    · exact congrArg (fun y => ac M y _ _) (read_rows' (n := 512) 0 arg14.view _ inb_S2x2048x256_S1x512x256_0_1536_0 r d (by omega))

include hX hV in
theorem own_5 : QQ i X V (2048 * (i 2).val + 256 * 6) (2048 * (i 2).val + 256 * 6) (kernelRun0_A.sl.HS1_5 c i arg3 harg3 arg4 harg4 arg12 arg13 x0 x1) (kernelRun0_A.sl.HS2_5 c i arg3 harg3 arg4 harg4 arg5 harg5 arg12 arg13 arg14 x0 x1 x2) := by
  have hi : (i 2).val < 8 := (i 2).isLt
  have hQ := own_4 c i arg3 harg3 arg4 harg4 arg5 harg5 arg12 arg13 arg14 x0 x1 x2 X V hX hV
  have hs : Q (X 1) V (2048 * (i 2).val) (2048 * (i 2).val + 256 * 6 + 256) 1 (View.canon (kernelRun0_A.sl.HS1_4 c i arg3 harg3 arg4 harg4 arg12 arg13 x0 x1)) (View.canon (kernelRun0_A.sl.HS2_4 c i arg3 harg3 arg4 harg4 arg5 harg5 arg12 arg13 arg14 x0 x1 x2)) := hQ.2
  have hk : Q (X 0) V (2048 * (i 2).val) (2048 * (i 2).val + 256 * 6) 0 (View.canon (kernelRun0_A.sl.HS1_4 c i arg3 harg3 arg4 harg4 arg12 arg13 x0 x1)) (View.canon (kernelRun0_A.sl.HS2_4 c i arg3 harg3 arg4 harg4 arg5 harg5 arg12 arg13 arg14 x0 x1 x2)) := hQ.1
  refine ⟨keep_tile (n := 512) (o := 256 * 6) _ _ 1 0 (by decide) (X 0) V _ _ _ _ _ _ hk, ?_⟩
  refine step_tile (n := 512) (j := 6) rfl (by omega) _ (by omega) 1 (X 1) V (kOwn i arg4 harg4 x1 6) (kOwn i arg5 harg5 x2 6) (qOwn c arg3 harg3 arg12 x0 1 6 512 inb_S2x2048x128_S1x512x128_1_1536_0)
      (kernelRun0_A.sl.HS1_4 c i arg3 harg3 arg4 harg4 arg12 arg13 x0 x1) (kernelRun0_A.sl.HS2_4 c i arg3 harg3 arg4 harg4 arg5 harg5 arg12 arg13 arg14 x0 x1 x2) inb_S2x2048x128_S1x512x128_1_1536_0 inb_S2x2048x256_S1x512x256_1_1536_0 _ _ hs
      (own_scores c i arg3 harg3 arg4 harg4 arg12 x0 x1 X hX 1 6 rfl inb_S2x2048x128_S1x512x128_1_1536_0)
      (fun d s => own_vals i arg5 harg5 x2 V hV 6 d s) (fun r l => ?_) (fun r d M hM => ?_)
  · refine (show _ = dM6 (kOwn i arg4 harg4 x1 6) (qOwn c arg3 harg3 arg12 x0 1 6 512 inb_S2x2048x128_S1x512x128_1_1536_0) (mOwn arg13 (kernelRun0_A.sl.HS1_4 c i arg3 harg3 arg4 harg4 arg12 arg13 x0 x1) 1 6 512 inb_S2x2048x128_S1x512x128_1_1536_0) (ix3 0 r l) from rfl).trans ((dM6_apply (kOwn i arg4 harg4 x1 6) (qOwn c arg3 harg3 arg12 x0 1 6 512 inb_S2x2048x128_S1x512x128_1_1536_0) (mOwn arg13 (kernelRun0_A.sl.HS1_4 c i arg3 harg3 arg4 harg4 arg12 arg13 x0 x1) 1 6 512 inb_S2x2048x128_S1x512x128_1_1536_0) r l).trans (congrArg₂ mx ?_ rfl))
    exact read_rows' (n := 512) 1 arg13.view _ inb_S2x2048x128_S1x512x128_1_1536_0 r l (by omega)
  · refine (show _ = dA6 (kOwn i arg4 harg4 x1 6) (kOwn i arg5 harg5 x2 6) (qOwn c arg3 harg3 arg12 x0 1 6 512 inb_S2x2048x128_S1x512x128_1_1536_0) (mOwn arg13 (kernelRun0_A.sl.HS1_4 c i arg3 harg3 arg4 harg4 arg12 arg13 x0 x1) 1 6 512 inb_S2x2048x128_S1x512x128_1_1536_0) (aOwn arg14 (kernelRun0_A.sl.HS2_4 c i arg3 harg3 arg4 harg4 arg5 harg5 arg12 arg13 arg14 x0 x1 x2) 1 6 512 inb_S2x2048x256_S1x512x256_1_1536_0) (ix3 0 r d) from rfl).trans ((dA6_apply (kOwn i arg4 harg4 x1 6) (kOwn i arg5 harg5 x2 6) (qOwn c arg3 harg3 arg12 x0 1 6 512 inb_S2x2048x128_S1x512x128_1_1536_0) (mOwn arg13 (kernelRun0_A.sl.HS1_4 c i arg3 harg3 arg4 harg4 arg12 arg13 x0 x1) 1 6 512 inb_S2x2048x128_S1x512x128_1_1536_0) (aOwn arg14 (kernelRun0_A.sl.HS2_4 c i arg3 harg3 arg4 harg4 arg5 harg5 arg12 arg13 arg14 x0 x1 x2) 1 6 512 inb_S2x2048x256_S1x512x256_1_1536_0) r d M fun l => ?_).trans ?_)
    · exact (read_rows' (n := 512) 1 arg13.view _ inb_S2x2048x128_S1x512x128_1_1536_0 r l (by omega)).trans (hM l)
    · exact congrArg (fun y => ac M y _ _) (read_rows' (n := 512) 1 arg14.view _ inb_S2x2048x256_S1x512x256_1_1536_0 r d (by omega))

include hX hV in
theorem own_6 : QQ i X V (2048 * (i 2).val + 256 * 5) (2048 * (i 2).val + 256 * 5 + 256) (kernelRun0_A.sl.HS1_6 c i arg3 harg3 arg4 harg4 arg12 arg13 x0 x1) (kernelRun0_A.sl.HS2_6 c i arg3 harg3 arg4 harg4 arg5 harg5 arg12 arg13 arg14 x0 x1 x2) := by
  have hi : (i 2).val < 8 := (i 2).isLt
  have hQ := own_5 c i arg3 harg3 arg4 harg4 arg5 harg5 arg12 arg13 arg14 x0 x1 x2 X V hX hV
  have hs : Q (X 0) V (2048 * (i 2).val) (2048 * (i 2).val + 256 * 5 + 256) 0 (View.canon (kernelRun0_A.sl.HS1_5 c i arg3 harg3 arg4 harg4 arg12 arg13 x0 x1)) (View.canon (kernelRun0_A.sl.HS2_5 c i arg3 harg3 arg4 harg4 arg5 harg5 arg12 arg13 arg14 x0 x1 x2)) := hQ.1
  have hk : Q (X 1) V (2048 * (i 2).val) (2048 * (i 2).val + 256 * 5 + 256) 1 (View.canon (kernelRun0_A.sl.HS1_5 c i arg3 harg3 arg4 harg4 arg12 arg13 x0 x1)) (View.canon (kernelRun0_A.sl.HS2_5 c i arg3 harg3 arg4 harg4 arg5 harg5 arg12 arg13 arg14 x0 x1 x2)) := hQ.2
  refine ⟨?_, keep_tile (n := 768) (o := 256 * 5) _ _ 0 1 (by decide) (X 1) V _ _ _ _ _ _ hk⟩
  refine step_tile (n := 768) (j := 5) rfl (by omega) _ (by omega) 0 (X 0) V (kOwn i arg4 harg4 x1 5) (kOwn i arg5 harg5 x2 5) (qOwn c arg3 harg3 arg12 x0 0 5 768 inb_S2x2048x128_S1x768x128_0_1280_0)
      (kernelRun0_A.sl.HS1_5 c i arg3 harg3 arg4 harg4 arg12 arg13 x0 x1) (kernelRun0_A.sl.HS2_5 c i arg3 harg3 arg4 harg4 arg5 harg5 arg12 arg13 arg14 x0 x1 x2) inb_S2x2048x128_S1x768x128_0_1280_0 inb_S2x2048x256_S1x768x256_0_1280_0 _ _ hs
      (own_scores c i arg3 harg3 arg4 harg4 arg12 x0 x1 X hX 0 5 rfl inb_S2x2048x128_S1x768x128_0_1280_0)
      (fun d s => own_vals i arg5 harg5 x2 V hV 5 d s) (fun r l => ?_) (fun r d M hM => ?_)
  · refine (show _ = dM5 (kOwn i arg4 harg4 x1 5) (qOwn c arg3 harg3 arg12 x0 0 5 768 inb_S2x2048x128_S1x768x128_0_1280_0) (mOwn arg13 (kernelRun0_A.sl.HS1_5 c i arg3 harg3 arg4 harg4 arg12 arg13 x0 x1) 0 5 768 inb_S2x2048x128_S1x768x128_0_1280_0) (ix3 0 r l) from rfl).trans ((dM5_apply (kOwn i arg4 harg4 x1 5) (qOwn c arg3 harg3 arg12 x0 0 5 768 inb_S2x2048x128_S1x768x128_0_1280_0) (mOwn arg13 (kernelRun0_A.sl.HS1_5 c i arg3 harg3 arg4 harg4 arg12 arg13 x0 x1) 0 5 768 inb_S2x2048x128_S1x768x128_0_1280_0) r l).trans (congrArg₂ mx ?_ rfl))
    exact read_rows' (n := 768) 0 arg13.view _ inb_S2x2048x128_S1x768x128_0_1280_0 r l (by omega)
  · refine (show _ = dA5 (kOwn i arg4 harg4 x1 5) (kOwn i arg5 harg5 x2 5) (qOwn c arg3 harg3 arg12 x0 0 5 768 inb_S2x2048x128_S1x768x128_0_1280_0) (mOwn arg13 (kernelRun0_A.sl.HS1_5 c i arg3 harg3 arg4 harg4 arg12 arg13 x0 x1) 0 5 768 inb_S2x2048x128_S1x768x128_0_1280_0) (aOwn arg14 (kernelRun0_A.sl.HS2_5 c i arg3 harg3 arg4 harg4 arg5 harg5 arg12 arg13 arg14 x0 x1 x2) 0 5 768 inb_S2x2048x256_S1x768x256_0_1280_0) (ix3 0 r d) from rfl).trans ((dA5_apply (kOwn i arg4 harg4 x1 5) (kOwn i arg5 harg5 x2 5) (qOwn c arg3 harg3 arg12 x0 0 5 768 inb_S2x2048x128_S1x768x128_0_1280_0) (mOwn arg13 (kernelRun0_A.sl.HS1_5 c i arg3 harg3 arg4 harg4 arg12 arg13 x0 x1) 0 5 768 inb_S2x2048x128_S1x768x128_0_1280_0) (aOwn arg14 (kernelRun0_A.sl.HS2_5 c i arg3 harg3 arg4 harg4 arg5 harg5 arg12 arg13 arg14 x0 x1 x2) 0 5 768 inb_S2x2048x256_S1x768x256_0_1280_0) r d M fun l => ?_).trans ?_)
    · exact (read_rows' (n := 768) 0 arg13.view _ inb_S2x2048x128_S1x768x128_0_1280_0 r l (by omega)).trans (hM l)
    · exact congrArg (fun y => ac M y _ _) (read_rows' (n := 768) 0 arg14.view _ inb_S2x2048x256_S1x768x256_0_1280_0 r d (by omega))

include hX hV in
theorem own_7 : QQ i X V (2048 * (i 2).val + 256 * 5) (2048 * (i 2).val + 256 * 5) (kernelRun0_A.sl.HS1_7 c i arg3 harg3 arg4 harg4 arg12 arg13 x0 x1) (kernelRun0_A.sl.HS2_7 c i arg3 harg3 arg4 harg4 arg5 harg5 arg12 arg13 arg14 x0 x1 x2) := by
  have hi : (i 2).val < 8 := (i 2).isLt
  have hQ := own_6 c i arg3 harg3 arg4 harg4 arg5 harg5 arg12 arg13 arg14 x0 x1 x2 X V hX hV
  have hs : Q (X 1) V (2048 * (i 2).val) (2048 * (i 2).val + 256 * 5 + 256) 1 (View.canon (kernelRun0_A.sl.HS1_6 c i arg3 harg3 arg4 harg4 arg12 arg13 x0 x1)) (View.canon (kernelRun0_A.sl.HS2_6 c i arg3 harg3 arg4 harg4 arg5 harg5 arg12 arg13 arg14 x0 x1 x2)) := hQ.2
  have hk : Q (X 0) V (2048 * (i 2).val) (2048 * (i 2).val + 256 * 5) 0 (View.canon (kernelRun0_A.sl.HS1_6 c i arg3 harg3 arg4 harg4 arg12 arg13 x0 x1)) (View.canon (kernelRun0_A.sl.HS2_6 c i arg3 harg3 arg4 harg4 arg5 harg5 arg12 arg13 arg14 x0 x1 x2)) := hQ.1
  refine ⟨keep_tile (n := 768) (o := 256 * 5) _ _ 1 0 (by decide) (X 0) V _ _ _ _ _ _ hk, ?_⟩
  refine step_tile (n := 768) (j := 5) rfl (by omega) _ (by omega) 1 (X 1) V (kOwn i arg4 harg4 x1 5) (kOwn i arg5 harg5 x2 5) (qOwn c arg3 harg3 arg12 x0 1 5 768 inb_S2x2048x128_S1x768x128_1_1280_0)
      (kernelRun0_A.sl.HS1_6 c i arg3 harg3 arg4 harg4 arg12 arg13 x0 x1) (kernelRun0_A.sl.HS2_6 c i arg3 harg3 arg4 harg4 arg5 harg5 arg12 arg13 arg14 x0 x1 x2) inb_S2x2048x128_S1x768x128_1_1280_0 inb_S2x2048x256_S1x768x256_1_1280_0 _ _ hs
      (own_scores c i arg3 harg3 arg4 harg4 arg12 x0 x1 X hX 1 5 rfl inb_S2x2048x128_S1x768x128_1_1280_0)
      (fun d s => own_vals i arg5 harg5 x2 V hV 5 d s) (fun r l => ?_) (fun r d M hM => ?_)
  · refine (show _ = dM5 (kOwn i arg4 harg4 x1 5) (qOwn c arg3 harg3 arg12 x0 1 5 768 inb_S2x2048x128_S1x768x128_1_1280_0) (mOwn arg13 (kernelRun0_A.sl.HS1_6 c i arg3 harg3 arg4 harg4 arg12 arg13 x0 x1) 1 5 768 inb_S2x2048x128_S1x768x128_1_1280_0) (ix3 0 r l) from rfl).trans ((dM5_apply (kOwn i arg4 harg4 x1 5) (qOwn c arg3 harg3 arg12 x0 1 5 768 inb_S2x2048x128_S1x768x128_1_1280_0) (mOwn arg13 (kernelRun0_A.sl.HS1_6 c i arg3 harg3 arg4 harg4 arg12 arg13 x0 x1) 1 5 768 inb_S2x2048x128_S1x768x128_1_1280_0) r l).trans (congrArg₂ mx ?_ rfl))
    exact read_rows' (n := 768) 1 arg13.view _ inb_S2x2048x128_S1x768x128_1_1280_0 r l (by omega)
  · refine (show _ = dA5 (kOwn i arg4 harg4 x1 5) (kOwn i arg5 harg5 x2 5) (qOwn c arg3 harg3 arg12 x0 1 5 768 inb_S2x2048x128_S1x768x128_1_1280_0) (mOwn arg13 (kernelRun0_A.sl.HS1_6 c i arg3 harg3 arg4 harg4 arg12 arg13 x0 x1) 1 5 768 inb_S2x2048x128_S1x768x128_1_1280_0) (aOwn arg14 (kernelRun0_A.sl.HS2_6 c i arg3 harg3 arg4 harg4 arg5 harg5 arg12 arg13 arg14 x0 x1 x2) 1 5 768 inb_S2x2048x256_S1x768x256_1_1280_0) (ix3 0 r d) from rfl).trans ((dA5_apply (kOwn i arg4 harg4 x1 5) (kOwn i arg5 harg5 x2 5) (qOwn c arg3 harg3 arg12 x0 1 5 768 inb_S2x2048x128_S1x768x128_1_1280_0) (mOwn arg13 (kernelRun0_A.sl.HS1_6 c i arg3 harg3 arg4 harg4 arg12 arg13 x0 x1) 1 5 768 inb_S2x2048x128_S1x768x128_1_1280_0) (aOwn arg14 (kernelRun0_A.sl.HS2_6 c i arg3 harg3 arg4 harg4 arg5 harg5 arg12 arg13 arg14 x0 x1 x2) 1 5 768 inb_S2x2048x256_S1x768x256_1_1280_0) r d M fun l => ?_).trans ?_)
    · exact (read_rows' (n := 768) 1 arg13.view _ inb_S2x2048x128_S1x768x128_1_1280_0 r l (by omega)).trans (hM l)
    · exact congrArg (fun y => ac M y _ _) (read_rows' (n := 768) 1 arg14.view _ inb_S2x2048x256_S1x768x256_1_1280_0 r d (by omega))

include hX hV in
theorem own_8 : QQ i X V (2048 * (i 2).val + 256 * 4) (2048 * (i 2).val + 256 * 4 + 256) (kernelRun0_A.sl.HS1_8 c i arg3 harg3 arg4 harg4 arg12 arg13 x0 x1) (kernelRun0_A.sl.HS2_8 c i arg3 harg3 arg4 harg4 arg5 harg5 arg12 arg13 arg14 x0 x1 x2) := by
  have hi : (i 2).val < 8 := (i 2).isLt
  have hQ := own_7 c i arg3 harg3 arg4 harg4 arg5 harg5 arg12 arg13 arg14 x0 x1 x2 X V hX hV
  have hs : Q (X 0) V (2048 * (i 2).val) (2048 * (i 2).val + 256 * 4 + 256) 0 (View.canon (kernelRun0_A.sl.HS1_7 c i arg3 harg3 arg4 harg4 arg12 arg13 x0 x1)) (View.canon (kernelRun0_A.sl.HS2_7 c i arg3 harg3 arg4 harg4 arg5 harg5 arg12 arg13 arg14 x0 x1 x2)) := hQ.1
  have hk : Q (X 1) V (2048 * (i 2).val) (2048 * (i 2).val + 256 * 4 + 256) 1 (View.canon (kernelRun0_A.sl.HS1_7 c i arg3 harg3 arg4 harg4 arg12 arg13 x0 x1)) (View.canon (kernelRun0_A.sl.HS2_7 c i arg3 harg3 arg4 harg4 arg5 harg5 arg12 arg13 arg14 x0 x1 x2)) := hQ.2
  refine ⟨?_, keep_tile (n := 1024) (o := 256 * 4) _ _ 0 1 (by decide) (X 1) V _ _ _ _ _ _ hk⟩
  refine step_tile (n := 1024) (j := 4) rfl (by omega) _ (by omega) 0 (X 0) V (kOwn i arg4 harg4 x1 4) (kOwn i arg5 harg5 x2 4) (qOwn c arg3 harg3 arg12 x0 0 4 1024 inb_S2x2048x128_S1x1024x128_0_1024_0)
      (kernelRun0_A.sl.HS1_7 c i arg3 harg3 arg4 harg4 arg12 arg13 x0 x1) (kernelRun0_A.sl.HS2_7 c i arg3 harg3 arg4 harg4 arg5 harg5 arg12 arg13 arg14 x0 x1 x2) inb_S2x2048x128_S1x1024x128_0_1024_0 inb_S2x2048x256_S1x1024x256_0_1024_0 _ _ hs
      (own_scores c i arg3 harg3 arg4 harg4 arg12 x0 x1 X hX 0 4 rfl inb_S2x2048x128_S1x1024x128_0_1024_0)
      (fun d s => own_vals i arg5 harg5 x2 V hV 4 d s) (fun r l => ?_) (fun r d M hM => ?_)
  · refine (show _ = dM4 (kOwn i arg4 harg4 x1 4) (qOwn c arg3 harg3 arg12 x0 0 4 1024 inb_S2x2048x128_S1x1024x128_0_1024_0) (mOwn arg13 (kernelRun0_A.sl.HS1_7 c i arg3 harg3 arg4 harg4 arg12 arg13 x0 x1) 0 4 1024 inb_S2x2048x128_S1x1024x128_0_1024_0) (ix3 0 r l) from rfl).trans ((dM4_apply (kOwn i arg4 harg4 x1 4) (qOwn c arg3 harg3 arg12 x0 0 4 1024 inb_S2x2048x128_S1x1024x128_0_1024_0) (mOwn arg13 (kernelRun0_A.sl.HS1_7 c i arg3 harg3 arg4 harg4 arg12 arg13 x0 x1) 0 4 1024 inb_S2x2048x128_S1x1024x128_0_1024_0) r l).trans (congrArg₂ mx ?_ rfl))
    exact read_rows' (n := 1024) 0 arg13.view _ inb_S2x2048x128_S1x1024x128_0_1024_0 r l (by omega)
  · refine (show _ = dA4 (kOwn i arg4 harg4 x1 4) (kOwn i arg5 harg5 x2 4) (qOwn c arg3 harg3 arg12 x0 0 4 1024 inb_S2x2048x128_S1x1024x128_0_1024_0) (mOwn arg13 (kernelRun0_A.sl.HS1_7 c i arg3 harg3 arg4 harg4 arg12 arg13 x0 x1) 0 4 1024 inb_S2x2048x128_S1x1024x128_0_1024_0) (aOwn arg14 (kernelRun0_A.sl.HS2_7 c i arg3 harg3 arg4 harg4 arg5 harg5 arg12 arg13 arg14 x0 x1 x2) 0 4 1024 inb_S2x2048x256_S1x1024x256_0_1024_0) (ix3 0 r d) from rfl).trans ((dA4_apply (kOwn i arg4 harg4 x1 4) (kOwn i arg5 harg5 x2 4) (qOwn c arg3 harg3 arg12 x0 0 4 1024 inb_S2x2048x128_S1x1024x128_0_1024_0) (mOwn arg13 (kernelRun0_A.sl.HS1_7 c i arg3 harg3 arg4 harg4 arg12 arg13 x0 x1) 0 4 1024 inb_S2x2048x128_S1x1024x128_0_1024_0) (aOwn arg14 (kernelRun0_A.sl.HS2_7 c i arg3 harg3 arg4 harg4 arg5 harg5 arg12 arg13 arg14 x0 x1 x2) 0 4 1024 inb_S2x2048x256_S1x1024x256_0_1024_0) r d M fun l => ?_).trans ?_)
    · exact (read_rows' (n := 1024) 0 arg13.view _ inb_S2x2048x128_S1x1024x128_0_1024_0 r l (by omega)).trans (hM l)
    · exact congrArg (fun y => ac M y _ _) (read_rows' (n := 1024) 0 arg14.view _ inb_S2x2048x256_S1x1024x256_0_1024_0 r d (by omega))

include hX hV in
theorem own_9 : QQ i X V (2048 * (i 2).val + 256 * 4) (2048 * (i 2).val + 256 * 4) (kernelRun0_A.sl.HS1_9 c i arg3 harg3 arg4 harg4 arg12 arg13 x0 x1) (kernelRun0_A.sl.HS2_9 c i arg3 harg3 arg4 harg4 arg5 harg5 arg12 arg13 arg14 x0 x1 x2) := by
  have hi : (i 2).val < 8 := (i 2).isLt
  have hQ := own_8 c i arg3 harg3 arg4 harg4 arg5 harg5 arg12 arg13 arg14 x0 x1 x2 X V hX hV
  have hs : Q (X 1) V (2048 * (i 2).val) (2048 * (i 2).val + 256 * 4 + 256) 1 (View.canon (kernelRun0_A.sl.HS1_8 c i arg3 harg3 arg4 harg4 arg12 arg13 x0 x1)) (View.canon (kernelRun0_A.sl.HS2_8 c i arg3 harg3 arg4 harg4 arg5 harg5 arg12 arg13 arg14 x0 x1 x2)) := hQ.2
  have hk : Q (X 0) V (2048 * (i 2).val) (2048 * (i 2).val + 256 * 4) 0 (View.canon (kernelRun0_A.sl.HS1_8 c i arg3 harg3 arg4 harg4 arg12 arg13 x0 x1)) (View.canon (kernelRun0_A.sl.HS2_8 c i arg3 harg3 arg4 harg4 arg5 harg5 arg12 arg13 arg14 x0 x1 x2)) := hQ.1
  refine ⟨keep_tile (n := 1024) (o := 256 * 4) _ _ 1 0 (by decide) (X 0) V _ _ _ _ _ _ hk, ?_⟩
  refine step_tile (n := 1024) (j := 4) rfl (by omega) _ (by omega) 1 (X 1) V (kOwn i arg4 harg4 x1 4) (kOwn i arg5 harg5 x2 4) (qOwn c arg3 harg3 arg12 x0 1 4 1024 inb_S2x2048x128_S1x1024x128_1_1024_0)
      (kernelRun0_A.sl.HS1_8 c i arg3 harg3 arg4 harg4 arg12 arg13 x0 x1) (kernelRun0_A.sl.HS2_8 c i arg3 harg3 arg4 harg4 arg5 harg5 arg12 arg13 arg14 x0 x1 x2) inb_S2x2048x128_S1x1024x128_1_1024_0 inb_S2x2048x256_S1x1024x256_1_1024_0 _ _ hs
      (own_scores c i arg3 harg3 arg4 harg4 arg12 x0 x1 X hX 1 4 rfl inb_S2x2048x128_S1x1024x128_1_1024_0)
      (fun d s => own_vals i arg5 harg5 x2 V hV 4 d s) (fun r l => ?_) (fun r d M hM => ?_)
  · refine (show _ = dM4 (kOwn i arg4 harg4 x1 4) (qOwn c arg3 harg3 arg12 x0 1 4 1024 inb_S2x2048x128_S1x1024x128_1_1024_0) (mOwn arg13 (kernelRun0_A.sl.HS1_8 c i arg3 harg3 arg4 harg4 arg12 arg13 x0 x1) 1 4 1024 inb_S2x2048x128_S1x1024x128_1_1024_0) (ix3 0 r l) from rfl).trans ((dM4_apply (kOwn i arg4 harg4 x1 4) (qOwn c arg3 harg3 arg12 x0 1 4 1024 inb_S2x2048x128_S1x1024x128_1_1024_0) (mOwn arg13 (kernelRun0_A.sl.HS1_8 c i arg3 harg3 arg4 harg4 arg12 arg13 x0 x1) 1 4 1024 inb_S2x2048x128_S1x1024x128_1_1024_0) r l).trans (congrArg₂ mx ?_ rfl))
    exact read_rows' (n := 1024) 1 arg13.view _ inb_S2x2048x128_S1x1024x128_1_1024_0 r l (by omega)
  · refine (show _ = dA4 (kOwn i arg4 harg4 x1 4) (kOwn i arg5 harg5 x2 4) (qOwn c arg3 harg3 arg12 x0 1 4 1024 inb_S2x2048x128_S1x1024x128_1_1024_0) (mOwn arg13 (kernelRun0_A.sl.HS1_8 c i arg3 harg3 arg4 harg4 arg12 arg13 x0 x1) 1 4 1024 inb_S2x2048x128_S1x1024x128_1_1024_0) (aOwn arg14 (kernelRun0_A.sl.HS2_8 c i arg3 harg3 arg4 harg4 arg5 harg5 arg12 arg13 arg14 x0 x1 x2) 1 4 1024 inb_S2x2048x256_S1x1024x256_1_1024_0) (ix3 0 r d) from rfl).trans ((dA4_apply (kOwn i arg4 harg4 x1 4) (kOwn i arg5 harg5 x2 4) (qOwn c arg3 harg3 arg12 x0 1 4 1024 inb_S2x2048x128_S1x1024x128_1_1024_0) (mOwn arg13 (kernelRun0_A.sl.HS1_8 c i arg3 harg3 arg4 harg4 arg12 arg13 x0 x1) 1 4 1024 inb_S2x2048x128_S1x1024x128_1_1024_0) (aOwn arg14 (kernelRun0_A.sl.HS2_8 c i arg3 harg3 arg4 harg4 arg5 harg5 arg12 arg13 arg14 x0 x1 x2) 1 4 1024 inb_S2x2048x256_S1x1024x256_1_1024_0) r d M fun l => ?_).trans ?_)
    · exact (read_rows' (n := 1024) 1 arg13.view _ inb_S2x2048x128_S1x1024x128_1_1024_0 r l (by omega)).trans (hM l)
    · exact congrArg (fun y => ac M y _ _) (read_rows' (n := 1024) 1 arg14.view _ inb_S2x2048x256_S1x1024x256_1_1024_0 r d (by omega))

include hX hV in
theorem own_10 : QQ i X V (2048 * (i 2).val + 256 * 3) (2048 * (i 2).val + 256 * 3 + 256) (kernelRun0_A.sl.HS1_10 c i arg3 harg3 arg4 harg4 arg12 arg13 x0 x1) (kernelRun0_A.sl.HS2_10 c i arg3 harg3 arg4 harg4 arg5 harg5 arg12 arg13 arg14 x0 x1 x2) := by
  have hi : (i 2).val < 8 := (i 2).isLt
  have hQ := own_9 c i arg3 harg3 arg4 harg4 arg5 harg5 arg12 arg13 arg14 x0 x1 x2 X V hX hV
  have hs : Q (X 0) V (2048 * (i 2).val) (2048 * (i 2).val + 256 * 3 + 256) 0 (View.canon (kernelRun0_A.sl.HS1_9 c i arg3 harg3 arg4 harg4 arg12 arg13 x0 x1)) (View.canon (kernelRun0_A.sl.HS2_9 c i arg3 harg3 arg4 harg4 arg5 harg5 arg12 arg13 arg14 x0 x1 x2)) := hQ.1
  have hk : Q (X 1) V (2048 * (i 2).val) (2048 * (i 2).val + 256 * 3 + 256) 1 (View.canon (kernelRun0_A.sl.HS1_9 c i arg3 harg3 arg4 harg4 arg12 arg13 x0 x1)) (View.canon (kernelRun0_A.sl.HS2_9 c i arg3 harg3 arg4 harg4 arg5 harg5 arg12 arg13 arg14 x0 x1 x2)) := hQ.2
  refine ⟨?_, keep_tile (n := 1280) (o := 256 * 3) _ _ 0 1 (by decide) (X 1) V _ _ _ _ _ _ hk⟩
  refine step_tile (n := 1280) (j := 3) rfl (by omega) _ (by omega) 0 (X 0) V (kOwn i arg4 harg4 x1 3) (kOwn i arg5 harg5 x2 3) (qOwn c arg3 harg3 arg12 x0 0 3 1280 inb_S2x2048x128_S1x1280x128_0_768_0)
      (kernelRun0_A.sl.HS1_9 c i arg3 harg3 arg4 harg4 arg12 arg13 x0 x1) (kernelRun0_A.sl.HS2_9 c i arg3 harg3 arg4 harg4 arg5 harg5 arg12 arg13 arg14 x0 x1 x2) inb_S2x2048x128_S1x1280x128_0_768_0 inb_S2x2048x256_S1x1280x256_0_768_0 _ _ hs
      (own_scores c i arg3 harg3 arg4 harg4 arg12 x0 x1 X hX 0 3 rfl inb_S2x2048x128_S1x1280x128_0_768_0)
      (fun d s => own_vals i arg5 harg5 x2 V hV 3 d s) (fun r l => ?_) (fun r d M hM => ?_)
  · refine (show _ = dM3 (kOwn i arg4 harg4 x1 3) (qOwn c arg3 harg3 arg12 x0 0 3 1280 inb_S2x2048x128_S1x1280x128_0_768_0) (mOwn arg13 (kernelRun0_A.sl.HS1_9 c i arg3 harg3 arg4 harg4 arg12 arg13 x0 x1) 0 3 1280 inb_S2x2048x128_S1x1280x128_0_768_0) (ix3 0 r l) from rfl).trans ((dM3_apply (kOwn i arg4 harg4 x1 3) (qOwn c arg3 harg3 arg12 x0 0 3 1280 inb_S2x2048x128_S1x1280x128_0_768_0) (mOwn arg13 (kernelRun0_A.sl.HS1_9 c i arg3 harg3 arg4 harg4 arg12 arg13 x0 x1) 0 3 1280 inb_S2x2048x128_S1x1280x128_0_768_0) r l).trans (congrArg₂ mx ?_ rfl))
    exact read_rows' (n := 1280) 0 arg13.view _ inb_S2x2048x128_S1x1280x128_0_768_0 r l (by omega)
  · refine (show _ = dA3 (kOwn i arg4 harg4 x1 3) (kOwn i arg5 harg5 x2 3) (qOwn c arg3 harg3 arg12 x0 0 3 1280 inb_S2x2048x128_S1x1280x128_0_768_0) (mOwn arg13 (kernelRun0_A.sl.HS1_9 c i arg3 harg3 arg4 harg4 arg12 arg13 x0 x1) 0 3 1280 inb_S2x2048x128_S1x1280x128_0_768_0) (aOwn arg14 (kernelRun0_A.sl.HS2_9 c i arg3 harg3 arg4 harg4 arg5 harg5 arg12 arg13 arg14 x0 x1 x2) 0 3 1280 inb_S2x2048x256_S1x1280x256_0_768_0) (ix3 0 r d) from rfl).trans ((dA3_apply (kOwn i arg4 harg4 x1 3) (kOwn i arg5 harg5 x2 3) (qOwn c arg3 harg3 arg12 x0 0 3 1280 inb_S2x2048x128_S1x1280x128_0_768_0) (mOwn arg13 (kernelRun0_A.sl.HS1_9 c i arg3 harg3 arg4 harg4 arg12 arg13 x0 x1) 0 3 1280 inb_S2x2048x128_S1x1280x128_0_768_0) (aOwn arg14 (kernelRun0_A.sl.HS2_9 c i arg3 harg3 arg4 harg4 arg5 harg5 arg12 arg13 arg14 x0 x1 x2) 0 3 1280 inb_S2x2048x256_S1x1280x256_0_768_0) r d M fun l => ?_).trans ?_)
    · exact (read_rows' (n := 1280) 0 arg13.view _ inb_S2x2048x128_S1x1280x128_0_768_0 r l (by omega)).trans (hM l)
    · exact congrArg (fun y => ac M y _ _) (read_rows' (n := 1280) 0 arg14.view _ inb_S2x2048x256_S1x1280x256_0_768_0 r d (by omega))

include hX hV in
theorem own_11 : QQ i X V (2048 * (i 2).val + 256 * 3) (2048 * (i 2).val + 256 * 3) (kernelRun0_A.sl.HS1_11 c i arg3 harg3 arg4 harg4 arg12 arg13 x0 x1) (kernelRun0_A.sl.HS2_11 c i arg3 harg3 arg4 harg4 arg5 harg5 arg12 arg13 arg14 x0 x1 x2) := by
  have hi : (i 2).val < 8 := (i 2).isLt
  have hQ := own_10 c i arg3 harg3 arg4 harg4 arg5 harg5 arg12 arg13 arg14 x0 x1 x2 X V hX hV
  have hs : Q (X 1) V (2048 * (i 2).val) (2048 * (i 2).val + 256 * 3 + 256) 1 (View.canon (kernelRun0_A.sl.HS1_10 c i arg3 harg3 arg4 harg4 arg12 arg13 x0 x1)) (View.canon (kernelRun0_A.sl.HS2_10 c i arg3 harg3 arg4 harg4 arg5 harg5 arg12 arg13 arg14 x0 x1 x2)) := hQ.2
  have hk : Q (X 0) V (2048 * (i 2).val) (2048 * (i 2).val + 256 * 3) 0 (View.canon (kernelRun0_A.sl.HS1_10 c i arg3 harg3 arg4 harg4 arg12 arg13 x0 x1)) (View.canon (kernelRun0_A.sl.HS2_10 c i arg3 harg3 arg4 harg4 arg5 harg5 arg12 arg13 arg14 x0 x1 x2)) := hQ.1
  refine ⟨keep_tile (n := 1280) (o := 256 * 3) _ _ 1 0 (by decide) (X 0) V _ _ _ _ _ _ hk, ?_⟩
  refine step_tile (n := 1280) (j := 3) rfl (by omega) _ (by omega) 1 (X 1) V (kOwn i arg4 harg4 x1 3) (kOwn i arg5 harg5 x2 3) (qOwn c arg3 harg3 arg12 x0 1 3 1280 inb_S2x2048x128_S1x1280x128_1_768_0)
      (kernelRun0_A.sl.HS1_10 c i arg3 harg3 arg4 harg4 arg12 arg13 x0 x1) (kernelRun0_A.sl.HS2_10 c i arg3 harg3 arg4 harg4 arg5 harg5 arg12 arg13 arg14 x0 x1 x2) inb_S2x2048x128_S1x1280x128_1_768_0 inb_S2x2048x256_S1x1280x256_1_768_0 _ _ hs
      (own_scores c i arg3 harg3 arg4 harg4 arg12 x0 x1 X hX 1 3 rfl inb_S2x2048x128_S1x1280x128_1_768_0)
      (fun d s => own_vals i arg5 harg5 x2 V hV 3 d s) (fun r l => ?_) (fun r d M hM => ?_)
  · refine (show _ = dM3 (kOwn i arg4 harg4 x1 3) (qOwn c arg3 harg3 arg12 x0 1 3 1280 inb_S2x2048x128_S1x1280x128_1_768_0) (mOwn arg13 (kernelRun0_A.sl.HS1_10 c i arg3 harg3 arg4 harg4 arg12 arg13 x0 x1) 1 3 1280 inb_S2x2048x128_S1x1280x128_1_768_0) (ix3 0 r l) from rfl).trans ((dM3_apply (kOwn i arg4 harg4 x1 3) (qOwn c arg3 harg3 arg12 x0 1 3 1280 inb_S2x2048x128_S1x1280x128_1_768_0) (mOwn arg13 (kernelRun0_A.sl.HS1_10 c i arg3 harg3 arg4 harg4 arg12 arg13 x0 x1) 1 3 1280 inb_S2x2048x128_S1x1280x128_1_768_0) r l).trans (congrArg₂ mx ?_ rfl))
    exact read_rows' (n := 1280) 1 arg13.view _ inb_S2x2048x128_S1x1280x128_1_768_0 r l (by omega)
  · refine (show _ = dA3 (kOwn i arg4 harg4 x1 3) (kOwn i arg5 harg5 x2 3) (qOwn c arg3 harg3 arg12 x0 1 3 1280 inb_S2x2048x128_S1x1280x128_1_768_0) (mOwn arg13 (kernelRun0_A.sl.HS1_10 c i arg3 harg3 arg4 harg4 arg12 arg13 x0 x1) 1 3 1280 inb_S2x2048x128_S1x1280x128_1_768_0) (aOwn arg14 (kernelRun0_A.sl.HS2_10 c i arg3 harg3 arg4 harg4 arg5 harg5 arg12 arg13 arg14 x0 x1 x2) 1 3 1280 inb_S2x2048x256_S1x1280x256_1_768_0) (ix3 0 r d) from rfl).trans ((dA3_apply (kOwn i arg4 harg4 x1 3) (kOwn i arg5 harg5 x2 3) (qOwn c arg3 harg3 arg12 x0 1 3 1280 inb_S2x2048x128_S1x1280x128_1_768_0) (mOwn arg13 (kernelRun0_A.sl.HS1_10 c i arg3 harg3 arg4 harg4 arg12 arg13 x0 x1) 1 3 1280 inb_S2x2048x128_S1x1280x128_1_768_0) (aOwn arg14 (kernelRun0_A.sl.HS2_10 c i arg3 harg3 arg4 harg4 arg5 harg5 arg12 arg13 arg14 x0 x1 x2) 1 3 1280 inb_S2x2048x256_S1x1280x256_1_768_0) r d M fun l => ?_).trans ?_)
    · exact (read_rows' (n := 1280) 1 arg13.view _ inb_S2x2048x128_S1x1280x128_1_768_0 r l (by omega)).trans (hM l)
    · exact congrArg (fun y => ac M y _ _) (read_rows' (n := 1280) 1 arg14.view _ inb_S2x2048x256_S1x1280x256_1_768_0 r d (by omega))

include hX hV in
theorem own_12 : QQ i X V (2048 * (i 2).val + 256 * 2) (2048 * (i 2).val + 256 * 2 + 256) (kernelRun0_A.sl.HS1_12 c i arg3 harg3 arg4 harg4 arg12 arg13 x0 x1) (kernelRun0_A.sl.HS2_12 c i arg3 harg3 arg4 harg4 arg5 harg5 arg12 arg13 arg14 x0 x1 x2) := by
  have hi : (i 2).val < 8 := (i 2).isLt
  have hQ := own_11 c i arg3 harg3 arg4 harg4 arg5 harg5 arg12 arg13 arg14 x0 x1 x2 X V hX hV
  have hs : Q (X 0) V (2048 * (i 2).val) (2048 * (i 2).val + 256 * 2 + 256) 0 (View.canon (kernelRun0_A.sl.HS1_11 c i arg3 harg3 arg4 harg4 arg12 arg13 x0 x1)) (View.canon (kernelRun0_A.sl.HS2_11 c i arg3 harg3 arg4 harg4 arg5 harg5 arg12 arg13 arg14 x0 x1 x2)) := hQ.1
  have hk : Q (X 1) V (2048 * (i 2).val) (2048 * (i 2).val + 256 * 2 + 256) 1 (View.canon (kernelRun0_A.sl.HS1_11 c i arg3 harg3 arg4 harg4 arg12 arg13 x0 x1)) (View.canon (kernelRun0_A.sl.HS2_11 c i arg3 harg3 arg4 harg4 arg5 harg5 arg12 arg13 arg14 x0 x1 x2)) := hQ.2
  refine ⟨?_, keep_tile (n := 1536) (o := 256 * 2) _ _ 0 1 (by decide) (X 1) V _ _ _ _ _ _ hk⟩
  refine step_tile (n := 1536) (j := 2) rfl (by omega) _ (by omega) 0 (X 0) V (kOwn i arg4 harg4 x1 2) (kOwn i arg5 harg5 x2 2) (qOwn c arg3 harg3 arg12 x0 0 2 1536 inb_S2x2048x128_S1x1536x128_0_512_0)
      (kernelRun0_A.sl.HS1_11 c i arg3 harg3 arg4 harg4 arg12 arg13 x0 x1) (kernelRun0_A.sl.HS2_11 c i arg3 harg3 arg4 harg4 arg5 harg5 arg12 arg13 arg14 x0 x1 x2) inb_S2x2048x128_S1x1536x128_0_512_0 inb_S2x2048x256_S1x1536x256_0_512_0 _ _ hs
      (own_scores c i arg3 harg3 arg4 harg4 arg12 x0 x1 X hX 0 2 rfl inb_S2x2048x128_S1x1536x128_0_512_0)
      (fun d s => own_vals i arg5 harg5 x2 V hV 2 d s) (fun r l => ?_) (fun r d M hM => ?_)
  · refine (show _ = dM2 (kOwn i arg4 harg4 x1 2) (qOwn c arg3 harg3 arg12 x0 0 2 1536 inb_S2x2048x128_S1x1536x128_0_512_0) (mOwn arg13 (kernelRun0_A.sl.HS1_11 c i arg3 harg3 arg4 harg4 arg12 arg13 x0 x1) 0 2 1536 inb_S2x2048x128_S1x1536x128_0_512_0) (ix3 0 r l) from rfl).trans ((dM2_apply (kOwn i arg4 harg4 x1 2) (qOwn c arg3 harg3 arg12 x0 0 2 1536 inb_S2x2048x128_S1x1536x128_0_512_0) (mOwn arg13 (kernelRun0_A.sl.HS1_11 c i arg3 harg3 arg4 harg4 arg12 arg13 x0 x1) 0 2 1536 inb_S2x2048x128_S1x1536x128_0_512_0) r l).trans (congrArg₂ mx ?_ rfl))
    exact read_rows' (n := 1536) 0 arg13.view _ inb_S2x2048x128_S1x1536x128_0_512_0 r l (by omega)
  · refine (show _ = dA2 (kOwn i arg4 harg4 x1 2) (kOwn i arg5 harg5 x2 2) (qOwn c arg3 harg3 arg12 x0 0 2 1536 inb_S2x2048x128_S1x1536x128_0_512_0) (mOwn arg13 (kernelRun0_A.sl.HS1_11 c i arg3 harg3 arg4 harg4 arg12 arg13 x0 x1) 0 2 1536 inb_S2x2048x128_S1x1536x128_0_512_0) (aOwn arg14 (kernelRun0_A.sl.HS2_11 c i arg3 harg3 arg4 harg4 arg5 harg5 arg12 arg13 arg14 x0 x1 x2) 0 2 1536 inb_S2x2048x256_S1x1536x256_0_512_0) (ix3 0 r d) from rfl).trans ((dA2_apply (kOwn i arg4 harg4 x1 2) (kOwn i arg5 harg5 x2 2) (qOwn c arg3 harg3 arg12 x0 0 2 1536 inb_S2x2048x128_S1x1536x128_0_512_0) (mOwn arg13 (kernelRun0_A.sl.HS1_11 c i arg3 harg3 arg4 harg4 arg12 arg13 x0 x1) 0 2 1536 inb_S2x2048x128_S1x1536x128_0_512_0) (aOwn arg14 (kernelRun0_A.sl.HS2_11 c i arg3 harg3 arg4 harg4 arg5 harg5 arg12 arg13 arg14 x0 x1 x2) 0 2 1536 inb_S2x2048x256_S1x1536x256_0_512_0) r d M fun l => ?_).trans ?_)
    · exact (read_rows' (n := 1536) 0 arg13.view _ inb_S2x2048x128_S1x1536x128_0_512_0 r l (by omega)).trans (hM l)
    · exact congrArg (fun y => ac M y _ _) (read_rows' (n := 1536) 0 arg14.view _ inb_S2x2048x256_S1x1536x256_0_512_0 r d (by omega))

include hX hV in
theorem own_13 : QQ i X V (2048 * (i 2).val + 256 * 2) (2048 * (i 2).val + 256 * 2) (kernelRun0_A.sl.HS1_13 c i arg3 harg3 arg4 harg4 arg12 arg13 x0 x1) (kernelRun0_A.sl.HS2_13 c i arg3 harg3 arg4 harg4 arg5 harg5 arg12 arg13 arg14 x0 x1 x2) := by
  have hi : (i 2).val < 8 := (i 2).isLt
  have hQ := own_12 c i arg3 harg3 arg4 harg4 arg5 harg5 arg12 arg13 arg14 x0 x1 x2 X V hX hV
  have hs : Q (X 1) V (2048 * (i 2).val) (2048 * (i 2).val + 256 * 2 + 256) 1 (View.canon (kernelRun0_A.sl.HS1_12 c i arg3 harg3 arg4 harg4 arg12 arg13 x0 x1)) (View.canon (kernelRun0_A.sl.HS2_12 c i arg3 harg3 arg4 harg4 arg5 harg5 arg12 arg13 arg14 x0 x1 x2)) := hQ.2
  have hk : Q (X 0) V (2048 * (i 2).val) (2048 * (i 2).val + 256 * 2) 0 (View.canon (kernelRun0_A.sl.HS1_12 c i arg3 harg3 arg4 harg4 arg12 arg13 x0 x1)) (View.canon (kernelRun0_A.sl.HS2_12 c i arg3 harg3 arg4 harg4 arg5 harg5 arg12 arg13 arg14 x0 x1 x2)) := hQ.1
  refine ⟨keep_tile (n := 1536) (o := 256 * 2) _ _ 1 0 (by decide) (X 0) V _ _ _ _ _ _ hk, ?_⟩
  refine step_tile (n := 1536) (j := 2) rfl (by omega) _ (by omega) 1 (X 1) V (kOwn i arg4 harg4 x1 2) (kOwn i arg5 harg5 x2 2) (qOwn c arg3 harg3 arg12 x0 1 2 1536 inb_S2x2048x128_S1x1536x128_1_512_0)
      (kernelRun0_A.sl.HS1_12 c i arg3 harg3 arg4 harg4 arg12 arg13 x0 x1) (kernelRun0_A.sl.HS2_12 c i arg3 harg3 arg4 harg4 arg5 harg5 arg12 arg13 arg14 x0 x1 x2) inb_S2x2048x128_S1x1536x128_1_512_0 inb_S2x2048x256_S1x1536x256_1_512_0 _ _ hs
      (own_scores c i arg3 harg3 arg4 harg4 arg12 x0 x1 X hX 1 2 rfl inb_S2x2048x128_S1x1536x128_1_512_0)
      (fun d s => own_vals i arg5 harg5 x2 V hV 2 d s) (fun r l => ?_) (fun r d M hM => ?_)
  · refine (show _ = dM2 (kOwn i arg4 harg4 x1 2) (qOwn c arg3 harg3 arg12 x0 1 2 1536 inb_S2x2048x128_S1x1536x128_1_512_0) (mOwn arg13 (kernelRun0_A.sl.HS1_12 c i arg3 harg3 arg4 harg4 arg12 arg13 x0 x1) 1 2 1536 inb_S2x2048x128_S1x1536x128_1_512_0) (ix3 0 r l) from rfl).trans ((dM2_apply (kOwn i arg4 harg4 x1 2) (qOwn c arg3 harg3 arg12 x0 1 2 1536 inb_S2x2048x128_S1x1536x128_1_512_0) (mOwn arg13 (kernelRun0_A.sl.HS1_12 c i arg3 harg3 arg4 harg4 arg12 arg13 x0 x1) 1 2 1536 inb_S2x2048x128_S1x1536x128_1_512_0) r l).trans (congrArg₂ mx ?_ rfl))
    exact read_rows' (n := 1536) 1 arg13.view _ inb_S2x2048x128_S1x1536x128_1_512_0 r l (by omega)
  · refine (show _ = dA2 (kOwn i arg4 harg4 x1 2) (kOwn i arg5 harg5 x2 2) (qOwn c arg3 harg3 arg12 x0 1 2 1536 inb_S2x2048x128_S1x1536x128_1_512_0) (mOwn arg13 (kernelRun0_A.sl.HS1_12 c i arg3 harg3 arg4 harg4 arg12 arg13 x0 x1) 1 2 1536 inb_S2x2048x128_S1x1536x128_1_512_0) (aOwn arg14 (kernelRun0_A.sl.HS2_12 c i arg3 harg3 arg4 harg4 arg5 harg5 arg12 arg13 arg14 x0 x1 x2) 1 2 1536 inb_S2x2048x256_S1x1536x256_1_512_0) (ix3 0 r d) from rfl).trans ((dA2_apply (kOwn i arg4 harg4 x1 2) (kOwn i arg5 harg5 x2 2) (qOwn c arg3 harg3 arg12 x0 1 2 1536 inb_S2x2048x128_S1x1536x128_1_512_0) (mOwn arg13 (kernelRun0_A.sl.HS1_12 c i arg3 harg3 arg4 harg4 arg12 arg13 x0 x1) 1 2 1536 inb_S2x2048x128_S1x1536x128_1_512_0) (aOwn arg14 (kernelRun0_A.sl.HS2_12 c i arg3 harg3 arg4 harg4 arg5 harg5 arg12 arg13 arg14 x0 x1 x2) 1 2 1536 inb_S2x2048x256_S1x1536x256_1_512_0) r d M fun l => ?_).trans ?_)
    · exact (read_rows' (n := 1536) 1 arg13.view _ inb_S2x2048x128_S1x1536x128_1_512_0 r l (by omega)).trans (hM l)
    · exact congrArg (fun y => ac M y _ _) (read_rows' (n := 1536) 1 arg14.view _ inb_S2x2048x256_S1x1536x256_1_512_0 r d (by omega))

include hX hV in
theorem own_14 : QQ i X V (2048 * (i 2).val + 256 * 1) (2048 * (i 2).val + 256 * 1 + 256) (kernelRun0_A.sl.HS1_14 c i arg3 harg3 arg4 harg4 arg12 arg13 x0 x1) (kernelRun0_A.sl.HS2_14 c i arg3 harg3 arg4 harg4 arg5 harg5 arg12 arg13 arg14 x0 x1 x2) := by
  have hi : (i 2).val < 8 := (i 2).isLt
  have hQ := own_13 c i arg3 harg3 arg4 harg4 arg5 harg5 arg12 arg13 arg14 x0 x1 x2 X V hX hV
  have hs : Q (X 0) V (2048 * (i 2).val) (2048 * (i 2).val + 256 * 1 + 256) 0 (View.canon (kernelRun0_A.sl.HS1_13 c i arg3 harg3 arg4 harg4 arg12 arg13 x0 x1)) (View.canon (kernelRun0_A.sl.HS2_13 c i arg3 harg3 arg4 harg4 arg5 harg5 arg12 arg13 arg14 x0 x1 x2)) := hQ.1
  have hk : Q (X 1) V (2048 * (i 2).val) (2048 * (i 2).val + 256 * 1 + 256) 1 (View.canon (kernelRun0_A.sl.HS1_13 c i arg3 harg3 arg4 harg4 arg12 arg13 x0 x1)) (View.canon (kernelRun0_A.sl.HS2_13 c i arg3 harg3 arg4 harg4 arg5 harg5 arg12 arg13 arg14 x0 x1 x2)) := hQ.2
  refine ⟨?_, keep_tile (n := 1792) (o := 256 * 1) _ _ 0 1 (by decide) (X 1) V _ _ _ _ _ _ hk⟩
  refine step_tile (n := 1792) (j := 1) rfl (by omega) _ (by omega) 0 (X 0) V (kOwn i arg4 harg4 x1 1) (kOwn i arg5 harg5 x2 1) (qOwn c arg3 harg3 arg12 x0 0 1 1792 inb_S2x2048x128_S1x1792x128_0_256_0)
      (kernelRun0_A.sl.HS1_13 c i arg3 harg3 arg4 harg4 arg12 arg13 x0 x1) (kernelRun0_A.sl.HS2_13 c i arg3 harg3 arg4 harg4 arg5 harg5 arg12 arg13 arg14 x0 x1 x2) inb_S2x2048x128_S1x1792x128_0_256_0 inb_S2x2048x256_S1x1792x256_0_256_0 _ _ hs
      (own_scores c i arg3 harg3 arg4 harg4 arg12 x0 x1 X hX 0 1 rfl inb_S2x2048x128_S1x1792x128_0_256_0)
      (fun d s => own_vals i arg5 harg5 x2 V hV 1 d s) (fun r l => ?_) (fun r d M hM => ?_)
  · refine (show _ = dM1 (kOwn i arg4 harg4 x1 1) (qOwn c arg3 harg3 arg12 x0 0 1 1792 inb_S2x2048x128_S1x1792x128_0_256_0) (mOwn arg13 (kernelRun0_A.sl.HS1_13 c i arg3 harg3 arg4 harg4 arg12 arg13 x0 x1) 0 1 1792 inb_S2x2048x128_S1x1792x128_0_256_0) (ix3 0 r l) from rfl).trans ((dM1_apply (kOwn i arg4 harg4 x1 1) (qOwn c arg3 harg3 arg12 x0 0 1 1792 inb_S2x2048x128_S1x1792x128_0_256_0) (mOwn arg13 (kernelRun0_A.sl.HS1_13 c i arg3 harg3 arg4 harg4 arg12 arg13 x0 x1) 0 1 1792 inb_S2x2048x128_S1x1792x128_0_256_0) r l).trans (congrArg₂ mx ?_ rfl))
    exact read_rows' (n := 1792) 0 arg13.view _ inb_S2x2048x128_S1x1792x128_0_256_0 r l (by omega)
  · refine (show _ = dA1 (kOwn i arg4 harg4 x1 1) (kOwn i arg5 harg5 x2 1) (qOwn c arg3 harg3 arg12 x0 0 1 1792 inb_S2x2048x128_S1x1792x128_0_256_0) (mOwn arg13 (kernelRun0_A.sl.HS1_13 c i arg3 harg3 arg4 harg4 arg12 arg13 x0 x1) 0 1 1792 inb_S2x2048x128_S1x1792x128_0_256_0) (aOwn arg14 (kernelRun0_A.sl.HS2_13 c i arg3 harg3 arg4 harg4 arg5 harg5 arg12 arg13 arg14 x0 x1 x2) 0 1 1792 inb_S2x2048x256_S1x1792x256_0_256_0) (ix3 0 r d) from rfl).trans ((dA1_apply (kOwn i arg4 harg4 x1 1) (kOwn i arg5 harg5 x2 1) (qOwn c arg3 harg3 arg12 x0 0 1 1792 inb_S2x2048x128_S1x1792x128_0_256_0) (mOwn arg13 (kernelRun0_A.sl.HS1_13 c i arg3 harg3 arg4 harg4 arg12 arg13 x0 x1) 0 1 1792 inb_S2x2048x128_S1x1792x128_0_256_0) (aOwn arg14 (kernelRun0_A.sl.HS2_13 c i arg3 harg3 arg4 harg4 arg5 harg5 arg12 arg13 arg14 x0 x1 x2) 0 1 1792 inb_S2x2048x256_S1x1792x256_0_256_0) r d M fun l => ?_).trans ?_)
    · exact (read_rows' (n := 1792) 0 arg13.view _ inb_S2x2048x128_S1x1792x128_0_256_0 r l (by omega)).trans (hM l)
    · exact congrArg (fun y => ac M y _ _) (read_rows' (n := 1792) 0 arg14.view _ inb_S2x2048x256_S1x1792x256_0_256_0 r d (by omega))

include hX hV in
theorem own_15 : QQ i X V (2048 * (i 2).val + 256 * 1) (2048 * (i 2).val + 256 * 1) (kernelRun0_A.sl.HS1_15 c i arg3 harg3 arg4 harg4 arg12 arg13 x0 x1) (kernelRun0_A.sl.HS2_15 c i arg3 harg3 arg4 harg4 arg5 harg5 arg12 arg13 arg14 x0 x1 x2) := by
  have hi : (i 2).val < 8 := (i 2).isLt
  have hQ := own_14 c i arg3 harg3 arg4 harg4 arg5 harg5 arg12 arg13 arg14 x0 x1 x2 X V hX hV
  have hs : Q (X 1) V (2048 * (i 2).val) (2048 * (i 2).val + 256 * 1 + 256) 1 (View.canon (kernelRun0_A.sl.HS1_14 c i arg3 harg3 arg4 harg4 arg12 arg13 x0 x1)) (View.canon (kernelRun0_A.sl.HS2_14 c i arg3 harg3 arg4 harg4 arg5 harg5 arg12 arg13 arg14 x0 x1 x2)) := hQ.2
  have hk : Q (X 0) V (2048 * (i 2).val) (2048 * (i 2).val + 256 * 1) 0 (View.canon (kernelRun0_A.sl.HS1_14 c i arg3 harg3 arg4 harg4 arg12 arg13 x0 x1)) (View.canon (kernelRun0_A.sl.HS2_14 c i arg3 harg3 arg4 harg4 arg5 harg5 arg12 arg13 arg14 x0 x1 x2)) := hQ.1
  refine ⟨keep_tile (n := 1792) (o := 256 * 1) _ _ 1 0 (by decide) (X 0) V _ _ _ _ _ _ hk, ?_⟩
  refine step_tile (n := 1792) (j := 1) rfl (by omega) _ (by omega) 1 (X 1) V (kOwn i arg4 harg4 x1 1) (kOwn i arg5 harg5 x2 1) (qOwn c arg3 harg3 arg12 x0 1 1 1792 inb_S2x2048x128_S1x1792x128_1_256_0)
      (kernelRun0_A.sl.HS1_14 c i arg3 harg3 arg4 harg4 arg12 arg13 x0 x1) (kernelRun0_A.sl.HS2_14 c i arg3 harg3 arg4 harg4 arg5 harg5 arg12 arg13 arg14 x0 x1 x2) inb_S2x2048x128_S1x1792x128_1_256_0 inb_S2x2048x256_S1x1792x256_1_256_0 _ _ hs
      (own_scores c i arg3 harg3 arg4 harg4 arg12 x0 x1 X hX 1 1 rfl inb_S2x2048x128_S1x1792x128_1_256_0)
      (fun d s => own_vals i arg5 harg5 x2 V hV 1 d s) (fun r l => ?_) (fun r d M hM => ?_)
  · refine (show _ = dM1 (kOwn i arg4 harg4 x1 1) (qOwn c arg3 harg3 arg12 x0 1 1 1792 inb_S2x2048x128_S1x1792x128_1_256_0) (mOwn arg13 (kernelRun0_A.sl.HS1_14 c i arg3 harg3 arg4 harg4 arg12 arg13 x0 x1) 1 1 1792 inb_S2x2048x128_S1x1792x128_1_256_0) (ix3 0 r l) from rfl).trans ((dM1_apply (kOwn i arg4 harg4 x1 1) (qOwn c arg3 harg3 arg12 x0 1 1 1792 inb_S2x2048x128_S1x1792x128_1_256_0) (mOwn arg13 (kernelRun0_A.sl.HS1_14 c i arg3 harg3 arg4 harg4 arg12 arg13 x0 x1) 1 1 1792 inb_S2x2048x128_S1x1792x128_1_256_0) r l).trans (congrArg₂ mx ?_ rfl))
    exact read_rows' (n := 1792) 1 arg13.view _ inb_S2x2048x128_S1x1792x128_1_256_0 r l (by omega)
  · refine (show _ = dA1 (kOwn i arg4 harg4 x1 1) (kOwn i arg5 harg5 x2 1) (qOwn c arg3 harg3 arg12 x0 1 1 1792 inb_S2x2048x128_S1x1792x128_1_256_0) (mOwn arg13 (kernelRun0_A.sl.HS1_14 c i arg3 harg3 arg4 harg4 arg12 arg13 x0 x1) 1 1 1792 inb_S2x2048x128_S1x1792x128_1_256_0) (aOwn arg14 (kernelRun0_A.sl.HS2_14 c i arg3 harg3 arg4 harg4 arg5 harg5 arg12 arg13 arg14 x0 x1 x2) 1 1 1792 inb_S2x2048x256_S1x1792x256_1_256_0) (ix3 0 r d) from rfl).trans ((dA1_apply (kOwn i arg4 harg4 x1 1) (kOwn i arg5 harg5 x2 1) (qOwn c arg3 harg3 arg12 x0 1 1 1792 inb_S2x2048x128_S1x1792x128_1_256_0) (mOwn arg13 (kernelRun0_A.sl.HS1_14 c i arg3 harg3 arg4 harg4 arg12 arg13 x0 x1) 1 1 1792 inb_S2x2048x128_S1x1792x128_1_256_0) (aOwn arg14 (kernelRun0_A.sl.HS2_14 c i arg3 harg3 arg4 harg4 arg5 harg5 arg12 arg13 arg14 x0 x1 x2) 1 1 1792 inb_S2x2048x256_S1x1792x256_1_256_0) r d M fun l => ?_).trans ?_)
    · exact (read_rows' (n := 1792) 1 arg13.view _ inb_S2x2048x128_S1x1792x128_1_256_0 r l (by omega)).trans (hM l)
    · exact congrArg (fun y => ac M y _ _) (read_rows' (n := 1792) 1 arg14.view _ inb_S2x2048x256_S1x1792x256_1_256_0 r d (by omega))

include hX hV in
theorem own_16 : QQ i X V (2048 * (i 2).val + 256 * 0) (2048 * (i 2).val + 256 * 0 + 256) (kernelRun0_A.sl.HS1_16 c i arg3 harg3 arg4 harg4 arg12 arg13 x0 x1) (kernelRun0_A.sl.HS2_16 c i arg3 harg3 arg4 harg4 arg5 harg5 arg12 arg13 arg14 x0 x1 x2) := by
  have hi : (i 2).val < 8 := (i 2).isLt
  have hQ := own_15 c i arg3 harg3 arg4 harg4 arg5 harg5 arg12 arg13 arg14 x0 x1 x2 X V hX hV
  have hs : Q (X 0) V (2048 * (i 2).val) (2048 * (i 2).val + 256 * 0 + 256) 0 (View.canon (kernelRun0_A.sl.HS1_15 c i arg3 harg3 arg4 harg4 arg12 arg13 x0 x1)) (View.canon (kernelRun0_A.sl.HS2_15 c i arg3 harg3 arg4 harg4 arg5 harg5 arg12 arg13 arg14 x0 x1 x2)) := hQ.1
  have hk : Q (X 1) V (2048 * (i 2).val) (2048 * (i 2).val + 256 * 0 + 256) 1 (View.canon (kernelRun0_A.sl.HS1_15 c i arg3 harg3 arg4 harg4 arg12 arg13 x0 x1)) (View.canon (kernelRun0_A.sl.HS2_15 c i arg3 harg3 arg4 harg4 arg5 harg5 arg12 arg13 arg14 x0 x1 x2)) := hQ.2
  refine ⟨?_, keep_tile (n := 2048) (o := 256 * 0) _ _ 0 1 (by decide) (X 1) V _ _ _ _ _ _ hk⟩
  refine step_tile (n := 2048) (j := 0) rfl (by omega) _ (by omega) 0 (X 0) V (kOwn i arg4 harg4 x1 0) (kOwn i arg5 harg5 x2 0) (qOwn c arg3 harg3 arg12 x0 0 0 2048 inb_S2x2048x128_S1x2048x128_0_0_0)
      (kernelRun0_A.sl.HS1_15 c i arg3 harg3 arg4 harg4 arg12 arg13 x0 x1) (kernelRun0_A.sl.HS2_15 c i arg3 harg3 arg4 harg4 arg5 harg5 arg12 arg13 arg14 x0 x1 x2) inb_S2x2048x128_S1x2048x128_0_0_0 inb_S2x2048x256_S1x2048x256_0_0_0 _ _ hs
      (own_scores c i arg3 harg3 arg4 harg4 arg12 x0 x1 X hX 0 0 rfl inb_S2x2048x128_S1x2048x128_0_0_0)
      (fun d s => own_vals i arg5 harg5 x2 V hV 0 d s) (fun r l => ?_) (fun r d M hM => ?_)
  · refine (show _ = dM0 (kOwn i arg4 harg4 x1 0) (qOwn c arg3 harg3 arg12 x0 0 0 2048 inb_S2x2048x128_S1x2048x128_0_0_0) (mOwn arg13 (kernelRun0_A.sl.HS1_15 c i arg3 harg3 arg4 harg4 arg12 arg13 x0 x1) 0 0 2048 inb_S2x2048x128_S1x2048x128_0_0_0) (ix3 0 r l) from rfl).trans ((dM0_apply (kOwn i arg4 harg4 x1 0) (qOwn c arg3 harg3 arg12 x0 0 0 2048 inb_S2x2048x128_S1x2048x128_0_0_0) (mOwn arg13 (kernelRun0_A.sl.HS1_15 c i arg3 harg3 arg4 harg4 arg12 arg13 x0 x1) 0 0 2048 inb_S2x2048x128_S1x2048x128_0_0_0) r l).trans (congrArg₂ mx ?_ rfl))
    exact read_rows' (n := 2048) 0 arg13.view _ inb_S2x2048x128_S1x2048x128_0_0_0 r l (by omega)
  · refine (show _ = dA0 (kOwn i arg4 harg4 x1 0) (kOwn i arg5 harg5 x2 0) (qOwn c arg3 harg3 arg12 x0 0 0 2048 inb_S2x2048x128_S1x2048x128_0_0_0) (mOwn arg13 (kernelRun0_A.sl.HS1_15 c i arg3 harg3 arg4 harg4 arg12 arg13 x0 x1) 0 0 2048 inb_S2x2048x128_S1x2048x128_0_0_0) (aOwn arg14 (kernelRun0_A.sl.HS2_15 c i arg3 harg3 arg4 harg4 arg5 harg5 arg12 arg13 arg14 x0 x1 x2) 0 0 2048 inb_S2x2048x256_S1x2048x256_0_0_0) (ix3 0 r d) from rfl).trans ((dA0_apply (kOwn i arg4 harg4 x1 0) (kOwn i arg5 harg5 x2 0) (qOwn c arg3 harg3 arg12 x0 0 0 2048 inb_S2x2048x128_S1x2048x128_0_0_0) (mOwn arg13 (kernelRun0_A.sl.HS1_15 c i arg3 harg3 arg4 harg4 arg12 arg13 x0 x1) 0 0 2048 inb_S2x2048x128_S1x2048x128_0_0_0) (aOwn arg14 (kernelRun0_A.sl.HS2_15 c i arg3 harg3 arg4 harg4 arg5 harg5 arg12 arg13 arg14 x0 x1 x2) 0 0 2048 inb_S2x2048x256_S1x2048x256_0_0_0) r d M fun l => ?_).trans ?_)
    · exact (read_rows' (n := 2048) 0 arg13.view _ inb_S2x2048x128_S1x2048x128_0_0_0 r l (by omega)).trans (hM l)
    · exact congrArg (fun y => ac M y _ _) (read_rows' (n := 2048) 0 arg14.view _ inb_S2x2048x256_S1x2048x256_0_0_0 r d (by omega))

include hX hV in
theorem own_17 : QQ i X V (2048 * (i 2).val + 256 * 0) (2048 * (i 2).val + 256 * 0) (kernelRun0_A.sl.HS1_17 c i arg3 harg3 arg4 harg4 arg12 arg13 x0 x1) (kernelRun0_A.sl.HS2_17 c i arg3 harg3 arg4 harg4 arg5 harg5 arg12 arg13 arg14 x0 x1 x2) := by
  have hi : (i 2).val < 8 := (i 2).isLt
  have hQ := own_16 c i arg3 harg3 arg4 harg4 arg5 harg5 arg12 arg13 arg14 x0 x1 x2 X V hX hV
  have hs : Q (X 1) V (2048 * (i 2).val) (2048 * (i 2).val + 256 * 0 + 256) 1 (View.canon (kernelRun0_A.sl.HS1_16 c i arg3 harg3 arg4 harg4 arg12 arg13 x0 x1)) (View.canon (kernelRun0_A.sl.HS2_16 c i arg3 harg3 arg4 harg4 arg5 harg5 arg12 arg13 arg14 x0 x1 x2)) := hQ.2
  have hk : Q (X 0) V (2048 * (i 2).val) (2048 * (i 2).val + 256 * 0) 0 (View.canon (kernelRun0_A.sl.HS1_16 c i arg3 harg3 arg4 harg4 arg12 arg13 x0 x1)) (View.canon (kernelRun0_A.sl.HS2_16 c i arg3 harg3 arg4 harg4 arg5 harg5 arg12 arg13 arg14 x0 x1 x2)) := hQ.1
  refine ⟨keep_tile (n := 2048) (o := 256 * 0) _ _ 1 0 (by decide) (X 0) V _ _ _ _ _ _ hk, ?_⟩
  refine step_tile (n := 2048) (j := 0) rfl (by omega) _ (by omega) 1 (X 1) V (kOwn i arg4 harg4 x1 0) (kOwn i arg5 harg5 x2 0) (qOwn c arg3 harg3 arg12 x0 1 0 2048 inb_S2x2048x128_S1x2048x128_1_0_0)
      (kernelRun0_A.sl.HS1_16 c i arg3 harg3 arg4 harg4 arg12 arg13 x0 x1) (kernelRun0_A.sl.HS2_16 c i arg3 harg3 arg4 harg4 arg5 harg5 arg12 arg13 arg14 x0 x1 x2) inb_S2x2048x128_S1x2048x128_1_0_0 inb_S2x2048x256_S1x2048x256_1_0_0 _ _ hs
      (own_scores c i arg3 harg3 arg4 harg4 arg12 x0 x1 X hX 1 0 rfl inb_S2x2048x128_S1x2048x128_1_0_0)
      (fun d s => own_vals i arg5 harg5 x2 V hV 0 d s) (fun r l => ?_) (fun r d M hM => ?_)
  · refine (show _ = dM0 (kOwn i arg4 harg4 x1 0) (qOwn c arg3 harg3 arg12 x0 1 0 2048 inb_S2x2048x128_S1x2048x128_1_0_0) (mOwn arg13 (kernelRun0_A.sl.HS1_16 c i arg3 harg3 arg4 harg4 arg12 arg13 x0 x1) 1 0 2048 inb_S2x2048x128_S1x2048x128_1_0_0) (ix3 0 r l) from rfl).trans ((dM0_apply (kOwn i arg4 harg4 x1 0) (qOwn c arg3 harg3 arg12 x0 1 0 2048 inb_S2x2048x128_S1x2048x128_1_0_0) (mOwn arg13 (kernelRun0_A.sl.HS1_16 c i arg3 harg3 arg4 harg4 arg12 arg13 x0 x1) 1 0 2048 inb_S2x2048x128_S1x2048x128_1_0_0) r l).trans (congrArg₂ mx ?_ rfl))
    exact read_rows' (n := 2048) 1 arg13.view _ inb_S2x2048x128_S1x2048x128_1_0_0 r l (by omega)
  · refine (show _ = dA0 (kOwn i arg4 harg4 x1 0) (kOwn i arg5 harg5 x2 0) (qOwn c arg3 harg3 arg12 x0 1 0 2048 inb_S2x2048x128_S1x2048x128_1_0_0) (mOwn arg13 (kernelRun0_A.sl.HS1_16 c i arg3 harg3 arg4 harg4 arg12 arg13 x0 x1) 1 0 2048 inb_S2x2048x128_S1x2048x128_1_0_0) (aOwn arg14 (kernelRun0_A.sl.HS2_16 c i arg3 harg3 arg4 harg4 arg5 harg5 arg12 arg13 arg14 x0 x1 x2) 1 0 2048 inb_S2x2048x256_S1x2048x256_1_0_0) (ix3 0 r d) from rfl).trans ((dA0_apply (kOwn i arg4 harg4 x1 0) (kOwn i arg5 harg5 x2 0) (qOwn c arg3 harg3 arg12 x0 1 0 2048 inb_S2x2048x128_S1x2048x128_1_0_0) (mOwn arg13 (kernelRun0_A.sl.HS1_16 c i arg3 harg3 arg4 harg4 arg12 arg13 x0 x1) 1 0 2048 inb_S2x2048x128_S1x2048x128_1_0_0) (aOwn arg14 (kernelRun0_A.sl.HS2_16 c i arg3 harg3 arg4 harg4 arg5 harg5 arg12 arg13 arg14 x0 x1 x2) 1 0 2048 inb_S2x2048x256_S1x2048x256_1_0_0) r d M fun l => ?_).trans ?_)
    · exact (read_rows' (n := 2048) 1 arg13.view _ inb_S2x2048x128_S1x2048x128_1_0_0 r l (by omega)).trans (hM l)
    · exact congrArg (fun y => ac M y _ _) (read_rows' (n := 2048) 1 arg14.view _ inb_S2x2048x256_S1x2048x256_1_0_0 r d (by omega))

end chain

end Cert.Kernel5Ideal.Gen
end
end
-- ==== Proof.DiffTurn.lean ====
module

public import proofs.«01_k».proof.Proof.DiffOwn

@[expose] public section
set_option maxRecDepth 16384

/-!
# The keys of an earlier block, for both components

One turn of the loop over the earlier blocks: eight tiles of 256 keys, all of them allowed to every row of the query block, each
for both components.
-/

noncomputable section
namespace Cert.Kernel5Ideal.Gen
open Idealize.ShloMosaic Idealize.ShloMosaic.TcCoe DiffRow

/-- Where the tiles of the block met in turn `t` start. -/
theorem off2 : ∀ (i : grid0.Coords) (t : Fin (k0_t1_loop i).trips) (r : Fin 8),
    k0_off2 i t (BitVec.ofNat 32 r.val) = ![0, 2048 * ((i 2).val - 1 - t.val) + 256 * r.val, 0] := by decide +kernel

/-- The loop has a turn for each earlier block. -/
theorem trips1 : ∀ i : grid0.Coords, (k0_t1_loop i).trips = (i 2).val := by decide +kernel

/-- The remainder loop has no turn. -/
theorem trips2 : ∀ i : grid0.Coords, (k0_t2_loop i).trips = 0 := by decide +kernel

/-- A load of a component's rows, after a store of them and a store of the other's. -/
theorem cov_snd {w : ℕ} {ty : EltTy} (c c' : Fin 2) (hc : c ≠ c') (v : View sig .tc .vmem ⟨3, ![2, 2048, w]⟩ ty)
    (L : List (View.Piece (Elt Ideal) ⟨3, ![2, 2048, w]⟩ ty))
    (inb inb' : ∀ b, (![c.val, 0, 0] : Fin 3 → ℕ) b + (![1, 2048, w] : Fin 3 → ℕ) b ≤ (⟨3, ![2, 2048, w]⟩ : Shape).size b)
    (inc : ∀ b, (![c'.val, 0, 0] : Fin 3 → ℕ) b + (![1, 2048, w] : Fin 3 → ℕ) b ≤ (⟨3, ![2, 2048, w]⟩ : Shape).size b)
    (P P' : (⟨3, ![1, 2048, w]⟩ : Shape).Idx → Elt Ideal ty) :
    v.readCov (⟨Rect.unit (s := ⟨3, ![2, 2048, w]⟩) ![c'.val, 0, 0] ![1, 2048, w] inc, P'⟩ ::
        ⟨Rect.unit (s := ⟨3, ![2, 2048, w]⟩) ![c.val, 0, 0] ![1, 2048, w] inb, P⟩ :: L)
      (Rect.unit (s := ⟨3, ![2, 2048, w]⟩) ![c.val, 0, 0] ![1, 2048, w] inb').toLoadRect = P := by
  funext y
  obtain ⟨r, l, rfl⟩ : ∃ (r : Fin 2048) (l : Fin w), y = ix3 0 r l :=
    ⟨y 1, y 2, funext fun b => by fin_cases b <;> first | rfl | exact Subsingleton.elim (α := Fin 1) _ _⟩
  refine (read_rows' (o := 0) (n := 2048) c v _ inb' r l (by omega)).trans ?_
  refine (canon_out (o := 0) (n := 2048) c' c _ inc P' _ l (.inl hc)).trans ?_
  exact canon_in (o := 0) (n := 2048) c L inb P r l (by omega)

variable (i : grid0.Coords) (arg4 : Memref sig .tc .vmem S1x16384x128 .bf16) (arg5 : Memref sig .tc .vmem S1x16384x128 .bf16)
  (arg12 : Memref sig .tc .vmem S2x2048x128 .bf16) (arg13 : Memref sig .tc .vmem S2x2048x128 .f32)
  (arg14 : Memref sig .tc .vmem S2x2048x256 .f32)
  (X4 : BufTy.Contents (Elt Ideal) arg4.view.ty) (X5 : BufTy.Contents (Elt Ideal) arg5.view.ty) (X12 : BufTy.Contents (Elt Ideal) arg12.view.ty)
  (t : Fin (k0_t1_loop i).trips) (f13 : BufTy.Contents (Elt Ideal) arg13.view.ty) (f14 : BufTy.Contents (Elt Ideal) arg14.view.ty)

theorem inbC (w : ℕ) (c : Fin 2) : ∀ b, (![c.val, 0, 0] : Fin 3 → ℕ) b + (![1, 2048, w] : Fin 3 → ℕ) b ≤ (⟨3, ![2, 2048, w]⟩ : Shape).size b := by
  intro b
  fin_cases b
  · show c.val + 1 ≤ 2; omega
  · show 0 + 2048 ≤ 2048; omega
  · show 0 + w ≤ w; omega

/-- A component's queries as a turn loads them. -/
abbrev qAt (c : Fin 2) : FVec Ideal S1x2048x128 .bf16 :=
  View.readAt (Elt Ideal) arg12.view (Rect.unit (s := S2x2048x128) ![c.val, 0, 0] S1x2048x128.size (inbC 128 c)).toLoadRect X12

/-- A turn's tile `r` of keys, or of values. -/
abbrev kAt (a : Memref sig .tc .vmem S1x16384x128 .bf16) (X : BufTy.Contents (Elt Ideal) a.view.ty) (r : Fin 8) : FVec Ideal S1x256x128 .bf16 :=
  View.readAt (Elt Ideal) a.view (Rect.unit (s := S1x16384x128) (k0_off2 i t (BitVec.ofNat 32 r.val)) S1x256x128.size (k0_off2_inb i t r)).toLoadRect X

/-- The rows of running maxima a turn finds. -/
abbrev m0At (c : Fin 2) : FVec Ideal S1x2048x128 .f32 :=
  View.readAt (Elt Ideal) arg13.view (Rect.unit (s := S2x2048x128) ![c.val, 0, 0] S1x2048x128.size (inbC 128 c)).toLoadRect f13

/-- The rows of running sums a turn finds. -/
abbrev a0At (c : Fin 2) : FVec Ideal S1x2048x256 .f32 :=
  View.readAt (Elt Ideal) arg14.view (Rect.unit (s := S2x2048x256) ![c.val, 0, 0] S1x2048x256.size (inbC 256 c)).toLoadRect f14

/-- A component's maxima after the first `n` tiles of a turn, the last tile of the block first. -/
def mAt (c : Fin 2) : ℕ → FVec Ideal S1x2048x128 .f32
  | 0 => m0At arg13 f13 c
  | n + 1 => dMt (kAt i t arg4 X4 ⟨7 - n, by omega⟩) (qAt arg12 X12 c) (mAt c n)

/-- A component's sums after the first `n` tiles of a turn. -/
def aAt (c : Fin 2) : ℕ → FVec Ideal S1x2048x256 .f32
  | 0 => a0At arg14 f14 c
  | n + 1 => dAt (kAt i t arg4 X4 ⟨7 - n, by omega⟩) (kAt i t arg5 X5 ⟨7 - n, by omega⟩) (qAt arg12 X12 c)
      (mAt i arg4 arg12 arg13 X4 X12 t f13 c n) (aAt c n)

theorem m_eq1_0 : arg13.view.readCov (trip_k0_t1.sl.HW_arg13_2 i arg4 arg12 arg13 X4 X12 t f13) (Rect.unit (s := S2x2048x128) ![0, 0, 0] S1x2048x128.size (inbC 128 0)).toLoadRect
    = mAt i arg4 arg12 arg13 X4 X12 t f13 0 1 := by
  refine (cov_snd 0 1 (by decide) arg13.view _ (inbC 128 0) (inbC 128 0) (inbC 128 1) _ _).trans ?_
  refine Eq.trans ?_ (congrArg (dMt (kAt i t arg4 X4 ⟨7 - 0, by omega⟩) (qAt arg12 X12 0)) rfl)
  rfl

theorem a_eq1_0 : arg14.view.readCov (trip_k0_t1.sl.HW_arg14_2 i arg4 arg5 arg12 arg13 arg14 X4 X5 X12 t f13 f14) (Rect.unit (s := S2x2048x256) ![0, 0, 0] S1x2048x256.size (inbC 256 0)).toLoadRect
    = aAt i arg4 arg5 arg12 arg13 arg14 X4 X5 X12 t f13 f14 0 1 := by
  refine (cov_snd 0 1 (by decide) arg14.view _ (inbC 256 0) (inbC 256 0) (inbC 256 1) _ _).trans ?_
  refine Eq.trans ?_ (congrArg₂ (dAt (kAt i t arg4 X4 ⟨7 - 0, by omega⟩) (kAt i t arg5 X5 ⟨7 - 0, by omega⟩) (qAt arg12 X12 0)) rfl rfl)
  rfl

theorem m_eq1_1 : arg13.view.readCov (trip_k0_t1.sl.HW_arg13_3 i arg4 arg12 arg13 X4 X12 t f13) (Rect.unit (s := S2x2048x128) ![1, 0, 0] S1x2048x128.size (inbC 128 1)).toLoadRect
    = mAt i arg4 arg12 arg13 X4 X12 t f13 1 1 := by
  refine (cov_snd 1 0 (by decide) arg13.view _ (inbC 128 1) (inbC 128 1) (inbC 128 0) _ _).trans ?_
  refine Eq.trans ?_ (congrArg (dMt (kAt i t arg4 X4 ⟨7 - 0, by omega⟩) (qAt arg12 X12 1)) rfl)
  rfl

theorem a_eq1_1 : arg14.view.readCov (trip_k0_t1.sl.HW_arg14_3 i arg4 arg5 arg12 arg13 arg14 X4 X5 X12 t f13 f14) (Rect.unit (s := S2x2048x256) ![1, 0, 0] S1x2048x256.size (inbC 256 1)).toLoadRect
    = aAt i arg4 arg5 arg12 arg13 arg14 X4 X5 X12 t f13 f14 1 1 := by
  refine (cov_snd 1 0 (by decide) arg14.view _ (inbC 256 1) (inbC 256 1) (inbC 256 0) _ _).trans ?_
  refine Eq.trans ?_ (congrArg₂ (dAt (kAt i t arg4 X4 ⟨7 - 0, by omega⟩) (kAt i t arg5 X5 ⟨7 - 0, by omega⟩) (qAt arg12 X12 1)) rfl rfl)
  rfl

theorem m_eq2_0 : arg13.view.readCov (trip_k0_t1.sl.HW_arg13_4 i arg4 arg12 arg13 X4 X12 t f13) (Rect.unit (s := S2x2048x128) ![0, 0, 0] S1x2048x128.size (inbC 128 0)).toLoadRect
    = mAt i arg4 arg12 arg13 X4 X12 t f13 0 2 := by
  refine (cov_snd 0 1 (by decide) arg13.view _ (inbC 128 0) (inbC 128 0) (inbC 128 1) _ _).trans ?_
  refine Eq.trans ?_ (congrArg (dMt (kAt i t arg4 X4 ⟨7 - 1, by omega⟩) (qAt arg12 X12 0)) (m_eq1_0 i arg4 arg12 arg13 X4 X12 t f13))
  rfl

theorem a_eq2_0 : arg14.view.readCov (trip_k0_t1.sl.HW_arg14_4 i arg4 arg5 arg12 arg13 arg14 X4 X5 X12 t f13 f14) (Rect.unit (s := S2x2048x256) ![0, 0, 0] S1x2048x256.size (inbC 256 0)).toLoadRect
    = aAt i arg4 arg5 arg12 arg13 arg14 X4 X5 X12 t f13 f14 0 2 := by
  refine (cov_snd 0 1 (by decide) arg14.view _ (inbC 256 0) (inbC 256 0) (inbC 256 1) _ _).trans ?_
  refine Eq.trans ?_ (congrArg₂ (dAt (kAt i t arg4 X4 ⟨7 - 1, by omega⟩) (kAt i t arg5 X5 ⟨7 - 1, by omega⟩) (qAt arg12 X12 0)) (m_eq1_0 i arg4 arg12 arg13 X4 X12 t f13) (a_eq1_0 i arg4 arg5 arg12 arg13 arg14 X4 X5 X12 t f13 f14))
  rfl

theorem m_eq2_1 : arg13.view.readCov (trip_k0_t1.sl.HW_arg13_5 i arg4 arg12 arg13 X4 X12 t f13) (Rect.unit (s := S2x2048x128) ![1, 0, 0] S1x2048x128.size (inbC 128 1)).toLoadRect
    = mAt i arg4 arg12 arg13 X4 X12 t f13 1 2 := by
  refine (cov_snd 1 0 (by decide) arg13.view _ (inbC 128 1) (inbC 128 1) (inbC 128 0) _ _).trans ?_
  refine Eq.trans ?_ (congrArg (dMt (kAt i t arg4 X4 ⟨7 - 1, by omega⟩) (qAt arg12 X12 1)) (m_eq1_1 i arg4 arg12 arg13 X4 X12 t f13))
  rfl

theorem a_eq2_1 : arg14.view.readCov (trip_k0_t1.sl.HW_arg14_5 i arg4 arg5 arg12 arg13 arg14 X4 X5 X12 t f13 f14) (Rect.unit (s := S2x2048x256) ![1, 0, 0] S1x2048x256.size (inbC 256 1)).toLoadRect
    = aAt i arg4 arg5 arg12 arg13 arg14 X4 X5 X12 t f13 f14 1 2 := by
  refine (cov_snd 1 0 (by decide) arg14.view _ (inbC 256 1) (inbC 256 1) (inbC 256 0) _ _).trans ?_
  refine Eq.trans ?_ (congrArg₂ (dAt (kAt i t arg4 X4 ⟨7 - 1, by omega⟩) (kAt i t arg5 X5 ⟨7 - 1, by omega⟩) (qAt arg12 X12 1)) (m_eq1_1 i arg4 arg12 arg13 X4 X12 t f13) (a_eq1_1 i arg4 arg5 arg12 arg13 arg14 X4 X5 X12 t f13 f14))
  rfl

theorem m_eq3_0 : arg13.view.readCov (trip_k0_t1.sl.HW_arg13_6 i arg4 arg12 arg13 X4 X12 t f13) (Rect.unit (s := S2x2048x128) ![0, 0, 0] S1x2048x128.size (inbC 128 0)).toLoadRect
    = mAt i arg4 arg12 arg13 X4 X12 t f13 0 3 := by
  refine (cov_snd 0 1 (by decide) arg13.view _ (inbC 128 0) (inbC 128 0) (inbC 128 1) _ _).trans ?_
  refine Eq.trans ?_ (congrArg (dMt (kAt i t arg4 X4 ⟨7 - 2, by omega⟩) (qAt arg12 X12 0)) (m_eq2_0 i arg4 arg12 arg13 X4 X12 t f13))
  rfl

theorem a_eq3_0 : arg14.view.readCov (trip_k0_t1.sl.HW_arg14_6 i arg4 arg5 arg12 arg13 arg14 X4 X5 X12 t f13 f14) (Rect.unit (s := S2x2048x256) ![0, 0, 0] S1x2048x256.size (inbC 256 0)).toLoadRect
    = aAt i arg4 arg5 arg12 arg13 arg14 X4 X5 X12 t f13 f14 0 3 := by
  refine (cov_snd 0 1 (by decide) arg14.view _ (inbC 256 0) (inbC 256 0) (inbC 256 1) _ _).trans ?_
  refine Eq.trans ?_ (congrArg₂ (dAt (kAt i t arg4 X4 ⟨7 - 2, by omega⟩) (kAt i t arg5 X5 ⟨7 - 2, by omega⟩) (qAt arg12 X12 0)) (m_eq2_0 i arg4 arg12 arg13 X4 X12 t f13) (a_eq2_0 i arg4 arg5 arg12 arg13 arg14 X4 X5 X12 t f13 f14))
  rfl

theorem m_eq3_1 : arg13.view.readCov (trip_k0_t1.sl.HW_arg13_7 i arg4 arg12 arg13 X4 X12 t f13) (Rect.unit (s := S2x2048x128) ![1, 0, 0] S1x2048x128.size (inbC 128 1)).toLoadRect
    = mAt i arg4 arg12 arg13 X4 X12 t f13 1 3 := by
  refine (cov_snd 1 0 (by decide) arg13.view _ (inbC 128 1) (inbC 128 1) (inbC 128 0) _ _).trans ?_
  refine Eq.trans ?_ (congrArg (dMt (kAt i t arg4 X4 ⟨7 - 2, by omega⟩) (qAt arg12 X12 1)) (m_eq2_1 i arg4 arg12 arg13 X4 X12 t f13))
  rfl

theorem a_eq3_1 : arg14.view.readCov (trip_k0_t1.sl.HW_arg14_7 i arg4 arg5 arg12 arg13 arg14 X4 X5 X12 t f13 f14) (Rect.unit (s := S2x2048x256) ![1, 0, 0] S1x2048x256.size (inbC 256 1)).toLoadRect
    = aAt i arg4 arg5 arg12 arg13 arg14 X4 X5 X12 t f13 f14 1 3 := by
  refine (cov_snd 1 0 (by decide) arg14.view _ (inbC 256 1) (inbC 256 1) (inbC 256 0) _ _).trans ?_
  refine Eq.trans ?_ (congrArg₂ (dAt (kAt i t arg4 X4 ⟨7 - 2, by omega⟩) (kAt i t arg5 X5 ⟨7 - 2, by omega⟩) (qAt arg12 X12 1)) (m_eq2_1 i arg4 arg12 arg13 X4 X12 t f13) (a_eq2_1 i arg4 arg5 arg12 arg13 arg14 X4 X5 X12 t f13 f14))
  rfl

theorem m_eq4_0 : arg13.view.readCov (trip_k0_t1.sl.HW_arg13_8 i arg4 arg12 arg13 X4 X12 t f13) (Rect.unit (s := S2x2048x128) ![0, 0, 0] S1x2048x128.size (inbC 128 0)).toLoadRect
    = mAt i arg4 arg12 arg13 X4 X12 t f13 0 4 := by
  refine (cov_snd 0 1 (by decide) arg13.view _ (inbC 128 0) (inbC 128 0) (inbC 128 1) _ _).trans ?_
  refine Eq.trans ?_ (congrArg (dMt (kAt i t arg4 X4 ⟨7 - 3, by omega⟩) (qAt arg12 X12 0)) (m_eq3_0 i arg4 arg12 arg13 X4 X12 t f13))
  rfl

theorem a_eq4_0 : arg14.view.readCov (trip_k0_t1.sl.HW_arg14_8 i arg4 arg5 arg12 arg13 arg14 X4 X5 X12 t f13 f14) (Rect.unit (s := S2x2048x256) ![0, 0, 0] S1x2048x256.size (inbC 256 0)).toLoadRect
    = aAt i arg4 arg5 arg12 arg13 arg14 X4 X5 X12 t f13 f14 0 4 := by
  refine (cov_snd 0 1 (by decide) arg14.view _ (inbC 256 0) (inbC 256 0) (inbC 256 1) _ _).trans ?_
  refine Eq.trans ?_ (congrArg₂ (dAt (kAt i t arg4 X4 ⟨7 - 3, by omega⟩) (kAt i t arg5 X5 ⟨7 - 3, by omega⟩) (qAt arg12 X12 0)) (m_eq3_0 i arg4 arg12 arg13 X4 X12 t f13) (a_eq3_0 i arg4 arg5 arg12 arg13 arg14 X4 X5 X12 t f13 f14))
  rfl

theorem m_eq4_1 : arg13.view.readCov (trip_k0_t1.sl.HW_arg13_9 i arg4 arg12 arg13 X4 X12 t f13) (Rect.unit (s := S2x2048x128) ![1, 0, 0] S1x2048x128.size (inbC 128 1)).toLoadRect
    = mAt i arg4 arg12 arg13 X4 X12 t f13 1 4 := by
  refine (cov_snd 1 0 (by decide) arg13.view _ (inbC 128 1) (inbC 128 1) (inbC 128 0) _ _).trans ?_
  refine Eq.trans ?_ (congrArg (dMt (kAt i t arg4 X4 ⟨7 - 3, by omega⟩) (qAt arg12 X12 1)) (m_eq3_1 i arg4 arg12 arg13 X4 X12 t f13))
  rfl

theorem a_eq4_1 : arg14.view.readCov (trip_k0_t1.sl.HW_arg14_9 i arg4 arg5 arg12 arg13 arg14 X4 X5 X12 t f13 f14) (Rect.unit (s := S2x2048x256) ![1, 0, 0] S1x2048x256.size (inbC 256 1)).toLoadRect
    = aAt i arg4 arg5 arg12 arg13 arg14 X4 X5 X12 t f13 f14 1 4 := by
  refine (cov_snd 1 0 (by decide) arg14.view _ (inbC 256 1) (inbC 256 1) (inbC 256 0) _ _).trans ?_
  refine Eq.trans ?_ (congrArg₂ (dAt (kAt i t arg4 X4 ⟨7 - 3, by omega⟩) (kAt i t arg5 X5 ⟨7 - 3, by omega⟩) (qAt arg12 X12 1)) (m_eq3_1 i arg4 arg12 arg13 X4 X12 t f13) (a_eq3_1 i arg4 arg5 arg12 arg13 arg14 X4 X5 X12 t f13 f14))
  rfl

theorem m_eq5_0 : arg13.view.readCov (trip_k0_t1.sl.HW_arg13_10 i arg4 arg12 arg13 X4 X12 t f13) (Rect.unit (s := S2x2048x128) ![0, 0, 0] S1x2048x128.size (inbC 128 0)).toLoadRect
    = mAt i arg4 arg12 arg13 X4 X12 t f13 0 5 := by
  refine (cov_snd 0 1 (by decide) arg13.view _ (inbC 128 0) (inbC 128 0) (inbC 128 1) _ _).trans ?_
  refine Eq.trans ?_ (congrArg (dMt (kAt i t arg4 X4 ⟨7 - 4, by omega⟩) (qAt arg12 X12 0)) (m_eq4_0 i arg4 arg12 arg13 X4 X12 t f13))
  rfl

theorem a_eq5_0 : arg14.view.readCov (trip_k0_t1.sl.HW_arg14_10 i arg4 arg5 arg12 arg13 arg14 X4 X5 X12 t f13 f14) (Rect.unit (s := S2x2048x256) ![0, 0, 0] S1x2048x256.size (inbC 256 0)).toLoadRect
    = aAt i arg4 arg5 arg12 arg13 arg14 X4 X5 X12 t f13 f14 0 5 := by
  refine (cov_snd 0 1 (by decide) arg14.view _ (inbC 256 0) (inbC 256 0) (inbC 256 1) _ _).trans ?_
  refine Eq.trans ?_ (congrArg₂ (dAt (kAt i t arg4 X4 ⟨7 - 4, by omega⟩) (kAt i t arg5 X5 ⟨7 - 4, by omega⟩) (qAt arg12 X12 0)) (m_eq4_0 i arg4 arg12 arg13 X4 X12 t f13) (a_eq4_0 i arg4 arg5 arg12 arg13 arg14 X4 X5 X12 t f13 f14))
  rfl

theorem m_eq5_1 : arg13.view.readCov (trip_k0_t1.sl.HW_arg13_11 i arg4 arg12 arg13 X4 X12 t f13) (Rect.unit (s := S2x2048x128) ![1, 0, 0] S1x2048x128.size (inbC 128 1)).toLoadRect
    = mAt i arg4 arg12 arg13 X4 X12 t f13 1 5 := by
  refine (cov_snd 1 0 (by decide) arg13.view _ (inbC 128 1) (inbC 128 1) (inbC 128 0) _ _).trans ?_
  refine Eq.trans ?_ (congrArg (dMt (kAt i t arg4 X4 ⟨7 - 4, by omega⟩) (qAt arg12 X12 1)) (m_eq4_1 i arg4 arg12 arg13 X4 X12 t f13))
  rfl

theorem a_eq5_1 : arg14.view.readCov (trip_k0_t1.sl.HW_arg14_11 i arg4 arg5 arg12 arg13 arg14 X4 X5 X12 t f13 f14) (Rect.unit (s := S2x2048x256) ![1, 0, 0] S1x2048x256.size (inbC 256 1)).toLoadRect
    = aAt i arg4 arg5 arg12 arg13 arg14 X4 X5 X12 t f13 f14 1 5 := by
  refine (cov_snd 1 0 (by decide) arg14.view _ (inbC 256 1) (inbC 256 1) (inbC 256 0) _ _).trans ?_
  refine Eq.trans ?_ (congrArg₂ (dAt (kAt i t arg4 X4 ⟨7 - 4, by omega⟩) (kAt i t arg5 X5 ⟨7 - 4, by omega⟩) (qAt arg12 X12 1)) (m_eq4_1 i arg4 arg12 arg13 X4 X12 t f13) (a_eq4_1 i arg4 arg5 arg12 arg13 arg14 X4 X5 X12 t f13 f14))
  rfl

theorem m_eq6_0 : arg13.view.readCov (trip_k0_t1.sl.HW_arg13_12 i arg4 arg12 arg13 X4 X12 t f13) (Rect.unit (s := S2x2048x128) ![0, 0, 0] S1x2048x128.size (inbC 128 0)).toLoadRect
    = mAt i arg4 arg12 arg13 X4 X12 t f13 0 6 := by
  refine (cov_snd 0 1 (by decide) arg13.view _ (inbC 128 0) (inbC 128 0) (inbC 128 1) _ _).trans ?_
  refine Eq.trans ?_ (congrArg (dMt (kAt i t arg4 X4 ⟨7 - 5, by omega⟩) (qAt arg12 X12 0)) (m_eq5_0 i arg4 arg12 arg13 X4 X12 t f13))
  rfl

theorem a_eq6_0 : arg14.view.readCov (trip_k0_t1.sl.HW_arg14_12 i arg4 arg5 arg12 arg13 arg14 X4 X5 X12 t f13 f14) (Rect.unit (s := S2x2048x256) ![0, 0, 0] S1x2048x256.size (inbC 256 0)).toLoadRect
    = aAt i arg4 arg5 arg12 arg13 arg14 X4 X5 X12 t f13 f14 0 6 := by
  refine (cov_snd 0 1 (by decide) arg14.view _ (inbC 256 0) (inbC 256 0) (inbC 256 1) _ _).trans ?_
  refine Eq.trans ?_ (congrArg₂ (dAt (kAt i t arg4 X4 ⟨7 - 5, by omega⟩) (kAt i t arg5 X5 ⟨7 - 5, by omega⟩) (qAt arg12 X12 0)) (m_eq5_0 i arg4 arg12 arg13 X4 X12 t f13) (a_eq5_0 i arg4 arg5 arg12 arg13 arg14 X4 X5 X12 t f13 f14))
  rfl

theorem m_eq6_1 : arg13.view.readCov (trip_k0_t1.sl.HW_arg13_13 i arg4 arg12 arg13 X4 X12 t f13) (Rect.unit (s := S2x2048x128) ![1, 0, 0] S1x2048x128.size (inbC 128 1)).toLoadRect
    = mAt i arg4 arg12 arg13 X4 X12 t f13 1 6 := by
  refine (cov_snd 1 0 (by decide) arg13.view _ (inbC 128 1) (inbC 128 1) (inbC 128 0) _ _).trans ?_
  refine Eq.trans ?_ (congrArg (dMt (kAt i t arg4 X4 ⟨7 - 5, by omega⟩) (qAt arg12 X12 1)) (m_eq5_1 i arg4 arg12 arg13 X4 X12 t f13))
  rfl

theorem a_eq6_1 : arg14.view.readCov (trip_k0_t1.sl.HW_arg14_13 i arg4 arg5 arg12 arg13 arg14 X4 X5 X12 t f13 f14) (Rect.unit (s := S2x2048x256) ![1, 0, 0] S1x2048x256.size (inbC 256 1)).toLoadRect
    = aAt i arg4 arg5 arg12 arg13 arg14 X4 X5 X12 t f13 f14 1 6 := by
  refine (cov_snd 1 0 (by decide) arg14.view _ (inbC 256 1) (inbC 256 1) (inbC 256 0) _ _).trans ?_
  refine Eq.trans ?_ (congrArg₂ (dAt (kAt i t arg4 X4 ⟨7 - 5, by omega⟩) (kAt i t arg5 X5 ⟨7 - 5, by omega⟩) (qAt arg12 X12 1)) (m_eq5_1 i arg4 arg12 arg13 X4 X12 t f13) (a_eq5_1 i arg4 arg5 arg12 arg13 arg14 X4 X5 X12 t f13 f14))
  rfl

theorem m_eq7_0 : arg13.view.readCov (trip_k0_t1.sl.HW_arg13_14 i arg4 arg12 arg13 X4 X12 t f13) (Rect.unit (s := S2x2048x128) ![0, 0, 0] S1x2048x128.size (inbC 128 0)).toLoadRect
    = mAt i arg4 arg12 arg13 X4 X12 t f13 0 7 := by
  refine (cov_snd 0 1 (by decide) arg13.view _ (inbC 128 0) (inbC 128 0) (inbC 128 1) _ _).trans ?_
  refine Eq.trans ?_ (congrArg (dMt (kAt i t arg4 X4 ⟨7 - 6, by omega⟩) (qAt arg12 X12 0)) (m_eq6_0 i arg4 arg12 arg13 X4 X12 t f13))
  rfl

theorem a_eq7_0 : arg14.view.readCov (trip_k0_t1.sl.HW_arg14_14 i arg4 arg5 arg12 arg13 arg14 X4 X5 X12 t f13 f14) (Rect.unit (s := S2x2048x256) ![0, 0, 0] S1x2048x256.size (inbC 256 0)).toLoadRect
    = aAt i arg4 arg5 arg12 arg13 arg14 X4 X5 X12 t f13 f14 0 7 := by
  refine (cov_snd 0 1 (by decide) arg14.view _ (inbC 256 0) (inbC 256 0) (inbC 256 1) _ _).trans ?_
  refine Eq.trans ?_ (congrArg₂ (dAt (kAt i t arg4 X4 ⟨7 - 6, by omega⟩) (kAt i t arg5 X5 ⟨7 - 6, by omega⟩) (qAt arg12 X12 0)) (m_eq6_0 i arg4 arg12 arg13 X4 X12 t f13) (a_eq6_0 i arg4 arg5 arg12 arg13 arg14 X4 X5 X12 t f13 f14))
  rfl

theorem m_eq7_1 : arg13.view.readCov (trip_k0_t1.sl.HW_arg13_15 i arg4 arg12 arg13 X4 X12 t f13) (Rect.unit (s := S2x2048x128) ![1, 0, 0] S1x2048x128.size (inbC 128 1)).toLoadRect
    = mAt i arg4 arg12 arg13 X4 X12 t f13 1 7 := by
  refine (cov_snd 1 0 (by decide) arg13.view _ (inbC 128 1) (inbC 128 1) (inbC 128 0) _ _).trans ?_
  refine Eq.trans ?_ (congrArg (dMt (kAt i t arg4 X4 ⟨7 - 6, by omega⟩) (qAt arg12 X12 1)) (m_eq6_1 i arg4 arg12 arg13 X4 X12 t f13))
  rfl

theorem a_eq7_1 : arg14.view.readCov (trip_k0_t1.sl.HW_arg14_15 i arg4 arg5 arg12 arg13 arg14 X4 X5 X12 t f13 f14) (Rect.unit (s := S2x2048x256) ![1, 0, 0] S1x2048x256.size (inbC 256 1)).toLoadRect
    = aAt i arg4 arg5 arg12 arg13 arg14 X4 X5 X12 t f13 f14 1 7 := by
  refine (cov_snd 1 0 (by decide) arg14.view _ (inbC 256 1) (inbC 256 1) (inbC 256 0) _ _).trans ?_
  refine Eq.trans ?_ (congrArg₂ (dAt (kAt i t arg4 X4 ⟨7 - 6, by omega⟩) (kAt i t arg5 X5 ⟨7 - 6, by omega⟩) (qAt arg12 X12 1)) (m_eq6_1 i arg4 arg12 arg13 X4 X12 t f13) (a_eq6_1 i arg4 arg5 arg12 arg13 arg14 X4 X5 X12 t f13 f14))
  rfl

end Cert.Kernel5Ideal.Gen
end
end
-- ==== Proof.DiffLoop.lean ====
module

public import proofs.«01_k».proof.Proof.DiffTurn

@[expose] public section
set_option maxRecDepth 16384

/-!
# The loop over the earlier blocks, for both components

Every turn takes the running maxima and sums of both components from the keys of one block on to those from the block before
it on; after the last turn they run over all keys.
-/

noncomputable section
namespace Cert.Kernel5Ideal.Gen
open Idealize.ShloMosaic Idealize.ShloMosaic.TcCoe DiffRow

section rows
variable {w : ℕ} {ty : EltTy}

/-- A load of a component's rows reads them. -/
theorem readAt_comp (k : Fin 2) (v : View sig .tc .vmem ⟨3, ![2, 2048, w]⟩ ty) (f : v.ty.Contents (Elt Ideal))
    (inb : ∀ b, (![k.val, 0, 0] : Fin 3 → ℕ) b + (![1, 2048, w] : Fin 3 → ℕ) b ≤ (⟨3, ![2, 2048, w]⟩ : Shape).size b) (r : Fin 2048) (l : Fin w) :
    View.readAt (Elt Ideal) v (Rect.unit (s := ⟨3, ![2, 2048, w]⟩) ![k.val, 0, 0] ![1, 2048, w] inb).toLoadRect f (ix3 0 r l)
      = v.read (Elt Ideal) f (ix3 k r l) := by
  rw [View.readAt_eq_ld]
  refine congrArg (v.read (Elt Ideal) f) (funext fun b => Fin.ext ?_)
  fin_cases b
  · show k.val + 1 * 0 = k.val; omega
  · show 0 + 1 * (r : ℕ) = r; omega
  · show 0 + 1 * (l : ℕ) = l; omega

/-- A component's rows read what was stored there last. -/
theorem read_fst (k : Fin 2) (v : View sig .tc .vmem ⟨3, ![2, 2048, w]⟩ ty) (f : v.ty.Contents (Elt Ideal))
    (L : List (View.Piece (Elt Ideal) ⟨3, ![2, 2048, w]⟩ ty))
    (inb : ∀ b, (![k.val, 0, 0] : Fin 3 → ℕ) b + (![1, 2048, w] : Fin 3 → ℕ) b ≤ (⟨3, ![2, 2048, w]⟩ : Shape).size b)
    (P : (⟨3, ![1, 2048, w]⟩ : Shape).Idx → Elt Ideal ty) (r : Fin 2048) (l : Fin w) :
    v.read (Elt Ideal) (v.writes (Elt Ideal) f (⟨Rect.unit (s := ⟨3, ![2, 2048, w]⟩) ![k.val, 0, 0] ![1, 2048, w] inb, P⟩ :: L)) (ix3 k r l)
      = P (ix3 0 r l) := by
  rw [View.read_writes_apply_eq_canon]
  · refine Eq.trans ?_ (canon_in (o := 0) (n := 2048) k L inb P r l (by omega))
    exact congrArg (View.canon _) (congrArg (fun r => ix3 k r l) (Fin.ext (by simp)))
  · refine ⟨_, List.mem_cons_self, (Rect.mem_set_unit (inb := inb)).mpr fun b => ?_⟩
    fin_cases b
    · show k.val ≤ k.val ∧ k.val < k.val + 1; omega
    · show 0 ≤ (r : ℕ) ∧ (r : ℕ) < 0 + 2048; omega
    · show 0 ≤ (l : ℕ) ∧ (l : ℕ) < 0 + w; omega

/-- And so they do after a store of the other component's rows. -/
theorem read_snd (k k' : Fin 2) (hk : k ≠ k') (v : View sig .tc .vmem ⟨3, ![2, 2048, w]⟩ ty) (f : v.ty.Contents (Elt Ideal))
    (L : List (View.Piece (Elt Ideal) ⟨3, ![2, 2048, w]⟩ ty))
    (inb : ∀ b, (![k.val, 0, 0] : Fin 3 → ℕ) b + (![1, 2048, w] : Fin 3 → ℕ) b ≤ (⟨3, ![2, 2048, w]⟩ : Shape).size b)
    (inc : ∀ b, (![k'.val, 0, 0] : Fin 3 → ℕ) b + (![1, 2048, w] : Fin 3 → ℕ) b ≤ (⟨3, ![2, 2048, w]⟩ : Shape).size b)
    (P P' : (⟨3, ![1, 2048, w]⟩ : Shape).Idx → Elt Ideal ty) (r : Fin 2048) (l : Fin w) :
    v.read (Elt Ideal) (v.writes (Elt Ideal) f (⟨Rect.unit (s := ⟨3, ![2, 2048, w]⟩) ![k'.val, 0, 0] ![1, 2048, w] inc, P'⟩ ::
        ⟨Rect.unit (s := ⟨3, ![2, 2048, w]⟩) ![k.val, 0, 0] ![1, 2048, w] inb, P⟩ :: L)) (ix3 k r l)
      = P (ix3 0 r l) := by
  rw [View.read_writes_apply_eq_canon]
  · refine (canon_out (o := 0) (n := 2048) k' k _ inc P' r l (.inl hk)).trans ?_
    refine Eq.trans ?_ (canon_in (o := 0) (n := 2048) k L inb P r l (by omega))
    exact congrArg (View.canon _) (congrArg (fun r => ix3 k r l) (Fin.ext (by simp)))
  · refine ⟨_, List.mem_cons_of_mem _ List.mem_cons_self, (Rect.mem_set_unit (inb := inb)).mpr fun b => ?_⟩
    fin_cases b
    · show k.val ≤ k.val ∧ k.val < k.val + 1; omega
    · show 0 ≤ (r : ℕ) ∧ (r : ℕ) < 0 + 2048; omega
    · show 0 ≤ (l : ℕ) ∧ (l : ℕ) < 0 + w; omega

end rows

variable (c : Dev nD) (i : grid0.Coords) (arg3 : Memref sig .tc .vmem S1x2048x128 .bf16) (harg3 : arg3.IsWhole)
  (arg4 : Memref sig .tc .vmem S1x16384x128 .bf16) (harg4 : arg4.IsWhole) (arg5 : Memref sig .tc .vmem S1x16384x128 .bf16)
  (harg5 : arg5.IsWhole) (arg6 : Memref sig .tc .vmem S1x64 .f32) (harg6 : arg6.IsWhole) (arg7 : Memref sig .tc .vmem S1x64 .f32)
  (harg7 : arg7.IsWhole) (arg8 : Memref sig .tc .vmem S1x64 .f32) (harg8 : arg8.IsWhole) (arg9 : Memref sig .tc .vmem S1x64 .f32)
  (harg9 : arg9.IsWhole) (arg10 : Memref sig .tc .vmem S1x128 .f32) (harg10 : arg10.IsWhole)
  (arg11 : Memref sig .tc .vmem S1x2048x128 .bf16) (harg11 : arg11.IsWhole) (arg12 : Memref sig .tc .vmem S2x2048x128 .bf16)
  (harg12 : arg12.IsWhole) (arg13 : Memref sig .tc .vmem S2x2048x128 .f32) (harg13 : arg13.IsWhole)
  (arg14 : Memref sig .tc .vmem S2x2048x256 .f32) (harg14 : arg14.IsWhole)
  (x0 : Vec Ideal S1x2048x128 .bf16) (x1 x2 : Vec Ideal S1x16384x128 .bf16)

/-- The components' rows as the loop finds them. -/
abbrev qs : BufTy.Contents (Elt Ideal) arg12.view.ty :=
  arg12.view.writes (Elt Ideal) arg12.view.junk (kernelRun0_A.sl.HS0_2 c arg3 harg3 x0)

variable (X : Fin 2 → Fin 2048 → ℕ → ℝ) (V : Fin 256 → ℕ → ℝ)
  (hX : ∀ k r s, (∑ e : Fin 128, comp k x0 r e * x1 (ix3 0 (key s) e) : EReal) = (X k r s : EReal))
  (hV : ∀ d s, vals x2 d s = (V d s : EReal))

section turn
variable (t : Fin (k0_t1_loop i).trips) (f13 : BufTy.Contents (Elt Ideal) arg13.view.ty) (f14 : BufTy.Contents (Elt Ideal) arg14.view.ty)

include hX in
/-- A tile's scores, of the rows and keys a turn loads for it. -/
theorem turn_scores (k : Fin 2) (j : Fin 8) (r : Fin 2048) (s : Fin 256) :
    (∑ e : Fin 128, qAt arg12 (qs c arg3 harg3 arg12 x0) k (ix3 0 r e) * kAt i t arg4 (harg4.unread x1) j (ix3 0 s e) : EReal)
      = (X k r (2048 * ((i 2).val - 1 - t.val) + 256 * j.val + s) : EReal) := by
  rw [← hX]
  refine Finset.sum_congr rfl fun e _ => congrArg₂ (· * ·) ?_ (read_k arg4 harg4 x1 _ _ (off2 i t j) s e)
  refine (readAt_comp k arg12.view _ _ r e).trans ?_
  rw [View.read_writes_junk_eq_canon]
  exact comp_eq c arg3 harg3 x0 r e k

include hV in
/-- A tile's value columns. -/
theorem turn_vals (j : Fin 8) (d s : Fin 256) :
    vcol (kAt i t arg5 (harg5.unread x2) j) d s = (V d (2048 * ((i 2).val - 1 - t.val) + 256 * j.val + s) : EReal) := by
  rw [← hV]
  unfold vcol vals
  split
  · exact read_k arg5 harg5 x2 _ _ (off2 i t j) s _
  · rfl

include hX hV in
/-- What a turn's first `n` tiles do to a component's rows. -/
theorem turn_state (k : Fin 2) (hQ : Q (X k) V (2048 * (i 2).val) (2048 * ((i 2).val - 1 - t.val) + 2048) k
      (arg13.view.read (Elt Ideal) f13) (arg14.view.read (Elt Ideal) f14)) (n : ℕ) (hn : n ≤ 8) (r : Fin 2048) :
    ∃ M, (∀ l, mAt i arg4 arg12 arg13 (harg4.unread x1) (qs c arg3 harg3 arg12 x0) t f13 k n (ix3 0 r l) = M) ∧
      ∀ d, St (X k r) (V d) (2048 * (i 2).val + r) (2048 * ((i 2).val - 1 - t.val) + 256 * (8 - n)) M
        (aAt i arg4 arg5 arg12 arg13 arg14 (harg4.unread x1) (harg5.unread x2) (qs c arg3 harg3 arg12 x0) t f13 f14 k n (ix3 0 r d)) := by
  have ht : t.val < (i 2).val := lt_of_lt_of_eq t.isLt (trips1 i)
  have hi : (i 2).val < 8 := (i 2).isLt
  induction n with
  | zero =>
    obtain ⟨M, hM, hS⟩ := hQ r
    refine ⟨M, fun l => (readAt_comp k arg13.view f13 _ r l).trans (hM l), fun d => ?_⟩
    have hd := hS d
    rw [← readAt_comp k arg14.view f14 (inbC 256 k) r d] at hd
    exact hd
  | succ n ih =>
    obtain ⟨M, hM, hS⟩ := ih (by omega)
    refine ⟨mx M (fun s => ∑ e, qAt arg12 (qs c arg3 harg3 arg12 x0) k (ix3 0 r e) * kAt i t arg4 (harg4.unread x1) ⟨7 - n, by omega⟩ (ix3 0 s e)),
      fun l => ?_, fun d => ?_⟩
    · unfold mAt
      rw [dMt_apply, hM]
    · unfold aAt
      rw [dAt_apply _ _ _ _ _ r d M hM]
      refine St_step _ _ _ _ (by omega) (by omega) _ _ _ _ (fun s => ?_) (fun s => ?_) ?_
      · rw [if_pos (by omega)]
        refine (turn_scores c i arg3 harg3 arg4 harg4 arg12 x0 x1 X hX t k _ r s).trans ?_
        rw [show 2048 * ((i 2).val - 1 - t.val) + 256 * (7 - n) = 2048 * ((i 2).val - 1 - t.val) + 256 * (8 - (n + 1)) by omega]
      · refine (turn_vals i arg5 harg5 x2 V hV t _ d s).trans ?_
        rw [show 2048 * ((i 2).val - 1 - t.val) + 256 * (7 - n) = 2048 * ((i 2).val - 1 - t.val) + 256 * (8 - (n + 1)) by omega]
      · rw [show 2048 * ((i 2).val - 1 - t.val) + 256 * (8 - (n + 1)) + 256 = 2048 * ((i 2).val - 1 - t.val) + 256 * (8 - n) by omega]
        exact hS d

variable (v567 : FVec Ideal S256x256 .bf16) (v607 : FVec Ideal S2048x256 .f32)
  (X4 : BufTy.Contents (Elt Ideal) arg4.view.ty) (X5 : BufTy.Contents (Elt Ideal) arg5.view.ty) (X12 : BufTy.Contents (Elt Ideal) arg12.view.ty)

/-- What a turn leaves of the maxima. -/
theorem turn_m (k : Fin 2) (r : Fin 2048) (l : Fin 128) :
    arg13.view.read (Elt Ideal) (arg13.view.writes (Elt Ideal) f13 ((tripL_k0_t1 (F := Ideal) Variants.none c none i arg3 harg3 arg4 harg4 arg5 harg5 arg6 harg6 arg7 harg7 arg8 harg8 arg9 harg9 arg10 harg10 arg11 harg11 arg12 harg12 arg13 harg13 arg14 harg14
      (BitVec.ofNat 32 (i 2).val) v567 v607 X4 X5 X12 t f13 f14).1)) (ix3 k r l)
      = mAt i arg4 arg12 arg13 X4 X12 t f13 k 8 (ix3 0 r l) := by
  unfold tripL_k0_t1 trip_k0_t1
  dsimp only
  fin_cases k
  · refine (read_snd 0 1 (by decide) arg13.view _ _ (inbC 128 0) (inbC 128 1) _ _ r l).trans (congrFun ?_ _)
    refine Eq.trans ?_ (congrArg (dMt (kAt i t arg4 X4 ⟨7 - 7, by omega⟩) (qAt arg12 X12 0)) (m_eq7_0 i arg4 arg12 arg13 X4 X12 t f13))
    rfl
  · refine (read_fst 1 arg13.view _ _ (inbC 128 1) _ r l).trans (congrFun ?_ _)
    refine Eq.trans ?_ (congrArg (dMt (kAt i t arg4 X4 ⟨7 - 7, by omega⟩) (qAt arg12 X12 1)) (m_eq7_1 i arg4 arg12 arg13 X4 X12 t f13))
    rfl

/-- What a turn leaves of the sums. -/
theorem turn_a (k : Fin 2) (r : Fin 2048) (l : Fin 256) :
    arg14.view.read (Elt Ideal) (arg14.view.writes (Elt Ideal) f14 ((tripL_k0_t1 (F := Ideal) Variants.none c none i arg3 harg3 arg4 harg4 arg5 harg5 arg6 harg6 arg7 harg7 arg8 harg8 arg9 harg9 arg10 harg10 arg11 harg11 arg12 harg12 arg13 harg13 arg14 harg14
      (BitVec.ofNat 32 (i 2).val) v567 v607 X4 X5 X12 t f13 f14).2)) (ix3 k r l)
      = aAt i arg4 arg5 arg12 arg13 arg14 X4 X5 X12 t f13 f14 k 8 (ix3 0 r l) := by
  unfold tripL_k0_t1 trip_k0_t1
  dsimp only
  fin_cases k
  · refine (read_snd 0 1 (by decide) arg14.view _ _ (inbC 256 0) (inbC 256 1) _ _ r l).trans (congrFun ?_ _)
    refine Eq.trans ?_ (congrArg₂ (dAt (kAt i t arg4 X4 ⟨7 - 7, by omega⟩) (kAt i t arg5 X5 ⟨7 - 7, by omega⟩) (qAt arg12 X12 0))
      (m_eq7_0 i arg4 arg12 arg13 X4 X12 t f13) (a_eq7_0 i arg4 arg5 arg12 arg13 arg14 X4 X5 X12 t f13 f14))
    rfl
  · refine (read_fst 1 arg14.view _ _ (inbC 256 1) _ r l).trans (congrFun ?_ _)
    refine Eq.trans ?_ (congrArg₂ (dAt (kAt i t arg4 X4 ⟨7 - 7, by omega⟩) (kAt i t arg5 X5 ⟨7 - 7, by omega⟩) (qAt arg12 X12 1))
      (m_eq7_1 i arg4 arg12 arg13 X4 X12 t f13) (a_eq7_1 i arg4 arg5 arg12 arg13 arg14 X4 X5 X12 t f13 f14))
    rfl

end turn

variable (v567 : FVec Ideal S256x256 .bf16) (v607 : FVec Ideal S2048x256 .f32)

/-- The stores of the first `n` turns over the contents `G13`, `G14`. -/
abbrev turns (G13 : BufTy.Contents (Elt Ideal) arg13.view.ty) (G14 : BufTy.Contents (Elt Ideal) arg14.view.ty) (n : ℕ) :=
  pb_k0_t1 (F := Ideal) Variants.none c none i arg3 harg3 arg4 harg4 arg5 harg5 arg6 harg6 arg7 harg7 arg8 harg8 arg9 harg9 arg10 harg10 arg11 harg11 arg12 harg12 arg13 harg13 arg14 harg14
      (BitVec.ofNat 32 (i 2).val) v567 v607 (harg4.unread x1) (harg5.unread x2) (qs c arg3 harg3 arg12 x0) G13 G14 n

include hX hV in
/-- After `n` turns the buffers run over the keys from block `i - n` on. -/
theorem turns_eq (G13 : BufTy.Contents (Elt Ideal) arg13.view.ty) (G14 : BufTy.Contents (Elt Ideal) arg14.view.ty)
    (h : ∀ k, Q (X k) V (2048 * (i 2).val) (2048 * (i 2).val) k (arg13.view.read (Elt Ideal) G13) (arg14.view.read (Elt Ideal) G14))
    (n : ℕ) (hn : n ≤ (i 2).val) (k : Fin 2) :
    Q (X k) V (2048 * (i 2).val) (2048 * ((i 2).val - n)) k
      (arg13.view.read (Elt Ideal) (arg13.view.writes (Elt Ideal) G13 (turns c i arg3 harg3 arg4 harg4 arg5 harg5 arg6 harg6 arg7 harg7 arg8 harg8 arg9 harg9 arg10 harg10 arg11 harg11 arg12 harg12 arg13 harg13 arg14 harg14 x0 x1 x2 v567 v607 G13 G14 n).1))
      (arg14.view.read (Elt Ideal) (arg14.view.writes (Elt Ideal) G14 (turns c i arg3 harg3 arg4 harg4 arg5 harg5 arg6 harg6 arg7 harg7 arg8 harg8 arg9 harg9 arg10 harg10 arg11 harg11 arg12 harg12 arg13 harg13 arg14 harg14 x0 x1 x2 v567 v607 G13 G14 n).2)) := by
  induction n with
  | zero => exact h k
  | succ n ih =>
    have ih := ih (by omega)
    have hs := pb_k0_t1_succ (F := Ideal) Variants.none c none i arg3 harg3 arg4 harg4 arg5 harg5 arg6 harg6 arg7 harg7 arg8 harg8 arg9 harg9 arg10 harg10 arg11 harg11 arg12 harg12 arg13 harg13 arg14 harg14
      (BitVec.ofNat 32 (i 2).val) v567 v607 (harg4.unread x1) (harg5.unread x2) (qs c arg3 harg3 arg12 x0) G13 G14
      ⟨n, by rw [trips1]; omega⟩
    dsimp only at hs
    unfold turns at ih ⊢
    rw [hs]
    dsimp only
    rw [View.writes_append, View.writes_append]
    rw [show 2048 * ((i 2).val - n) = 2048 * ((i 2).val - 1 - n) + 2048 by omega] at ih
    generalize arg13.view.writes (Elt Ideal) G13 _ = f13 at ih ⊢
    generalize arg14.view.writes (Elt Ideal) G14 _ = f14 at ih ⊢
    intro r
    obtain ⟨M, hM, hS⟩ := turn_state c i arg3 harg3 arg4 harg4 arg5 harg5 arg12 arg13 arg14 x0 x1 x2 X V hX hV
      ⟨n, by rw [trips1]; omega⟩ f13 f14 k ih 8 le_rfl r
    refine ⟨M, fun l => (turn_m _ _ _ _ _ _ _ _ _ _ _ _ _ _ _ _ _ _ _ _ _ _ _ _ _ _ _ _ _ _ _ _ _ _ k r l).trans (hM l), fun d => ?_⟩
    rw [turn_a, show 2048 * ((i 2).val - (n + 1)) = 2048 * ((i 2).val - 1 - n) + 256 * (8 - 8) by omega]
    exact hS d

/-- The sums after the last turn. -/
def accFin : S2x2048x256.Idx → EReal :=
  arg14.view.read (Elt Ideal) (arg14.view.writes (Elt Ideal)
    (arg14.view.writes (Elt Ideal) arg14.view.junk (kernelRun0_A.sl.HS2_17 c i arg3 harg3 arg4 harg4 arg5 harg5 arg12 arg13 arg14 x0 x1 x2))
    (turns c i arg3 harg3 arg4 harg4 arg5 harg5 arg6 harg6 arg7 harg7 arg8 harg8 arg9 harg9 arg10 harg10 arg11 harg11 arg12 harg12 arg13 harg13 arg14 harg14 x0 x1 x2 (kernelRun0_A.sl.r_44 c i arg5 harg5 x2) (kernelRun0_A.sl.r_46 c i arg3 harg3 arg4 harg4 arg12 x0 x1)
      (arg13.view.writes (Elt Ideal) arg13.view.junk (kernelRun0_A.sl.HS1_17 c i arg3 harg3 arg4 harg4 arg12 arg13 x0 x1))
      (arg14.view.writes (Elt Ideal) arg14.view.junk (kernelRun0_A.sl.HS2_17 c i arg3 harg3 arg4 harg4 arg5 harg5 arg12 arg13 arg14 x0 x1 x2))
      (i 2).val).2)

include hX hV in
/-- They are weighted sums over the allowed keys, in every row up to a factor common to all columns. -/
theorem accFin_eq (k : Fin 2) (r : Fin 2048) : ∃ R : ℝ, ∀ d,
    accFin c i arg3 harg3 arg4 harg4 arg5 harg5 arg6 harg6 arg7 harg7 arg8 harg8 arg9 harg9 arg10 harg10 arg11 harg11 arg12 harg12 arg13 harg13 arg14 harg14 x0 x1 x2 (ix3 k r d) = (((2 : ℝ) ^ (-R) * W (X k r) (V d) (2048 * (i 2).val + r) 0 : ℝ) : EReal) := by
  have h17 := own_17 c i arg3 harg3 arg4 harg4 arg5 harg5 arg12 arg13 arg14 x0 x1 x2 X V hX hV
  have h : ∀ k, Q (X k) V (2048 * (i 2).val) (2048 * (i 2).val) k
      (arg13.view.read (Elt Ideal) (arg13.view.writes (Elt Ideal) arg13.view.junk (kernelRun0_A.sl.HS1_17 c i arg3 harg3 arg4 harg4 arg12 arg13 x0 x1)))
      (arg14.view.read (Elt Ideal) (arg14.view.writes (Elt Ideal) arg14.view.junk (kernelRun0_A.sl.HS2_17 c i arg3 harg3 arg4 harg4 arg5 harg5 arg12 arg13 arg14 x0 x1 x2))) := by
    intro k
    rw [View.read_writes_junk_eq_canon, View.read_writes_junk_eq_canon]
    fin_cases k
    exacts [h17.1, h17.2]
  obtain ⟨M, -, hS⟩ := turns_eq c i arg3 harg3 arg4 harg4 arg5 harg5 arg6 harg6 arg7 harg7 arg8 harg8 arg9 harg9 arg10 harg10 arg11 harg11 arg12 harg12 arg13 harg13 arg14 harg14 x0 x1 x2 X V hX hV _ _ _ _ h (i 2).val le_rfl k r
  rw [Nat.sub_self, Nat.mul_zero] at hS
  rcases hS 0 with ⟨h0, -⟩ | ⟨-, R, hR, -⟩
  · omega
  refine ⟨R, fun d => ?_⟩
  rcases hS d with ⟨h0, -⟩ | ⟨-, R', hR', hd⟩
  · omega
  · have : R' = R := EReal.coe_injective (hR'.symm.trans hR)
    subst this
    exact hd

end Cert.Kernel5Ideal.Gen
end
end
-- ==== Proof.DiffFinal.lean ====
module

public import proofs.«01_k».proof.Proof.DiffLoop

@[expose] public section
set_option maxRecDepth 16384

/-!
# What is left of the loop

The four loads of the sums after the last turn: each component's sums of the values, and of the ones.
-/

noncomputable section
namespace Cert.Kernel5Ideal.Gen
open Idealize.ShloMosaic Idealize.ShloMosaic.TcCoe DiffRow

variable (c : Dev nD) (i : grid0.Coords) (arg3 : Memref sig .tc .vmem S1x2048x128 .bf16) (harg3 : arg3.IsWhole)
  (arg4 : Memref sig .tc .vmem S1x16384x128 .bf16) (harg4 : arg4.IsWhole) (arg5 : Memref sig .tc .vmem S1x16384x128 .bf16)
  (harg5 : arg5.IsWhole) (arg6 : Memref sig .tc .vmem S1x64 .f32) (harg6 : arg6.IsWhole) (arg7 : Memref sig .tc .vmem S1x64 .f32)
  (harg7 : arg7.IsWhole) (arg8 : Memref sig .tc .vmem S1x64 .f32) (harg8 : arg8.IsWhole) (arg9 : Memref sig .tc .vmem S1x64 .f32)
  (harg9 : arg9.IsWhole) (arg10 : Memref sig .tc .vmem S1x128 .f32) (harg10 : arg10.IsWhole)
  (arg11 : Memref sig .tc .vmem S1x2048x128 .bf16) (harg11 : arg11.IsWhole) (arg12 : Memref sig .tc .vmem S2x2048x128 .bf16)
  (harg12 : arg12.IsWhole) (arg13 : Memref sig .tc .vmem S2x2048x128 .f32) (harg13 : arg13.IsWhole)
  (arg14 : Memref sig .tc .vmem S2x2048x256 .f32) (harg14 : arg14.IsWhole)
  (x0 : Vec Ideal S1x2048x128 .bf16) (x1 x2 : Vec Ideal S1x16384x128 .bf16)

theorem v660_eq (r : Fin 2048) (l : Fin 128) :
    kernelRun0_A.sl.v660 c i arg3 harg3 arg4 harg4 arg5 harg5 arg6 harg6 arg7 harg7 arg8 harg8 arg9 harg9 arg10 harg10 arg11 harg11 arg12 harg12 arg13 harg13 arg14 harg14 x0 x1 x2 (ix3 0 r l) = accFin c i arg3 harg3 arg4 harg4 arg5 harg5 arg6 harg6 arg7 harg7 arg8 harg8 arg9 harg9 arg10 harg10 arg11 harg11 arg12 harg12 arg13 harg13 arg14 harg14 x0 x1 x2 (ix3 0 r ⟨0 + l, by omega⟩) := by
  unfold kernelRun0_A.sl.v660
  rw [View.readCov_eq_canon', ← View.read_writes_junk_eq_canon arg14.view, View.writes_append,
    show Scf.trips (k0_t2_loop i).lb (k0_t2_loop i).ub (k0_t2_loop i).st = 0 from trips2 i, pb_k0_t2.eq_1,
    show Scf.trips (k0_t1_loop i).lb (k0_t1_loop i).ub (k0_t1_loop i).st = (i 2).val from trips1 i, View.writes_append]
  dsimp only
  rw [show ∀ f, arg14.view.writes (Elt Ideal) f [] = f from fun _ => rfl]
  unfold accFin turns qs
  refine congrArg (arg14.view.read (Elt Ideal) _) (funext fun b => Fin.ext ?_)
  fin_cases b
  · rfl
  · show 0 + 1 * (r : ℕ) = r; omega
  · show 0 + 1 * (l : ℕ) = 0 + l; omega

theorem v662_eq (r : Fin 2048) (l : Fin 128) :
    kernelRun0_A.sl.v662 c i arg3 harg3 arg4 harg4 arg5 harg5 arg6 harg6 arg7 harg7 arg8 harg8 arg9 harg9 arg10 harg10 arg11 harg11 arg12 harg12 arg13 harg13 arg14 harg14 x0 x1 x2 (ix3 0 r l) = accFin c i arg3 harg3 arg4 harg4 arg5 harg5 arg6 harg6 arg7 harg7 arg8 harg8 arg9 harg9 arg10 harg10 arg11 harg11 arg12 harg12 arg13 harg13 arg14 harg14 x0 x1 x2 (ix3 0 r ⟨128 + l, by omega⟩) := by
  unfold kernelRun0_A.sl.v662
  rw [View.readCov_eq_canon', ← View.read_writes_junk_eq_canon arg14.view, View.writes_append,
    show Scf.trips (k0_t2_loop i).lb (k0_t2_loop i).ub (k0_t2_loop i).st = 0 from trips2 i, pb_k0_t2.eq_1,
    show Scf.trips (k0_t1_loop i).lb (k0_t1_loop i).ub (k0_t1_loop i).st = (i 2).val from trips1 i, View.writes_append]
  dsimp only
  rw [show ∀ f, arg14.view.writes (Elt Ideal) f [] = f from fun _ => rfl]
  unfold accFin turns qs
  refine congrArg (arg14.view.read (Elt Ideal) _) (funext fun b => Fin.ext ?_)
  fin_cases b
  · rfl
  · show 0 + 1 * (r : ℕ) = r; omega
  · show 128 + 1 * (l : ℕ) = 128 + l; omega

theorem v665_eq (r : Fin 2048) (l : Fin 128) :
    kernelRun0_A.sl.v665 c i arg3 harg3 arg4 harg4 arg5 harg5 arg6 harg6 arg7 harg7 arg8 harg8 arg9 harg9 arg10 harg10 arg11 harg11 arg12 harg12 arg13 harg13 arg14 harg14 x0 x1 x2 (ix3 0 r l) = accFin c i arg3 harg3 arg4 harg4 arg5 harg5 arg6 harg6 arg7 harg7 arg8 harg8 arg9 harg9 arg10 harg10 arg11 harg11 arg12 harg12 arg13 harg13 arg14 harg14 x0 x1 x2 (ix3 1 r ⟨0 + l, by omega⟩) := by
  unfold kernelRun0_A.sl.v665
  rw [View.readCov_eq_canon', ← View.read_writes_junk_eq_canon arg14.view, View.writes_append,
    show Scf.trips (k0_t2_loop i).lb (k0_t2_loop i).ub (k0_t2_loop i).st = 0 from trips2 i, pb_k0_t2.eq_1,
    show Scf.trips (k0_t1_loop i).lb (k0_t1_loop i).ub (k0_t1_loop i).st = (i 2).val from trips1 i, View.writes_append]
  dsimp only
  rw [show ∀ f, arg14.view.writes (Elt Ideal) f [] = f from fun _ => rfl]
  unfold accFin turns qs
  refine congrArg (arg14.view.read (Elt Ideal) _) (funext fun b => Fin.ext ?_)
  fin_cases b
  · rfl
  · show 0 + 1 * (r : ℕ) = r; omega
  · show 0 + 1 * (l : ℕ) = 0 + l; omega

theorem v667_eq (r : Fin 2048) (l : Fin 128) :
    kernelRun0_A.sl.v667 c i arg3 harg3 arg4 harg4 arg5 harg5 arg6 harg6 arg7 harg7 arg8 harg8 arg9 harg9 arg10 harg10 arg11 harg11 arg12 harg12 arg13 harg13 arg14 harg14 x0 x1 x2 (ix3 0 r l) = accFin c i arg3 harg3 arg4 harg4 arg5 harg5 arg6 harg6 arg7 harg7 arg8 harg8 arg9 harg9 arg10 harg10 arg11 harg11 arg12 harg12 arg13 harg13 arg14 harg14 x0 x1 x2 (ix3 1 r ⟨128 + l, by omega⟩) := by
  unfold kernelRun0_A.sl.v667
  rw [View.readCov_eq_canon', ← View.read_writes_junk_eq_canon arg14.view, View.writes_append,
    show Scf.trips (k0_t2_loop i).lb (k0_t2_loop i).ub (k0_t2_loop i).st = 0 from trips2 i, pb_k0_t2.eq_1,
    show Scf.trips (k0_t1_loop i).lb (k0_t1_loop i).ub (k0_t1_loop i).st = (i 2).val from trips1 i, View.writes_append]
  dsimp only
  rw [show ∀ f, arg14.view.writes (Elt Ideal) f [] = f from fun _ => rfl]
  unfold accFin turns qs
  refine congrArg (arg14.view.read (Elt Ideal) _) (funext fun b => Fin.ext ?_)
  fin_cases b
  · rfl
  · show 0 + 1 * (r : ℕ) = r; omega
  · show 128 + 1 * (l : ℕ) = 128 + l; omega

end Cert.Kernel5Ideal.Gen
end
end
-- ==== Proof.DiffEquation.lean ====
module

public import proofs.«01_k».proof.Proof.DiffRow
public import Idealize.ShloMosaic.Lib.ValueIdx
public import Idealize.ShloMosaic.PureOps.Ideal.Laws

@[expose] public section

/-!
# One row of the differential attention, in base two and in base e

The kernel divides sums of powers of two at scores over `log 2`; the reference normalizes exponentials less their maximum.
At finite scores both are the same quotient of sums of exponentials.
-/

noncomputable section
namespace DiffRow
open Idealize.ShloMosaic

/-- The weight of key `s` in the row of position `t` at the scores `y`. -/
def soft (t : ℕ) (y : ℕ → ℝ) (s : ℕ) : ℝ :=
  (if s ≤ t then Real.exp (y s) else 0) / ∑ j : Fin 16384, if (j : ℕ) ≤ t then Real.exp (y j) else 0

/-- The attended value. -/
def att (t : ℕ) (y : ℕ → ℝ) (v : ℕ → ℝ) : ℝ := ∑ s : Fin 16384, soft t y s * v s

/-- A row over the root of its mean square and a small number, times a gain, times the factor. -/
def normed (o g : Fin 128 → EReal) (d : Fin 128) : EReal :=
  o d * Ideal.rsqrt (Ideal.div (∑ l, o l * o l) (Ideal.ofBits .f32 0x43000000#32) + Ideal.ofBits .f32 0x3727C5AC#32) * g d * Ideal.ofBits .f32 0x3F4CCCCD#32

theorem log_two_pos : 0 < Real.log 2 := Real.log_pos (by norm_num)

/-- A quotient of two real numbers. -/
theorem div_real (a b : ℝ) (hb : b ≠ 0) : Ideal.div (a : EReal) (b : EReal) = ((a / b : ℝ) : EReal) := by
  unfold Ideal.div
  rw [if_neg (by rw [← EReal.coe_zero]; exact fun e => hb (EReal.coe_injective e)), ← EReal.coe_inv, ← EReal.coe_mul, div_eq_mul_inv]

theorem total_pos (t : ℕ) (y : ℕ → ℝ) : 0 < ∑ j : Fin 16384, if (j : ℕ) ≤ t then Real.exp (y j) else 0 := by
  refine Finset.sum_pos' (fun j _ => ?_) ⟨0, Finset.mem_univ _, ?_⟩
  · split
    · exact (Real.exp_pos _).le
    · exact le_rfl
  · rw [if_pos (by simp)]; exact Real.exp_pos _

/-- The kernel's sum is the sum of the weighted exponentials. -/
theorem W_eq (t : ℕ) (y v : ℕ → ℝ) : W (fun s => y s / Real.log 2) v t 0 = ∑ s : Fin 16384, (if (s : ℕ) ≤ t then Real.exp (y s) else 0) * v s := by
  unfold W
  rw [← Finset.range_eq_Ico, Finset.sum_range]
  refine Finset.sum_congr rfl fun s _ => ?_
  split
  · rw [Real.rpow_def_of_pos (by norm_num), mul_div_cancel₀ _ log_two_pos.ne']
  · rw [zero_mul]

/-- What the kernel divides is the attended value. -/
theorem kernel_quot (t : ℕ) (y v u : ℕ → ℝ) (hu : ∀ s, u s = 1) (R : ℝ) :
    Ideal.div (((2 : ℝ) ^ (-R) * W (fun s => y s / Real.log 2) v t 0 : ℝ) : EReal) (((2 : ℝ) ^ (-R) * W (fun s => y s / Real.log 2) u t 0 : ℝ) : EReal)
      = ((att t y v : ℝ) : EReal) := by
  have h2 : (0 : ℝ) < (2 : ℝ) ^ (-R) := Real.rpow_pos_of_pos (by norm_num) _
  have hW : W (fun s => y s / Real.log 2) u t 0 = ∑ j : Fin 16384, if (j : ℕ) ≤ t then Real.exp (y j) else 0 := by
    rw [W_eq]; exact Finset.sum_congr rfl fun s _ => by rw [hu, mul_one]
  rw [hW, div_real _ _ (mul_pos h2 (total_pos t y)).ne', mul_div_mul_left _ _ h2.ne', W_eq, Finset.sum_div]
  unfold att soft
  refine congrArg Real.toEReal (Finset.sum_congr rfl fun s _ => ?_)
  ring

/-- What the reference divides is the weight. -/
theorem ref_weight (t : ℕ) (y : ℕ → ℝ) (z : Fin 16384 → EReal) (hz : ∀ s : Fin 16384, z s = if (s : ℕ) ≤ t then ((y s : ℝ) : EReal) else ⊥)
    (M : EReal) (hM : ∃ r : ℝ, M = (r : EReal)) (s : Fin 16384) :
    Ideal.div (Ideal.exp (z s - M)) (0 + ∑ j, Ideal.exp (z j - M)) = ((soft t y s : ℝ) : EReal) := by
  obtain ⟨r, rfl⟩ := hM
  have he : ∀ j : Fin 16384, Ideal.exp (z j - (r : EReal)) = (((if (j : ℕ) ≤ t then Real.exp (y j) else 0) * Real.exp (-r) : ℝ) : EReal) := fun j => by
    rw [hz]
    split
    · rw [← EReal.coe_sub]
      refine congrArg Real.toEReal ?_
      show Real.exp _ = _
      rw [← Real.exp_add, sub_eq_add_neg]
    · rw [EReal.bot_sub, zero_mul, EReal.coe_zero]
      rfl
  rw [Finset.sum_congr rfl fun j _ => he j, he, zero_add, ← coe_sum, ← Finset.sum_mul,
    div_real _ _ (mul_pos (total_pos t y) (Real.exp_pos _)).ne', mul_div_mul_right _ _ (Real.exp_pos _).ne']
  rfl

/-- The difference of the two weighted rows. -/
theorem ref_row (t : ℕ) (y0 y1 v : ℕ → ℝ) (lam : ℝ) :
    ∑ s : Fin 16384, (((soft t y0 s : ℝ) : EReal) - (lam : EReal) * ((soft t y1 s : ℝ) : EReal)) * ((v s : ℝ) : EReal)
      = ((att t y0 v - lam * att t y1 v : ℝ) : EReal) := by
  unfold att
  rw [Finset.mul_sum, ← Finset.sum_sub_distrib, coe_sum]
  refine Finset.sum_congr rfl fun s _ => ?_
  rw [← EReal.coe_mul, ← EReal.coe_sub, ← EReal.coe_mul]
  refine congrArg Real.toEReal ?_
  ring

/-- A sum of products of real numbers. -/
theorem dot_real {ι : Type} (S : Finset ι) (f g : ι → EReal) (hf : ∀ i, ∃ r : ℝ, f i = (r : EReal)) (hg : ∀ i, ∃ r : ℝ, g i = (r : EReal)) :
    ∑ i ∈ S, f i * g i = ((∑ i ∈ S, (f i).toReal * (g i).toReal : ℝ) : EReal) := by
  rw [coe_sum]
  refine Finset.sum_congr rfl fun i _ => ?_
  obtain ⟨a, ha⟩ := hf i
  obtain ⟨b, hb⟩ := hg i
  rw [ha, hb, ← EReal.coe_mul, EReal.toReal_coe, EReal.toReal_coe]

/-- A fold of the maximum over entries below infinity, one of them a real number, is a real number. -/
theorem foldl_max_real {ι : Type} (f : ι → EReal) (hf : ∀ i, f i < ⊤) (L : List ι) (e : EReal) (he : e < ⊤) (h : ⊥ < e ∨ ∃ i ∈ L, ⊥ < f i) :
    ∃ r : ℝ, L.foldl (fun r n => max r (f n)) e = (r : EReal) := by
  induction L generalizing e with
  | nil =>
    rcases h with h | ⟨i, hi, _⟩
    · exact ⟨e.toReal, (EReal.coe_toReal he.ne h.ne').symm⟩
    · cases hi
  | cons a L ih =>
    refine ih (max e (f a)) (max_lt he (hf a)) ?_
    rcases h with h | ⟨i, hi, hb⟩
    · exact .inl (lt_max_of_lt_left h)
    · rcases List.mem_cons.mp hi with rfl | hi
      · exact .inl (lt_max_of_lt_right hb)
      · exact .inr ⟨i, hi, hb⟩

/-- The reference's maximum of a row is a real number. -/
theorem reduce_max_real {s t u : Shape} {axes : List (Fin s.rank)} (x : s.Idx → EReal) (init : u.Idx → EReal) (h : s.ReducesTo axes t) (hu : 0 < u.numel)
    (hinit : init (Shape.Idx.first hu) < ⊤) (hx : ∀ i, x i < ⊤) (j : t.Idx) (i : s.Idx) (hi : h.drop i = j) (hb : ⊥ < x i) :
    ∃ r : ℝ, Host.reduce (max : EReal → EReal → EReal) x init h hu j = (r : EReal) := by
  unfold Host.reduce
  refine foldl_max_real (fun n => x (s.rowMajor.symm n)) (fun n => hx _) _ _ hinit (.inr ⟨s.rowMajor i, ?_, ?_⟩)
  · rw [List.mem_filter]
    refine ⟨List.mem_finRange _, ?_⟩
    rw [Equiv.symm_apply_apply, hi]
    exact decide_eq_true rfl
  · show ⊥ < x _
    rw [Equiv.symm_apply_apply]; exact hb

/-- The half of the lanes a component is. -/
theorem half_sum (k : Fin 2) (q f : Fin 128 → EReal) :
    ∑ e : Fin 128, (if (e : ℕ) < 64 then (if k = 0 then q e else 0) else (if k = 0 then 0 else q e)) * f e
      = ∑ e : Fin 64, q ⟨64 * k + e, by omega⟩ * f ⟨64 * k + e, by omega⟩ := by
  rw [show ∑ e : Fin 128, (if (e : ℕ) < 64 then (if k = 0 then q e else 0) else (if k = 0 then 0 else q e)) * f e
    = ∑ e : Fin (64 + 64), (if (e : ℕ) < 64 then (if k = 0 then q e else 0) else (if k = 0 then 0 else q e)) * f e from rfl, Fin.sum_univ_add]
  have h1 : ∀ e : Fin 64, ((Fin.castAdd 64 e : Fin (64 + 64)) : ℕ) < 64 := fun e => e.isLt
  have h2 : ∀ e : Fin 64, ¬ ((Fin.natAdd 64 e : Fin (64 + 64)) : ℕ) < 64 := fun e => by show ¬ 64 + (e : ℕ) < 64; omega
  simp only [h1, h2, if_true, if_false]
  fin_cases k
  · simp only [Fin.zero_eta, if_true, zero_mul, Finset.sum_const_zero, add_zero]
    refine Finset.sum_congr rfl fun e _ => ?_
    have : (Fin.castAdd 64 e : Fin (64 + 64)) = (⟨64 * ((0 : Fin 2) : ℕ) + e, by simp; omega⟩ : Fin 128) := Fin.ext (by simp)
    rw [this]; rfl
  · simp only [Fin.mk_one, one_ne_zero, if_false, zero_mul, Finset.sum_const_zero, zero_add]
    refine Finset.sum_congr rfl fun e _ => ?_
    have : (Fin.natAdd 64 e : Fin (64 + 64)) = (⟨64 * ((1 : Fin 2) : ℕ) + e, by simp; omega⟩ : Fin 128) := Fin.ext (by simp [add_comm])
    rw [this]; rfl

end DiffRow
end
end
-- ==== Proof.DiffStore.lean ====
module

public import proofs.«01_k».proof.Proof.DiffFinal
public import proofs.«01_k».proof.Proof.DiffEquation

@[expose] public section
set_option maxRecDepth 16384

/-!
# The row a grid point stores

The quotients of the two components' sums, the second times its factor taken from the first, then the normalization.
-/

noncomputable section
namespace Cert.Kernel5Ideal.Gen
open Idealize.ShloMosaic Idealize.ShloMosaic.TcCoe DiffRow

/-- The difference of the two quotients. -/
def dif (l0 l1 l2 l3 : Fin 64 → EReal) (a0 b0 a1 b1 : Fin 128 → EReal) (d : Fin 128) : EReal :=
  Ideal.div (a0 d) (b0 d) - (Ideal.exp (∑ e, l0 e * l1 e) - Ideal.exp (∑ e, l2 e * l3 e) + Ideal.ofBits .f32 0x3E4CCCCD#32) * Ideal.div (a1 d) (b1 d)

variable (v641 v643 v649 v651 : Vec Ideal S1x64 .f32) (v660 v662 v665 v667 : Vec Ideal S1x2048x128 .f32) (v683 : Vec Ideal S1x128 .f32)

theorem pay329_apply (r : Fin 2048) (d : Fin 128) : k0_pay329 v641 v643 v649 v651 v660 v662 v665 v667 (ix2 r d) =
    dif (fun e => v641 (ix2 0 e)) (fun e => v643 (ix2 0 e)) (fun e => v649 (ix2 0 e)) (fun e => v651 (ix2 0 e)) (fun l => v660 (ix3 0 r l))
      (fun l => v662 (ix3 0 r l)) (fun l => v665 (ix3 0 r l)) (fun l => v667 (ix3 0 r l)) d := by
  pointwise [k0_pay329]
  rfl

theorem pay330_apply (r : Fin 2048) : k0_pay330 v641 v643 v649 v651 v660 v662 v665 v667 (ix2 r 0) =
    ∑ l : Fin 128, k0_pay329 v641 v643 v649 v651 v660 v662 v665 v667 (ix2 r l) * k0_pay329 v641 v643 v649 v651 v660 v662 v665 v667 (ix2 r l) := by
  pointwise [k0_pay330]

theorem pay1_apply (o : FVec Ideal S2048x128 .f32) (q : FVec Ideal S2048x1 .f32) (r : Fin 2048) (d : Fin 128) :
    k0_pay1 o q (Scalar.ofBits .f32 0x43000000#32) v683 (ix3 0 r d) =
      o (ix2 r d) * Ideal.rsqrt (Ideal.div (q (ix2 r 0)) (Ideal.ofBits .f32 0x43000000#32) + Ideal.ofBits .f32 0x3727C5AC#32) * v683 (ix2 0 d)
        * Ideal.ofBits .f32 0x3F4CCCCD#32 := by
  pointwise [k0_pay1]

/-- The stored row. -/
theorem stored (r : Fin 2048) (d : Fin 128) :
    k0_pay1 (k0_pay329 v641 v643 v649 v651 v660 v662 v665 v667) (k0_pay330 v641 v643 v649 v651 v660 v662 v665 v667) (Scalar.ofBits .f32 0x43000000#32) v683
      (ix3 0 r d) = normed (dif (fun e => v641 (ix2 0 e)) (fun e => v643 (ix2 0 e)) (fun e => v649 (ix2 0 e)) (fun e => v651 (ix2 0 e))
        (fun l => v660 (ix3 0 r l)) (fun l => v662 (ix3 0 r l)) (fun l => v665 (ix3 0 r l)) (fun l => v667 (ix3 0 r l))) (fun l => v683 (ix2 0 l)) d := by
  rw [pay1_apply, pay330_apply]
  simp only [pay329_apply]
  rfl

end Cert.Kernel5Ideal.Gen
end
end
-- ==== Proof.DiffFormula.lean ====
module

public import proofs.«01_k».proof.Proof.DiffEquation
public import proofs.«01_k».proof.Proof.DiffOwn
public import proofs.«01_k».proof.Proof.Gen.Reference5Ideal.Read

@[expose] public section
set_option maxRecDepth 16384

/-!
# What the reference of the differential attention computes

Its operations read one after another at finite arguments: the masked scores, the weights of the two components, their
difference, the attended values, the normalization.
-/

noncomputable section
namespace DiffRow
open Idealize.ShloMosaic

variable (x : (⟨3, ![2, 16384, 6144]⟩ : Shape).Idx → EReal) (x1 x2 x3 x4 : (⟨1, ![64]⟩ : Shape).Idx → EReal) (x5 : (⟨1, ![128]⟩ : Shape).Idx → EReal)

/-- A query (`j = 0`) or key (`j = 1`) column of component `k` of head `h`. -/
def qkCol (j : Fin 2) (h : Fin 8) (k : Fin 2) (e : Fin 64) : Fin 6144 := ⟨3072 + 1024 * j + 128 * h + 64 * k + e, by omega⟩
/-- A value column of head `h`. -/
def vCol (h : Fin 8) (d : Fin 128) : Fin 6144 := ⟨5120 + 128 * h + d, by omega⟩

/-- The score of component `k` at position `t` and key `s`, a real number. -/
def rscore (b : Fin 2) (h : Fin 8) (k : Fin 2) (t : Fin 16384) (s : ℕ) : ℝ :=
  (∑ e : Fin 64, (x (ix3 b t (qkCol 0 h k e))).toReal * (x (ix3 b (Cert.Kernel5Ideal.Gen.key s) (qkCol 1 h k e))).toReal) * (1 / 8)

/-- A value, a real number. -/
def rval (b : Fin 2) (h : Fin 8) (d : Fin 128) (s : ℕ) : ℝ := (x (ix3 b (Cert.Kernel5Ideal.Gen.key s) (vCol h d))).toReal

/-- The word added to the factor of the second component. -/
theorem lam_word : ∃ r : ℝ, Ideal.ofBits .f32 0x3E4CCCCD#32 = (r : EReal) := by
  simp only [Ideal.ofBits, Ideal.ieee]
  exact ⟨_, rfl⟩

/-- The factor of the second component. -/
def lam : ℝ := Real.exp (∑ e : Fin 64, (x1 (ix1 e)).toReal * (x2 (ix1 e)).toReal) - Real.exp (∑ e : Fin 64, (x3 (ix1 e)).toReal * (x4 (ix1 e)).toReal)
  + lam_word.choose

/-- The difference of the two components' attended values. -/
def rout (b : Fin 2) (h : Fin 8) (t : Fin 16384) (d : Fin 128) : ℝ :=
  att t (rscore x b h 0 t) (rval x b h d) - lam x1 x2 x3 x4 * att t (rscore x b h 1 t) (rval x b h d)

/-- The result. -/
def target : (⟨3, ![2, 16384, 1024]⟩ : Shape).Idx → EReal := fun j =>
  normed (fun d => ((rout x x1 x2 x3 x4 (j 0) ⟨(j 2 : ℕ) / 128, by have := (j 2).isLt; simp at this; omega⟩ (j 1) d : ℝ) : EReal)) (fun d => x5 (ix1 d))
    ⟨(j 2 : ℕ) % 128, by omega⟩

/-- What the precondition says of the arguments: the entries read are real numbers. -/
structure Finite : Prop where
  proj : ∀ (b : Fin 2) (t : Fin 16384) (n : Fin 6144), 3072 ≤ (n : ℕ) → ∃ r : ℝ, x (ix3 b t n) = (r : EReal)
  lq1 : ∀ e : Fin 64, ∃ r : ℝ, x1 (ix1 e) = (r : EReal)
  lk1 : ∀ e : Fin 64, ∃ r : ℝ, x2 (ix1 e) = (r : EReal)
  lq2 : ∀ e : Fin 64, ∃ r : ℝ, x3 (ix1 e) = (r : EReal)
  lk2 : ∀ e : Fin 64, ∃ r : ℝ, x4 (ix1 e) = (r : EReal)

/-- A real entry is its own real number. -/
theorem own {a : EReal} (h : ∃ r : ℝ, a = (r : EReal)) : a = ((a.toReal : ℝ) : EReal) := by
  obtain ⟨r, rfl⟩ := h
  rw [EReal.toReal_coe]

/-- The word of one eighth. -/
theorem eighth_word : Ideal.ofBits .f32 0x3E000000#32 = ((1 / 8 : ℝ) : EReal) := by
  simp [Ideal.ofBits, Ideal.ieee]
  rw [← EReal.coe_mul]
  norm_num

variable {x x1 x2 x3 x4} (hf : Finite x x1 x2 x3 x4)
include hf

/-- The factor of the second component, as both programs write it. -/
theorem lam_eq : Ideal.exp (∑ e : Fin 64, x1 (ix1 e) * x2 (ix1 e)) - Ideal.exp (∑ e : Fin 64, x3 (ix1 e) * x4 (ix1 e)) + Ideal.ofBits .f32 0x3E4CCCCD#32
    = ((lam x1 x2 x3 x4 : ℝ) : EReal) := by
  rw [dot_real _ (fun e : Fin 64 => x1 (ix1 e)) (fun e => x2 (ix1 e)) hf.lq1 hf.lk1, dot_real _ (fun e : Fin 64 => x3 (ix1 e)) (fun e => x4 (ix1 e)) hf.lq2 hf.lk2,
    lam_word.choose_spec]
  rfl

end DiffRow

namespace Cert.Reference5Ideal.Read
open Cert.Reference5Ideal Cert.Reference5Ideal.Gen Idealize.ShloMosaic DiffRow

variable (x : (⟨3, ![2, 16384, 6144]⟩ : Shape).Idx → EReal) (x1 x2 x3 x4 : (⟨1, ![64]⟩ : Shape).Idx → EReal) (x5 : (⟨1, ![128]⟩ : Shape).Idx → EReal)

theorem key_val (t : Fin 16384) : Kernel5Ideal.Gen.key t = t := Fin.ext (Nat.mod_eq_of_lt t.isLt)

theorem q_at (b : Fin 2) (h : Fin 8) (k : Fin 2) (t : Fin 16384) (e : Fin 64) : val_main_v2 (F := Ideal) x (ix5 b h k t e) = x (ix3 b t (qkCol 0 h k e)) := by
  rw [val_main_v2_apply, val_main_v1_apply, val_main_v0_apply]
  refine congrArg x (funext fun a => Fin.ext ?_)
  fin_cases a
  · show (((((b : ℕ) * 16384 + t) * 8 + h) * 2 + k) * 64 + e) / 16777216 = b; omega
  · show (((((b : ℕ) * 16384 + t) * 8 + h) * 2 + k) * 64 + e) / 1024 % 16384 = t; omega
  · show 3072 + (((((b : ℕ) * 16384 + t) * 8 + h) * 2 + k) * 64 + e) % 1024 = 3072 + 1024 * 0 + 128 * h + 64 * k + e; omega

theorem k_at (b : Fin 2) (h : Fin 8) (k : Fin 2) (t : Fin 16384) (e : Fin 64) : val_main_v5 (F := Ideal) x (ix5 b h k t e) = x (ix3 b t (qkCol 1 h k e)) := by
  rw [val_main_v5_apply, val_main_v4_apply, val_main_v3_apply]
  refine congrArg x (funext fun a => Fin.ext ?_)
  fin_cases a
  · show (((((b : ℕ) * 16384 + t) * 8 + h) * 2 + k) * 64 + e) / 16777216 = b; omega
  · show (((((b : ℕ) * 16384 + t) * 8 + h) * 2 + k) * 64 + e) / 1024 % 16384 = t; omega
  · show 4096 + (((((b : ℕ) * 16384 + t) * 8 + h) * 2 + k) * 64 + e) % 1024 = 3072 + 1024 * 1 + 128 * h + 64 * k + e; omega

theorem v_at (b : Fin 2) (h : Fin 8) (t : Fin 16384) (d : Fin 128) : val_main_v8 (F := Ideal) x (ix4 b h t d) = x (ix3 b t (vCol h d)) := by
  rw [val_main_v8_apply, val_main_v7_apply, val_main_v6_apply]
  refine congrArg x (funext fun a => Fin.ext ?_)
  fin_cases a
  · show ((((b : ℕ) * 16384 + t) * 8 + h) * 128 + d) / 16777216 = b; omega
  · show ((((b : ℕ) * 16384 + t) * 8 + h) * 128 + d) / 1024 % 16384 = t; omega
  · show 5120 + ((((b : ℕ) * 16384 + t) * 8 + h) * 128 + d) % 1024 = 5120 + 128 * h + d; omega

variable {x x1 x2 x3 x4} (hf : Finite x x1 x2 x3 x4)

/-- The comparison of the mask. -/
theorem select_sle {s t : ℕ} (hs : s < 2 ^ 31) (ht : t < 2 ^ 31) (a b : EReal) :
    Scalar.select (IntOp.cmpi .sle (BitVec.ofNat 32 s) (BitVec.ofNat 32 t)) a b = if s ≤ t then a else b := by
  rw [WordCmp.cmpi_sle_of_lt (by simp; omega) (by simp; omega)]
  simp only [BitVec.toNat_ofNat, Nat.mod_eq_of_lt (show s < 2 ^ 32 by omega), Nat.mod_eq_of_lt (show t < 2 ^ 32 by omega)]
  by_cases h : s ≤ t <;> simp [h, Scalar.select]

include hf in
/-- The masked scores. -/
theorem score_at (b : Fin 2) (h : Fin 8) (k : Fin 2) (t s : Fin 16384) :
    val_main_v18 (F := Ideal) x (ix5 b h k t s) = if (s : ℕ) ≤ t then ((rscore x b h k t s : ℝ) : EReal) else ⊥ := by
  have e0 : val_main_v17 (F := Ideal) x (ix5 b h k t s) = ((rscore x b h k t s : ℝ) : EReal) := by
    rw [val_main_v17_apply, val_main_v15_apply, val_main_v16_apply, val_main_cst_apply]
    unfold rscore
    rw [EReal.coe_mul, ← eighth_word, key_val, ← dot_real _ (fun e : Fin 64 => x (ix3 b t (qkCol 0 h k e))) (fun e => x (ix3 b s (qkCol 1 h k e)))
      (fun e => hf.proj _ _ _ (by show 3072 ≤ 3072 + 1024 * 0 + 128 * (h : ℕ) + 64 * k + e; omega))
      (fun e => hf.proj _ _ _ (by show 3072 ≤ 3072 + 1024 * 1 + 128 * (h : ℕ) + 64 * k + e; omega))]
    refine congrArg (· * Ideal.ofBits .f32 0x3E000000#32) (Finset.sum_congr rfl fun e _ => ?_)
    have e1 : lidx_main_v15 (ix5 b h k t s) e = ix5 b h k t e := funext fun a => by fin_cases a <;> rfl
    have e2 : ridx_main_v15 (ix5 b h k t s) e = ix5 b h k s e := funext fun a => by fin_cases a <;> rfl
    rw [e1, e2, q_at, k_at]
  rw [val_main_v18_apply, e0, val_main_call0_v1_apply, val_main_v14_apply, val_main_v12_apply, val_main_v10_apply, val_main_v9_apply, val_main_v13_apply,
    val_main_v11_apply, val_main_v9_apply, val_main_call0_v2_apply, val_main_call0_v0_apply, val_main_cst_0_apply, Ideal.ofBits_def]
  refine (select_sle (s := s) (t := t) (by omega) (by omega) _ _).trans (if_congr Iff.rfl rfl ofBits_neg_inf)

include hf in
/-- The maximum of a row is a real number. -/
theorem max_at (b : Fin 2) (h : Fin 8) (k : Fin 2) (t : Fin 16384) : ∃ r : ℝ, val_main_v21 (F := Ideal) x (ix4 b h k t) = (r : EReal) := by
  obtain ⟨r, hr⟩ := reduce_max_real (val_main_v18 (F := Ideal) x) (val_main_cst_1 (F := Ideal)) reducesTo_S2x8x2x16384x16384_S2x8x2x16384_d4 h_S_
    (by rw [val_main_cst_1_apply, Ideal.ofBits_def, ofBits_neg_inf]; exact bot_lt_top)
    (fun i => by
      obtain ⟨b', h', k', t', s', rfl⟩ : ∃ (b' : Fin 2) (h' : Fin 8) (k' : Fin 2) (t' s' : Fin 16384), i = ix5 b' h' k' t' s' := ⟨i 0, i 1, i 2, i 3, i 4, eq_ix5 i⟩
      rw [score_at hf]
      split
      · exact EReal.coe_lt_top _
      · exact bot_lt_top)
    (ix4 b h k t) (ix5 b h k t 0) (funext fun a => Fin.ext (by fin_cases a <;> rfl))
    (by rw [score_at hf, if_pos (by simp)]; exact EReal.bot_lt_coe _)
  refine ⟨r, ?_⟩
  rw [val_main_v21_apply, val_main_v20_apply, val_main_cst_2_apply, Ideal.ofBits_def, ofBits_neg_inf]
  exact (max_eq_right bot_le).trans hr

include hf in
/-- The weights. -/
theorem weight_at (b : Fin 2) (h : Fin 8) (k : Fin 2) (t s : Fin 16384) :
    val_main_v29 (F := Ideal) x (ix5 b h k t s) = ((soft t (rscore x b h k t) s : ℝ) : EReal) := by
  have e25 : ∀ j : Fin 16384, val_main_v25 (F := Ideal) x (ix5 b h k t j) = Ideal.exp (val_main_v18 (F := Ideal) x (ix5 b h k t j) - val_main_v21 (F := Ideal) x (ix4 b h k t)) := fun j => by
    rw [val_main_v25_apply, val_main_v24_apply, val_main_v23_apply, val_main_v22_apply]
    have e : idx_main_v22 (idx_main_v23 (ix5 b h k t j)) = ix4 b h k t := funext fun a => Fin.ext (by fin_cases a <;> rfl)
    rw [e]
    rfl
  rw [← ref_weight t (rscore x b h k t) (fun s => val_main_v18 (F := Ideal) x (ix5 b h k t s)) (fun s => score_at hf b h k t s) _ (max_at hf b h k t) s,
    val_main_v29_apply, e25, val_main_v28_apply, val_main_v27_apply, val_main_v26_apply, val_main_cst_3_apply, Ideal.ofBits_def, Ideal.ofBits_zero_f32]
  have e : ∀ j : Fin 16384, idx_main_v26 (idx_main_v27 (idx_main_v28 (ix5 b h k t s))) j = ix5 b h k t j := fun j => funext fun a => Fin.ext (by fin_cases a <;> rfl)
  rw [Finset.sum_congr rfl fun j _ => show val_main_v25 (F := Ideal) x (idx_main_v26 (idx_main_v27 (idx_main_v28 (ix5 b h k t s))) j)
    = Ideal.exp (val_main_v18 (F := Ideal) x (ix5 b h k t j) - val_main_v21 (F := Ideal) x (ix4 b h k t)) by rw [e, e25]]
  rfl

include hf in
/-- The factor of the second component. -/
theorem lam_at (i : S_.Idx) : val_main_v37 (F := Ideal) x1 x2 x3 x4 i = ((lam x1 x2 x3 x4 : ℝ) : EReal) := by
  have hs : ∀ f : S64.Idx → EReal, ∑ j : S64.Idx, f j = ∑ e : Fin 64, f (ix1 e) := fun f =>
    Fintype.sum_equiv ⟨fun j => j 0, fun e => ix1 e, fun j => (eq_ix1 j).symm, fun _ => rfl⟩ _ _ fun j => congrArg f (eq_ix1 j)
  rw [← lam_eq hf, val_main_v37_apply, val_main_v36_apply, val_main_v32_apply, val_main_v35_apply, val_main_v31_apply, val_main_v34_apply,
    val_main_cst_4_apply, val_main_cst_5_apply, val_main_cst_6_apply, Ideal.ofBits_def, Ideal.ofBits_zero_f32, zero_add, zero_add, hs, hs]
  rfl

include hf in
/-- The attended values. -/
theorem out_at (b : Fin 2) (h : Fin 8) (t : Fin 16384) (d : Fin 128) :
    val_main_v45 (F := Ideal) x x1 x2 x3 x4 (ix4 b h t d) = ((rout x x1 x2 x3 x4 b h t d : ℝ) : EReal) := by
  unfold rout
  rw [← ref_row, val_main_v45_apply]
  refine Finset.sum_congr rfl fun s _ => ?_
  have e1 : lidx_main_v45 (ix4 b h t d) s = ix4 b h t s := funext fun a => by fin_cases a <;> rfl
  have e2 : ridx_main_v45 (ix4 b h t d) s = ix4 b h s d := funext fun a => by fin_cases a <;> rfl
  have e3 : idx_main_v38 (idx_main_v39 (ix4 b h t s)) = ix5 b h 0 t s := by
    funext a
    refine Fin.ext ?_
    fin_cases a
    · show ((((b : ℕ) * 8 + h) * 16384 + t) * 16384 + s) / 2147483648 = b; omega
    · show ((((b : ℕ) * 8 + h) * 16384 + t) * 16384 + s) / 268435456 % 8 = h; omega
    · rfl
    · show ((((b : ℕ) * 8 + h) * 16384 + t) * 16384 + s) / 16384 % 16384 = t; omega
    · show ((((b : ℕ) * 8 + h) * 16384 + t) * 16384 + s) % 16384 = s; omega
  have e4 : idx_main_v40 (idx_main_v41 (ix4 b h t s)) = ix5 b h 1 t s := by
    funext a
    refine Fin.ext ?_
    fin_cases a
    · show ((((b : ℕ) * 8 + h) * 16384 + t) * 16384 + s) / 2147483648 = b; omega
    · show ((((b : ℕ) * 8 + h) * 16384 + t) * 16384 + s) / 268435456 % 8 = h; omega
    · rfl
    · show ((((b : ℕ) * 8 + h) * 16384 + t) * 16384 + s) / 16384 % 16384 = t; omega
    · show ((((b : ℕ) * 8 + h) * 16384 + t) * 16384 + s) % 16384 = s; omega
  rw [e1, e2, v_at, val_main_v44_apply, val_main_v43_apply, val_main_v42_apply, val_main_v39_apply, val_main_v38_apply, val_main_v41_apply, val_main_v40_apply,
    e3, e4, weight_at hf, weight_at hf, lam_at hf]
  unfold rval
  rw [key_val, ← own (hf.proj _ _ _ (by show 3072 ≤ 5120 + 128 * (h : ℕ) + d; omega))]
  rfl

include hf in
/-- The reference's result. -/
theorem result_eq : val_main_v63 (F := Ideal) x x1 x2 x3 x4 x5 = target x x1 x2 x3 x4 x5 := by
  funext j
  obtain ⟨b, t, n, rfl⟩ : ∃ (b : Fin 2) (t : Fin 16384) (n : Fin 1024), j = ix3 b t n := ⟨j 0, j 1, j 2, eq_ix3 j⟩
  rw [val_main_v63_apply, val_main_v62_apply, val_main_v61_apply]
  have e : idx_main_v61 (idx_main_v62 (ix3 b t n)) = ix4 b ⟨(n : ℕ) / 128, by omega⟩ t ⟨(n : ℕ) % 128, by omega⟩ := by
    funext a
    refine Fin.ext ?_
    fin_cases a
    · show (((b : ℕ) * 16384 + t) * 1024 + n) / 16777216 = b; omega
    · show (((b : ℕ) * 16384 + t) * 1024 + n) / 128 % 8 = n / 128; omega
    · show (((b : ℕ) * 16384 + t) * 1024 + n) / 1024 % 16384 = t; omega
    · show (((b : ℕ) * 16384 + t) * 1024 + n) % 128 = n % 128; omega
  rw [e]
  show val_main_v60 (F := Ideal) x x1 x2 x3 x4 x5 (ix4 b ⟨(n : ℕ) / 128, by omega⟩ t ⟨(n : ℕ) % 128, by omega⟩) = _
  show _ = normed (fun d => ((rout x x1 x2 x3 x4 b ⟨(n : ℕ) / 128, _⟩ t d : ℝ) : EReal)) (fun d => x5 (ix1 d)) ⟨(n : ℕ) % 128, _⟩
  generalize (⟨(n : ℕ) / 128, by omega⟩ : Fin 8) = h
  generalize (⟨(n : ℕ) % 128, by omega⟩ : Fin 128) = d
  have e1 : idx_main_v56 (idx_main_v57 (ix4 b h t d)) = ix1 d := funext fun a => Fin.ext (by fin_cases a <;> rfl)
  have e2 : ∀ l : Fin 128, idx_main_v47 (idx_main_v48 (idx_main_v54 (ix4 b h t d))) l = ix4 b h t l := fun l => funext fun a => Fin.ext (by fin_cases a <;> rfl)
  rw [val_main_v60_apply, val_main_v58_apply, val_main_v55_apply, val_main_v57_apply, val_main_v56_apply, val_main_v59_apply, val_main_cst_10_apply,
    val_main_v54_apply, val_main_v53_apply, val_main_v52_apply, val_main_v50_apply, val_main_v51_apply, val_main_v49_apply, val_main_cst_8_apply,
    val_main_cst_9_apply, val_main_v48_apply, val_main_v47_apply, val_main_cst_7_apply, e1, out_at hf, Ideal.ofBits_def, Ideal.ofBits_zero_f32, zero_add]
  unfold normed
  rw [Finset.sum_congr rfl fun l _ => show val_main_v46 (F := Ideal) x x1 x2 x3 x4 (idx_main_v47 (idx_main_v48 (idx_main_v54 (ix4 b h t d))) l)
    = ((rout x x1 x2 x3 x4 b h t l : ℝ) : EReal) * ((rout x x1 x2 x3 x4 b h t l : ℝ) : EReal) by rw [e2, val_main_v46_apply, out_at hf]; rfl]
  rfl

end Cert.Reference5Ideal.Read
end
end
-- ==== Proof.DiffPrefix.lean ====
module

public import proofs.«01_k».proof.Proof.DiffFormula
public import proofs.«01_k».proof.Proof.Gen.Kernel5Ideal.Value
public import proofs.«01_k».proof.Proof.Gen.Pre_finite_diff
public import Idealize.ShloMosaic.Lib.ReduceAll
public import Idealize.ShloMosaic.Lib.StableHlo.ReadAt

@[expose] public section
set_option maxRecDepth 16384

/-!
# What the windows of the differential attention read, and what the precondition says

The array the windows read is the argument with its query columns multiplied by one eighth over `log 2`; the four vectors and the
gain are reshaped to rows. The precondition says that the entries read from column 3072 on and the four vectors are real numbers.
-/

noncomputable section
namespace Cert.Kernel5Ideal.Gen
open Idealize.ShloMosaic Idealize.ShloMosaic.TcCoe DiffRow

variable (m : (ℓ : Loc nD τ sig) → Buf (Elt Ideal) ℓ) (c : Dev nD)

/-- The arguments. -/
abbrev arg0Of : (⟨3, ![2, 16384, 6144]⟩ : Shape).Idx → EReal := m ((c : Thread nD τ).loc main_arg0)
abbrev arg1Of : (⟨1, ![64]⟩ : Shape).Idx → EReal := m ((c : Thread nD τ).loc main_arg1)
abbrev arg2Of : (⟨1, ![64]⟩ : Shape).Idx → EReal := m ((c : Thread nD τ).loc main_arg2)
abbrev arg3Of : (⟨1, ![64]⟩ : Shape).Idx → EReal := m ((c : Thread nD τ).loc main_arg3)
abbrev arg4Of : (⟨1, ![64]⟩ : Shape).Idx → EReal := m ((c : Thread nD τ).loc main_arg4)
abbrev arg5Of : (⟨1, ![128]⟩ : Shape).Idx → EReal := m ((c : Thread nD τ).loc main_arg5)

/-- The word of one. -/
theorem one_word : Ideal.ofBits .f32 0x3F800000#32 = 1 := by
  simp [Ideal.ofBits, Ideal.ieee]
  rw [← EReal.coe_mul, ← EReal.coe_one]
  norm_num

/-- The word of two. -/
theorem two_word : Ideal.ofBits .f32 0x40000000#32 = ((2 : ℝ) : EReal) := by
  simp [Ideal.ofBits, Ideal.ieee]
  rw [← EReal.coe_mul]
  norm_num

/-- The scale of the queries. -/
theorem scl_div : Ideal.div (Ideal.ofBits .f32 0x3E000000#32) (Ideal.log (Ideal.ofBits .f32 0x40000000#32)) = ((1 / 8 / Real.log 2 : ℝ) : EReal) := by
  have h : Ideal.log ((2 : ℝ) : EReal) = ((Real.log 2 : ℝ) : EReal) := by
    show (if (2 : ℝ) ≤ 0 then (⊥ : EReal) else _) = _
    rw [if_neg (by norm_num)]
  rw [two_word, h, eighth_word, div_real _ _ log_two_pos.ne']

/-- The two comparisons of the query columns. -/
theorem select_cols (n : ℕ) (hn : n < 6144) (a b : EReal) :
    Scalar.select (IntOp.andi (IntOp.cmpi .sge (BitVec.ofNat 32 n) 3072#32) (IntOp.cmpi .slt (BitVec.ofNat 32 n) 4096#32)) a b
      = if 3072 ≤ n ∧ n < 4096 then a else b := by
  rw [WordCmp.cmpi_sge_of_lt (by simp; omega) (by simp), WordCmp.cmpi_slt_of_lt (by simp; omega) (by simp)]
  simp only [BitVec.toNat_ofNat, Nat.mod_eq_of_lt (show n < 2 ^ 32 by omega)]
  by_cases h1 : 3072 ≤ n <;> by_cases h2 : n < 4096 <;> simp [h1, h2, Scalar.select, IntOp.andi]

theorem staged (b : Fin 2) (t : Fin 16384) (n : Fin 6144) :
    V m c main_v14 (ix3 b t n) = arg0Of m c (ix3 b t n) *
      (if 3072 ≤ (n : ℕ) ∧ (n : ℕ) < 4096 then ((1 / 8 / Real.log 2 : ℝ) : EReal) else 1) := by
  unfold V
  after_reads_at
  exact congrArg (arg0Of m c (ix3 b t n) * ·) ((select_cols n n.isLt _ _).trans (if_congr Iff.rfl scl_div one_word))

theorem staged1 (e : Fin 64) : V m c main_v15 (ix2 0 e) = arg1Of m c (ix1 e) := by
  unfold V
  after_reads_at
theorem staged2 (e : Fin 64) : V m c main_v16 (ix2 0 e) = arg2Of m c (ix1 e) := by
  unfold V
  after_reads_at
theorem staged3 (e : Fin 64) : V m c main_v17 (ix2 0 e) = arg3Of m c (ix1 e) := by
  unfold V
  after_reads_at
theorem staged4 (e : Fin 64) : V m c main_v18 (ix2 0 e) = arg4Of m c (ix1 e) := by
  unfold V
  after_reads_at
theorem staged5 (e : Fin 128) : V m c main_v19 (ix2 0 e) = arg5Of m c (ix1 e) := by
  unfold V
  after_reads_at

/-- A number whose magnitude compares below infinity is a real number. -/
theorem real_of_cmp {y : EReal} (h : Ideal.cmp .olt (max y (-y)) (Ideal.ofBits .f32 0x7F800000#32) = 1#1) : ∃ r : ℝ, y = (r : EReal) := by
  have top_word : Ideal.ofBits .f32 0x7F800000#32 = ⊤ := by simp [Ideal.ofBits, Ideal.ieee]
  rw [top_word] at h
  have e4 : max y (-y) < ⊤ := by
    by_contra hc
    simp [Ideal.cmp, hc] at h
  have e5 := lt_of_le_of_lt (le_max_left _ _) e4
  have e6 := lt_of_le_of_lt (le_max_right _ _) e4
  refine ⟨_, (EReal.coe_toReal e5.ne fun hb => ?_).symm⟩
  rw [hb] at e6
  exact lt_irrefl _ e6

/-- Both of two truth words. -/
theorem and_one : ∀ {a b : BitVec 1}, IntOp.andi a b = 1#1 → a = 1#1 ∧ b = 1#1 := by decide

/-- The precondition, read. -/
theorem finite_of_pre (h : Cert.Pre_finite_diff.fn (F := Ideal) (arg0Of m c) (arg1Of m c) (arg2Of m c) (arg3Of m c) (arg4Of m c) (arg5Of m c) = fun _ => 1#1) :
    Finite (arg0Of m c) (arg1Of m c) (arg2Of m c) (arg3Of m c) (arg4Of m c) := by
  have e := congrFun h ix0
  haveI : Subsingleton Cert.Pre_finite_diff.S_.Idx := ⟨fun x y => funext fun a => a.elim0⟩
  unfold Cert.Pre_finite_diff.fn Cert.Pre_finite_diff.fn_part1 at e
  dsimp only at e
  obtain ⟨e, r4⟩ := and_one e
  obtain ⟨e, r3⟩ := and_one e
  obtain ⟨e, r2⟩ := and_one e
  obtain ⟨r0, r1⟩ := and_one e
  refine ⟨fun b t n hn => ?_, fun a => ?_, fun a => ?_, fun a => ?_, fun a => ?_⟩
  · have hs := extractStridedSlice_apply (t := Cert.Pre_finite_diff.S2x16384x3072) ![0, 0, 3072] (arg0Of m c)
      Cert.Pre_finite_diff.Facts.slices_S2x16384x6144_S2x16384x3072_0_0_3072 (ix3 b t ⟨n - 3072, by omega⟩) (ix3 b t n)
      (fun a => by
        fin_cases a
        · exact (Nat.zero_add _).symm
        · exact (Nat.zero_add _).symm
        · show (n : ℕ) = 3072 + (n - 3072); omega)
    refine real_of_cmp ?_
    rw [← hs]
    exact Host.reduce_andi_all _ _ _ _ _ r0 (ix3 b t ⟨n - 3072, by omega⟩)
  · exact real_of_cmp (Host.reduce_andi_all _ _ _ _ _ r1 (ix1 a))
  · exact real_of_cmp (Host.reduce_andi_all _ _ _ _ _ r2 (ix1 a))
  · exact real_of_cmp (Host.reduce_andi_all _ _ _ _ _ r3 (ix1 a))
  · exact real_of_cmp (Host.reduce_andi_all _ _ _ _ _ r4 (ix1 a))

end Cert.Kernel5Ideal.Gen
end
end
-- ==== Proof.DiffBlocks.lean ====
module

public import proofs.«01_k».proof.Proof.DiffStore
public import proofs.«01_k».proof.Proof.DiffPrefix
public import Idealize.ShloMosaic.Lib.Pipeline.ValueKit.Geometry

@[expose] public section
set_option maxRecDepth 16384

/-!
# The array the differential attention writes

Grid point `64 b + 8 h + i` writes rows `2048 i` to `2048 i + 2047` of head `h` of sequence `b`; together the points write
the result.
-/

noncomputable section
namespace Cert.Kernel5Ideal.Gen
open Idealize.ShloMosaic Idealize.ShloMosaic.TcCoe DiffRow
open Idealize.ShloMosaic.Pipeline (Dat)

variable (m : (ℓ : Loc nD τ sig) → Buf (Elt Ideal) ℓ) (c : Dev nD)

theorem index0 : ∀ t : Fin grid0.N, win0_0.index t = ![t.val / 64, t.val % 8, 24 + t.val / 8 % 8] := by decide +kernel
theorem index1 : ∀ t : Fin grid0.N, win0_1.index t = ![t.val / 64, 0, 32 + t.val / 8 % 8] := by decide +kernel
theorem index2 : ∀ t : Fin grid0.N, win0_2.index t = ![t.val / 64, 0, 40 + t.val / 8 % 8] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![t.val / 64, t.val % 8, t.val / 8 % 8] := by decide +kernel
theorem coord2 : ∀ t : Fin grid0.N, (grid0.coords t 2).val = t.val % 8 := by decide +kernel
theorem point_lt (t : Fin cfg0.N) : t.val < 128 := lt_of_lt_of_eq t.isLt (by decide +kernel)

/-- The sequence of a grid point. -/
def seqOf (t : Fin cfg0.N) : Fin 2 := ⟨t.val / 64, by have := point_lt t; omega⟩
/-- The head of a grid point. -/
def headOf (t : Fin cfg0.N) : Fin 8 := ⟨t.val / 8 % 8, by omega⟩
/-- The position of a row of a grid point. -/
def rowOf (t : Fin cfg0.N) (r : Fin 2048) : Fin 16384 := ⟨2048 * (t.val % 8) + r, by omega⟩

theorem q_block (t : Fin cfg0.N) (r : Fin 2048) (e : Fin 128) :
    iblk m c 0 t (ix3 0 r e) = V m c main_v14 (ix3 (seqOf t) (rowOf t r) ⟨3072 + 128 * headOf t + e, by omega⟩) := by
  unfold iblk
  refine congrArg (V m c main_v14) (funext fun a => Fin.ext ?_)
  fin_cases a
  · blk_simp [index0 t]; rfl
  · blk_simp [index0 t]
    show t.val % 8 * 2048 + (r : ℕ) = 2048 * (t.val % 8) + r; omega
  · blk_simp [index0 t]
    show (24 + t.val / 8 % 8) * 128 + (e : ℕ) = 3072 + 128 * (t.val / 8 % 8) + e; omega

theorem k_block (t : Fin cfg0.N) (s : Fin 16384) (e : Fin 128) :
    iblk m c 1 t (ix3 0 s e) = V m c main_v14 (ix3 (seqOf t) s ⟨4096 + 128 * headOf t + e, by omega⟩) := by
  unfold iblk
  refine congrArg (V m c main_v14) (funext fun a => Fin.ext ?_)
  fin_cases a
  · blk_simp [index1 t]; rfl
  · blk_simp [index1 t]; rfl
  · blk_simp [index1 t]
    show (32 + t.val / 8 % 8) * 128 + (e : ℕ) = 4096 + 128 * (t.val / 8 % 8) + e; omega

theorem v_block (t : Fin cfg0.N) (s : Fin 16384) (e : Fin 128) :
    iblk m c 2 t (ix3 0 s e) = V m c main_v14 (ix3 (seqOf t) s (vCol (headOf t) e)) := by
  unfold iblk
  refine congrArg (V m c main_v14) (funext fun a => Fin.ext ?_)
  fin_cases a
  · blk_simp [index2 t]; rfl
  · blk_simp [index2 t]; rfl
  · blk_simp [index2 t]
    show (40 + t.val / 8 % 8) * 128 + (e : ℕ) = 5120 + 128 * (t.val / 8 % 8) + e; omega

theorem block3 (t : Fin cfg0.N) (e : Fin 64) : iblk m c 3 t (ix2 0 e) = arg1Of m c (ix1 e) := by
  rw [← staged1]
  unfold iblk
  refine congrArg (V m c main_v15) (funext fun a => Fin.ext ?_)
  fin_cases a <;> (blk_simp [index3 t]; try rfl)
theorem block4 (t : Fin cfg0.N) (e : Fin 64) : iblk m c 4 t (ix2 0 e) = arg2Of m c (ix1 e) := by
  rw [← staged2]
  unfold iblk
  refine congrArg (V m c main_v16) (funext fun a => Fin.ext ?_)
  fin_cases a <;> (blk_simp [index4 t]; try rfl)
theorem block5 (t : Fin cfg0.N) (e : Fin 64) : iblk m c 5 t (ix2 0 e) = arg3Of m c (ix1 e) := by
  rw [← staged3]
  unfold iblk
  refine congrArg (V m c main_v17) (funext fun a => Fin.ext ?_)
  fin_cases a <;> (blk_simp [index5 t]; try rfl)
theorem block6 (t : Fin cfg0.N) (e : Fin 64) : iblk m c 6 t (ix2 0 e) = arg4Of m c (ix1 e) := by
  rw [← staged4]
  unfold iblk
  refine congrArg (V m c main_v18) (funext fun a => Fin.ext ?_)
  fin_cases a <;> (blk_simp [index6 t]; try rfl)
theorem block7 (t : Fin cfg0.N) (e : Fin 128) : iblk m c 7 t (ix2 0 e) = arg5Of m c (ix1 e) := by
  rw [← staged5]
  unfold iblk
  refine congrArg (V m c main_v19) (funext fun a => Fin.ext ?_)
  fin_cases a <;> (blk_simp [index7 t]; try rfl)

variable (hf : Finite (arg0Of m c) (arg1Of m c) (arg2Of m c) (arg3Of m c) (arg4Of m c))

include hf in
/-- The scores of a grid point are the real scores over `log 2`. -/
theorem score_block (t : Fin cfg0.N) (k : Fin 2) (r : Fin 2048) (s : ℕ) :
    (∑ e : Fin 128, comp k (iblk m c 0 t) r e * iblk m c 1 t (ix3 0 (key s) e) : EReal)
      = ((rscore (arg0Of m c) (seqOf t) (headOf t) k (rowOf t r) s / Real.log 2 : ℝ) : EReal) := by
  unfold comp
  rw [half_sum k (fun e => iblk m c 0 t (ix3 0 r e)) (fun e => iblk m c 1 t (ix3 0 (key s) e))]
  unfold rscore
  rw [mul_div_assoc, Finset.sum_mul, coe_sum]
  refine Finset.sum_congr rfl fun e _ => ?_
  have hk : (k : ℕ) < 2 := k.isLt
  have hh : (headOf t : ℕ) < 8 := (headOf t).isLt
  have c0 : (⟨3072 + 128 * (headOf t : ℕ) + ((⟨64 * k + e, by omega⟩ : Fin 128) : ℕ), by simp only; omega⟩ : Fin 6144) = qkCol 0 (headOf t) k e :=
    Fin.ext (by show 3072 + 128 * (headOf t : ℕ) + (64 * k + e) = 3072 + 1024 * 0 + 128 * (headOf t : ℕ) + 64 * k + e; omega)
  have c1 : (⟨4096 + 128 * (headOf t : ℕ) + ((⟨64 * k + e, by omega⟩ : Fin 128) : ℕ), by simp only; omega⟩ : Fin 6144) = qkCol 1 (headOf t) k e :=
    Fin.ext (by show 4096 + 128 * (headOf t : ℕ) + (64 * k + e) = 3072 + 1024 * 1 + 128 * (headOf t : ℕ) + 64 * k + e; omega)
  have h0 : 3072 ≤ ((qkCol 0 (headOf t) k e : Fin 6144) : ℕ) ∧ ((qkCol 0 (headOf t) k e : Fin 6144) : ℕ) < 4096 := by
    show 3072 ≤ 3072 + 1024 * 0 + 128 * (headOf t : ℕ) + 64 * k + e ∧ 3072 + 1024 * 0 + 128 * (headOf t : ℕ) + 64 * k + e < 4096; omega
  have h1 : ¬ (3072 ≤ ((qkCol 1 (headOf t) k e : Fin 6144) : ℕ) ∧ ((qkCol 1 (headOf t) k e : Fin 6144) : ℕ) < 4096) := by
    show ¬ (3072 ≤ 3072 + 1024 * 1 + 128 * (headOf t : ℕ) + 64 * k + e ∧ 3072 + 1024 * 1 + 128 * (headOf t : ℕ) + 64 * k + e < 4096); omega
  have h1' : 3072 ≤ ((qkCol 1 (headOf t) k e : Fin 6144) : ℕ) := by
    show 3072 ≤ 3072 + 1024 * 1 + 128 * (headOf t : ℕ) + 64 * k + e; omega
  rw [q_block, k_block, c0, c1, staged, staged, if_pos h0, if_neg h1, mul_one, own (hf.proj _ _ _ h0.1), own (hf.proj _ _ _ h1'), ← EReal.coe_mul,
    ← EReal.coe_mul, EReal.toReal_coe, EReal.toReal_coe]
  refine congrArg Real.toEReal ?_
  ring

/-- The values of a grid point, and the ones beside them. -/
def valReal (t : Fin cfg0.N) (d : Fin 256) (s : ℕ) : ℝ := if h : (d : ℕ) < 128 then rval (arg0Of m c) (seqOf t) (headOf t) ⟨d, h⟩ s else 1

include hf in
theorem val_block (t : Fin cfg0.N) (d : Fin 256) (s : ℕ) : vals (iblk m c 2 t) d s = ((valReal m c t d s : ℝ) : EReal) := by
  unfold vals valReal
  split
  · rename_i h
    have h1 : ¬ (3072 ≤ ((vCol (headOf t) ⟨d, h⟩ : Fin 6144) : ℕ) ∧ ((vCol (headOf t) ⟨d, h⟩ : Fin 6144) : ℕ) < 4096) := by
      show ¬ (3072 ≤ 5120 + 128 * (headOf t : ℕ) + (d : ℕ) ∧ 5120 + 128 * (headOf t : ℕ) + (d : ℕ) < 4096); omega
    rw [v_block, staged, if_neg h1, mul_one]
    exact own (hf.proj _ _ _ (by show 3072 ≤ 5120 + 128 * (headOf t : ℕ) + (d : ℕ); omega))
  · rw [EReal.coe_one]

include hf in
/-- A quotient of the sums a grid point is left with. -/
theorem quot_block (t : Fin cfg0.N) (k : Fin 2) (r : Fin 2048) (l : Fin 128) (A : S2x2048x256.Idx → EReal)
    (hA : ∃ R : ℝ, ∀ d, A (ix3 k r d) = (((2 : ℝ) ^ (-R) * W (fun s => rscore (arg0Of m c) (seqOf t) (headOf t) k (rowOf t r) s / Real.log 2) (valReal m c t d)
      (2048 * (grid0.coords t 2).val + r) 0 : ℝ) : EReal)) :
    Ideal.div (A (ix3 k r ⟨0 + l, by omega⟩)) (A (ix3 k r ⟨128 + l, by omega⟩))
      = ((att (rowOf t r) (rscore (arg0Of m c) (seqOf t) (headOf t) k (rowOf t r)) (rval (arg0Of m c) (seqOf t) (headOf t) l) : ℝ) : EReal) := by
  obtain ⟨R, hR⟩ := hA
  have hv : valReal m c t ⟨0 + l, by omega⟩ = rval (arg0Of m c) (seqOf t) (headOf t) l := by
    funext s
    unfold valReal
    rw [dif_pos (by show 0 + (l : ℕ) < 128; omega)]
    exact congrArg (fun d => rval (arg0Of m c) (seqOf t) (headOf t) d s) (Fin.ext (Nat.zero_add _))
  rw [hR, hR, coord2, hv]
  refine kernel_quot (2048 * (t.val % 8) + r) _ _ _ (fun s => ?_) R
  unfold valReal
  rw [dif_neg (by show ¬ 128 + (l : ℕ) < 128; omega)]

end Cert.Kernel5Ideal.Gen
end
end
-- ==== Proof.DiffArray.lean ====
module

public import proofs.«01_k».proof.Proof.DiffBlocks

@[expose] public section
set_option maxRecDepth 16384

/-!
# The whole array the differential attention writes

Each grid point stores its block of the result, and the blocks cover the array.
-/

noncomputable section
namespace Cert.Kernel5Ideal.Gen
open Idealize.ShloMosaic Idealize.ShloMosaic.TcCoe DiffRow
open Idealize.ShloMosaic.Pipeline (Dat)

variable (m : (ℓ : Loc nD τ sig) → Buf (Elt Ideal) ℓ) (c : Dev nD)
  (hf : Finite (arg0Of m c) (arg1Of m c) (arg2Of m c) (arg3Of m c) (arg4Of m c))

/-- The result the kernel is to write. -/
abbrev result : S2x16384x1024.Idx → EReal := target (arg0Of m c) (arg1Of m c) (arg2Of m c) (arg3Of m c) (arg4Of m c) (arg5Of m c)

/-- A load of a whole row of 64 entries. -/
theorem read_row64 (a : Memref sig .tc .vmem S1x64 .f32) (ha : a.IsWhole) (x : Vec Ideal S1x64 .f32) (inb : ∀ b, ![0, 0] b + S1x64.size b ≤ S1x64.size b)
    (e : Fin 64) : View.readAt (Elt Ideal) a.view (Rect.unit (s := S1x64) ![0, 0] S1x64.size inb).toLoadRect (ha.unread x) (ix2 0 e) = x (ix2 0 e) := by
  rw [View.readAt_eq_ld, ha.read_unread]
  refine congrArg x (funext fun b => Fin.ext ?_)
  fin_cases b
  · rfl
  · show 0 + 1 * (e : ℕ) = e; omega

/-- A load of a whole row of 128 entries. -/
theorem read_row128 (a : Memref sig .tc .vmem S1x128 .f32) (ha : a.IsWhole) (x : Vec Ideal S1x128 .f32)
    (inb : ∀ b, ![0, 0] b + S1x128.size b ≤ S1x128.size b) (e : Fin 128) :
    View.readAt (Elt Ideal) a.view (Rect.unit (s := S1x128) ![0, 0] S1x128.size inb).toLoadRect (ha.unread x) (ix2 0 e) = x (ix2 0 e) := by
  rw [View.readAt_eq_ld, ha.read_unread]
  refine congrArg x (funext fun b => Fin.ext ?_)
  fin_cases b
  · rfl
  · show 0 + 1 * (e : ℕ) = e; omega

include hf in
/-- What a grid point's body leaves in the output block. -/
theorem out_eq (t : Fin cfg0.N) (r : Fin 2048) (d : Fin 128) :
    outsAt0 m c t (ix3 0 r d) = normed (fun l => ((rout (arg0Of m c) (arg1Of m c) (arg2Of m c) (arg3Of m c) (arg4Of m c) (seqOf t) (headOf t) (rowOf t r) l : ℝ) : EReal))
      (fun l => arg5Of m c (ix1 l)) d := by
  unfold outsAt0 out0_A_8
  rw [View.read_writes_junk_eq_canon]
  unfold kernelRun0_A
  dsimp only
  rw [View.canon_unit_zero (S := S1x2048x128) (funext fun a => by fin_cases a <;> rfl)]
  refine (stored _ _ _ _ _ _ _ _ _ r d).trans ?_
  refine congrArg₂ (fun o g => normed o g d) (funext fun l => ?_)
    (funext fun l => (read_row128 (ms0_7 t) (hs0_7 t) (iblk m c 7 t) inb_S1x128_S1x128_0_0 l).trans (block7 m c t l))
  unfold dif
  rw [Finset.sum_congr rfl fun e _ => congrArg₂ (· * ·) ((read_row64 (ms0_3 t) (hs0_3 t) (iblk m c 3 t) inb_S1x64_S1x64_0_0 e).trans (block3 m c t e))
      ((read_row64 (ms0_4 t) (hs0_4 t) (iblk m c 4 t) inb_S1x64_S1x64_0_0 e).trans (block4 m c t e)),
    Finset.sum_congr rfl fun e _ => congrArg₂ (· * ·) ((read_row64 (ms0_5 t) (hs0_5 t) (iblk m c 5 t) inb_S1x64_S1x64_0_0 e).trans (block5 m c t e))
      ((read_row64 (ms0_6 t) (hs0_6 t) (iblk m c 6 t) inb_S1x64_S1x64_0_0 e).trans (block6 m c t e))]
  beta_reduce
  rw [v660_eq, v662_eq, v665_eq, v667_eq]
  have hA := accFin_eq c (grid0.coords t) (ms0_0 t) (hs0_0 t) (ms0_1 t) (hs0_1 t) (ms0_2 t) (hs0_2 t) (ms0_3 t) (hs0_3 t) (ms0_4 t) (hs0_4 t) (ms0_5 t)
    (hs0_5 t) (ms0_6 t) (hs0_6 t) (ms0_7 t) (hs0_7 t) (ms0_8 t) (hs0_8 t) scM0_0 (Memref.isWhole_whole _) scM0_1 (Memref.isWhole_whole _) scM0_2
    (Memref.isWhole_whole _) (iblk m c 0 t) (iblk m c 1 t) (iblk m c 2 t)
    (fun k r s => rscore (arg0Of m c) (seqOf t) (headOf t) k (rowOf t r) s / Real.log 2) (valReal m c t)
    (fun k r s => score_block m c hf t k r s) (fun d s => val_block m c hf t d s)
  unfold rout
  rw [EReal.coe_sub, EReal.coe_mul]
  exact congrArg₂ (· - ·) (quot_block m c hf t 0 r l _ (hA 0 r)) (congrArg₂ (· * ·) (lam_eq hf) (quot_block m c hf t 1 r l _ (hA 1 r)))

include hf in
/-- What a grid point writes back is its block of the result. -/
theorem flushed_eq (t : Fin cfg0.N) : (dats m 0 c).flushed 8 t = ((cfg0.win 8).blk t).view.read (Elt Ideal) (result m c) := by
  rw [Value.flushed8]
  funext y
  obtain ⟨b, r, d, rfl⟩ : ∃ (b : Fin 1) (r : Fin 2048) (d : Fin 128), y = ix3 b r d := ⟨y 0, y 1, y 2, eq_ix3 y⟩
  obtain rfl : b = 0 := Subsingleton.elim _ _
  refine (out_eq m c hf t r d).trans ?_
  have e : ((cfg0.win 8).blk t).view.emb (ix3 0 r d) = ix3 (seqOf t) (rowOf t r) ⟨128 * (t.val / 8 % 8) + d, by omega⟩ := by
    funext a
    refine Fin.ext ?_
    fin_cases a
    · blk_simp [index8 t]; rfl
    · blk_simp [index8 t]
      show t.val % 8 * 2048 + (r : ℕ) = 2048 * (t.val % 8) + r; omega
    · blk_simp [index8 t]
      show t.val / 8 % 8 * 128 + (d : ℕ) = 128 * (t.val / 8 % 8) + d; omega
  refine Eq.trans ?_ (congrArg (result m c) e).symm
  have e2 : (⟨(128 * (t.val / 8 % 8) + (d : ℕ)) / 128, by omega⟩ : Fin 8) = headOf t := Fin.ext (by show _ = t.val / 8 % 8; simp only; omega)
  have e3 : (⟨(128 * (t.val / 8 % 8) + (d : ℕ)) % 128, by omega⟩ : Fin 128) = d := Fin.ext (by simp only; omega)
  show _ = normed (fun l => ((rout (arg0Of m c) (arg1Of m c) (arg2Of m c) (arg3Of m c) (arg4Of m c) (seqOf t)
    ⟨(128 * (t.val / 8 % 8) + (d : ℕ)) / 128, _⟩ (rowOf t r) l : ℝ) : EReal)) (fun l => arg5Of m c (ix1 l)) ⟨(128 * (t.val / 8 % 8) + (d : ℕ)) % 128, _⟩
  rw [e2, e3]

/-- Every entry of the output is in some point's block. -/
theorem cover (i : S2x16384x1024.Idx) : ∃ t : Fin cfg0.N, (cfg0.win 8).flush t = true ∧ i ∈ ((cfg0.win 8).blk t).view.set := by
  have h0 : (i 0 : ℕ) < 2 := (i 0).isLt
  have h1 : (i 1 : ℕ) < 16384 := (i 1).isLt
  have h2 : (i 2 : ℕ) < 1024 := (i 2).isLt
  have hN : grid0.N = 128 := by decide +kernel
  have hM : cfg0.N = 128 := hN
  refine ⟨⟨64 * (i 0 : ℕ) + 8 * ((i 2 : ℕ) / 128) + (i 1 : ℕ) / 2048, by omega⟩, (by decide +kernel : ∀ t : Fin cfg0.N, (cfg0.win 8).flush t = true) _, ?_⟩
  mem_blk [index8 ⟨64 * (i 0 : ℕ) + 8 * ((i 2 : ℕ) / 128) + (i 1 : ℕ) / 2048, by omega⟩]
  refine ⟨⟨?_, ?_⟩, ⟨?_, ?_⟩, ?_, ?_⟩ <;> simp only <;> omega

include hf in
/-- The array after the run is the result. -/
theorem final_array : (dats m 0 c).arrAt 8 cfg0.N = result m c :=
  (dats m 0 c).arrAt_eq_of_cover 8 (result m c) (fun t _ => flushed_eq m c hf t) cover

end Cert.Kernel5Ideal.Gen
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Prefix
public import proofs.«01_k».proof.Proof.Formula
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_queries_keys
public import proofs.«01_k».proof.Proof.Gen.Pre_finite_diff
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.FfnFormula
public import proofs.«01_k».proof.Proof.PleFormula
public import proofs.«01_k».proof.Proof.OutFormula
public import proofs.«01_k».proof.Proof.QkvFormula
public import proofs.«01_k».proof.Proof.DiffArray
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem SbRow

/-- At finite queries and keys the attention of the staged array is the reference's result. -/
theorem result_eq (m : (ℓ : Loc Cert.KernelIdeal.nD Cert.KernelIdeal.τ Cert.KernelIdeal.sig) → Buf (Elt Ideal) ℓ) (c : Dev Cert.KernelIdeal.nD)
    (hfin : ∀ (b : Fin 2) (t : Fin 16384) (n : Fin 2048), ∃ r : ℝ, KernelIdeal.Gen.argOf m c (ix3 b t ⟨n, by omega⟩) = (r : EReal)) :
    ReferenceIdeal.Read.val_main_v35 (F := Ideal) (KernelIdeal.Gen.argOf m c) = attn (KernelIdeal.Gen.V m c KernelIdeal.main_v11) := by
  funext j
  obtain ⟨b, t, n, rfl⟩ : ∃ (b : Fin 2) (t : Fin 16384) (n : Fin 1024), j = ix3 b t n := ⟨j 0, j 1, j 2, eq_ix3 j⟩
  obtain ⟨h, d, hn⟩ : ∃ (h : Fin 8) (d : Fin 128), n = ⟨128 * h + d, by omega⟩ :=
    ⟨⟨n / 128, by omega⟩, ⟨n % 128, by omega⟩, Fin.ext (Nat.div_add_mod _ _).symm⟩
  subst hn
  rw [ReferenceIdeal.Read.result_at]
  have e2 : (⟨(128 * (h : ℕ) + d) / 128, by omega⟩ : Fin 8) = h := Fin.ext (by simp only; omega)
  have e3 : (⟨(128 * (h : ℕ) + d) % 128, by omega⟩ : Fin 128) = d := Fin.ext (by simp only; omega)
  show _ = outp (t : ℕ) (score _ b ⟨(128 * (h : ℕ) + d) / 128, _⟩ t) (value _ b ⟨(128 * (h : ℕ) + d) / 128, _⟩ ⟨(128 * (h : ℕ) + d) % 128, _⟩) 0
  rw [e2, e3, KernelIdeal.Gen.value_staged]
  refine (row_eq t _ _ _ (fun s => KernelIdeal.Gen.rscore m c b h t s) (fun s => KernelIdeal.Gen.score_staged m c hfin b h t s) fun s => ?_).symm
  unfold ReferenceIdeal.Read.rsc KernelIdeal.Gen.rscore
  rw [KernelIdeal.Gen.scl_eq, EReal.coe_mul, ← coe_sum]
  refine congrArg (· * _) (Finset.sum_congr rfl fun e _ => ?_)
  rw [KernelIdeal.Gen.num_q m c hfin, KernelIdeal.Gen.num_k m c hfin, ← EReal.coe_mul]

/-- The value claim. -/
theorem algebraic : Cert.algebraic_KernelIdeal_ReferenceIdeal_pre_finite_queries_keys (hKernelIdeal := Cert.KernelIdeal.Gen.facts)
    (hReferenceIdeal := Cert.ReferenceIdeal.Gen.facts) (hPre_finite_queries_keys := Cert.Pre_finite_queries_keys.Gen.facts) := by
  intro m g m' g' hpre hargs
  refine ⟨fun c => attn (KernelIdeal.Gen.V m c KernelIdeal.main_v11), ?_, ?_⟩
  · refine (θ_run (Cert.KernelIdeal.defs (F := Ideal)) _ _).mono (fun r h c => ?_) (KernelIdeal.Value.run_blocks m g)
    obtain ⟨hv, ha⟩ := h c
    exact ⟨hv.trans (KernelIdeal.Gen.final_array m c), ha⟩
  · refine (θ_run (Cert.ReferenceIdeal.defs (F := Ideal)) _ _).mono (fun r h c => ?_) (ReferenceIdeal.Value.run (F := Ideal) m' g')
    obtain ⟨hv, ha⟩ := h c
    refine ⟨hv.trans ?_, ha⟩
    rw [ReferenceIdeal.Read.val_main_v35_eq, hargs c]
    exact result_eq m c (KernelIdeal.Gen.finite_of_pre m c (hpre c))

/-- The reference runs, leaves its argument as it was, and has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run (Cert.ReferenceIdeal.defs (F := Ideal)) _ _).mono (fun r h => ⟨fun c => (h c).2, sem_eq_zero_of_no_sems (by decide) r.2⟩)
    (ReferenceIdeal.Value.run (F := Ideal) m ρ)

/-- The value claim of the feed-forward block. -/
theorem algebraic2 : Cert.algebraic_Kernel2Ideal_Reference2Ideal (hKernel2Ideal := Cert.Kernel2Ideal.Gen.facts) (hReference2Ideal := Cert.Reference2Ideal.Gen.facts) := by
  intro m g m' g' _ hargs
  refine ⟨fun c => Kernel2Ideal.Gen.target m c, fun c => Kernel2Ideal.Gen.target m c, ?_, ?_⟩
  · refine (θ_run (Cert.Kernel2Ideal.defs (F := Ideal)) _ _).mono (fun r h c => ?_) (Kernel2Ideal.Value.run_blocks m g)
    obtain ⟨hv, hw, ha⟩ := h c
    exact ⟨hv.trans (Kernel2Ideal.Gen.final_array6 m c), hw.trans (Kernel2Ideal.Gen.final_array7 m c), ha⟩
  · refine (θ_run (Cert.Reference2Ideal.defs (F := Ideal)) _ _).mono (fun r h c => ?_) (Reference2Ideal.Value.run (F := Ideal) m' g')
    obtain ⟨hv, hw, ha⟩ := h c
    refine ⟨hv.trans ?_, hw.trans ?_, ha⟩
    · rw [Reference2Ideal.Read.val_main_v34_eq, (hargs c).1, (hargs c).2.1, (hargs c).2.2.1, (hargs c).2.2.2.1, (hargs c).2.2.2.2.1, (hargs c).2.2.2.2.2]
      exact Reference2Ideal.Read.result_eq _ _ _ _ _ _
    · rw [Reference2Ideal.Read.val_main_v35_eq, (hargs c).1, (hargs c).2.1, (hargs c).2.2.1, (hargs c).2.2.2.1, (hargs c).2.2.2.2.1, (hargs c).2.2.2.2.2]
      exact Reference2Ideal.Read.result_eq' _ _ _ _ _ _

/-- Its reference runs, leaves its arguments as they were, and has no semaphores. -/
theorem reference_frame2 : Cert.quiescent_Reference2Ideal (hReference2Ideal := Cert.Reference2Ideal.Gen.facts) := fun m ρ _ =>
  (θ_run (Cert.Reference2Ideal.defs (F := Ideal)) _ _).mono (fun r h => ⟨fun c => (h c).2.2, sem_eq_zero_of_no_sems (by decide) r.2⟩)
    (Reference2Ideal.Value.run (F := Ideal) m ρ)

/-- The value claim of the gated per-layer embedding. -/
theorem algebraic3 : Cert.algebraic_Kernel3Ideal_Reference3Ideal (hKernel3Ideal := Cert.Kernel3Ideal.Gen.facts) (hReference3Ideal := Cert.Reference3Ideal.Gen.facts) := by
  intro m g m' g' _ hargs
  refine ⟨fun c => Kernel3Ideal.Gen.target m c, ?_, ?_⟩
  · refine (θ_run (Cert.Kernel3Ideal.defs (F := Ideal)) _ _).mono (fun r h c => ?_) (Kernel3Ideal.Value.run_blocks m g)
    obtain ⟨hv, ha⟩ := h c
    exact ⟨hv.trans (Kernel3Ideal.Gen.final_array m c), ha⟩
  · refine (θ_run (Cert.Reference3Ideal.defs (F := Ideal)) _ _).mono (fun r h c => ?_) (Reference3Ideal.Value.run (F := Ideal) m' g')
    obtain ⟨hv, ha⟩ := h c
    refine ⟨hv.trans ?_, ha⟩
    rw [Reference3Ideal.Read.val_main_v39_eq, (hargs c).1, (hargs c).2.1, (hargs c).2.2.1, (hargs c).2.2.2.1, (hargs c).2.2.2.2.1, (hargs c).2.2.2.2.2.1, (hargs c).2.2.2.2.2.2]
    exact Reference3Ideal.Read.result_eq _ _ _ _ _ _ _

/-- Its reference runs, leaves its arguments as they were, and has no semaphores. -/
theorem reference_frame3 : Cert.quiescent_Reference3Ideal (hReference3Ideal := Cert.Reference3Ideal.Gen.facts) := fun m ρ _ =>
  (θ_run (Cert.Reference3Ideal.defs (F := Ideal)) _ _).mono (fun r h => ⟨fun c => (h c).2, sem_eq_zero_of_no_sems (by decide) r.2⟩)
    (Reference3Ideal.Value.run (F := Ideal) m ρ)

/-- The value claim of the projection out. -/
theorem algebraic4 : Cert.algebraic_Kernel4Ideal_Reference4Ideal (hKernel4Ideal := Cert.Kernel4Ideal.Gen.facts) (hReference4Ideal := Cert.Reference4Ideal.Gen.facts) := by
  intro m g m' g' _ hargs
  refine ⟨fun c => Kernel4Ideal.Gen.target m c, ?_, ?_⟩
  · refine (θ_run (Cert.Kernel4Ideal.defs (F := Ideal)) _ _).mono (fun r h c => ?_) (Kernel4Ideal.Value.run_blocks m g)
    obtain ⟨hv, ha⟩ := h c
    exact ⟨hv.trans (Kernel4Ideal.Gen.final_array m c), ha⟩
  · refine (θ_run (Cert.Reference4Ideal.defs (F := Ideal)) _ _).mono (fun r h c => ?_) (Reference4Ideal.Value.run (F := Ideal) m' g')
    obtain ⟨hv, ha⟩ := h c
    refine ⟨hv.trans ?_, ha⟩
    rw [Reference4Ideal.Read.val_main_v29_eq, (hargs c).1, (hargs c).2.1, (hargs c).2.2.1, (hargs c).2.2.2.1, (hargs c).2.2.2.2.1, (hargs c).2.2.2.2.2]
    exact Reference4Ideal.Read.result_eq _ _ _ _ _ _

/-- Its reference runs, leaves its arguments as they were, and has no semaphores. -/
theorem reference_frame4 : Cert.quiescent_Reference4Ideal (hReference4Ideal := Cert.Reference4Ideal.Gen.facts) := fun m ρ _ =>
  (θ_run (Cert.Reference4Ideal.defs (F := Ideal)) _ _).mono (fun r h => ⟨fun c => (h c).2, sem_eq_zero_of_no_sems (by decide) r.2⟩)
    (Reference4Ideal.Value.run (F := Ideal) m ρ)

/-- The value claim of the projection into queries, keys and values. -/
theorem algebraic6 : Cert.algebraic_Kernel6Ideal_Reference6Ideal (hKernel6Ideal := Cert.Kernel6Ideal.Gen.facts) (hReference6Ideal := Cert.Reference6Ideal.Gen.facts) := by
  intro m g m' g' _ hargs
  refine ⟨fun c => Kernel6Ideal.Gen.target m c, ?_, ?_⟩
  · refine (θ_run (Cert.Kernel6Ideal.defs (F := Ideal)) _ _).mono (fun r h c => ?_) (Kernel6Ideal.Value.run_blocks m g)
    obtain ⟨hv, ha⟩ := h c
    exact ⟨hv.trans (Kernel6Ideal.Gen.final_array m c), ha⟩
  · refine (θ_run (Cert.Reference6Ideal.defs (F := Ideal)) _ _).mono (fun r h c => ?_) (Reference6Ideal.Value.run (F := Ideal) m' g')
    obtain ⟨hv, ha⟩ := h c
    refine ⟨hv.trans ?_, ha⟩
    rw [Reference6Ideal.Read.val_main_v74_eq, (hargs c).1, (hargs c).2.1, (hargs c).2.2]
    exact Reference6Ideal.Read.result_eq _ _ _

/-- Its reference runs, leaves its arguments as they were, and has no semaphores. -/
theorem reference_frame6 : Cert.quiescent_Reference6Ideal (hReference6Ideal := Cert.Reference6Ideal.Gen.facts) := fun m ρ _ =>
  (θ_run (Cert.Reference6Ideal.defs (F := Ideal)) _ _).mono (fun r h => ⟨fun c => (h c).2, sem_eq_zero_of_no_sems (by decide) r.2⟩)
    (Reference6Ideal.Value.run (F := Ideal) m ρ)

/-- The two named scales. -/
theorem preserves6 : Cert.preserves_Kernel6_Kernel6Ideal := by
  have sb := IdealRules.named_const.statement Cert.Kernel6Ideal.κ "sb_scale" .f32 0x3E0293EE#32 ((((Real.sqrt 128) * (Real.log 2))⁻¹ : ℝ) : EReal) rfl
  have df := IdealRules.named_const.statement Cert.Kernel6Ideal.κ "diff_scale" .f32 0x3E38AA3B#32 (((8 * (Real.log 2))⁻¹ : ℝ) : EReal) rfl
  exact ⟨sb, df⟩

/-- The reference of the differential attention runs, leaves its arguments as they were, and has no semaphores. -/
theorem reference_frame5 : Cert.quiescent_Reference5Ideal (hReference5Ideal := Cert.Reference5Ideal.Gen.facts) := fun m ρ _ =>
  (θ_run (Cert.Reference5Ideal.defs (F := Ideal)) _ _).mono (fun r h => ⟨fun c => (h c).2, sem_eq_zero_of_no_sems (by decide) r.2⟩)
    (Reference5Ideal.Value.run (F := Ideal) m ρ)

/-- The value claim of the differential attention. -/
theorem algebraic5 : Cert.algebraic_Kernel5Ideal_Reference5Ideal_pre_finite_diff (hKernel5Ideal := Cert.Kernel5Ideal.Gen.facts)
    (hReference5Ideal := Cert.Reference5Ideal.Gen.facts) (hPre_finite_diff := Cert.Pre_finite_diff.Gen.facts) := by
  intro m g m' g' hpre hargs
  refine ⟨fun c => Kernel5Ideal.Gen.result m c, ?_, ?_⟩
  · refine (θ_run (Cert.Kernel5Ideal.defs (F := Ideal)) _ _).mono (fun r h c => ?_) (Kernel5Ideal.Value.run_blocks m g)
    obtain ⟨hv, ha⟩ := h c
    exact ⟨hv.trans (Kernel5Ideal.Gen.final_array m c (Kernel5Ideal.Gen.finite_of_pre m c (hpre c))), ha⟩
  · refine (θ_run (Cert.Reference5Ideal.defs (F := Ideal)) _ _).mono (fun r h c => ?_) (Reference5Ideal.Value.run (F := Ideal) m' g')
    obtain ⟨hv, ha⟩ := h c
    refine ⟨hv.trans ?_, ha⟩
    rw [Reference5Ideal.Read.val_main_v63_eq, (hargs c).1, (hargs c).2.1, (hargs c).2.2.1, (hargs c).2.2.2.1, (hargs c).2.2.2.2.1, (hargs c).2.2.2.2.2]
    exact Reference5Ideal.Read.result_eq _ (Kernel5Ideal.Gen.finite_of_pre m c (hpre c))

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_queries_keys.Gen.facts, Cert.Pre_finite_diff.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Kernel2.Gen.frame m ρ, fun m ρ _ => Cert.Kernel2Ideal.Gen.frame m ρ, reference_frame2,
    fun m ρ _ => Cert.Kernel3.Gen.frame m ρ, fun m ρ _ => Cert.Kernel3Ideal.Gen.frame m ρ, reference_frame3,
    fun m ρ _ => Cert.Kernel4.Gen.frame m ρ, fun m ρ _ => Cert.Kernel4Ideal.Gen.frame m ρ, reference_frame4,
    fun m ρ _ => Cert.Kernel5.Gen.frame m ρ, fun m ρ _ => Cert.Kernel5Ideal.Gen.frame m ρ, fun m ρ _ => Cert.Kernel5Ideal.Gen.frame m ρ,
    fun m ρ _ => reference_frame5 m ρ trivial, fun m ρ _ => reference_frame5 m ρ trivial,
    fun m ρ _ => Cert.Kernel6.Gen.frame m ρ, fun m ρ _ => Cert.Kernel6Ideal.Gen.frame m ρ, reference_frame6,
    IdealRules.named_const.statement Cert.KernelIdeal.κ "log2e" .bf16 0x3FB9#16 (((Real.log 2)⁻¹ : ℝ) : EReal) rfl, algebraic,
    trivial, algebraic2, trivial, algebraic3, trivial, algebraic4, trivial, algebraic5, preserves6, algebraic6⟩

end Cert.Proof

end
